-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v118) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x2048x6x64 : Shape := ⟨4, ![16, 2048, 6, 64]⟩
abbrev S16x2048x6x32 : Shape := ⟨4, ![16, 2048, 6, 32]⟩
abbrev S16x2048x32 : Shape := ⟨3, ![16, 2048, 32]⟩
abbrev S_ : Shape := ⟨0, ![]⟩

class Facts : Prop where
  bcast_S_S16x2048x6x64 : S_.BroadcastsInDim S16x2048x6x64 (![] : Fin 0 → Fin S16x2048x6x64.rank)
  reducesTo_S16x2048x6x64_S_d0_1_2_3 : S16x2048x6x64.ReducesTo [0, 1, 2, 3] S_
  h_S_ : 0 < S_.numel
  bcast_S_S16x2048x6x32 : S_.BroadcastsInDim S16x2048x6x32 (![] : Fin 0 → Fin S16x2048x6x32.rank)
  reducesTo_S16x2048x6x32_S_d0_1_2_3 : S16x2048x6x32.ReducesTo [0, 1, 2, 3] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_v13 : IVec S_ 1) (main_v16 : IVec S16x2048x32 1) : IVec S_ 1 :=
  let main_c_5 : IVec S_ 1 := constantI S_ 1 1#1
  let main_v17 : IVec S_ 1 := (fun x v => Host.reduce IntOp.andi x v reducesTo_S16x2048x32_S_d0_1_2 h_S_) main_v16 main_c_5
  let main_v18 : IVec S_ 1 := andi main_v13 main_v17
  main_v18

def fn {F : FTy → Type} [FloatOps F] (main_arg0 : FVec F S16x2048x6x64 .f32) (main_arg1 : FVec F S16x2048x6x32 .f32) (main_arg2 : FVec F S16x2048x6x64 .f32) (main_arg3 : FVec F S16x2048x32 .f32) (main_arg4 : FVec F S16x2048x6x64 .f32) : IVec S_ 1 :=
  let main_v0 : FVec F S16x2048x6x64 .f32 := Host.absf main_arg0
  let main_cst : FVec F S_ .f32 := constant S_ .f32 0x7F800000#32
  let main_v1 : FVec F S16x2048x6x64 .f32 := broadcastInDim S16x2048x6x64 ![] bcast_S_S16x2048x6x64 main_cst
  let main_v2 : IVec S16x2048x6x64 1 := cmpf .olt main_v0 main_v1
  let main_c : IVec S_ 1 := constantI S_ 1 1#1
  let main_v3 : IVec S_ 1 := (fun x v => Host.reduce IntOp.andi x v reducesTo_S16x2048x6x64_S_d0_1_2_3 h_S_) main_v2 main_c
  let main_v4 : FVec F S16x2048x6x32 .f32 := Host.absf main_arg1
  let main_cst_0 : FVec F S_ .f32 := constant S_ .f32 0x7F800000#32
  let main_v5 : FVec F S16x2048x6x32 .f32 := broadcastInDim S16x2048x6x32 ![] bcast_S_S16x2048x6x32 main_cst_0
  let main_v6 : IVec S16x2048x6x32 1 := cmpf .olt main_v4 main_v5
  let main_c_1 : IVec S_ 1 := constantI S_ 1 1#1
  let main_v7 : IVec S_ 1 := (fun x v => Host.reduce IntOp.andi x v reducesTo_S16x2048x6x32_S_d0_1_2_3 h_S_) main_v6 main_c_1
  let main_v8 : IVec S_ 1 := andi main_v3 main_v7
  let main_v9 : FVec F S16x2048x6x64 .f32 := Host.absf main_arg2
  let main_cst_2 : FVec F S_ .f32 := constant S_ .f32 0x7F800000#32
  let main_v10 : FVec F S16x2048x6x64 .f32 := broadcastInDim S16x2048x6x64 ![] bcast_S_S16x2048x6x64 main_cst_2
  let main_v11 : IVec S16x2048x6x64 1 := cmpf .olt main_v9 main_v10
  let main_c_3 : IVec S_ 1 := constantI S_ 1 1#1
  let main_v12 : IVec S_ 1 := (fun x v => Host.reduce IntOp.andi x v reducesTo_S16x2048x6x64_S_d0_1_2_3 h_S_) main_v11 main_c_3
  let main_v13 : IVec S_ 1 := andi main_v8 main_v12
  let main_v14 : FVec F S16x2048x32 .f32 := Host.absf main_arg3
  let main_cst_4 : FVec F S_ .f32 := constant S_ .f32 0x7F800000#32
  let main_v15 : FVec F S16x2048x32 .f32 := broadcastInDim S16x2048x32 ![] bcast_S_S16x2048x32 main_cst_4
  let main_v16 : IVec S16x2048x32 1 := cmpf .olt main_v14 main_v15
  fn_part1 (F := F) main_v13 main_v16
-- ==== Kernel.lean ====
abbrev S16x2048x6x64 : Shape := ⟨4, ![16, 2048, 6, 64]⟩
abbrev S16x2048x6x32 : Shape := ⟨4, ![16, 2048, 6, 32]⟩
abbrev S16x2048x32 : Shape := ⟨3, ![16, 2048, 32]⟩
abbrev S_ : Shape := ⟨0, ![]⟩
abbrev S16x2048x6x128 : Shape := ⟨4, ![16, 2048, 6, 128]⟩
abbrev S16x6x128x2048 : Shape := ⟨4, ![16, 6, 128, 2048]⟩
abbrev S16x768x2048 : Shape := ⟨3, ![16, 768, 2048]⟩
abbrev S16x2048x1x32 : Shape := ⟨4, ![16, 2048, 1, 32]⟩
abbrev S16x6x2048x128 : Shape := ⟨4, ![16, 6, 2048, 128]⟩
abbrev S16x8x256x384 : Shape := ⟨4, ![16, 8, 256, 384]⟩
abbrev S16x8x384x256 : Shape := ⟨4, ![16, 8, 384, 256]⟩
abbrev S16x2048x384 : Shape := ⟨3, ![16, 2048, 384]⟩
abbrev S1x768x256 : Shape := ⟨3, ![1, 768, 256]⟩
abbrev S1x6x2048x128 : Shape := ⟨4, ![1, 6, 2048, 128]⟩
abbrev S1x8x384x256 : Shape := ⟨4, ![1, 8, 384, 256]⟩
abbrev S1x256x384 : Shape := ⟨3, ![1, 256, 384]⟩
abbrev S384x256 : Shape := ⟨2, ![384, 256]⟩
abbrev S6x1x256 : Shape := ⟨3, ![6, 1, 256]⟩
abbrev S1x1x384x256 : Shape := ⟨4, ![1, 1, 384, 256]⟩
abbrev S256x256 : Shape := ⟨2, ![256, 256]⟩
abbrev S1x1x256x128 : Shape := ⟨4, ![1, 1, 256, 128]⟩
abbrev S256x128 : Shape := ⟨2, ![256, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩
abbrev S64x256 : Shape := ⟨2, ![64, 256]⟩
abbrev S384x512 : Shape := ⟨2, ![384, 512]⟩
abbrev S512x256 : Shape := ⟨2, ![512, 256]⟩
abbrev S1x1x512x128 : Shape := ⟨4, ![1, 1, 512, 128]⟩
abbrev S512x128 : Shape := ⟨2, ![512, 128]⟩
abbrev S64x512 : Shape := ⟨2, ![64, 512]⟩
abbrev S256x384 : Shape := ⟨2, ![256, 384]⟩

abbrev nBuf : Space → Nat
  | .hbm => 29
  | .vmem => 11
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x6x32, .f32⟩
  | .hbm, ⟨2, _⟩ => ⟨S16x2048x6x64, .f32⟩
  | .hbm, ⟨3, _⟩ => ⟨S16x2048x32, .f32⟩
  | .hbm, ⟨4, _⟩ => ⟨S16x2048x6x64, .f32⟩
  | .hbm, ⟨5, _⟩ => ⟨S_, .f32⟩
  | .hbm, ⟨6, _⟩ => ⟨S16x2048x6x32, .f32⟩
  | .hbm, ⟨7, _⟩ => ⟨S16x2048x6x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x2048x6x128, .f32⟩
  | .hbm, ⟨14, _⟩ => ⟨S16x2048x6x128, .f32⟩
  | .hbm, ⟨15, _⟩ => ⟨S16x6x128x2048, .f32⟩
  | .hbm, ⟨16, _⟩ => ⟨S16x768x2048, .f32⟩
  | .hbm, ⟨17, _⟩ => ⟨S16x768x2048, .bf16⟩
  | .hbm, ⟨18, _⟩ => ⟨S16x2048x1x32, .f32⟩
  | .hbm, ⟨19, _⟩ => ⟨S16x2048x6x32, .f32⟩
  | .hbm, ⟨20, _⟩ => ⟨S_, .f32⟩
  | .hbm, ⟨21, _⟩ => ⟨S16x2048x6x32, .f32⟩
  | .hbm, ⟨22, _⟩ => ⟨S16x2048x6x128, .f32⟩
  | .hbm, ⟨23, _⟩ => ⟨S16x6x2048x128, .f32⟩
  | .hbm, ⟨24, _⟩ => ⟨S16x6x2048x128, .bf16⟩
  | .hbm, ⟨25, _⟩ => ⟨S16x8x256x384, .f32⟩
  | .hbm, ⟨26, _⟩ => ⟨S16x8x384x256, .f32⟩
  | .hbm, ⟨27, _⟩ => ⟨S16x8x384x256, .bf16⟩
  | .hbm, ⟨28, _⟩ => ⟨S16x2048x384, .bf16⟩
  | .local _ .vmem, ⟨0, _⟩ => ⟨S1x768x256, .bf16⟩
  | .local _ .vmem, ⟨1, _⟩ => ⟨S1x768x256, .bf16⟩
  | .local _ .vmem, ⟨2, _⟩ => ⟨S1x6x2048x128, .bf16⟩
  | .local _ .vmem, ⟨3, _⟩ => ⟨S1x6x2048x128, .bf16⟩
  | .local _ .vmem, ⟨4, _⟩ => ⟨S1x8x384x256, .bf16⟩
  | .local _ .vmem, ⟨5, _⟩ => ⟨S1x8x384x256, .bf16⟩
  | .local _ .vmem, ⟨6, _⟩ => ⟨S1x256x384, .bf16⟩
  | .local _ .vmem, ⟨7, _⟩ => ⟨S1x256x384, .bf16⟩
  | .local _ .vmem, ⟨8, _⟩ => ⟨S384x256, .f32⟩
  | .local _ .vmem, ⟨9, _⟩ => ⟨S6x1x256, .f32⟩
  | .local _ .vmem, ⟨10, _⟩ => ⟨S6x1x256, .f32⟩
  | _, _ => ⟨S16x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_9 : BitVec 32 := 0#32
  let v14 : BitVec 1 := Scalar.cmpi .ne v13 c0_i32_9
  v14

def k0_mult1 : BitVec 32 :=
  let c0_i32_55 : BitVec 32 := 0#32
  c0_i32_55
def k0_cond2 (i : grid0.Coords) : BitVec 1 :=
  let arg1 : BitVec 32 := BitVec.ofNat 32 (i 1).val
  let c0_i32_10 : BitVec 32 := 0#32
  let v15 : BitVec 1 := Scalar.cmpi .sgt arg1 c0_i32_10
  let v16 : BitVec 32 := Scalar.extui v15
  let c0_i32_11 : BitVec 32 := 0#32
  let v17 : BitVec 1 := Scalar.cmpi .ne v16 c0_i32_11
  v17

def k0_mult2 (i : grid0.Coords) : BitVec 32 :=
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  v92
def k0_off1 (i : grid0.Coords) (c0_i32_56 : BitVec 32) : Fin 4 → Nat :=
  let c0_57 : Index := 0#32
  let arg1 : BitVec 32 := BitVec.ofNat 32 (i 1).val
  let c1_i32_55 : BitVec 32 := 1#32
  let v91 : BitVec 32 := Scalar.subi arg1 c1_i32_55
  let v94 : BitVec 32 := Scalar.addi v91 c0_i32_56
  let v95 : Index := Scalar.indexCast v94
  let c0_58 : Index := 0#32
  let c0_59 : Index := 0#32
  ![0, v95.toNat, 0, 0]
def k0_off2 (i : grid0.Coords) : Fin 4 → Nat :=
  let c0_65 : Index := 0#32
  let c0_66 : Index := 0#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v108 : Index := Scalar.indexCast v93
  let c0_67 : Index := 0#32
  ![0, 0, v108.toNat, 0]
def k0_off3 (i : grid0.Coords) : Fin 4 → Nat :=
  let c0_72 : Index := 0#32
  let c1_73 : Index := 1#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v114 : Index := Scalar.indexCast v93
  let c0_74 : Index := 0#32
  ![0, 1, v114.toNat, 0]
def k0_off4 (i : grid0.Coords) : Fin 4 → Nat :=
  let c0_79 : Index := 0#32
  let c2_80 : Index := 2#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v120 : Index := Scalar.indexCast v93
  let c0_81 : Index := 0#32
  ![0, 2, v120.toNat, 0]
def k0_off5 (i : grid0.Coords) : Fin 4 → Nat :=
  let c0_86 : Index := 0#32
  let c3_87 : Index := 3#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v126 : Index := Scalar.indexCast v93
  let c0_88 : Index := 0#32
  ![0, 3, v126.toNat, 0]
def k0_off6 (i : grid0.Coords) : Fin 4 → Nat :=
  let c0_92 : Index := 0#32
  let c4_93 : Index := 4#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v132 : Index := Scalar.indexCast v93
  let c0_94 : Index := 0#32
  ![0, 4, v132.toNat, 0]
def k0_off7 (i : grid0.Coords) : Fin 4 → Nat :=
  let c0_98 : Index := 0#32
  let c5_99 : Index := 5#32
  let arg1 : BitVec 32 := BitVec.ofNat 32 (i 1).val
  let c1_i32_55 : BitVec 32 := 1#32
  let v91 : BitVec 32 := Scalar.subi arg1 c1_i32_55
  let c256_i32 : BitVec 32 := 256#32
  let v92 : BitVec 32 := Scalar.muli v91 c256_i32
  let v93 : BitVec 32 := v92
  let v138 : Index := Scalar.indexCast v93
  let c0_100 : Index := 0#32
  ![0, 5, v138.toNat, 0]
@[reducible] def k0_t1_loop (i : grid0.Coords) : Scf.Loop 32 :=
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_22 : BitVec 32 := 1#32
  ⟨c0_i32_20, v41, c1_i32_22⟩
def k0_mult3 (i : grid0.Coords) (k0_t1 : Fin (k0_t1_loop i).trips) : BitVec 32 :=
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  v92
def k0_off8 (i : grid0.Coords) (k0_t1 : Fin (k0_t1_loop i).trips) (c0_i32_56 : BitVec 32) : Fin 4 → Nat :=
  let c0_57 : Index := 0#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let v94 : BitVec 32 := Scalar.addi v91 c0_i32_56
  let v95 : Index := Scalar.indexCast v94
  let c0_58 : Index := 0#32
  let c0_59 : Index := 0#32
  ![0, v95.toNat, 0, 0]
def k0_off9 (i : grid0.Coords) (k0_t1 : Fin (k0_t1_loop i).trips) : Fin 4 → Nat :=
  let c0_64 : Index := 0#32
  let c0_65 : Index := 0#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v103 : Index := Scalar.indexCast v93
  let c0_66 : Index := 0#32
  ![0, 0, v103.toNat, 0]
def k0_off10 (i : grid0.Coords) (k0_t1 : Fin (k0_t1_loop i).trips) : Fin 4 → Nat :=
  let c0_71 : Index := 0#32
  let c1_72 : Index := 1#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v109 : Index := Scalar.indexCast v93
  let c0_73 : Index := 0#32
  ![0, 1, v109.toNat, 0]
def k0_off11 (i : grid0.Coords) (k0_t1 : Fin (k0_t1_loop i).trips) : Fin 4 → Nat :=
  let c0_78 : Index := 0#32
  let c2_79 : Index := 2#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v115 : Index := Scalar.indexCast v93
  let c0_80 : Index := 0#32
  ![0, 2, v115.toNat, 0]
def k0_off12 (i : grid0.Coords) (k0_t1 : Fin (k0_t1_loop i).trips) : Fin 4 → Nat :=
  let c0_85 : Index := 0#32
  let c3_86 : Index := 3#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v121 : Index := Scalar.indexCast v93
  let c0_87 : Index := 0#32
  ![0, 3, v121.toNat, 0]
def k0_off13 (i : grid0.Coords) (k0_t1 : Fin (k0_t1_loop i).trips) : Fin 4 → Nat :=
  let c0_91 : Index := 0#32
  let c4_92 : Index := 4#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v127 : Index := Scalar.indexCast v93
  let c0_93 : Index := 0#32
  ![0, 4, v127.toNat, 0]
def k0_off14 (i : grid0.Coords) (k0_t1 : Fin (k0_t1_loop i).trips) : Fin 4 → Nat :=
  let c0_97 : Index := 0#32
  let c5_98 : Index := 5#32
  let c2_i32_55 : BitVec 32 := 2#32
  let c0_i32_20 : BitVec 32 := 0#32
  let c1_i32_22 : BitVec 32 := 1#32
  let arg9 : BitVec 32 := Scf.iv c0_i32_20 c1_i32_22 k0_t1
  let v91 : BitVec 32 := Scalar.muli c2_i32_55 arg9
  let c256_i32 : BitVec 32 := 256#32
  let v92 : BitVec 32 := Scalar.muli v91 c256_i32
  let v93 : BitVec 32 := v92
  let v133 : Index := Scalar.indexCast v93
  let c0_99 : Index := 0#32
  ![0, 5, v133.toNat, 0]
@[reducible] def k0_t2_loop (i : grid0.Coords) : Scf.Loop 32 :=
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let v38 : BitVec 32 := Scalar.addi c0_i32_20 v37
  let c1_i32_23 : BitVec 32 := 1#32
  ⟨v41, v38, c1_i32_23⟩
def k0_mult4 (i : grid0.Coords) (k0_t2 : Fin (k0_t2_loop i).trips) : BitVec 32 :=
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  v92
def k0_off15 (i : grid0.Coords) (k0_t2 : Fin (k0_t2_loop i).trips) (c0_i32_56 : BitVec 32) : Fin 4 → Nat :=
  let c0_57 : Index := 0#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let v94 : BitVec 32 := Scalar.addi v91 c0_i32_56
  let v95 : Index := Scalar.indexCast v94
  let c0_58 : Index := 0#32
  let c0_59 : Index := 0#32
  ![0, v95.toNat, 0, 0]
def k0_off16 (i : grid0.Coords) (k0_t2 : Fin (k0_t2_loop i).trips) : Fin 4 → Nat :=
  let c0_64 : Index := 0#32
  let c0_65 : Index := 0#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v103 : Index := Scalar.indexCast v93
  let c0_66 : Index := 0#32
  ![0, 0, v103.toNat, 0]
def k0_off17 (i : grid0.Coords) (k0_t2 : Fin (k0_t2_loop i).trips) : Fin 4 → Nat :=
  let c0_71 : Index := 0#32
  let c1_72 : Index := 1#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v109 : Index := Scalar.indexCast v93
  let c0_73 : Index := 0#32
  ![0, 1, v109.toNat, 0]
def k0_off18 (i : grid0.Coords) (k0_t2 : Fin (k0_t2_loop i).trips) : Fin 4 → Nat :=
  let c0_78 : Index := 0#32
  let c2_79 : Index := 2#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v115 : Index := Scalar.indexCast v93
  let c0_80 : Index := 0#32
  ![0, 2, v115.toNat, 0]
def k0_off19 (i : grid0.Coords) (k0_t2 : Fin (k0_t2_loop i).trips) : Fin 4 → Nat :=
  let c0_85 : Index := 0#32
  let c3_86 : Index := 3#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v121 : Index := Scalar.indexCast v93
  let c0_87 : Index := 0#32
  ![0, 3, v121.toNat, 0]
def k0_off20 (i : grid0.Coords) (k0_t2 : Fin (k0_t2_loop i).trips) : Fin 4 → Nat :=
  let c0_91 : Index := 0#32
  let c4_92 : Index := 4#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v127 : Index := Scalar.indexCast v93
  let c0_93 : Index := 0#32
  ![0, 4, v127.toNat, 0]
def k0_off21 (i : grid0.Coords) (k0_t2 : Fin (k0_t2_loop i).trips) : Fin 4 → Nat :=
  let c0_97 : Index := 0#32
  let c5_98 : Index := 5#32
  let c2_i32_55 : BitVec 32 := 2#32
  let c0_i32_20 : BitVec 32 := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c0_i32_13 : BitVec 32 := 0#32
  let v21 : BitVec 1 := Scalar.cmpi .sgt v19 c0_i32_13
  let v22 : BitVec 32 := Scalar.extui v21
  let c0_i32_14 : BitVec 32 := 0#32
  let v23 : BitVec 1 := Scalar.cmpi .slt v19 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi v19 c2_i32
  let c0_i32_17 : BitVec 32 := 0#32
  let v33 : BitVec 1 := Scalar.cmpi .ne v32 c0_i32_17
  let v34 : BitVec 1 := Scalar.andi v31 v33
  let v20 : BitVec 32 := Scalar.divsi v19 c2_i32
  let c1_i32_18 : BitVec 32 := 1#32
  let v35 : BitVec 32 := Scalar.subi v20 c1_i32_18
  let v36 : BitVec 32 := Scalar.select v34 v35 v20
  let v37 : BitVec 32 := Scalar.subi v36 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg9 : BitVec 32 := Scf.iv v41 c1_i32_23 k0_t2
  let v91 : BitVec 32 := Scalar.muli c2_i32_55 arg9
  let c256_i32 : BitVec 32 := 256#32
  let v92 : BitVec 32 := Scalar.muli v91 c256_i32
  let v93 : BitVec 32 := v92
  let v133 : Index := Scalar.indexCast v93
  let c0_99 : Index := 0#32
  ![0, 5, v133.toNat, 0]
def k0_cond3 (i : grid0.Coords) : BitVec 1 :=
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v19 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_30 : BitVec 32 := 1#32
  let v52 : BitVec 1 := Scalar.cmpi .eq v51 c1_i32_30
  let v53 : BitVec 32 := Scalar.extui v52
  let c0_i32_31 : BitVec 32 := 0#32
  let v54 : BitVec 1 := Scalar.cmpi .ne v53 c0_i32_31
  v54

def k0_mult5 (i : grid0.Coords) : BitVec 32 :=
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  v92
def k0_off22 (i : grid0.Coords) : Fin 4 → Nat :=
  let c0_56 : Index := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let v94 : Index := Scalar.indexCast v91
  let c0_57 : Index := 0#32
  let c0_58 : Index := 0#32
  ![0, v94.toNat, 0, 0]
def k0_off23 (i : grid0.Coords) : Fin 4 → Nat :=
  let c0_59 : Index := 0#32
  let c0_60 : Index := 0#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v97 : Index := Scalar.indexCast v93
  let c0_61 : Index := 0#32
  ![0, 0, v97.toNat, 0]
def k0_off24 (i : grid0.Coords) : Fin 4 → Nat :=
  let c0_66 : Index := 0#32
  let c1_67 : Index := 1#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v103 : Index := Scalar.indexCast v93
  let c0_68 : Index := 0#32
  ![0, 1, v103.toNat, 0]
def k0_off25 (i : grid0.Coords) : Fin 4 → Nat :=
  let c0_73 : Index := 0#32
  let c2_74 : Index := 2#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v109 : Index := Scalar.indexCast v93
  let c0_75 : Index := 0#32
  ![0, 2, v109.toNat, 0]
def k0_off26 (i : grid0.Coords) : Fin 4 → Nat :=
  let c0_80 : Index := 0#32
  let c3_81 : Index := 3#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v115 : Index := Scalar.indexCast v93
  let c0_82 : Index := 0#32
  ![0, 3, v115.toNat, 0]
def k0_off27 (i : grid0.Coords) : Fin 4 → Nat :=
  let c0_86 : Index := 0#32
  let c4_87 : Index := 4#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v121 : Index := Scalar.indexCast v93
  let c0_88 : Index := 0#32
  ![0, 4, v121.toNat, 0]
def k0_off28 (i : grid0.Coords) : Fin 4 → Nat :=
  let c0_92 : Index := 0#32
  let c5_93 : Index := 5#32
  let arg1 : BitVec 32 := BitVec.ofNat 32 (i 1).val
  let c1_i32 : BitVec 32 := 1#32
  let v18 : BitVec 32 := Scalar.subi arg1 c1_i32
  let c0_i32_12 : BitVec 32 := 0#32
  let v19 : BitVec 32 := Scalar.maxsi v18 c0_i32_12
  let c1_i32_55 : BitVec 32 := 1#32
  let v91 : BitVec 32 := Scalar.subi v19 c1_i32_55
  let c256_i32 : BitVec 32 := 256#32
  let v92 : BitVec 32 := Scalar.muli v91 c256_i32
  let v93 : BitVec 32 := v92
  let v127 : Index := Scalar.indexCast v93
  let c0_94 : Index := 0#32
  ![0, 5, v127.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S16x2048x6x64 : Shape := ⟨4, ![16, 2048, 6, 64]⟩
abbrev S16x2048x6x32 : Shape := ⟨4, ![16, 2048, 6, 32]⟩
abbrev S16x2048x32 : Shape := ⟨3, ![16, 2048, 32]⟩
abbrev S16x6x2048x2048 : Shape := ⟨4, ![16, 6, 2048, 2048]⟩
abbrev S16x2048x2048x6 : Shape := ⟨4, ![16, 2048, 2048, 6]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x6x2048 : Shape := ⟨3, ![16, 6, 2048]⟩
abbrev S16x6x2048x1 : Shape := ⟨4, ![16, 6, 2048, 1]⟩
abbrev S16x6x64x2048 : Shape := ⟨4, ![16, 6, 64, 2048]⟩
abbrev S16x2048x384 : Shape := ⟨3, ![16, 2048, 384]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x6x32, .f32⟩
  | .hbm, ⟨2, _⟩ => ⟨S16x2048x6x64, .f32⟩
  | .hbm, ⟨3, _⟩ => ⟨S16x2048x32, .f32⟩
  | .hbm, ⟨4, _⟩ => ⟨S16x2048x6x64, .f32⟩
  | .hbm, ⟨5, _⟩ => ⟨S16x6x2048x2048, .f32⟩
  | .hbm, ⟨6, _⟩ => ⟨S16x2048x2048x6, .f32⟩
  | .hbm, ⟨7, _⟩ => ⟨S16x6x2048x2048, .f32⟩
  | .hbm, ⟨8, _⟩ => ⟨S16x6x2048x2048, .f32⟩
  | .hbm, ⟨9, _⟩ => ⟨S_, .f32⟩
  | .hbm, ⟨10, _⟩ => ⟨S_, .f32⟩
  | .hbm, ⟨11, _⟩ => ⟨S16x6x2048x2048, .f32⟩
  | .hbm, ⟨12, _⟩ => ⟨S16x6x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S16x6x2048x2048, .i1⟩
  | .hbm, ⟨23, _⟩ => ⟨S16x6x2048x2048, .f32⟩
  | .hbm, ⟨24, _⟩ => ⟨S16x6x2048x2048, .f32⟩
  | .hbm, ⟨25, _⟩ => ⟨S_, .f32⟩
  | .hbm, ⟨26, _⟩ => ⟨S16x6x2048, .f32⟩
  | .hbm, ⟨27, _⟩ => ⟨S_, .f32⟩
  | .hbm, ⟨28, _⟩ => ⟨S16x6x2048, .f32⟩
  | .hbm, ⟨29, _⟩ => ⟨S16x6x2048, .f32⟩
  | .hbm, ⟨30, _⟩ => ⟨S16x6x2048x1, .f32⟩
  | .hbm, ⟨31, _⟩ => ⟨S16x6x2048x2048, .f32⟩
  | .hbm, ⟨32, _⟩ => ⟨S16x6x2048x2048, .f32⟩
  | .hbm, ⟨33, _⟩ => ⟨S16x6x2048x2048, .f32⟩
  | .hbm, ⟨34, _⟩ => ⟨S_, .f32⟩
  | .hbm, ⟨35, _⟩ => ⟨S16x6x2048, .f32⟩
  | .hbm, ⟨36, _⟩ => ⟨S16x6x2048x1, .f32⟩
  | .hbm, ⟨37, _⟩ => ⟨S16x6x2048x2048, .f32⟩
  | .hbm, ⟨38, _⟩ => ⟨S16x6x2048x2048, .f32⟩
  | .hbm, ⟨39, _⟩ => ⟨S16x6x64x2048, .f32⟩
  | .hbm, ⟨40, _⟩ => ⟨S16x2048x6x64, .f32⟩
  | .hbm, ⟨41, _⟩ => ⟨S16x2048x384, .f32⟩
  | .hbm, ⟨42, _⟩ => ⟨S16x2048x384, .bf16⟩
  | _, _ => ⟨S16x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel2.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x5632 : Shape := ⟨3, ![4, 1024, 5632]⟩
abbrev S4x2816x1024 : Shape := ⟨3, ![4, 2816, 1024]⟩
abbrev S4x3x1x1024 : Shape := ⟨4, ![4, 3, 1, 1024]⟩
abbrev S1x512x1024 : Shape := ⟨3, ![1, 512, 1024]⟩
abbrev S1x1x1x1x1024 : Shape := ⟨5, ![1, 1, 1, 1, 1024]⟩
abbrev S1x1x1x1024 : Shape := ⟨4, ![1, 1, 1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S4x9x16x1x1024, .f32⟩
  | .hbm, ⟨2, _⟩ => ⟨S4x3x1024, .f32⟩
  | .hbm, ⟨3, _⟩ => ⟨S4x1024x5632, .f32⟩
  | .hbm, ⟨4, _⟩ => ⟨S4x2816x1024, .f32⟩
  | .hbm, ⟨5, _⟩ => ⟨S4x3x1x1024, .f32⟩
  | .hbm, ⟨6, _⟩ => ⟨S4x1024x5632, .bf16⟩
  | .hbm, ⟨7, _⟩ => ⟨S4x2816x1024, .bf16⟩
  | .hbm, ⟨8, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x512x1024, .f32⟩
  | .local _ .vmem, ⟨12, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, arg0.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x5632 : Shape := ⟨3, ![4, 1024, 5632]⟩
abbrev S4x2816x1024 : Shape := ⟨3, ![4, 2816, 1024]⟩
abbrev S4x9x16x1024 : Shape := ⟨4, ![4, 9, 16, 1024]⟩
abbrev S1x9x16x1024 : Shape := ⟨4, ![1, 9, 16, 1024]⟩
abbrev S9x16x1024 : Shape := ⟨3, ![9, 16, 1024]⟩
abbrev S3x16x1024 : Shape := ⟨3, ![3, 16, 1024]⟩
abbrev S1x1x1024 : Shape := ⟨3, ![1, 1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x16x1024 : Shape := ⟨3, ![1, 16, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x2048x5632 : Shape := ⟨3, ![16, 2048, 5632]⟩
abbrev S16x2048x2816 : Shape := ⟨3, ![16, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x9x16x1x1024, .f32⟩
  | .hbm, ⟨2, _⟩ => ⟨S4x3x1024, .f32⟩
  | .hbm, ⟨3, _⟩ => ⟨S4x1024x5632, .f32⟩
  | .hbm, ⟨4, _⟩ => ⟨S4x2816x1024, .f32⟩
  | .hbm, ⟨5, _⟩ => ⟨S4x9x16x1024, .f32⟩
  | .hbm, ⟨6, _⟩ => ⟨S1x9x16x1024, .f32⟩
  | .hbm, ⟨7, _⟩ => ⟨S9x16x1024, .f32⟩
  | .hbm, ⟨8, _⟩ => ⟨S3x16x1024, .f32⟩
  | .hbm, ⟨9, _⟩ => ⟨S1x1x1024, .f32⟩
  | .hbm, ⟨10, _⟩ => ⟨S1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S1x16x1024, .f32⟩
  | .hbm, ⟨16, _⟩ => ⟨S16x1024, .f32⟩
  | .hbm, ⟨17, _⟩ => ⟨S1x16x1024, .f32⟩
  | .hbm, ⟨18, _⟩ => ⟨S16x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x1x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S1x16x1024, .f32⟩
  | .hbm, ⟨45, _⟩ => ⟨S16x1024, .f32⟩
  | .hbm, ⟨46, _⟩ => ⟨S16x1x1024, .f32⟩
  | .hbm, ⟨47, _⟩ => ⟨S_, .f32⟩
  | .hbm, ⟨48, _⟩ => ⟨S16x1x1024, .f32⟩
  | .hbm, ⟨49, _⟩ => ⟨S16x1x1024, .f32⟩
  | .hbm, ⟨50, _⟩ => ⟨S16x2048x5632, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel3.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x3072 : Shape := ⟨3, ![4, 1024, 3072]⟩
abbrev S16x2048x384 : Shape := ⟨3, ![16, 2048, 384]⟩
abbrev S4x3x384x1024 : Shape := ⟨4, ![4, 3, 384, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x3x1x1024 : Shape := ⟨4, ![4, 3, 1, 1024]⟩
abbrev S1x512x1024 : Shape := ⟨3, ![1, 512, 1024]⟩
abbrev S1x1x1x1x1024 : Shape := ⟨5, ![1, 1, 1, 1, 1024]⟩
abbrev S1x1x1x1024 : Shape := ⟨4, ![1, 1, 1, 1024]⟩
abbrev S1x1024x3072 : Shape := ⟨3, ![1, 1024, 3072]⟩
abbrev S1x512x384 : Shape := ⟨3, ![1, 512, 384]⟩
abbrev S1x3x384x1024 : Shape := ⟨4, ![1, 3, 384, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024 : Shape := ⟨2, ![1, 1024]⟩
abbrev S512x384 : Shape := ⟨2, ![512, 384]⟩
abbrev S512 : Shape := ⟨1, ![512]⟩
abbrev S512x1 : Shape := ⟨2, ![512, 1]⟩
abbrev S1024x1024 : Shape := ⟨2, ![1024, 1024]⟩
abbrev S1x1x384x1024 : Shape := ⟨4, ![1, 1, 384, 1024]⟩
abbrev S384x1024 : Shape := ⟨2, ![384, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 21
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S4x9x16x1x1024, .f32⟩
  | .hbm, ⟨2, _⟩ => ⟨S4x3x1024, .f32⟩
  | .hbm, ⟨3, _⟩ => ⟨S4x1024x3072, .f32⟩
  | .hbm, ⟨4, _⟩ => ⟨S16x2048x384, .f32⟩
  | .hbm, ⟨5, _⟩ => ⟨S16x2048x384, .f32⟩
  | .hbm, ⟨6, _⟩ => ⟨S16x2048x384, .f32⟩
  | .hbm, ⟨7, _⟩ => ⟨S16x2048x384, .f32⟩
  | .hbm, ⟨8, _⟩ => ⟨S4x3x384x1024, .f32⟩
  | .hbm, ⟨9, _⟩ => ⟨S4x1024x1024, .f32⟩
  | .hbm, ⟨10, _⟩ => ⟨S4x1024x5632, .f32⟩
  | .hbm, ⟨11, _⟩ => ⟨S4x2816x1024, .f32⟩
  | .hbm, ⟨12, _⟩ => ⟨S4x3x1x1024, .f32⟩
  | .hbm, ⟨13, _⟩ => ⟨S4x1024x3072, .bf16⟩
  | .hbm, ⟨14, _⟩ => ⟨S16x2048x384, .bf16⟩
  | .hbm, ⟨15, _⟩ => ⟨S16x2048x384, .bf16⟩
  | .hbm, ⟨16, _⟩ => ⟨S4x3x384x1024, .bf16⟩
  | .hbm, ⟨17, _⟩ => ⟨S4x1024x1024, .bf16⟩
  | .hbm, ⟨18, _⟩ => ⟨S4x1024x5632, .bf16⟩
  | .hbm, ⟨19, _⟩ => ⟨S4x2816x1024, .bf16⟩
  | .hbm, ⟨20, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024x3072, .bf16⟩
  | .local _ .vmem, ⟨17, _⟩ => ⟨S1x512x384, .f32⟩
  | .local _ .vmem, ⟨18, _⟩ => ⟨S1x512x384, .f32⟩
  | .local _ .vmem, ⟨19, _⟩ => ⟨S1x512x384, .f32⟩
  | .local _ .vmem, ⟨20, _⟩ => ⟨S1x512x384, .f32⟩
  | .local _ .vmem, ⟨21, _⟩ => ⟨S1x512x384, .bf16⟩
  | .local _ .vmem, ⟨22, _⟩ => ⟨S1x512x384, .bf16⟩
  | .local _ .vmem, ⟨23, _⟩ => ⟨S1x512x384, .bf16⟩
  | .local _ .vmem, ⟨24, _⟩ => ⟨S1x512x384, .bf16⟩
  | .local _ .vmem, ⟨25, _⟩ => ⟨S1x3x384x1024, .bf16⟩
  | .local _ .vmem, ⟨26, _⟩ => ⟨S1x1024x1024, .bf16⟩
  | .local _ .vmem, ⟨27, _⟩ => ⟨S1x1024x5632, .bf16⟩
  | .local _ .vmem, ⟨28, _⟩ => ⟨S1x2816x1024, .bf16⟩
  | .local _ .vmem, ⟨29, _⟩ => ⟨S1x512x1024, .f32⟩
  | .local _ .vmem, ⟨30, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, arg0.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, arg0.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, c5_i32.toNat, arg0.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  let c0_i32_1 : BitVec 32 := 0#32
  let c0_i32_2 : BitVec 32 := 0#32
  ![c0_i32.toNat, c6_i32.toNat, arg0.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  let c0_i32_1 : BitVec 32 := 0#32
  let c0_i32_2 : BitVec 32 := 0#32
  ![c0_i32.toNat, c7_i32.toNat, arg0.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  let c0_i32_1 : BitVec 32 := 0#32
  let c0_i32_2 : BitVec 32 := 0#32
  ![c0_i32.toNat, c8_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x3x384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x3072 : Shape := ⟨3, ![4, 1024, 3072]⟩
abbrev S16x2048x384 : Shape := ⟨3, ![16, 2048, 384]⟩
abbrev S4x3x384x1024 : Shape := ⟨4, ![4, 3, 384, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x9x16x1024 : Shape := ⟨4, ![4, 9, 16, 1024]⟩
abbrev S1x9x16x1024 : Shape := ⟨4, ![1, 9, 16, 1024]⟩
abbrev S9x16x1024 : Shape := ⟨3, ![9, 16, 1024]⟩
abbrev S1x1x1024 : Shape := ⟨3, ![1, 1, 1024]⟩
abbrev S1024 : Shape := ⟨1, ![1024]⟩
abbrev S1x16x1024 : Shape := ⟨3, ![1, 16, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x2048x1x384 : Shape := ⟨4, ![16, 2048, 1, 384]⟩
abbrev S16x2048x3x384 : Shape := ⟨4, ![16, 2048, 3, 384]⟩
abbrev S1x3x384x1024 : Shape := ⟨4, ![1, 3, 384, 1024]⟩
abbrev S3x384x1024 : Shape := ⟨3, ![3, 384, 1024]⟩
abbrev S3x1024x16x2048 : Shape := ⟨4, ![3, 1024, 16, 2048]⟩
abbrev S16x2048x3x1024 : Shape := ⟨4, ![16, 2048, 3, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S1x1024x1024 : Shape := ⟨3, ![1, 1024, 1024]⟩
abbrev S1024x1024 : Shape := ⟨2, ![1024, 1024]⟩
abbrev S3x16x1024 : Shape := ⟨3, ![3, 16, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 138
  | .vmem => 0
  | .smem => 0
  | _ => 0

abbrev hbmTy0_0 (i : Nat) : BufTy := match i % 128 with
  | 0 => ⟨S16x2048x1024, .f32⟩
  | 1 => ⟨S4x9x16x1x1024, .f32⟩
  | 2 => ⟨S4x3x1024, .f32⟩
  | 3 => ⟨S4x1024x3072, .f32⟩
  | 4 => ⟨S16x2048x384, .f32⟩
  | 5 => ⟨S16x2048x384, .f32⟩
  | 6 => ⟨S16x2048x384, .f32⟩
  | 7 => ⟨S16x2048x384, .f32⟩
  | 8 => ⟨S4x3x384x1024, .f32⟩
  | 9 => ⟨S4x1024x1024, .f32⟩
  | 10 => ⟨S4x1024x5632, .f32⟩
  | 11 => ⟨S4x2816x1024, .f32⟩
  | 12 => ⟨S4x9x16x1024, .f32⟩
  | 13 => ⟨S1x9x16x1024, .f32⟩
  | 14 => ⟨S9x16x1024, .f32⟩
  | 15 => ⟨S1x1x1024, .f32⟩
  | 16 => ⟨S1024, .f32⟩
  | 17 => ⟨S1x16x1024, .f32⟩
  | 18 => ⟨S16x1024, .f32⟩
  | 19 => ⟨S1x16x1024, .f32⟩
  | 20 => ⟨S16x1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x1024, .f32⟩
  | 33 => ⟨S16x2048x1024, .f32⟩
  | 34 => ⟨S1x1x1024, .f32⟩
  | 35 => ⟨S16x2048x1024, .f32⟩
  | 36 => ⟨S16x2048x1024, .f32⟩
  | 37 => ⟨S16x1x1024, .f32⟩
  | 38 => ⟨S_, .f32⟩
  | 39 => ⟨S16x1x1024, .f32⟩
  | 40 => ⟨S16x1x1024, .f32⟩
  | 41 => ⟨S16x2048x1024, .f32⟩
  | 42 => ⟨S16x2048x1024, .f32⟩
  | 43 => ⟨S16x1x1024, .f32⟩
  | 44 => ⟨S16x2048x1024, .f32⟩
  | 45 => ⟨S16x2048x1024, .f32⟩
  | 46 => ⟨S16x2048x384, .f32⟩
  | 47 => ⟨S16x2048x1x384, .f32⟩
  | 48 => ⟨S16x2048x1x384, .f32⟩
  | 49 => ⟨S16x2048x1x384, .f32⟩
  | 50 => ⟨S16x2048x3x384, .f32⟩
  | 51 => ⟨S1x3x384x1024, .f32⟩
  | 52 => ⟨S3x384x1024, .f32⟩
  | 53 => ⟨S3x1024x16x2048, .f32⟩
  | 54 => ⟨S16x2048x3x1024, .f32⟩
  | 55 => ⟨S1x1024x3072, .f32⟩
  | 56 => ⟨S1024x3072, .f32⟩
  | 57 => ⟨S16x2048x3072, .f32⟩
  | 58 => ⟨S16x2048x3x1024, .f32⟩
  | 59 => ⟨S16x2048x3x1024, .f32⟩
  | 60 => ⟨S16x2048x3x1024, .f32⟩
  | 61 => ⟨S_, .f32⟩
  | 62 => ⟨S16x2048x3x1024, .f32⟩
  | 63 => ⟨S16x2048x3x1024, .f32⟩
  | 64 => ⟨S_, .f32⟩
  | 65 => ⟨S16x2048x3x1024, .f32⟩
  | 66 => ⟨S16x2048x3x1024, .f32⟩
  | 67 => ⟨S1x16x1024, .f32⟩
  | 68 => ⟨S16x1024, .f32⟩
  | 69 => ⟨S16x1x1024, .f32⟩
  | 70 => ⟨S16x2048x3x1024, .f32⟩
  | 71 => ⟨S_, .f32⟩
  | 72 => ⟨S16x2048x1024, .f32⟩
  | 73 => ⟨S1x1024x1024, .f32⟩
  | 74 => ⟨S1024x1024, .f32⟩
  | 75 => ⟨S16x2048x1024, .f32⟩
  | 76 => ⟨S16x2048x1024, .f32⟩
  | 77 => ⟨S16x2048x1024, .f32⟩
  | 78 => ⟨S16x2048x1024, .f32⟩
  | 79 => ⟨S3x16x1024, .f32⟩
  | 80 => ⟨S1x1x1024, .f32⟩
  | 81 => ⟨S1024, .f32⟩
  | 82 => ⟨S1x1024x5632, .f32⟩
  | 83 => ⟨S1024x5632, .f32⟩
  | 84 => ⟨S1x2816x1024, .f32⟩
  | 85 => ⟨S2816x1024, .f32⟩
  | 86 => ⟨S1x16x1024, .f32⟩
  | 87 => ⟨S16x1024, .f32⟩
  | 88 => ⟨S1x16x1024, .f32⟩
  | 89 => ⟨S16x1024, .f32⟩
  | 90 => ⟨S16x2048x1024, .f32⟩
  | 91 => ⟨S_, .f32⟩
  | 92 => ⟨S16x2048, .f32⟩
  | 93 => ⟨S16x2048x1, .f32⟩
  | 94 => ⟨S_, .f32⟩
  | 95 => ⟨S16x2048x1, .f32⟩
  | 96 => ⟨S16x2048x1, .f32⟩
  | 97 => ⟨S_, .f32⟩
  | 98 => ⟨S16x2048x1, .f32⟩
  | 99 => ⟨S16x2048x1, .f32⟩
  | 100 => ⟨S16x2048x1, .f32⟩
  | 101 => ⟨S16x2048x1024, .f32⟩
  | 102 => ⟨S16x2048x1024, .f32⟩
  | 103 => ⟨S1x1x1024, .f32⟩
  | 104 => ⟨S16x2048x1024, .f32⟩
  | 105 => ⟨S16x2048x1024, .f32⟩
  | 106 => ⟨S16x1x1024, .f32⟩
  | 107 => ⟨S_, .f32⟩
  | 108 => ⟨S16x1x1024, .f32⟩
  | 109 => ⟨S16x1x1024, .f32⟩
  | 110 => ⟨S16x2048x1024, .f32⟩
  | 111 => ⟨S16x2048x1024, .f32⟩
  | 112 => ⟨S16x1x1024, .f32⟩
  | 113 => ⟨S16x2048x1024, .f32⟩
  | 114 => ⟨S16x2048x1024, .f32⟩
  | 115 => ⟨S1x16x1024, .f32⟩
  | 116 => ⟨S16x1024, .f32⟩
  | 117 => ⟨S16x1x1024, .f32⟩
  | 118 => ⟨S_, .f32⟩
  | 119 => ⟨S16x1x1024, .f32⟩
  | 120 => ⟨S16x1x1024, .f32⟩
  | 121 => ⟨S16x2048x5632, .f32⟩
  | 122 => ⟨S16x2048x2816, .f32⟩
  | 123 => ⟨S16x2048x2816, .f32⟩
  | 124 => ⟨S16x2048x2816, .f32⟩
  | 125 => ⟨S16x2048x2816, .f32⟩
  | 126 => ⟨S_, .f32⟩
  | 127 => ⟨S16x2048x2816, .f32⟩
  | _ => ⟨S16x2048x1024, .f32⟩

abbrev hbmTy0_1 (i : Nat) : BufTy := match i % 128 with
  | 0 => ⟨S16x2048x2816, .f32⟩
  | 1 => ⟨S_, .f32⟩
  | 2 => ⟨S16x2048x2816, .f32⟩
  | 3 => ⟨S16x2048x2816, .f32⟩
  | 4 => ⟨S16x2048x2816, .f32⟩
  | 5 => ⟨S16x2048x2816, .f32⟩
  | 6 => ⟨S16x2048x1024, .f32⟩
  | 7 => ⟨S16x2048x1024, .f32⟩
  | 8 => ⟨S16x2048x1024, .f32⟩
  | 9 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_6 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_9 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_10 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_call0_v0 : Ref sig .tc := ⟨.hbm, 124, rfl⟩
abbrev main_call0_v1 : Ref sig .tc := ⟨.hbm, 125, rfl⟩
abbrev main_call0_cst : Ref sig .tc := ⟨.hbm, 126, rfl⟩
abbrev main_call0_v2 : Ref sig .tc := ⟨.hbm, 127, rfl⟩
abbrev main_call0_v3 : Ref sig .tc := ⟨.hbm, 128, rfl⟩
abbrev main_call0_cst_0 : Ref sig .tc := ⟨.hbm, 129, rfl⟩
abbrev main_call0_v4 : Ref sig .tc := ⟨.hbm, 130, rfl⟩
abbrev main_call0_v5 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]
-- ==== Kernel4.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x3072 : Shape := ⟨3, ![4, 1024, 3072]⟩
abbrev S16x2048x384 : Shape := ⟨3, ![16, 2048, 384]⟩
abbrev S4x3x384x1024 : Shape := ⟨4, ![4, 3, 384, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S1024 : Shape := ⟨1, ![1024]⟩
abbrev S4x3x1x1024 : Shape := ⟨4, ![4, 3, 1, 1024]⟩
abbrev S1x1024 : Shape := ⟨2, ![1, 1024]⟩
abbrev S1x512x1024 : Shape := ⟨3, ![1, 512, 1024]⟩
abbrev S1x1x1x1x1024 : Shape := ⟨5, ![1, 1, 1, 1, 1024]⟩
abbrev S1x1x1x1024 : Shape := ⟨4, ![1, 1, 1, 1024]⟩
abbrev S1x1024x3072 : Shape := ⟨3, ![1, 1024, 3072]⟩
abbrev S1x512x384 : Shape := ⟨3, ![1, 512, 384]⟩
abbrev S1x3x384x1024 : Shape := ⟨4, ![1, 3, 384, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩
abbrev S1024x1024 : Shape := ⟨2, ![1024, 1024]⟩
abbrev S1x1x384x1024 : Shape := ⟨4, ![1, 1, 384, 1024]⟩
abbrev S384x1024 : Shape := ⟨2, ![384, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S4x9x16x1x1024, .f32⟩
  | .hbm, ⟨2, _⟩ => ⟨S4x3x1024, .f32⟩
  | .hbm, ⟨3, _⟩ => ⟨S4x1024x3072, .f32⟩
  | .hbm, ⟨4, _⟩ => ⟨S16x2048x384, .f32⟩
  | .hbm, ⟨5, _⟩ => ⟨S16x2048x384, .f32⟩
  | .hbm, ⟨6, _⟩ => ⟨S16x2048x384, .f32⟩
  | .hbm, ⟨7, _⟩ => ⟨S16x2048x384, .f32⟩
  | .hbm, ⟨8, _⟩ => ⟨S4x3x384x1024, .f32⟩
  | .hbm, ⟨9, _⟩ => ⟨S4x1024x1024, .f32⟩
  | .hbm, ⟨10, _⟩ => ⟨S4x1024x5632, .f32⟩
  | .hbm, ⟨11, _⟩ => ⟨S4x2816x1024, .f32⟩
  | .hbm, ⟨12, _⟩ => ⟨S1024, .f32⟩
  | .hbm, ⟨13, _⟩ => ⟨S4x3x1x1024, .f32⟩
  | .hbm, ⟨14, _⟩ => ⟨S4x1024x3072, .bf16⟩
  | .hbm, ⟨15, _⟩ => ⟨S16x2048x384, .bf16⟩
  | .hbm, ⟨16, _⟩ => ⟨S16x2048x384, .bf16⟩
  | .hbm, ⟨17, _⟩ => ⟨S4x3x384x1024, .bf16⟩
  | .hbm, ⟨18, _⟩ => ⟨S4x1024x1024, .bf16⟩
  | .hbm, ⟨19, _⟩ => ⟨S4x1024x5632, .bf16⟩
  | .hbm, ⟨20, _⟩ => ⟨S4x2816x1024, .bf16⟩
  | .hbm, ⟨21, _⟩ => ⟨S1x1024, .f32⟩
  | .hbm, ⟨22, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024x3072, .bf16⟩
  | .local _ .vmem, ⟨17, _⟩ => ⟨S1x512x384, .f32⟩
  | .local _ .vmem, ⟨18, _⟩ => ⟨S1x512x384, .f32⟩
  | .local _ .vmem, ⟨19, _⟩ => ⟨S1x512x384, .f32⟩
  | .local _ .vmem, ⟨20, _⟩ => ⟨S1x512x384, .f32⟩
  | .local _ .vmem, ⟨21, _⟩ => ⟨S1x512x384, .bf16⟩
  | .local _ .vmem, ⟨22, _⟩ => ⟨S1x512x384, .bf16⟩
  | .local _ .vmem, ⟨23, _⟩ => ⟨S1x512x384, .bf16⟩
  | .local _ .vmem, ⟨24, _⟩ => ⟨S1x512x384, .bf16⟩
  | .local _ .vmem, ⟨25, _⟩ => ⟨S1x3x384x1024, .bf16⟩
  | .local _ .vmem, ⟨26, _⟩ => ⟨S1x1024x1024, .bf16⟩
  | .local _ .vmem, ⟨27, _⟩ => ⟨S1x1024x5632, .bf16⟩
  | .local _ .vmem, ⟨28, _⟩ => ⟨S1x2816x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, arg0.toNat, c0_i32.toNat, c0_i32_1.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let c6_i32 : BitVec 32 := 6#32
  let c0_i32 : BitVec 32 := 0#32
  let c0_i32_0 : BitVec 32 := 0#32
  let c0_i32_1 : BitVec 32 := 0#32
  ![c3_i32.toNat, c6_i32.toNat, arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c3_i32 : BitVec 32 := 3#32
  let c7_i32 : BitVec 32 := 7#32
  let c0_i32 : BitVec 32 := 0#32
  let c0_i32_0 : BitVec 32 := 0#32
  let c0_i32_1 : BitVec 32 := 0#32
  ![c3_i32.toNat, c7_i32.toNat, arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c3_i32 : BitVec 32 := 3#32
  let c8_i32 : BitVec 32 := 8#32
  let c0_i32 : BitVec 32 := 0#32
  let c0_i32_0 : BitVec 32 := 0#32
  let c0_i32_1 : BitVec 32 := 0#32
  ![c3_i32.toNat, c8_i32.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x3x384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S16x2048x1024 : Shape := ⟨3, ![16, 2048, 1024]⟩
abbrev S4x9x16x1x1024 : Shape := ⟨5, ![4, 9, 16, 1, 1024]⟩
abbrev S4x3x1024 : Shape := ⟨3, ![4, 3, 1024]⟩
abbrev S4x1024x3072 : Shape := ⟨3, ![4, 1024, 3072]⟩
abbrev S16x2048x384 : Shape := ⟨3, ![16, 2048, 384]⟩
abbrev S4x3x384x1024 : Shape := ⟨4, ![4, 3, 384, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S1024 : Shape := ⟨1, ![1024]⟩
abbrev S4x9x16x1024 : Shape := ⟨4, ![4, 9, 16, 1024]⟩
abbrev S1x9x16x1024 : Shape := ⟨4, ![1, 9, 16, 1024]⟩
abbrev S9x16x1024 : Shape := ⟨3, ![9, 16, 1024]⟩
abbrev S1x1x1024 : Shape := ⟨3, ![1, 1, 1024]⟩
abbrev S1x16x1024 : Shape := ⟨3, ![1, 16, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x2048x1x384 : Shape := ⟨4, ![16, 2048, 1, 384]⟩
abbrev S16x2048x3x384 : Shape := ⟨4, ![16, 2048, 3, 384]⟩
abbrev S1x3x384x1024 : Shape := ⟨4, ![1, 3, 384, 1024]⟩
abbrev S3x384x1024 : Shape := ⟨3, ![3, 384, 1024]⟩
abbrev S3x1024x16x2048 : Shape := ⟨4, ![3, 1024, 16, 2048]⟩
abbrev S16x2048x3x1024 : Shape := ⟨4, ![16, 2048, 3, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S1x1024x1024 : Shape := ⟨3, ![1, 1024, 1024]⟩
abbrev S1024x1024 : Shape := ⟨2, ![1024, 1024]⟩
abbrev S3x16x1024 : Shape := ⟨3, ![3, 16, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 155
  | .vmem => 0
  | .smem => 0
  | _ => 0

abbrev hbmTy0_0 (i : Nat) : BufTy := match i % 128 with
  | 0 => ⟨S16x2048x1024, .f32⟩
  | 1 => ⟨S4x9x16x1x1024, .f32⟩
  | 2 => ⟨S4x3x1024, .f32⟩
  | 3 => ⟨S4x1024x3072, .f32⟩
  | 4 => ⟨S16x2048x384, .f32⟩
  | 5 => ⟨S16x2048x384, .f32⟩
  | 6 => ⟨S16x2048x384, .f32⟩
  | 7 => ⟨S16x2048x384, .f32⟩
  | 8 => ⟨S4x3x384x1024, .f32⟩
  | 9 => ⟨S4x1024x1024, .f32⟩
  | 10 => ⟨S4x1024x5632, .f32⟩
  | 11 => ⟨S4x2816x1024, .f32⟩
  | 12 => ⟨S1024, .f32⟩
  | 13 => ⟨S4x9x16x1024, .f32⟩
  | 14 => ⟨S1x9x16x1024, .f32⟩
  | 15 => ⟨S9x16x1024, .f32⟩
  | 16 => ⟨S1x1x1024, .f32⟩
  | 17 => ⟨S1024, .f32⟩
  | 18 => ⟨S1x16x1024, .f32⟩
  | 19 => ⟨S16x1024, .f32⟩
  | 20 => ⟨S1x16x1024, .f32⟩
  | 21 => ⟨S16x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S_, .f32⟩
  | 30 => ⟨S16x2048x1, .f32⟩
  | 31 => ⟨S16x2048x1, .f32⟩
  | 32 => ⟨S16x2048x1, .f32⟩
  | 33 => ⟨S16x2048x1024, .f32⟩
  | 34 => ⟨S16x2048x1024, .f32⟩
  | 35 => ⟨S1x1x1024, .f32⟩
  | 36 => ⟨S16x2048x1024, .f32⟩
  | 37 => ⟨S16x2048x1024, .f32⟩
  | 38 => ⟨S16x1x1024, .f32⟩
  | 39 => ⟨S_, .f32⟩
  | 40 => ⟨S16x1x1024, .f32⟩
  | 41 => ⟨S16x1x1024, .f32⟩
  | 42 => ⟨S16x2048x1024, .f32⟩
  | 43 => ⟨S16x2048x1024, .f32⟩
  | 44 => ⟨S16x1x1024, .f32⟩
  | 45 => ⟨S16x2048x1024, .f32⟩
  | 46 => ⟨S16x2048x1024, .f32⟩
  | 47 => ⟨S16x2048x384, .f32⟩
  | 48 => ⟨S16x2048x1x384, .f32⟩
  | 49 => ⟨S16x2048x1x384, .f32⟩
  | 50 => ⟨S16x2048x1x384, .f32⟩
  | 51 => ⟨S16x2048x3x384, .f32⟩
  | 52 => ⟨S1x3x384x1024, .f32⟩
  | 53 => ⟨S3x384x1024, .f32⟩
  | 54 => ⟨S3x1024x16x2048, .f32⟩
  | 55 => ⟨S16x2048x3x1024, .f32⟩
  | 56 => ⟨S1x1024x3072, .f32⟩
  | 57 => ⟨S1024x3072, .f32⟩
  | 58 => ⟨S16x2048x3072, .f32⟩
  | 59 => ⟨S16x2048x3x1024, .f32⟩
  | 60 => ⟨S16x2048x3x1024, .f32⟩
  | 61 => ⟨S16x2048x3x1024, .f32⟩
  | 62 => ⟨S_, .f32⟩
  | 63 => ⟨S16x2048x3x1024, .f32⟩
  | 64 => ⟨S16x2048x3x1024, .f32⟩
  | 65 => ⟨S_, .f32⟩
  | 66 => ⟨S16x2048x3x1024, .f32⟩
  | 67 => ⟨S16x2048x3x1024, .f32⟩
  | 68 => ⟨S1x16x1024, .f32⟩
  | 69 => ⟨S16x1024, .f32⟩
  | 70 => ⟨S16x1x1024, .f32⟩
  | 71 => ⟨S16x2048x3x1024, .f32⟩
  | 72 => ⟨S_, .f32⟩
  | 73 => ⟨S16x2048x1024, .f32⟩
  | 74 => ⟨S1x1024x1024, .f32⟩
  | 75 => ⟨S1024x1024, .f32⟩
  | 76 => ⟨S16x2048x1024, .f32⟩
  | 77 => ⟨S16x2048x1024, .f32⟩
  | 78 => ⟨S16x2048x1024, .f32⟩
  | 79 => ⟨S16x2048x1024, .f32⟩
  | 80 => ⟨S3x16x1024, .f32⟩
  | 81 => ⟨S1x1x1024, .f32⟩
  | 82 => ⟨S1024, .f32⟩
  | 83 => ⟨S1x1024x5632, .f32⟩
  | 84 => ⟨S1024x5632, .f32⟩
  | 85 => ⟨S1x2816x1024, .f32⟩
  | 86 => ⟨S2816x1024, .f32⟩
  | 87 => ⟨S1x16x1024, .f32⟩
  | 88 => ⟨S16x1024, .f32⟩
  | 89 => ⟨S1x16x1024, .f32⟩
  | 90 => ⟨S16x1024, .f32⟩
  | 91 => ⟨S16x2048x1024, .f32⟩
  | 92 => ⟨S_, .f32⟩
  | 93 => ⟨S16x2048, .f32⟩
  | 94 => ⟨S16x2048x1, .f32⟩
  | 95 => ⟨S_, .f32⟩
  | 96 => ⟨S16x2048x1, .f32⟩
  | 97 => ⟨S16x2048x1, .f32⟩
  | 98 => ⟨S_, .f32⟩
  | 99 => ⟨S16x2048x1, .f32⟩
  | 100 => ⟨S16x2048x1, .f32⟩
  | 101 => ⟨S16x2048x1, .f32⟩
  | 102 => ⟨S16x2048x1024, .f32⟩
  | 103 => ⟨S16x2048x1024, .f32⟩
  | 104 => ⟨S1x1x1024, .f32⟩
  | 105 => ⟨S16x2048x1024, .f32⟩
  | 106 => ⟨S16x2048x1024, .f32⟩
  | 107 => ⟨S16x1x1024, .f32⟩
  | 108 => ⟨S_, .f32⟩
  | 109 => ⟨S16x1x1024, .f32⟩
  | 110 => ⟨S16x1x1024, .f32⟩
  | 111 => ⟨S16x2048x1024, .f32⟩
  | 112 => ⟨S16x2048x1024, .f32⟩
  | 113 => ⟨S16x1x1024, .f32⟩
  | 114 => ⟨S16x2048x1024, .f32⟩
  | 115 => ⟨S16x2048x1024, .f32⟩
  | 116 => ⟨S1x16x1024, .f32⟩
  | 117 => ⟨S16x1024, .f32⟩
  | 118 => ⟨S16x1x1024, .f32⟩
  | 119 => ⟨S_, .f32⟩
  | 120 => ⟨S16x1x1024, .f32⟩
  | 121 => ⟨S16x1x1024, .f32⟩
  | 122 => ⟨S16x2048x5632, .f32⟩
  | 123 => ⟨S16x2048x2816, .f32⟩
  | 124 => ⟨S16x2048x2816, .f32⟩
  | 125 => ⟨S16x2048x2816, .f32⟩
  | 126 => ⟨S16x2048x2816, .f32⟩
  | 127 => ⟨S_, .f32⟩
  | _ => ⟨S16x2048x1024, .f32⟩

abbrev hbmTy0_1 (i : Nat) : BufTy := match i % 128 with
  | 0 => ⟨S16x2048x2816, .f32⟩
  | 1 => ⟨S16x2048x2816, .f32⟩
  | 2 => ⟨S_, .f32⟩
  | 3 => ⟨S16x2048x2816, .f32⟩
  | 4 => ⟨S16x2048x2816, .f32⟩
  | 5 => ⟨S16x2048x2816, .f32⟩
  | 6 => ⟨S16x2048x2816, .f32⟩
  | 7 => ⟨S16x2048x1024, .f32⟩
  | 8 => ⟨S16x2048x1024, .f32⟩
  | 9 => ⟨S16x2048x1024, .f32⟩
  | 10 => ⟨S16x2048x1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_cst_7 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_9 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_10 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_11 : Ref sig .tc := ⟨.hbm, 140, rfl⟩
abbrev main_v107 : Ref sig .tc := ⟨.hbm, 141, rfl⟩
abbrev main_v108 : Ref sig .tc := ⟨.hbm, 142, rfl⟩
abbrev main_cst_12 : Ref sig .tc := ⟨.hbm, 143, rfl⟩
abbrev main_v109 : Ref sig .tc := ⟨.hbm, 144, rfl⟩
abbrev main_v110 : Ref sig .tc := ⟨.hbm, 145, rfl⟩
abbrev main_cst_13 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Proof.Ffn.lean ====
/- The half-step feed-forward of one row, over the extended reals: the modulated root-mean-square norm, the gated hidden units, the
   projection back and the residual; and the sum over the 2816 hidden units as eleven sums over 256. -/
module

public import Idealize.ShloMosaic.PureOps.Ideal

@[expose] public section

noncomputable section

namespace Cert.Ffn

open Idealize.ShloMosaic

/-- A row's entry `k` after the root-mean-square norm with gain `g`, scaled by one plus `s` and shifted by `b`. -/
def normed (x g s b : Fin 1024 → EReal) (k : Fin 1024) : EReal :=
  x k * Ideal.rsqrt (Ideal.div (∑ i, x i * x i) (Ideal.ofBits .f32 0x44800000#32) + Ideal.ofBits .f32 0x358637BD#32) * g k
    * (1 + s k) + b k

/-- A hidden unit: the gate input times its sigmoid times the other input. -/
def hidden (a u : EReal) : EReal := a * Ideal.logistic a * u

/-- The column of the input weights that gates hidden unit `j`. -/
def lo (j : Fin 2816) : Fin 5632 := ⟨j.val, by omega⟩

/-- The column of the input weights that hidden unit `j`'s other input has. -/
def hi (j : Fin 2816) : Fin 5632 := ⟨2816 + j.val, by omega⟩

/-- What hidden unit `j` adds to output `d`. -/
def term (h : Fin 1024 → EReal) (wi : Fin 1024 → Fin 5632 → EReal) (wo : Fin 2816 → Fin 1024 → EReal) (d : Fin 1024) (j : Fin 2816) : EReal :=
  hidden (∑ k, h k * wi k (lo j)) (∑ k, h k * wi k (hi j)) * wo j d

/-- The residual plus half the gate times the feed-forward of the normed row. -/
def halfStep (x g s b gt : Fin 1024 → EReal) (wi : Fin 1024 → Fin 5632 → EReal) (wo : Fin 2816 → Fin 1024 → EReal) (d : Fin 1024) : EReal :=
  x d + Ideal.ofBits .f32 0x3F000000#32 * gt d * ∑ j, term (normed x g s b) wi wo d j

/-- Chunk `c` of a sum over the hidden units: its 256 units. -/
def chunk (f : Fin 2816 → EReal) (c : ℕ) (hc : c < 11) : EReal := ∑ j : Fin 256, f ⟨256 * c + j.val, by omega⟩

/-- A sum over the hidden units, chunk after chunk. -/
theorem sum_chunks (f : Fin 2816 → EReal) :
    ∑ j, f j = chunk f 0 (by omega) + chunk f 1 (by omega) + chunk f 2 (by omega) + chunk f 3 (by omega) + chunk f 4 (by omega) + chunk f 5 (by omega)
      + chunk f 6 (by omega) + chunk f 7 (by omega) + chunk f 8 (by omega) + chunk f 9 (by omega) + chunk f 10 (by omega) := by
  have h : ∑ j, f j = ∑ c : Fin 11, chunk f c.val c.isLt := by
    unfold chunk
    rw [← Fintype.sum_prod_type' (f := fun (c : Fin 11) (j : Fin 256) => f ⟨256 * c.val + j.val, by omega⟩)]
    refine (Fintype.sum_equiv (finProdFinEquiv (m := 11) (n := 256)) _ f fun p => congrArg f (Fin.ext ?_)).symm
    show 256 * p.1.val + p.2.val = p.2.val + 256 * p.1.val
    omega
  have e : ∑ c : Fin 11, chunk f c.val c.isLt = ∑ c ∈ Finset.range 11, if hc : c < 11 then chunk f c hc else 0 := by
    rw [Finset.sum_range]
    exact Finset.sum_congr rfl fun c _ => (dif_pos c.isLt).symm
  rw [h, e]
  simp only [Finset.sum_range_succ, Finset.sum_range_zero, zero_add]
  rfl

end Cert.Ffn

end
-- ==== Proof.FfnBlock.lean ====
/- What the feed-forward call computes of one block of 512 rows: the norm, each chunk of 256 hidden units, and their sum. -/
module

public import proofs.«01_k».proof.Proof.Gen.Kernel2Ideal.Frame
public import proofs.«01_k».proof.Proof.Ffn
public import Idealize.ShloMosaic.Lib.Pointwise
public import Idealize.ShloMosaic.Lib.Pipeline.ValueKit

@[expose] public section

set_option maxRecDepth 16384

noncomputable section

namespace Cert.Kernel2Ideal.Block

open Cert.Kernel2Ideal Cert.Kernel2Ideal.Gen Cert.Ffn Idealize.ShloMosaic Idealize.SL.Sem

/-- A product of the normed rows with 256 columns of the input weights. -/
def proj (h : FVec Ideal S512x1024 .bf16) (a : FVec Ideal S1x1024x256 .bf16) : FVec Ideal S512x256 .f32 :=
  matmul dot_S512x1024_S1024x256_S512x256_1_0_0_1_n_n none h (shapeCast S1024x256 a shapeCasts_S1x1024x256_S1024x256) (constant S512x256 .f32 0x00000000#32)

/-- What 256 hidden units add to the output. -/
def part (h : FVec Ideal S512x1024 .bf16) (a u : FVec Ideal S1x1024x256 .bf16) (w : FVec Ideal S1x256x1024 .bf16) : FVec Ideal S512x1024 .f32 :=
  matmul dot_S512x256_S256x1024_S512x1024_1_0_0_1_n_n none
    (truncf .bf16 (mulf (mulf (proj h a) (logistic (proj h a))) (proj h u)) bitsLt_bf16_f32)
    (shapeCast S256x1024 w shapeCasts_S1x256x1024_S256x1024) (constant S512x1024 .f32 0x00000000#32)

theorem norm_at (x : FVec Ideal S1x512x1024 .f32) (b s : FVec Ideal S1x1x1x1x1024 .f32) (g : FVec Ideal S1x1x1x1024 .f32) (p : Fin 512) (k : Fin 1024) :
    k0_pay3 (F := Ideal) x b s g (ix2 p k)
      = normed (fun i => x (ix3 0 p i)) (fun i => g (ix4 0 0 0 i)) (fun i => s (ix5 0 0 0 0 i)) (fun i => b (ix5 0 0 0 0 i)) k := by
  pointwise [k0_pay3, k0_pay1]
  rfl

theorem proj_at (h : FVec Ideal S512x1024 .bf16) (a : FVec Ideal S1x1024x256 .bf16) (p : Fin 512) (j : Fin 256) :
    proj h a (ix2 p j) = ∑ k : Fin 1024, h (ix2 p k) * a (ix3 0 k j) := by
  pointwise [proj]

theorem part_at (h : FVec Ideal S512x1024 .bf16) (a u : FVec Ideal S1x1024x256 .bf16) (w : FVec Ideal S1x256x1024 .bf16) (p : Fin 512) (d : Fin 1024) :
    part h a u w (ix2 p d) = ∑ j : Fin 256, hidden (∑ k : Fin 1024, h (ix2 p k) * a (ix3 0 k j)) (∑ k : Fin 1024, h (ix2 p k) * u (ix3 0 k j)) * w (ix3 0 j d) := by
  have e : part h a u w (ix2 p d) = ∑ j : Fin 256, proj h a (ix2 p j) * Ideal.logistic (proj h a (ix2 p j)) * proj h u (ix2 p j) * w (ix3 0 j d) := by
    unfold part
    generalize proj h a = A
    generalize proj h u = U
    pointwise []
  rw [e]
  refine Finset.sum_congr rfl fun j _ => ?_
  rw [proj_at, proj_at]
  rfl

/-- The three loads of chunk `c` are its columns and rows of the weights. -/
structure Reads (a u : FVec Ideal S1x1024x256 .bf16) (w : FVec Ideal S1x256x1024 .bf16) (wi : Fin 1024 → Fin 5632 → EReal) (wo : Fin 2816 → Fin 1024 → EReal)
    (c : ℕ) (hc : c < 11) : Prop where
  gate : ∀ (k : Fin 1024) (j : Fin 256), a (ix3 0 k j) = wi k (lo ⟨256 * c + j.val, by omega⟩)
  other : ∀ (k : Fin 1024) (j : Fin 256), u (ix3 0 k j) = wi k (hi ⟨256 * c + j.val, by omega⟩)
  back : ∀ (j : Fin 256) (e : Fin 1024), w (ix3 0 j e) = wo ⟨256 * c + j.val, by omega⟩ e

/-- A chunk of 256 hidden units, from the columns and rows of the weights that it reads. -/
theorem part_chunk (h : FVec Ideal S512x1024 .bf16) (a u : FVec Ideal S1x1024x256 .bf16) (w : FVec Ideal S1x256x1024 .bf16) (p : Fin 512) (d : Fin 1024)
    (wi : Fin 1024 → Fin 5632 → EReal) (wo : Fin 2816 → Fin 1024 → EReal) (c : ℕ) (hc : c < 11) (r : Reads a u w wi wo c hc) :
    part h a u w (ix2 p d) = chunk (term (fun k => h (ix2 p k)) wi wo d) c hc := by
  rw [part_at]
  refine Finset.sum_congr rfl fun j _ => ?_
  unfold term
  rw [r.back]
  simp only [r.gate, r.other]

/-- Eleven arrays added up, one after the other. -/
def sum11 (p0 p1 p2 p3 p4 p5 p6 p7 p8 p9 p10 : FVec Ideal S512x1024 .f32) : FVec Ideal S512x1024 .f32 :=
  addf (addf (addf (addf (addf (addf (addf (addf (addf (addf (p0) p1) p2) p3) p4) p5) p6) p7) p8) p9) p10

theorem sum11_at (p0 p1 p2 p3 p4 p5 p6 p7 p8 p9 p10 : FVec Ideal S512x1024 .f32) (i : S512x1024.Idx) :
    sum11 p0 p1 p2 p3 p4 p5 p6 p7 p8 p9 p10 i = p0 i + p1 i + p2 i + p3 i + p4 i + p5 i + p6 i + p7 i + p8 i + p9 i + p10 i := rfl

end Cert.Kernel2Ideal.Block

end
-- ==== Proof.FfnTot.lean ====
/- What the feed-forward call computes of one block of 512 rows: the norm, each chunk of 256 hidden units, and their sum. -/
module

public import proofs.«01_k».proof.Proof.Gen.Kernel2Ideal.Frame
public import proofs.«01_k».proof.Proof.Ffn
public import proofs.«01_k».proof.Proof.FfnBlock
public import Idealize.ShloMosaic.Lib.Pointwise
public import Idealize.ShloMosaic.Lib.Pipeline.ValueKit

@[expose] public section

set_option maxRecDepth 16384

noncomputable section

namespace Cert.Kernel2Ideal.Block

open Cert.Kernel2Ideal Cert.Kernel2Ideal.Gen Cert.Ffn Idealize.ShloMosaic Idealize.SL.Sem

/-- The eleven chunks added up. -/
def total (h : FVec Ideal S512x1024 .bf16) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) : FVec Ideal S512x1024 .f32 :=
  sum11 (part h a0 u0 w0) (part h a1 u1 w1) (part h a2 u2 w2) (part h a3 u3 w3) (part h a4 u4 w4) (part h a5 u5 w5) (part h a6 u6 w6) (part h a7 u7 w7) (part h a8 u8 w8) (part h a9 u9 w9) (part h a10 u10 w10)

/-- The residual plus half the gate times what was added up. -/
def closing (v1 : FVec Ideal S512x1024 .f32) (v7 : FVec Ideal S1x1024 .f32) (t : FVec Ideal S512x1024 .f32) : FVec Ideal S512x1024 .f32 :=
  addf v1 (mulf (broadcastTo S512x1024 (mulf (broadcast S1x1024 (Scalar.ofBits .f32 0x3F000000#32)) v7) broadcasts_S1x1024_S512x1024) t)

theorem closing_at (v1 : FVec Ideal S512x1024 .f32) (v7 : FVec Ideal S1x1024 .f32) (t : FVec Ideal S512x1024 .f32) (p : Fin 512) (d : Fin 1024) :
    closing v1 v7 t (ix2 p d) = v1 (ix2 p d) + Ideal.ofBits .f32 0x3F000000#32 * v7 (ix2 0 d) * t (ix2 p d) := by
  pointwise [closing]

theorem total_at (h : FVec Ideal S512x1024 .bf16) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) (p : Fin 512) (d : Fin 1024)
    (wi : Fin 1024 → Fin 5632 → EReal) (wo : Fin 2816 → Fin 1024 → EReal)
    (r0 : Reads a0 u0 w0 wi wo 0 (by decide))
    (r1 : Reads a1 u1 w1 wi wo 1 (by decide))
    (r2 : Reads a2 u2 w2 wi wo 2 (by decide))
    (r3 : Reads a3 u3 w3 wi wo 3 (by decide))
    (r4 : Reads a4 u4 w4 wi wo 4 (by decide))
    (r5 : Reads a5 u5 w5 wi wo 5 (by decide))
    (r6 : Reads a6 u6 w6 wi wo 6 (by decide))
    (r7 : Reads a7 u7 w7 wi wo 7 (by decide))
    (r8 : Reads a8 u8 w8 wi wo 8 (by decide))
    (r9 : Reads a9 u9 w9 wi wo 9 (by decide))
    (r10 : Reads a10 u10 w10 wi wo 10 (by decide)) :
    total h a0 u0 a1 u1 a2 u2 a3 u3 a4 u4 a5 u5 a6 u6 a7 u7 a8 u8 a9 u9 a10 u10 w0 w1 w2 w3 w4 w5 w6 w7 w8 w9 w10 (ix2 p d) = ∑ j, term (fun k => h (ix2 p k)) wi wo d j := by
  unfold total
  generalize hf : term (fun k => h (ix2 p k)) wi wo d = f
  have e : ∀ (a u : FVec Ideal S1x1024x256 .bf16) (w : FVec Ideal S1x256x1024 .bf16) (c : ℕ) (hc : c < 11), Reads a u w wi wo c hc →
      part h a u w (ix2 p d) = chunk f c hc := fun a u w c hc r => hf ▸ part_chunk h a u w p d wi wo c hc r
  rw [sum_chunks, sum11_at, e _ _ _ _ _ r0, e _ _ _ _ _ r1, e _ _ _ _ _ r2, e _ _ _ _ _ r3, e _ _ _ _ _ r4, e _ _ _ _ _ r5, e _ _ _ _ _ r6, e _ _ _ _ _ r7, e _ _ _ _ _ r8, e _ _ _ _ _ r9, e _ _ _ _ _ r10]

end Cert.Kernel2Ideal.Block

end
-- ==== Proof.FfnChain.lean ====
/- What the feed-forward call computes of one block of 512 rows: the norm, each chunk of 256 hidden units, and their sum. -/
module

public import proofs.«01_k».proof.Proof.Gen.Kernel2Ideal.Frame
public import proofs.«01_k».proof.Proof.Ffn
public import proofs.«01_k».proof.Proof.FfnTot
public import Idealize.ShloMosaic.Lib.Pointwise
public import Idealize.ShloMosaic.Lib.Pipeline.ValueKit

@[expose] public section

set_option maxRecDepth 16384

noncomputable section

namespace Cert.Kernel2Ideal.Block

open Cert.Kernel2Ideal Cert.Kernel2Ideal.Gen Cert.Ffn Idealize.ShloMosaic Idealize.SL.Sem

/-- What the body stores, from the values its loads gave it. -/
theorem chain (v1 : FVec Ideal S512x1024 .f32) (v7 : FVec Ideal S1x1024 .f32) (h : FVec Ideal S512x1024 .bf16) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) :
    k0_pay12 (F := Ideal) v1 v7 h (k0_pay10 h (k0_pay9 h (k0_pay7 h (k0_pay4 h a0 u0 w0 a1 u1 w1) (k0_pay5 h a2) (k0_pay6 u2) w2 a3 u3 w3)
      (k0_pay8 h a4 u4) w4 a5 u5 w5 a6 u6 w6) a7 u7 w7 a8 u8 w8) (k0_pay11 h a9) u9 w9 a10 u10 w10
      = shapeCast S1x512x1024 (closing v1 v7 (total h a0 u0 a1 u1 a2 u2 a3 u3 a4 u4 a5 u5 a6 u6 a7 u7 a8 u8 a9 u9 a10 u10 w0 w1 w2 w3 w4 w5 w6 w7 w8 w9 w10)) shapeCasts_S512x1024_S1x512x1024 := by
  dsimp only [k0_pay12, k0_pay11, k0_pay10, k0_pay9, k0_pay8, k0_pay7, k0_pay6, k0_pay5, k0_pay4, closing, total, sum11, part, proj]

/-- The same, at an index. -/
theorem chain_at (v1 : FVec Ideal S512x1024 .f32) (v7 : FVec Ideal S1x1024 .f32) (h : FVec Ideal S512x1024 .bf16) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) (p : Fin 512) (d : Fin 1024)
    (wi : Fin 1024 → Fin 5632 → EReal) (wo : Fin 2816 → Fin 1024 → EReal)
    (r0 : Reads a0 u0 w0 wi wo 0 (by decide))
    (r1 : Reads a1 u1 w1 wi wo 1 (by decide))
    (r2 : Reads a2 u2 w2 wi wo 2 (by decide))
    (r3 : Reads a3 u3 w3 wi wo 3 (by decide))
    (r4 : Reads a4 u4 w4 wi wo 4 (by decide))
    (r5 : Reads a5 u5 w5 wi wo 5 (by decide))
    (r6 : Reads a6 u6 w6 wi wo 6 (by decide))
    (r7 : Reads a7 u7 w7 wi wo 7 (by decide))
    (r8 : Reads a8 u8 w8 wi wo 8 (by decide))
    (r9 : Reads a9 u9 w9 wi wo 9 (by decide))
    (r10 : Reads a10 u10 w10 wi wo 10 (by decide)) :
    k0_pay12 (F := Ideal) v1 v7 h (k0_pay10 h (k0_pay9 h (k0_pay7 h (k0_pay4 h a0 u0 w0 a1 u1 w1) (k0_pay5 h a2) (k0_pay6 u2) w2 a3 u3 w3)
      (k0_pay8 h a4 u4) w4 a5 u5 w5 a6 u6 w6) a7 u7 w7 a8 u8 w8) (k0_pay11 h a9) u9 w9 a10 u10 w10 (ix3 0 p d)
      = v1 (ix2 p d) + Ideal.ofBits .f32 0x3F000000#32 * v7 (ix2 0 d) * ∑ j, term (fun k => h (ix2 p k)) wi wo d j := by
  rw [chain, ← total_at h a0 u0 a1 u1 a2 u2 a3 u3 a4 u4 a5 u5 a6 u6 a7 u7 a8 u8 a9 u9 a10 u10 w0 w1 w2 w3 w4 w5 w6 w7 w8 w9 w10 p d wi wo r0 r1 r2 r3 r4 r5 r6 r7 r8 r9 r10, ← closing_at]
  generalize closing v1 v7 _ = t
  pointwise []

end Cert.Kernel2Ideal.Block

end
-- ==== Proof.FfnOut.lean ====
/- What the feed-forward call computes of one block of 512 rows: the norm, each chunk of 256 hidden units, and their sum. -/
module

public import proofs.«01_k».proof.Proof.Gen.Kernel2Ideal.Frame
public import proofs.«01_k».proof.Proof.Ffn
public import proofs.«01_k».proof.Proof.FfnChain
public import Idealize.ShloMosaic.Lib.Pointwise
public import Idealize.ShloMosaic.Lib.Pipeline.ValueKit

@[expose] public section

set_option maxRecDepth 16384

noncomputable section

namespace Cert.Kernel2Ideal.Block

open Cert.Kernel2Ideal Cert.Kernel2Ideal.Gen Cert.Ffn Idealize.ShloMosaic Idealize.SL.Sem

/-- A load of the whole block of rows. -/
theorem whole_rows (x : FVec Ideal S1x512x1024 .f32) : View.ld (Val := Elt Ideal) (e' := .f32) x r0_0 = x := View.ld_unit_lit _ _ (by decide)

/-- A load of a whole row of the modulation. -/
theorem whole_mod (x : FVec Ideal S1x1x1x1x1024 .f32) : View.ld (Val := Elt Ideal) (e' := .f32) x r0_1 = x := View.ld_unit_lit _ _ (by decide)

/-- A load of the whole gain. -/
theorem whole_gain (x : FVec Ideal S1x1x1x1024 .f32) : View.ld (Val := Elt Ideal) (e' := .f32) x r0_2 = x := View.ld_unit_lit _ _ (by decide)

/-- The three loads at a chunk's offsets read its columns and rows. -/
theorem reads_of (x5 : FVec Ideal S1x1024x5632 .bf16) (x6 : FVec Ideal S1x2816x1024 .bf16) (c : ℕ) (hc : c < 11)
    {oa ou : Fin S1x1024x5632.rank → ℕ} {ow : Fin S1x2816x1024.rank → ℕ} (ia : ∀ a, oa a + S1x1024x256.size a ≤ S1x1024x5632.size a)
    (iu : ∀ a, ou a + S1x1024x256.size a ≤ S1x1024x5632.size a) (iw : ∀ a, ow a + S1x256x1024.size a ≤ S1x2816x1024.size a)
    (ha : oa = ![0, 0, 256 * c]) (hu : ou = ![0, 0, 2816 + 256 * c]) (hw : ow = ![0, 256 * c, 0]) :
    Reads (View.ld (Val := Elt Ideal) (e' := .bf16) x5 (Rect.unit oa S1x1024x256.size ia)) (View.ld (Val := Elt Ideal) (e' := .bf16) x5 (Rect.unit ou S1x1024x256.size iu))
        (View.ld (Val := Elt Ideal) (e' := .bf16) x6 (Rect.unit ow S1x256x1024.size iw))
      (fun k n => x5 (ix3 0 k n)) (fun j e => x6 (ix3 0 j e)) c hc := by
  subst ha hu hw
  refine ⟨fun k j => ?_, fun k j => ?_, fun j e => ?_⟩
  · refine View.ld_unit_apply_of (Val := Elt Ideal) (e := .bf16) x5 _ _ _ _ _  fun a => ?_
    fin_cases a <;> simp [lo]
  · refine View.ld_unit_apply_of (Val := Elt Ideal) (e := .bf16) x5 _ _ _ _ _  fun a => ?_
    fin_cases a <;> simp [hi] <;> omega
  · refine View.ld_unit_apply_of (Val := Elt Ideal) (e := .bf16) x6 _ _ _ _ _  fun a => ?_
    fin_cases a <;> simp

/-- The block the body leaves, at row `p` and column `d`. -/
theorem out_at (x0 : FVec Ideal S1x512x1024 .f32) (x1 x2 x3 : FVec Ideal S1x1x1x1x1024 .f32) (x4 : FVec Ideal S1x1x1x1024 .f32)
    (x5 : FVec Ideal S1x1024x5632 .bf16) (x6 : FVec Ideal S1x2816x1024 .bf16) (p : Fin 512) (d : Fin 1024) :
    out0_7 (F := Ideal) x0 x1 x2 x3 x4 x5 x6 (ix3 0 p d)
      = halfStep (fun i => x0 (ix3 0 p i)) (fun i => x4 (ix4 0 0 0 i)) (fun i => x2 (ix5 0 0 0 0 i)) (fun i => x1 (ix5 0 0 0 0 i)) (fun i => x3 (ix5 0 0 0 0 i))
          (fun k n => x5 (ix3 0 k n)) (fun j e => x6 (ix3 0 j e)) d := by
  unfold out0_7
  rw [View.canon_cons_unit_lit _ _ _ (by decide)]
  generalize hh : k0_pay13 (F := Ideal) x0 x1 x2 x3 x4 x5 x6 = h
  have e1 : k0_pay1 (F := Ideal) (View.ld (Val := Elt Ideal) (e' := .f32) x0 r0_0) (ix2 p d) = x0 (ix3 0 p d) := by
    rw [whole_rows x0]
    pointwise [k0_pay1]
  have e2 : k0_pay2 (F := Ideal) (View.ld (Val := Elt Ideal) (e' := .f32) x3 r0_1) (ix2 0 d) = x3 (ix5 0 0 0 0 d) := by
    rw [whole_mod x3]
    pointwise [k0_pay2]
  have e3 : ∀ k, h (ix2 p k) = normed (fun i => x0 (ix3 0 p i)) (fun i => x4 (ix4 0 0 0 i)) (fun i => x2 (ix5 0 0 0 0 i)) (fun i => x1 (ix5 0 0 0 0 i)) k := by
    intro k
    rw [← hh]
    unfold k0_pay13
    rw [whole_rows x0, whole_mod x1, whole_mod x2, whole_gain x4]
    exact norm_at x0 x1 x2 x4 p k
  generalize k0_pay1 (F := Ideal) (View.ld (Val := Elt Ideal) (e' := .f32) x0 r0_0) = v1 at e1 ⊢
  generalize k0_pay2 (F := Ideal) (View.ld (Val := Elt Ideal) (e' := .f32) x3 r0_1) = v7 at e2 ⊢
  refine (chain_at v1 v7 h _ _ _ _ _ _ _ _ _ _ _ _ _ _ _ _ _ _ _ _ _ _ _ _ _ _ _ _ _ _ _ _ _ p d (fun k n => x5 (ix3 0 k n)) (fun j e => x6 (ix3 0 j e))
    ?_ ?_ ?_ ?_ ?_ ?_ ?_ ?_ ?_ ?_ ?_).trans ?_
  all_goals try exact reads_of x5 x6 _ (by decide) _ _ _ rfl rfl rfl
  rw [e1, e2, funext e3]
  rfl

end Cert.Kernel2Ideal.Block

end
-- ==== Proof.FfnRef.lean ====
/- The feed-forward reference's result, element by element: the half step of its row. -/
module

public import proofs.«01_k».proof.Proof.Gen.Reference2Ideal.Read
public import proofs.«01_k».proof.Proof.Ffn
public import Idealize.ShloMosaic.Lib.Pointwise

@[expose] public section

set_option maxRecDepth 16384

noncomputable section

namespace Cert.Reference2Ideal.RefRead

open Cert.Reference2Ideal Cert.Reference2Ideal.Gen Cert.Reference2Ideal.Read Cert.Ffn Idealize.ShloMosaic Idealize.SL.Sem

variable (x0 : FVec Ideal S16x2048x1024 .f32) (x1 : FVec Ideal S4x9x16x1x1024 .f32) (x2 : FVec Ideal S4x3x1024 .f32)
  (x3 : FVec Ideal S4x1024x5632 .f32) (x4 : FVec Ideal S4x2816x1024 .f32)

/-- The shift of batch `b`. -/
theorem shift_at (b : Fin 16) (k : Fin 1024) : val_main_v11 (F := Ideal) x1 (ix2 b k) = x1 (ix5 0 0 b 0 k) := by
  pointwise [val_main_v11, val_main_v10, val_main_v3, val_main_v2, val_main_v1, val_main_v0]

/-- The scale of batch `b`. -/
theorem scale_at (b : Fin 16) (k : Fin 1024) : val_main_v13 (F := Ideal) x1 (ix2 b k) = x1 (ix5 0 1 b 0 k) := by
  pointwise [val_main_v13, val_main_v12, val_main_v3, val_main_v2, val_main_v1, val_main_v0]

/-- The gate of batch `b`. -/
theorem gate_at (b : Fin 16) (k : Fin 1024) : val_main_v36 (F := Ideal) x1 (ix2 b k) = x1 (ix5 0 2 b 0 k) := by
  pointwise [val_main_v36, val_main_v35, val_main_v3, val_main_v2, val_main_v1, val_main_v0]

/-- The norm's gain. -/
theorem gain_at (k : Fin 1024) : val_main_v5 (F := Ideal) x2 (ix1 k) = x2 (ix3 0 0 k) := by
  pointwise [val_main_v5, val_main_v4]

/-- The input weights. -/
theorem wi_at (k : Fin 1024) (n : Fin 5632) : val_main_v7 (F := Ideal) x3 (ix2 k n) = x3 (ix3 0 k n) := by
  pointwise [val_main_v7, val_main_v6]

/-- The output weights. -/
theorem wo_at (j : Fin 2816) (d : Fin 1024) : val_main_v9 (F := Ideal) x4 (ix2 j d) = x4 (ix3 0 j d) := by
  pointwise [val_main_v9, val_main_v8]

/-- The normed, modulated row. -/
theorem normed_at (b : Fin 16) (t : Fin 2048) (k : Fin 1024) :
    val_main_v34 (F := Ideal) x0 x1 x2 (ix3 b t k)
      = normed (fun i => x0 (ix3 b t i)) (fun i => x2 (ix3 0 0 i)) (fun i => x1 (ix5 0 1 b 0 i)) (fun i => x1 (ix5 0 0 b 0 i)) k := by
  have e1 := shift_at x1 b k
  have e2 := scale_at x1 b k
  have e3 := gain_at x2 k
  unfold val_main_v34 val_main_v33 val_main_v32 val_main_v31 val_main_v30 val_main_v29 val_main_v27 val_main_v26 val_main_v25 val_main_v24
  generalize val_main_v11 (F := Ideal) x1 = A at e1 ⊢
  generalize val_main_v13 (F := Ideal) x1 = B at e2 ⊢
  generalize val_main_v5 (F := Ideal) x2 = C at e3 ⊢
  pointwise [val_main_v28, val_main_cst_2, val_main_v23, val_main_v22, val_main_v21, val_main_v20, val_main_v19, val_main_cst_1, val_main_v18, val_main_v17, val_main_cst_0,
    val_main_v16, val_main_v15, val_main_cst, val_main_v14]
  rw [e1, e2, e3]
  rfl

/-- The product with the input weights. -/
theorem proj_at (b : Fin 16) (t : Fin 2048) (n : Fin 5632) :
    val_main_v40 (F := Ideal) x0 x1 x2 x3 (ix3 b t n) = ∑ k : Fin 1024, val_main_v34 (F := Ideal) x0 x1 x2 (ix3 b t k) * x3 (ix3 0 k n) := by
  rw [val_main_v40_apply]
  refine Finset.sum_congr rfl fun k _ => congrArg₂ (· * ·) (congrArg (val_main_v34 (F := Ideal) x0 x1 x2) ?_) ((congrArg (val_main_v7 (F := Ideal) x3) ?_).trans (wi_at x3 k n)) <;>
    (funext a; apply Fin.ext; fin_cases a <;> rfl)

/-- A hidden unit. -/
theorem hidden_at (b : Fin 16) (t : Fin 2048) (j : Fin 2816) :
    val_main_v44 (F := Ideal) x0 x1 x2 x3 (ix3 b t j)
      = hidden (val_main_v40 (F := Ideal) x0 x1 x2 x3 (ix3 b t (lo j))) (val_main_v40 (F := Ideal) x0 x1 x2 x3 (ix3 b t (hi j))) := by
  unfold val_main_v44 val_main_v43 val_main_call0_v5 val_main_call0_v3 val_main_call0_v1 val_main_call0_v0 val_main_v42 val_main_v41
  generalize val_main_v40 (F := Ideal) x0 x1 x2 x3 = A
  pointwise [val_main_call0_v4, val_main_call0_v2, val_main_call0_cst, val_main_call0_cst_0]
  rfl

/-- The reference's result. -/
theorem result_at (b : Fin 16) (t : Fin 2048) (d : Fin 1024) :
    val_main_v48 (F := Ideal) x0 x1 x2 x3 x4 (ix3 b t d)
      = halfStep (fun i => x0 (ix3 b t i)) (fun i => x2 (ix3 0 0 i)) (fun i => x1 (ix5 0 1 b 0 i)) (fun i => x1 (ix5 0 0 b 0 i)) (fun i => x1 (ix5 0 2 b 0 i))
          (fun k n => x3 (ix3 0 k n)) (fun j e => x4 (ix3 0 j e)) d := by
  have e1 := gate_at x1 b d
  have e2 : val_main_v45 (F := Ideal) x0 x1 x2 x3 x4 (ix3 b t d) = ∑ j : Fin 2816, val_main_v44 (F := Ideal) x0 x1 x2 x3 (ix3 b t j) * x4 (ix3 0 j d) := by
    rw [val_main_v45_apply]
    refine Finset.sum_congr rfl fun k _ => congrArg₂ (· * ·) (congrArg (val_main_v44 (F := Ideal) x0 x1 x2 x3) ?_) ((congrArg (val_main_v9 (F := Ideal) x4) ?_).trans (wo_at x4 k d)) <;>
      (funext a; apply Fin.ext; fin_cases a <;> rfl)
  have e3 : val_main_v48 (F := Ideal) x0 x1 x2 x3 x4 (ix3 b t d)
      = x0 (ix3 b t d) + Ideal.ofBits .f32 0x3F000000#32 * val_main_v36 (F := Ideal) x1 (ix2 b d) * val_main_v45 (F := Ideal) x0 x1 x2 x3 x4 (ix3 b t d) := by
    unfold val_main_v48 val_main_v47 val_main_v46 val_main_v39 val_main_v37
    generalize val_main_v36 (F := Ideal) x1 = A
    generalize val_main_v45 (F := Ideal) x0 x1 x2 x3 x4 = B
    pointwise [val_main_v38, val_main_cst_3]
  rw [e3, e1, e2]
  simp only [hidden_at, proj_at, normed_at]
  rfl

end Cert.Reference2Ideal.RefRead

end
-- ==== Proof.FfnResult.lean ====
/- The feed-forward call's result array is the reference's: every grid point's block, from the program's arguments, and the array whole. -/
module

public import proofs.«01_k».proof.Proof.Gen.Kernel2Ideal.Value
public import proofs.«01_k».proof.Proof.FfnOut
public import proofs.«01_k».proof.Proof.FfnRef
public import Idealize.ShloMosaic.Lib.Claim
public import Idealize.ShloMosaic.Lib.Pipeline.ValueKit

@[expose] public section

set_option maxRecDepth 16384

noncomputable section

namespace Cert.Kernel2Ideal.Result

open Cert.Kernel2Ideal Cert.Kernel2Ideal.Gen Cert.Kernel2Ideal.Block Cert.Ffn Idealize.ShloMosaic Idealize.ShloMosaic.TcCoe Idealize.SL.Sem
open Idealize.ShloMosaic.Pipeline (Dat)

variable (m : (ℓ : Loc nD τ sig) → Buf (Elt Ideal) ℓ) (c : Dev nD)

/-- Which block of each array grid point `t` works on: batch `t / 4`, row tile `t % 4`; layer 0 of the parameters. -/
theorem coords : ∀ t : Fin cfg0.N, win0_0.index t = ![t.val / 4, t.val % 4, 0] ∧ win0_1.index t = ![0, 0, t.val / 4, 0, 0]
    ∧ win0_2.index t = ![0, 1, t.val / 4, 0, 0] ∧ win0_3.index t = ![0, 2, t.val / 4, 0, 0] ∧ win0_4.index t = ![0, 0, 0, 0]
    ∧ win0_5.index t = ![0, 0, 0] ∧ win0_6.index t = ![0, 0, 0] ∧ win0_7.index t = ![t.val / 4, t.val % 4, 0] ∧ t.val < 64 :=
  (by decide +kernel : ∀ t : Fin grid0.N, _)

/-- The batch of a grid point. -/
def bat (t : Fin cfg0.N) : Fin 16 := ⟨t.val / 4, by have := (coords t).2.2.2.2.2.2.2.2; omega⟩

/-- The token that row `p` of a grid point's block is. -/
def tok (t : Fin cfg0.N) (p : Fin 512) : Fin 2048 := ⟨512 * (t.val % 4) + p.val, by omega⟩

/-- The arguments as arrays. -/
def a0 : FVec Ideal S16x2048x1024 .f32 := m ((c : Thread nD τ).loc main_arg0)
def a1 : FVec Ideal S4x9x16x1x1024 .f32 := m ((c : Thread nD τ).loc main_arg1)
def a2 : FVec Ideal S4x3x1024 .f32 := m ((c : Thread nD τ).loc main_arg2)
def a3 : FVec Ideal S4x1024x5632 .f32 := m ((c : Thread nD τ).loc main_arg3)
def a4 : FVec Ideal S4x2816x1024 .f32 := m ((c : Thread nD τ).loc main_arg4)

/-- The gains with a unit axis put in. -/
theorem gain_read : V m c main_v0 = shapeCast S4x3x1x1024 (a2 m c) shapeCasts_S4x3x1024_S4x3x1x1024 := by rfl

/-- The weights as the call is given them: a cast, which changes no value. -/
theorem wi_read : V m c main_v1 = truncf .bf16 (a3 m c) bitsLt_bf16_f32 := by rfl

theorem wo_read : V m c main_v2 = truncf .bf16 (a4 m c) bitsLt_bf16_f32 := by rfl

theorem gain_cast (x : FVec Ideal S4x3x1024 .f32) (i : Fin 4) (j : Fin 3) (k : Fin 1024) :
    shapeCast S4x3x1x1024 x shapeCasts_S4x3x1024_S4x3x1x1024 (ix4 i j 0 k) = x (ix3 i j k) := by
  pointwise []

theorem blk0 (t : Fin cfg0.N) (p : Fin 512) (k : Fin 1024) : iblk m c 0 t (ix3 0 p k) = a0 m c (ix3 (bat t) (tok t p) k) := by
  refine Eq.trans (b := V m c main_arg0 (ix3 (bat t) (tok t p) k)) ?_ (congrFun (V_main_arg0 m c) _)
  have := coords t
  unfold bat tok
  blk_ext [iblk, coords t]

theorem blk1 (t : Fin cfg0.N) (k : Fin 1024) : iblk m c 1 t (ix5 0 0 0 0 k) = a1 m c (ix5 0 0 (bat t) 0 k) := by
  refine Eq.trans (b := V m c main_arg1 (ix5 0 0 (bat t) 0 k)) ?_ (congrFun (V_main_arg1 m c) _)
  have := coords t
  unfold bat
  blk_ext [iblk, coords t]

theorem blk2 (t : Fin cfg0.N) (k : Fin 1024) : iblk m c 2 t (ix5 0 0 0 0 k) = a1 m c (ix5 0 1 (bat t) 0 k) := by
  refine Eq.trans (b := V m c main_arg1 (ix5 0 1 (bat t) 0 k)) ?_ (congrFun (V_main_arg1 m c) _)
  have := coords t
  unfold bat
  blk_ext [iblk, coords t]

theorem blk3 (t : Fin cfg0.N) (k : Fin 1024) : iblk m c 3 t (ix5 0 0 0 0 k) = a1 m c (ix5 0 2 (bat t) 0 k) := by
  refine Eq.trans (b := V m c main_arg1 (ix5 0 2 (bat t) 0 k)) ?_ (congrFun (V_main_arg1 m c) _)
  have := coords t
  unfold bat
  blk_ext [iblk, coords t]

theorem blk4 (t : Fin cfg0.N) (k : Fin 1024) : iblk m c 4 t (ix4 0 0 0 k) = a2 m c (ix3 0 0 k) := by
  refine Eq.trans (b := V m c main_v0 (ix4 0 0 0 k)) ?_ ((congrFun (gain_read m c) _).trans (gain_cast _ 0 0 k))
  have := coords t
  blk_ext [iblk, coords t]

theorem blk5 (t : Fin cfg0.N) (k : Fin 1024) (n : Fin 5632) : iblk m c 5 t (ix3 0 k n) = a3 m c (ix3 0 k n) := by
  refine Eq.trans (b := V m c main_v1 (ix3 0 k n)) ?_ (congrFun (wi_read m c) _)
  have := coords t
  blk_ext [iblk, coords t]

theorem blk6 (t : Fin cfg0.N) (j : Fin 2816) (d : Fin 1024) : iblk m c 6 t (ix3 0 j d) = a4 m c (ix3 0 j d) := by
  refine Eq.trans (b := V m c main_v2 (ix3 0 j d)) ?_ (congrFun (wo_read m c) _)
  have := coords t
  blk_ext [iblk, coords t]

/-- The reference's result of the same arguments. -/
def ref : FVec Ideal S16x2048x1024 .f32 := Cert.Reference2Ideal.Read.val_main_v48 (F := Ideal) (a0 m c) (a1 m c) (a2 m c) (a3 m c) (a4 m c)

/-- What a grid point leaves in its output block. -/
theorem block_eq (t : Fin cfg0.N) (p : Fin 512) (d : Fin 1024) :
    out0_7 (iblk m c 0 t) (iblk m c 1 t) (iblk m c 2 t) (iblk m c 3 t) (iblk m c 4 t) (iblk m c 5 t) (iblk m c 6 t) (ix3 0 p d)
      = ref m c (ix3 (bat t) (tok t p) d) := by
  refine (out_at _ _ _ _ _ _ _ p d).trans ?_
  simp only [blk0, blk1, blk2, blk3, blk4, blk5, blk6]
  exact (Cert.Reference2Ideal.RefRead.result_at (a0 m c) (a1 m c) (a2 m c) (a3 m c) (a4 m c) (bat t) (tok t p) d).symm

/-- The call's result array, whole. -/
theorem final : (dats m 0 c).arrAt 7 cfg0.N = ref m c := by
  refine Dat.arrAt_eq_of_covers (dats m 0 c) 7 (ref m c) (by decide +kernel) fun t _ y => ?_
  have hc := coords t
  blk_simp
  rw [after0_7]
  obtain ⟨p, hp⟩ : ∃ p : Fin 512, p.val = (y 1).val := ⟨⟨(y 1).val, (y 1).isLt⟩, rfl⟩
  obtain ⟨d, hd⟩ : ∃ d : Fin 1024, d.val = (y 2).val := ⟨⟨(y 2).val, (y 2).isLt⟩, rfl⟩
  have e := block_eq m c t p d
  unfold bat tok at e
  have e0 : (y 0).val < 1 := (y 0).isLt
  refine Eq.trans ?_ (e.trans ?_)
  · refine congrArg (out0_7 (iblk m c 0 t) (iblk m c 1 t) (iblk m c 2 t) (iblk m c 3 t) (iblk m c 4 t) (iblk m c 5 t) (iblk m c 6 t)) (funext fun a => Fin.ext ?_)
    fin_cases a
    · exact Nat.lt_one_iff.mp e0
    · exact hp.symm
    · exact hd.symm
  · blk_ext [hc]

end Cert.Kernel2Ideal.Result

end
-- ==== Proof.FfnClaims.lean ====
/- The claims about the feed-forward call. -/
module

public import proofs.«01_k».proof.Defs
public import proofs.«01_k».proof.Proof.Gen.Kernel2.Frame
public import proofs.«01_k».proof.Proof.Gen.Reference2Ideal.Run
public import proofs.«01_k».proof.Proof.FfnResult
public import Idealize.ShloMosaic.Adequacy
public import Idealize.ShloMosaic.Init
public import Idealize.ShloMosaic.Lib.Quiescent

@[expose] public section

noncomputable section

namespace Cert.FfnClaims

open Idealize.ShloMosaic Idealize.SL.Sem

/-- The feed-forward call over the extended reals terminates without a fault, keeps its arguments and ends with every semaphore counter at zero. -/
theorem frame_ideal : Cert.quiescent_Kernel2Ideal := fun m ρ _ => Cert.Kernel2Ideal.Gen.frame m ρ

/-- So does the call at machine floats. -/
theorem frame_kernel : Cert.quiescent_Kernel2 := fun m ρ _ => Cert.Kernel2.Gen.frame m ρ

/-- The reference terminates without a fault and keeps its arguments; it has no semaphores. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- From any equal arguments the feed-forward call and its reference end with the same result. -/
theorem equal_results : Cert.algebraic_Kernel2Ideal_Reference2Ideal := by
  intro m g m' g' hpre hagree
  refine ⟨fun c => Cert.Kernel2Ideal.Result.ref m c, ?_, ?_⟩
  · exact (θ_run Cert.Kernel2Ideal.defs _ _).mono
      (fun r h c => ⟨(h c).1.trans (Cert.Kernel2Ideal.Result.final m c), (h c).2⟩)
      (Cert.Kernel2Ideal.Value.run_blocks m g)
  · refine (θ_run Cert.Reference2Ideal.defs _ _).mono (fun r h c => ⟨?_, (h c).2⟩) (Cert.Reference2Ideal.Value.run m' g')
    obtain ⟨h0, h1, h2, h3, h4⟩ := hagree c
    refine ((h c).1.trans (Cert.Reference2Ideal.Read.val_main_v48_eq m' c)).trans ?_
    rw [h0, h1, h2, h3, h4]
    rfl

end Cert.FfnClaims

end
-- ==== Proof.Merge.lean ====
/- The merge of the three branches in one row, over the extended reals: the gates, the branches' projections, their sum, the output
   projection and the residual. -/
module

public import Idealize.ShloMosaic.PureOps.Ideal

@[expose] public section

noncomputable section

namespace Cert.Merge

open Idealize.ShloMosaic

/-- The column of the gates' weights that gates output `d` of branch `n`. -/
def gcol (n : Fin 3) (d : Fin 1024) : Fin 3072 := ⟨n.val * 1024 + d.val, by omega⟩

/-- Output `d` of one branch: the sigmoid of its gate times the branch's projection. -/
def branch (h : Fin 1024 → EReal) (wg : Fin 1024 → Fin 3072 → EReal) (bw : Fin 3 → Fin 384 → Fin 1024 → EReal) (n : Fin 3) (y : Fin 384 → EReal) (d : Fin 1024) : EReal :=
  Ideal.logistic (∑ k, h k * wg k (gcol n d)) * ∑ w, y w * bw n w d

/-- The three branches added up. -/
def merged (h : Fin 1024 → EReal) (wg : Fin 1024 → Fin 3072 → EReal) (bw : Fin 3 → Fin 384 → Fin 1024 → EReal) (y0 y1 y2 : Fin 384 → EReal) (d : Fin 1024) : EReal :=
  branch h wg bw 0 y0 d + branch h wg bw 1 y1 d + branch h wg bw 2 y2 d

/-- The residual plus the gate times the output projection of the merged branches. -/
def mixed (x gt h : Fin 1024 → EReal) (wg : Fin 1024 → Fin 3072 → EReal) (bw : Fin 3 → Fin 384 → Fin 1024 → EReal) (y0 y1 y2 : Fin 384 → EReal)
    (wo : Fin 1024 → Fin 1024 → EReal) (d : Fin 1024) : EReal :=
  x d + gt d * ∑ e, merged h wg bw y0 y1 y2 e * wo e d

end Cert.Merge

end
-- ==== Proof.MergeBlock.lean ====
/- What the merge call computes of one block of 512 rows before its feed-forward: the norm, the gated branches and the residual, and the
   second norm. -/
module

public import proofs.«01_k».proof.Proof.Gen.Kernel3Ideal.Frame
public import proofs.«01_k».proof.Proof.Ffn
public import proofs.«01_k».proof.Proof.Merge
public import Idealize.ShloMosaic.Lib.Pointwise
public import Idealize.ShloMosaic.Lib.Pipeline.ValueKit

@[expose] public section

set_option maxRecDepth 16384

noncomputable section

namespace Cert.Kernel3Ideal.Block

open Cert.Kernel3Ideal Cert.Kernel3Ideal.Gen Cert.Ffn Cert.Merge Idealize.ShloMosaic Idealize.SL.Sem

/-- The first norm of a block's rows. -/
theorem norm_at (x : FVec Ideal S1x512x1024 .f32) (b s : FVec Ideal S1x1x1x1x1024 .f32) (g : FVec Ideal S1x1x1x1024 .f32) (p : Fin 512) (k : Fin 1024) :
    k0_pay13 (F := Ideal) (k0_pay2 x) (k0_pay3 b) (k0_pay4 s) (k0_pay6 g) (k0_pay11 x) k0_pay12 (ix2 p k)
      = normed (fun i => x (ix3 0 p i)) (fun i => g (ix4 0 0 0 i)) (fun i => s (ix5 0 0 0 0 i)) (fun i => b (ix5 0 0 0 0 i)) k := by
  pointwise [k0_pay13, k0_pay2, k0_pay3, k0_pay4, k0_pay6, k0_pay11, k0_pay12]
  rfl

/-- The mean of the squares of each row, with the norm's small constant added. -/
def meanSq (v : FVec Ideal S512x1024 .f32) : FVec Ideal S512x1 .f32 :=
  addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32))

/-- The second norm of a block's rows. -/
theorem norm2_at (x : FVec Ideal S512x1024 .f32) (b s : FVec Ideal S1x1x1x1x1024 .f32) (g : FVec Ideal S1x1x1x1024 .f32) (p : Fin 512) (k : Fin 1024) :
    k0_pay22 (F := Ideal) x (k0_pay17 b) (k0_pay18 s) (k0_pay20 g) (meanSq x) (ix2 p k)
      = normed (fun i => x (ix2 p i)) (fun i => g (ix4 0 0 0 i)) (fun i => s (ix5 0 0 0 0 i)) (fun i => b (ix5 0 0 0 0 i)) k := by
  pointwise [k0_pay22, k0_pay17, k0_pay18, k0_pay20, meanSq]
  rfl

/-- The gates of one branch. -/
def gproj (h : FVec Ideal S512x1024 .bf16) (a : FVec Ideal S1x1024x1024 .bf16) : FVec Ideal S512x1024 .f32 :=
  matmul dot_S512x1024_S1024x1024_S512x1024_1_0_0_1_n_n none h (shapeCast S1024x1024 a shapeCasts_S1x1024x1024_S1024x1024) (constant S512x1024 .f32 0x00000000#32)

/-- One branch's projection. -/
def bproj (y : FVec Ideal S512x384 .bf16) (w : FVec Ideal S1x1x384x1024 .bf16) : FVec Ideal S512x1024 .f32 :=
  matmul dot_S512x384_S384x1024_S512x1024_1_0_0_1_n_n none y (shapeCast S384x1024 w shapeCasts_S1x1x384x1024_S384x1024) (constant S512x1024 .f32 0x00000000#32)

/-- One branch, gated. -/
def gated (h : FVec Ideal S512x1024 .bf16) (a : FVec Ideal S1x1024x1024 .bf16) (y : FVec Ideal S512x384 .bf16) (w : FVec Ideal S1x1x384x1024 .bf16) : FVec Ideal S512x1024 .f32 :=
  mulf (logistic (gproj h a)) (bproj y w)

theorem gproj_at (h : FVec Ideal S512x1024 .bf16) (a : FVec Ideal S1x1024x1024 .bf16) (p : Fin 512) (d : Fin 1024) :
    gproj h a (ix2 p d) = ∑ k : Fin 1024, h (ix2 p k) * a (ix3 0 k d) := by
  pointwise [gproj]

theorem bproj_at (y : FVec Ideal S512x384 .bf16) (w : FVec Ideal S1x1x384x1024 .bf16) (p : Fin 512) (d : Fin 1024) :
    bproj y w (ix2 p d) = ∑ k : Fin 384, y (ix2 p k) * w (ix4 0 0 k d) := by
  pointwise [bproj]

/-- The loads of branch `n` are its columns of the gates' weights and its projection. -/
structure Branch (a : FVec Ideal S1x1024x1024 .bf16) (w : FVec Ideal S1x1x384x1024 .bf16) (wg : Fin 1024 → Fin 3072 → EReal) (bw : Fin 3 → Fin 384 → Fin 1024 → EReal)
    (n : Fin 3) : Prop where
  gate : ∀ (k d : Fin 1024), a (ix3 0 k d) = wg k (gcol n d)
  proj : ∀ (k : Fin 384) (d : Fin 1024), w (ix4 0 0 k d) = bw n k d

theorem gated_at (h : FVec Ideal S512x1024 .bf16) (a : FVec Ideal S1x1024x1024 .bf16) (y : FVec Ideal S512x384 .bf16) (w : FVec Ideal S1x1x384x1024 .bf16)
    (wg : Fin 1024 → Fin 3072 → EReal) (bw : Fin 3 → Fin 384 → Fin 1024 → EReal) (n : Fin 3) (r : Branch a w wg bw n) (p : Fin 512) (d : Fin 1024) :
    gated h a y w (ix2 p d) = branch (fun k => h (ix2 p k)) wg bw n (fun k => y (ix2 p k)) d := by
  have e : gated h a y w (ix2 p d) = Ideal.logistic (gproj h a (ix2 p d)) * bproj y w (ix2 p d) := rfl
  rw [e, gproj_at, bproj_at]
  simp only [r.gate, r.proj]
  rfl

/-- The residual plus the gate times the output projection. -/
def mixing (v1 : FVec Ideal S512x1024 .f32) (v7 : FVec Ideal S1x1024 .f32) (t : FVec Ideal S512x1024 .f32) (wo : FVec Ideal S1x1024x1024 .bf16) : FVec Ideal S512x1024 .f32 :=
  addf v1 (mulf (broadcastTo S512x1024 v7 broadcasts_S1x1024_S512x1024) (gproj (truncf .bf16 t bitsLt_bf16_f32) wo))

theorem mixing_at (v1 : FVec Ideal S512x1024 .f32) (v7 : FVec Ideal S1x1024 .f32) (t : FVec Ideal S512x1024 .f32) (wo : FVec Ideal S1x1024x1024 .bf16) (p : Fin 512) (d : Fin 1024) :
    mixing v1 v7 t wo (ix2 p d) = v1 (ix2 p d) + v7 (ix2 0 d) * ∑ e : Fin 1024, t (ix2 p e) * wo (ix3 0 e d) := by
  have e : mixing v1 v7 t wo (ix2 p d) = v1 (ix2 p d) + v7 (ix2 0 d) * gproj (truncf .bf16 t bitsLt_bf16_f32) wo (ix2 p d) := by
    unfold mixing
    generalize gproj _ wo = B
    pointwise []
  rw [e, gproj_at]
  rfl

/-- The block after the merge, from the values that its loads gave it. -/
theorem mix_eq (v1 : FVec Ideal S512x1024 .f32) (v3 v5 v7 v9 : FVec Ideal S1x1024 .f32) (v11 v13 : FVec Ideal S512x384 .f32) (v15 v17 : FVec Ideal S512x384 .bf16)
    (v20 v21 : FVec Ideal S512x1 .f32) (g0 g1 g2 wo : FVec Ideal S1x1024x1024 .bf16) (b0 b1 b2 : FVec Ideal S1x1x384x1024 .bf16) :
    k0_pay16 (F := Ideal) v1 v7 v17 (k0_pay13 v1 v3 v5 v9 v20 v21) (k0_pay14 v1 v3 v5 v9 v11 v13 v15 v20 v21 g0 b0 g1 b1) (k0_pay15 g2)
        (constant S512x1024 .f32 0x00000000#32) b2 wo
      = mixing v1 v7 (addf (addf (gated (k0_pay13 v1 v3 v5 v9 v20 v21) g0 (truncf .bf16 (mulf v11 v13) bitsLt_bf16_f32) b0) (gated (k0_pay13 v1 v3 v5 v9 v20 v21) g1 v15 b1))
          (gated (k0_pay13 v1 v3 v5 v9 v20 v21) g2 v17 b2)) wo := by
  dsimp only [k0_pay16, k0_pay14, k0_pay15, mixing, gated, gproj, bproj]

/-- The same, at an index. -/
theorem mix_at (v1 : FVec Ideal S512x1024 .f32) (v3 v5 v7 v9 : FVec Ideal S1x1024 .f32) (v11 v13 : FVec Ideal S512x384 .f32) (v15 v17 : FVec Ideal S512x384 .bf16)
    (v20 v21 : FVec Ideal S512x1 .f32) (g0 g1 g2 wo : FVec Ideal S1x1024x1024 .bf16) (b0 b1 b2 : FVec Ideal S1x1x384x1024 .bf16)
    (wg : Fin 1024 → Fin 3072 → EReal) (bw : Fin 3 → Fin 384 → Fin 1024 → EReal) (r0 : Branch g0 b0 wg bw 0) (r1 : Branch g1 b1 wg bw 1) (r2 : Branch g2 b2 wg bw 2)
    (p : Fin 512) (d : Fin 1024) :
    k0_pay16 (F := Ideal) v1 v7 v17 (k0_pay13 v1 v3 v5 v9 v20 v21) (k0_pay14 v1 v3 v5 v9 v11 v13 v15 v20 v21 g0 b0 g1 b1) (k0_pay15 g2)
        (constant S512x1024 .f32 0x00000000#32) b2 wo (ix2 p d)
      = mixed (fun i => v1 (ix2 p i)) (fun i => v7 (ix2 0 i)) (fun k => k0_pay13 (F := Ideal) v1 v3 v5 v9 v20 v21 (ix2 p k)) wg bw
          (fun w => v11 (ix2 p w) * v13 (ix2 p w)) (fun w => v15 (ix2 p w)) (fun w => v17 (ix2 p w)) (fun e d => wo (ix3 0 e d)) d := by
  rw [mix_eq]
  generalize k0_pay13 (F := Ideal) v1 v3 v5 v9 v20 v21 = h
  rw [mixing_at]
  unfold mixed
  refine congrArg (v1 (ix2 p d) + v7 (ix2 0 d) * ·) (Finset.sum_congr rfl fun e _ => congrArg (· * wo (ix3 0 e d)) ?_)
  have s : ∀ A B C : FVec Ideal S512x1024 .f32, addf (addf A B) C (ix2 p e) = A (ix2 p e) + B (ix2 p e) + C (ix2 p e) := fun _ _ _ => rfl
  rw [s, gated_at _ _ _ _ _ _ _ r0, gated_at _ _ _ _ _ _ _ r1, gated_at _ _ _ _ _ _ _ r2]
  rfl

/-- The squares' mean is taken of the block after the merge. -/
theorem meanSq_eq (v1 : FVec Ideal S512x1024 .f32) (v7 : FVec Ideal S1x1024 .f32) (v17 : FVec Ideal S512x384 .bf16) (v36 : FVec Ideal S512x1024 .bf16)
    (v55 : FVec Ideal S512x1024 .f32) (v57 : FVec Ideal S1024x1024 .bf16) (z : FVec Ideal S512x1024 .f32) (b2 : FVec Ideal S1x1x384x1024 .bf16) (wo : FVec Ideal S1x1024x1024 .bf16) :
    k0_pay21 (F := Ideal) v1 v7 v17 v36 v55 v57 z b2 wo = meanSq (k0_pay16 (F := Ideal) v1 v7 v17 v36 v55 v57 z b2 wo) := by
  unfold k0_pay21
  generalize k0_pay16 (F := Ideal) v1 v7 v17 v36 v55 v57 z b2 wo = v
  rfl

end Cert.Kernel3Ideal.Block

end
-- ==== Proof.MergeChain.lean ====
/- The merge call's feed-forward: its chunks of 256 hidden units added up, as in the feed-forward call. -/
module

public import proofs.«01_k».proof.Proof.MergeBlock
public import proofs.«01_k».proof.Proof.FfnTot

@[expose] public section

set_option maxRecDepth 16384

noncomputable section

namespace Cert.Kernel3Ideal.Block

open Cert.Kernel3Ideal Cert.Kernel3Ideal.Gen Cert.Ffn Cert.Merge Idealize.ShloMosaic Idealize.SL.Sem
open Cert.Kernel2Ideal.Block (Reads sum11 total total_at)

/-- A product of the normed rows with 256 columns of the input weights. -/
def proj (h : FVec Ideal S512x1024 .bf16) (a : FVec Ideal S1x1024x256 .bf16) : FVec Ideal S512x256 .f32 :=
  matmul dot_S512x1024_S1024x256_S512x256_1_0_0_1_n_n none h (shapeCast S1024x256 a shapeCasts_S1x1024x256_S1024x256) (constant S512x256 .f32 0x00000000#32)

/-- What 256 hidden units add to the output. -/
def part (h : FVec Ideal S512x1024 .bf16) (a u : FVec Ideal S1x1024x256 .bf16) (w : FVec Ideal S1x256x1024 .bf16) : FVec Ideal S512x1024 .f32 :=
  matmul dot_S512x256_S256x1024_S512x1024_1_0_0_1_n_n none
    (truncf .bf16 (mulf (mulf (proj h a) (logistic (proj h a))) (proj h u)) bitsLt_bf16_f32)
    (shapeCast S256x1024 w shapeCasts_S1x256x1024_S256x1024) (constant S512x1024 .f32 0x00000000#32)

/-- It is the feed-forward call's function. -/
theorem part_eq (h : FVec Ideal S512x1024 .bf16) (a u : FVec Ideal S1x1024x256 .bf16) (w : FVec Ideal S1x256x1024 .bf16) :
    part h a u w = Cert.Kernel2Ideal.Block.part h a u w := rfl

/-- The residual plus half the gate times what was added up. -/
def closing (v1 : FVec Ideal S512x1024 .f32) (v7 : FVec Ideal S1x1024 .f32) (t : FVec Ideal S512x1024 .f32) : FVec Ideal S512x1024 .f32 :=
  addf v1 (mulf (broadcastTo S512x1024 (mulf (broadcast S1x1024 (Scalar.ofBits .f32 0x3F000000#32)) v7) broadcasts_S1x1024_S512x1024) t)

theorem closing_at (v1 : FVec Ideal S512x1024 .f32) (v7 : FVec Ideal S1x1024 .f32) (t : FVec Ideal S512x1024 .f32) (p : Fin 512) (d : Fin 1024) :
    closing v1 v7 t (ix2 p d) = v1 (ix2 p d) + Ideal.ofBits .f32 0x3F000000#32 * v7 (ix2 0 d) * t (ix2 p d) := by
  pointwise [closing]

/-- What the body stores, from the block after the merge and the values its loads gave it. -/
theorem chain (v1 : FVec Ideal S512x1024 .f32) (v7 b s g : FVec Ideal S1x1024 .f32) (q : FVec Ideal S512x1 .f32) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) :
    k0_pay1 (F := Ideal) v1 v7 (k0_pay31 (k0_pay22 v1 b s g q) (k0_pay29 (k0_pay22 v1 b s g q) (k0_pay26 (k0_pay22 v1 b s g q) (k0_pay25 (k0_pay22 v1 b s g q) (k0_pay23 v1 b s g q a0 u0 w0) (k0_pay24 v1 b s g q a1 u1) w1 a2 u2 w2 a3 u3 w3)
      a4 u4 w4 a5 u5 w5) (k0_pay27 (k0_pay22 v1 b s g q) a6) (k0_pay28 u6) w6 a7 u7 w7) (k0_pay30 (k0_pay22 v1 b s g q) a8 u8) w8 a9 u9 w9 a10 u10 w10) k0_pay32
      = shapeCast S1x512x1024 (closing v1 v7 (sum11 (part (k0_pay22 v1 b s g q) a0 u0 w0) (part (k0_pay22 v1 b s g q) a1 u1 w1) (part (k0_pay22 v1 b s g q) a2 u2 w2) (part (k0_pay22 v1 b s g q) a3 u3 w3) (part (k0_pay22 v1 b s g q) a4 u4 w4) (part (k0_pay22 v1 b s g q) a5 u5 w5) (part (k0_pay22 v1 b s g q) a6 u6 w6) (part (k0_pay22 v1 b s g q) a7 u7 w7) (part (k0_pay22 v1 b s g q) a8 u8 w8) (part (k0_pay22 v1 b s g q) a9 u9 w9) (part (k0_pay22 v1 b s g q) a10 u10 w10))) shapeCasts_S512x1024_S1x512x1024 := by
  dsimp only [k0_pay1, k0_pay32, k0_pay31, k0_pay30, k0_pay29, k0_pay28, k0_pay27, k0_pay26, k0_pay25, k0_pay24, k0_pay23, closing, sum11, part, proj]

/-- The same, at an index. -/
theorem chain_at (v1 : FVec Ideal S512x1024 .f32) (v7 b s g : FVec Ideal S1x1024 .f32) (q : FVec Ideal S512x1 .f32) (a0 u0 a1 u1 a2 u2 a3 u3 a4 u4 a5 u5 a6 u6 a7 u7 a8 u8 a9 u9 a10 u10 : FVec Ideal S1x1024x256 .bf16)
    (w0 w1 w2 w3 w4 w5 w6 w7 w8 w9 w10 : FVec Ideal S1x256x1024 .bf16) (p : Fin 512) (d : Fin 1024)
    (wi : Fin 1024 → Fin 5632 → EReal) (wo : Fin 2816 → Fin 1024 → EReal)
    (r0 : Reads a0 u0 w0 wi wo 0 (by decide))
    (r1 : Reads a1 u1 w1 wi wo 1 (by decide))
    (r2 : Reads a2 u2 w2 wi wo 2 (by decide))
    (r3 : Reads a3 u3 w3 wi wo 3 (by decide))
    (r4 : Reads a4 u4 w4 wi wo 4 (by decide))
    (r5 : Reads a5 u5 w5 wi wo 5 (by decide))
    (r6 : Reads a6 u6 w6 wi wo 6 (by decide))
    (r7 : Reads a7 u7 w7 wi wo 7 (by decide))
    (r8 : Reads a8 u8 w8 wi wo 8 (by decide))
    (r9 : Reads a9 u9 w9 wi wo 9 (by decide))
    (r10 : Reads a10 u10 w10 wi wo 10 (by decide)) :
    k0_pay1 (F := Ideal) v1 v7 (k0_pay31 (k0_pay22 v1 b s g q) (k0_pay29 (k0_pay22 v1 b s g q) (k0_pay26 (k0_pay22 v1 b s g q) (k0_pay25 (k0_pay22 v1 b s g q) (k0_pay23 v1 b s g q a0 u0 w0) (k0_pay24 v1 b s g q a1 u1) w1 a2 u2 w2 a3 u3 w3)
      a4 u4 w4 a5 u5 w5) (k0_pay27 (k0_pay22 v1 b s g q) a6) (k0_pay28 u6) w6 a7 u7 w7) (k0_pay30 (k0_pay22 v1 b s g q) a8 u8) w8 a9 u9 w9 a10 u10 w10) k0_pay32 (ix3 0 p d)
      = v1 (ix2 p d) + Ideal.ofBits .f32 0x3F000000#32 * v7 (ix2 0 d) * ∑ j, term (fun k => (k0_pay22 v1 b s g q) (ix2 p k)) wi wo d j := by
  rw [chain]
  simp only [part_eq]
  rw [← total_at (k0_pay22 v1 b s g q) a0 u0 a1 u1 a2 u2 a3 u3 a4 u4 a5 u5 a6 u6 a7 u7 a8 u8 a9 u9 a10 u10 w0 w1 w2 w3 w4 w5 w6 w7 w8 w9 w10 p d wi wo r0 r1 r2 r3 r4 r5 r6 r7 r8 r9 r10]
  refine Eq.trans ?_ (closing_at v1 v7 (total (k0_pay22 v1 b s g q) a0 u0 a1 u1 a2 u2 a3 u3 a4 u4 a5 u5 a6 u6 a7 u7 a8 u8 a9 u9 a10 u10 w0 w1 w2 w3 w4 w5 w6 w7 w8 w9 w10) p d)
  change shapeCast S1x512x1024 (closing v1 v7 (total (k0_pay22 v1 b s g q) a0 u0 a1 u1 a2 u2 a3 u3 a4 u4 a5 u5 a6 u6 a7 u7 a8 u8 a9 u9 a10 u10 w0 w1 w2 w3 w4 w5 w6 w7 w8 w9 w10)) _ (ix3 0 p d) = _
  generalize closing v1 v7 _ = t
  pointwise []

end Cert.Kernel3Ideal.Block

end
-- ==== Proof.MergeOut.lean ====
/- What the merge call leaves in one block of 512 rows: the half step of each row after the merge. -/
module

public import proofs.«01_k».proof.Proof.MergeChain
public import proofs.«01_k».proof.Proof.FfnOut

@[expose] public section

set_option maxRecDepth 16384

noncomputable section

namespace Cert.Kernel3Ideal.Block

open Cert.Kernel3Ideal Cert.Kernel3Ideal.Gen Cert.Ffn Cert.Merge Idealize.ShloMosaic Idealize.SL.Sem
open Cert.Kernel2Ideal.Block (reads_of)

/-- A load of a whole block of rows. -/
theorem whole_rows (x : FVec Ideal S1x512x1024 .f32) : View.ld (Val := Elt Ideal) (e' := .f32) x r0_0 = x := View.ld_unit_lit _ _ (by decide)

/-- A load of a whole row of the modulation. -/
theorem whole_mod (x : FVec Ideal S1x1x1x1x1024 .f32) : View.ld (Val := Elt Ideal) (e' := .f32) x r0_1 = x := View.ld_unit_lit _ _ (by decide)

/-- A load of a whole gain. -/
theorem whole_gain (x : FVec Ideal S1x1x1x1024 .f32) : View.ld (Val := Elt Ideal) (e' := .f32) x r0_2 = x := View.ld_unit_lit _ _ (by decide)

/-- A load of a whole block of a branch, in either format. -/
theorem whole_wide (x : FVec Ideal S1x512x384 .f32) : View.ld (Val := Elt Ideal) (e' := .f32) x r0_3 = x := View.ld_unit_lit _ _ (by decide)

theorem whole_narrow (x : FVec Ideal S1x512x384 .bf16) : View.ld (Val := Elt Ideal) (e' := .bf16) x r0_3 = x := View.ld_unit_lit _ _ (by decide)

/-- A load of the whole output projection. -/
theorem whole_out (x : FVec Ideal S1x1024x1024 .bf16) : View.ld (Val := Elt Ideal) (e' := .bf16) x r0_10 = x := View.ld_unit_lit _ _ (by decide)

/-- The two loads at a branch's offsets read its columns and its projection. -/
theorem branch_of (x9 : FVec Ideal S1x1024x3072 .bf16) (x14 : FVec Ideal S1x3x384x1024 .bf16) (n : Fin 3) {oa : Fin S1x1024x3072.rank → ℕ} {ow : Fin S1x3x384x1024.rank → ℕ}
    (ia : ∀ a, oa a + S1x1024x1024.size a ≤ S1x1024x3072.size a) (iw : ∀ a, ow a + S1x1x384x1024.size a ≤ S1x3x384x1024.size a)
    (ha : oa = ![0, 0, n.val * 1024]) (hw : ow = ![0, n.val, 0, 0]) :
    Branch (View.ld (Val := Elt Ideal) (e' := .bf16) x9 (Rect.unit oa S1x1024x1024.size ia)) (View.ld (Val := Elt Ideal) (e' := .bf16) x14 (Rect.unit ow S1x1x384x1024.size iw))
      (fun k n => x9 (ix3 0 k n)) (fun n k d => x14 (ix4 0 n k d)) n := by
  subst ha hw
  refine ⟨fun k d => ?_, fun k d => ?_⟩
  · refine View.ld_unit_apply_of (Val := Elt Ideal) (e := .bf16) x9 _ _ _ _ _ fun a => ?_
    fin_cases a <;> simp [gcol]
  · refine View.ld_unit_apply_of (Val := Elt Ideal) (e := .bf16) x14 _ _ _ _ _ fun a => ?_
    fin_cases a <;> simp

variable (x0 : FVec Ideal S1x512x1024 .f32) (x1 x2 x3 x4 x5 x6 : FVec Ideal S1x1x1x1x1024 .f32) (x7 x8 : FVec Ideal S1x1x1x1024 .f32)
  (x9 : FVec Ideal S1x1024x3072 .bf16) (x10 x11 : FVec Ideal S1x512x384 .f32) (x12 x13 : FVec Ideal S1x512x384 .bf16) (x14 : FVec Ideal S1x3x384x1024 .bf16)
  (x15 : FVec Ideal S1x1024x1024 .bf16) (x16 : FVec Ideal S1x1024x5632 .bf16) (x17 : FVec Ideal S1x2816x1024 .bf16)

/-- The row after the merge, from the call's blocks. -/
def row (p : Fin 512) (d : Fin 1024) : EReal :=
  mixed (fun i => x0 (ix3 0 p i)) (fun i => x3 (ix5 0 0 0 0 i))
    (normed (fun i => x0 (ix3 0 p i)) (fun i => x7 (ix4 0 0 0 i)) (fun i => x2 (ix5 0 0 0 0 i)) (fun i => x1 (ix5 0 0 0 0 i)))
    (fun k n => x9 (ix3 0 k n)) (fun n k d => x14 (ix4 0 n k d)) (fun w => x10 (ix3 0 p w) * x11 (ix3 0 p w)) (fun w => x12 (ix3 0 p w)) (fun w => x13 (ix3 0 p w))
    (fun e d => x15 (ix3 0 e d)) d

/-- The block after the merge. -/
theorem merged_at (p : Fin 512) (d : Fin 1024) :
    k0_pay45 (F := Ideal) x0 x1 x2 x3 x4 x5 x6 x7 x8 x9 x10 x11 x12 x13 x14 x15 x16 x17 (ix2 p d) = row x0 x1 x2 x3 x7 x9 x10 x11 x12 x13 x14 x15 p d := by
  unfold k0_pay45 k0_pay42 k0_pay43 k0_pay44 k0_pay41 k0_pay33 k0_pay34 k0_pay35 k0_pay36 k0_pay37 k0_pay38 k0_pay39 k0_pay40
  rw [whole_rows x0, whole_mod x1, whole_mod x2, whole_mod x3, whole_gain x7, whole_wide x10, whole_wide x11, whole_narrow x12, whole_narrow x13, whole_out x15]
  refine (mix_at _ _ _ _ _ _ _ _ _ _ _ _ _ _ _ _ _ _ (fun k n => x9 (ix3 0 k n)) (fun n k d => x14 (ix4 0 n k d)) ?_ ?_ ?_ p d).trans ?_
  · exact branch_of x9 x14 0 _ _ rfl rfl
  · exact branch_of x9 x14 1 _ _ rfl rfl
  · exact branch_of x9 x14 2 _ _ rfl rfl
  have e1 : ∀ i, k0_pay2 (F := Ideal) x0 (ix2 p i) = x0 (ix3 0 p i) := fun i => by pointwise [k0_pay2]
  have e2 : ∀ i, k0_pay5 (F := Ideal) x3 (ix2 0 i) = x3 (ix5 0 0 0 0 i) := fun i => by pointwise [k0_pay5]
  have e3 : ∀ i, k0_pay7 (F := Ideal) x10 (ix2 p i) = x10 (ix3 0 p i) := fun i => by pointwise [k0_pay7]
  have e4 : ∀ i, k0_pay8 (F := Ideal) x11 (ix2 p i) = x11 (ix3 0 p i) := fun i => by pointwise [k0_pay8]
  have e5 : ∀ i, k0_pay9 (F := Ideal) x12 (ix2 p i) = x12 (ix3 0 p i) := fun i => by pointwise [k0_pay9]
  have e6 : ∀ i, k0_pay10 (F := Ideal) x13 (ix2 p i) = x13 (ix3 0 p i) := fun i => by pointwise [k0_pay10]
  simp only [norm_at, e1, e2, e3, e4, e5, e6]
  rfl

/-- The block the body leaves, at row `p` and column `d`. -/
theorem out_at (p : Fin 512) (d : Fin 1024) :
    out0_18 (F := Ideal) x0 x1 x2 x3 x4 x5 x6 x7 x8 x9 x10 x11 x12 x13 x14 x15 x16 x17 (ix3 0 p d)
      = halfStep (row x0 x1 x2 x3 x7 x9 x10 x11 x12 x13 x14 x15 p) (fun i => x8 (ix4 0 0 0 i)) (fun i => x5 (ix5 0 0 0 0 i)) (fun i => x4 (ix5 0 0 0 0 i)) (fun i => x6 (ix5 0 0 0 0 i))
          (fun k n => x16 (ix3 0 k n)) (fun j e => x17 (ix3 0 j e)) d := by
  unfold out0_18
  rw [View.canon_cons_unit_lit _ _ _ (by decide)]
  have h50 : k0_pay50 (F := Ideal) x0 x1 x2 x3 x4 x5 x6 x7 x8 x9 x10 x11 x12 x13 x14 x15 x16 x17 = k0_pay22 (k0_pay45 x0 x1 x2 x3 x4 x5 x6 x7 x8 x9 x10 x11 x12 x13 x14 x15 x16 x17) (k0_pay46 x0 x1 x2 x3 x4 x5 x6 x7 x8 x9 x10 x11 x12 x13 x14 x15 x16 x17)
      (k0_pay47 x0 x1 x2 x3 x4 x5 x6 x7 x8 x9 x10 x11 x12 x13 x14 x15 x16 x17) (k0_pay48 x0 x1 x2 x3 x4 x5 x6 x7 x8 x9 x10 x11 x12 x13 x14 x15 x16 x17) (k0_pay49 x0 x1 x2 x3 x4 x5 x6 x7 x8 x9 x10 x11 x12 x13 x14 x15 x16 x17) := by
    unfold k0_pay50
    rfl
  have h49 : k0_pay49 (F := Ideal) x0 x1 x2 x3 x4 x5 x6 x7 x8 x9 x10 x11 x12 x13 x14 x15 x16 x17 = meanSq (k0_pay45 x0 x1 x2 x3 x4 x5 x6 x7 x8 x9 x10 x11 x12 x13 x14 x15 x16 x17) := by
    unfold k0_pay49 k0_pay45
    exact meanSq_eq _ _ _ _ _ _ _ _ _
  have h46 : k0_pay46 (F := Ideal) x0 x1 x2 x3 x4 x5 x6 x7 x8 x9 x10 x11 x12 x13 x14 x15 x16 x17 = k0_pay17 x4 := congrArg (k0_pay17 (F := Ideal)) (whole_mod x4)
  have h47 : k0_pay47 (F := Ideal) x0 x1 x2 x3 x4 x5 x6 x7 x8 x9 x10 x11 x12 x13 x14 x15 x16 x17 = k0_pay18 x5 := congrArg (k0_pay18 (F := Ideal)) (whole_mod x5)
  have h48 : k0_pay48 (F := Ideal) x0 x1 x2 x3 x4 x5 x6 x7 x8 x9 x10 x11 x12 x13 x14 x15 x16 x17 = k0_pay20 x8 := congrArg (k0_pay20 (F := Ideal)) (whole_gain x8)
  have e1 : ∀ i, k0_pay45 (F := Ideal) x0 x1 x2 x3 x4 x5 x6 x7 x8 x9 x10 x11 x12 x13 x14 x15 x16 x17 (ix2 p i) = row x0 x1 x2 x3 x7 x9 x10 x11 x12 x13 x14 x15 p i := merged_at x0 x1 x2 x3 x4 x5 x6 x7 x8 x9 x10 x11 x12 x13 x14 x15 x16 x17 p
  rw [h50, h49, h46, h47, h48]
  clear h50 h49 h46 h47 h48
  generalize k0_pay45 (F := Ideal) x0 x1 x2 x3 x4 x5 x6 x7 x8 x9 x10 x11 x12 x13 x14 x15 x16 x17 = v at e1 ⊢
  have e2 : k0_pay19 (F := Ideal) (View.ld (Val := Elt Ideal) (e' := .f32) x6 r0_1) (ix2 0 d) = x6 (ix5 0 0 0 0 d) := by
    rw [whole_mod x6]
    pointwise [k0_pay19]
  generalize k0_pay19 (F := Ideal) (View.ld (Val := Elt Ideal) (e' := .f32) x6 r0_1) = v7 at e2 ⊢
  refine (chain_at v v7 (k0_pay17 x4) (k0_pay18 x5) (k0_pay20 x8) (meanSq v) _ _ _ _ _ _ _ _ _ _ _ _ _ _ _ _ _ _ _ _ _ _ _ _ _ _ _ _ _ _ _ _ _ p d (fun k n => x16 (ix3 0 k n)) (fun j e => x17 (ix3 0 j e))
    ?_ ?_ ?_ ?_ ?_ ?_ ?_ ?_ ?_ ?_ ?_).trans ?_
  all_goals try exact reads_of x16 x17 _ (by decide) _ _ _ rfl rfl rfl
  rw [funext (norm2_at v x4 x5 x8 p), e1, e2, funext e1]
  rfl

end Cert.Kernel3Ideal.Block

end
-- ==== Proof.MergeRef.lean ====
/- The merge reference's result, element by element: the branches' merge of its row, and the half step of what that gives. -/
module

public import proofs.«01_k».proof.Proof.Gen.Reference3Ideal.Read
public import proofs.«01_k».proof.Proof.Ffn
public import proofs.«01_k».proof.Proof.Merge
public import Idealize.ShloMosaic.Lib.Pointwise

@[expose] public section

set_option maxRecDepth 16384

noncomputable section

namespace Cert.Reference3Ideal.RefRead

open Cert.Reference3Ideal Cert.Reference3Ideal.Gen Cert.Reference3Ideal.Read Cert.Ffn Cert.Merge Idealize.ShloMosaic Idealize.SL.Sem

variable (x0 : FVec Ideal S16x2048x1024 .f32) (x1 : FVec Ideal S4x9x16x1x1024 .f32) (x2 : FVec Ideal S4x3x1024 .f32) (x3 : FVec Ideal S4x1024x3072 .f32)
  (x4 x5 x6 x7 : FVec Ideal S16x2048x384 .f32) (x8 : FVec Ideal S4x3x384x1024 .f32) (x9 : FVec Ideal S4x1024x1024 .f32)
  (x10 : FVec Ideal S4x1024x5632 .f32) (x11 : FVec Ideal S4x2816x1024 .f32)

/-- The first norm's shift of batch `b`. -/
theorem shift_at (b : Fin 16) (k : Fin 1024) : val_main_v6 (F := Ideal) x1 (ix2 b k) = x1 (ix5 0 3 b 0 k) := by
  pointwise [val_main_v6, val_main_v5, val_main_v2, val_main_v1, val_main_v0]

/-- The first norm's scale of batch `b`. -/
theorem scale_at (b : Fin 16) (k : Fin 1024) : val_main_v8 (F := Ideal) x1 (ix2 b k) = x1 (ix5 0 4 b 0 k) := by
  pointwise [val_main_v8, val_main_v7, val_main_v2, val_main_v1, val_main_v0]

/-- The merge's gate of batch `b`. -/
theorem gate_at (b : Fin 16) (k : Fin 1024) : val_main_v50 (F := Ideal) x1 (ix2 b k) = x1 (ix5 0 5 b 0 k) := by
  pointwise [val_main_v50, val_main_v49, val_main_v2, val_main_v1, val_main_v0]

/-- The second norm's shift of batch `b`. -/
theorem shift2_at (b : Fin 16) (k : Fin 1024) : val_main_v68 (F := Ideal) x1 (ix2 b k) = x1 (ix5 0 6 b 0 k) := by
  pointwise [val_main_v68, val_main_v67, val_main_v60, val_main_v2, val_main_v1, val_main_v0]

/-- The second norm's scale of batch `b`. -/
theorem scale2_at (b : Fin 16) (k : Fin 1024) : val_main_v70 (F := Ideal) x1 (ix2 b k) = x1 (ix5 0 7 b 0 k) := by
  pointwise [val_main_v70, val_main_v69, val_main_v60, val_main_v2, val_main_v1, val_main_v0]

/-- The feed-forward's gate of batch `b`. -/
theorem gate2_at (b : Fin 16) (k : Fin 1024) : val_main_v93 (F := Ideal) x1 (ix2 b k) = x1 (ix5 0 8 b 0 k) := by
  pointwise [val_main_v93, val_main_v92, val_main_v60, val_main_v2, val_main_v1, val_main_v0]

/-- The norms' gains. -/
theorem gain_at (k : Fin 1024) : val_main_v4 (F := Ideal) x2 (ix1 k) = x2 (ix3 0 1 k) := by
  pointwise [val_main_v4, val_main_v3]

theorem gain2_at (k : Fin 1024) : val_main_v62 (F := Ideal) x2 (ix1 k) = x2 (ix3 0 2 k) := by
  pointwise [val_main_v62, val_main_v61]

/-- The weights of layer 0. -/
theorem wg_at (k : Fin 1024) (n : Fin 3072) : val_main_v40 (F := Ideal) x3 (ix2 k n) = x3 (ix3 0 k n) := by
  pointwise [val_main_v40, val_main_v39]

theorem bw_at (n : Fin 3) (k : Fin 384) (d : Fin 1024) : val_main_v36 (F := Ideal) x8 (ix3 n k d) = x8 (ix4 0 n k d) := by
  pointwise [val_main_v36, val_main_v35]

theorem wo_at (e d : Fin 1024) : val_main_v55 (F := Ideal) x9 (ix2 e d) = x9 (ix3 0 e d) := by
  pointwise [val_main_v55, val_main_v54]

theorem wi2_at (k : Fin 1024) (n : Fin 5632) : val_main_v64 (F := Ideal) x10 (ix2 k n) = x10 (ix3 0 k n) := by
  pointwise [val_main_v64, val_main_v63]

theorem wo2_at (j : Fin 2816) (d : Fin 1024) : val_main_v66 (F := Ideal) x11 (ix2 j d) = x11 (ix3 0 j d) := by
  pointwise [val_main_v66, val_main_v65]

/-- The first normed, modulated row. -/
theorem normed_at (b : Fin 16) (t : Fin 2048) (k : Fin 1024) :
    val_main_v29 (F := Ideal) x0 x1 x2 (ix3 b t k)
      = normed (fun i => x0 (ix3 b t i)) (fun i => x2 (ix3 0 1 i)) (fun i => x1 (ix5 0 4 b 0 i)) (fun i => x1 (ix5 0 3 b 0 i)) k := by
  have e1 := shift_at x1 b k
  have e2 := scale_at x1 b k
  have e3 := gain_at x2 k
  unfold val_main_v29 val_main_v28 val_main_v27 val_main_v26 val_main_v25 val_main_v24 val_main_v22 val_main_v21 val_main_v20 val_main_v19
  generalize val_main_v6 (F := Ideal) x1 = A at e1 ⊢
  generalize val_main_v8 (F := Ideal) x1 = B at e2 ⊢
  generalize val_main_v4 (F := Ideal) x2 = C at e3 ⊢
  pointwise [val_main_v23, val_main_cst_2, val_main_v18, val_main_v17, val_main_v16, val_main_v15, val_main_v14, val_main_cst_1, val_main_v13, val_main_v12, val_main_cst_0,
    val_main_v11, val_main_v10, val_main_cst, val_main_v9]
  rw [e1, e2, e3]
  rfl

/-- The gates before the sigmoid. -/
theorem logit_at (b : Fin 16) (t : Fin 2048) (n : Fin 3072) :
    val_main_v41 (F := Ideal) x0 x1 x2 x3 (ix3 b t n) = ∑ k : Fin 1024, val_main_v29 (F := Ideal) x0 x1 x2 (ix3 b t k) * x3 (ix3 0 k n) := by
  rw [val_main_v41_apply]
  refine Finset.sum_congr rfl fun k _ => congrArg₂ (· * ·) (congrArg (val_main_v29 (F := Ideal) x0 x1 x2) ?_) ((congrArg (val_main_v40 (F := Ideal) x3) ?_).trans (wg_at x3 k n)) <;>
    (funext a; apply Fin.ext; fin_cases a <;> rfl)

/-- The gate of output `d` of branch `n`. -/
theorem sigma_at (b : Fin 16) (t : Fin 2048) (n : Fin 3) (d : Fin 1024) :
    val_main_v48 (F := Ideal) x0 x1 x2 x3 (ix4 b t n d) = Ideal.logistic (val_main_v41 (F := Ideal) x0 x1 x2 x3 (ix3 b t (gcol n d))) := by
  unfold val_main_v48 val_main_v46 val_main_v44 val_main_v43 val_main_v42
  generalize val_main_v41 (F := Ideal) x0 x1 x2 x3 = A
  pointwise [val_main_v45, val_main_v47, val_main_cst_3, val_main_cst_4]
  rfl

/-- The first branch is its two inputs' product. -/
theorem stack0_at (b : Fin 16) (t : Fin 2048) (w : Fin 384) : val_main_v34 (F := Ideal) x4 x5 x6 x7 (ix4 b t 0 w) = x4 (ix3 b t w) * x5 (ix3 b t w) := by
  pointwise [val_main_v34, val_main_v31, val_main_v32, val_main_v33, val_main_v30]

theorem stack1_at (b : Fin 16) (t : Fin 2048) (w : Fin 384) : val_main_v34 (F := Ideal) x4 x5 x6 x7 (ix4 b t 1 w) = x6 (ix3 b t w) := by
  pointwise [val_main_v34, val_main_v31, val_main_v32, val_main_v33, val_main_v30]

theorem stack2_at (b : Fin 16) (t : Fin 2048) (w : Fin 384) : val_main_v34 (F := Ideal) x4 x5 x6 x7 (ix4 b t 2 w) = x7 (ix3 b t w) := by
  pointwise [val_main_v34, val_main_v31, val_main_v32, val_main_v33, val_main_v30]

/-- A branch's projection. -/
theorem bproj_at (b : Fin 16) (t : Fin 2048) (n : Fin 3) (d : Fin 1024) :
    val_main_v38 (F := Ideal) x4 x5 x6 x7 x8 (ix4 b t n d) = ∑ w : Fin 384, val_main_v34 (F := Ideal) x4 x5 x6 x7 (ix4 b t n w) * x8 (ix4 0 n w d) := by
  have e : val_main_v38 (F := Ideal) x4 x5 x6 x7 x8 (ix4 b t n d) = val_main_v37 (F := Ideal) x4 x5 x6 x7 x8 (ix4 n d b t) := by
    unfold val_main_v38
    generalize val_main_v37 (F := Ideal) x4 x5 x6 x7 x8 = A
    pointwise []
  rw [e, val_main_v37_apply]
  refine Finset.sum_congr rfl fun k _ => (mul_comm _ _).trans (congrArg₂ (· * ·) (congrArg (val_main_v34 (F := Ideal) x4 x5 x6 x7) ?_) ((congrArg (val_main_v36 (F := Ideal) x8) ?_).trans (bw_at x8 n k d))) <;>
    (funext a; apply Fin.ext; fin_cases a <;> rfl)

/-- The gated branches added up. -/
theorem merged_at (b : Fin 16) (t : Fin 2048) (d : Fin 1024) :
    val_main_v53 (F := Ideal) x0 x1 x2 x3 x4 x5 x6 x7 x8 (ix3 b t d)
      = merged (normed (fun i => x0 (ix3 b t i)) (fun i => x2 (ix3 0 1 i)) (fun i => x1 (ix5 0 4 b 0 i)) (fun i => x1 (ix5 0 3 b 0 i)))
          (fun k n => x3 (ix3 0 k n)) (fun n w d => x8 (ix4 0 n w d)) (fun w => x4 (ix3 b t w) * x5 (ix3 b t w)) (fun w => x6 (ix3 b t w)) (fun w => x7 (ix3 b t w)) d := by
  have e : ∀ n : Fin 3, val_main_v52 (F := Ideal) x0 x1 x2 x3 x4 x5 x6 x7 x8 (ix4 b t n d)
      = branch (normed (fun i => x0 (ix3 b t i)) (fun i => x2 (ix3 0 1 i)) (fun i => x1 (ix5 0 4 b 0 i)) (fun i => x1 (ix5 0 3 b 0 i)))
          (fun k n => x3 (ix3 0 k n)) (fun n w d => x8 (ix4 0 n w d)) n (fun w => val_main_v34 (F := Ideal) x4 x5 x6 x7 (ix4 b t n w)) d := by
    intro n
    refine Eq.trans (b := val_main_v48 (F := Ideal) x0 x1 x2 x3 (ix4 b t n d) * val_main_v38 (F := Ideal) x4 x5 x6 x7 x8 (ix4 b t n d)) rfl ?_
    rw [sigma_at, logit_at, bproj_at]
    simp only [normed_at]
    rfl
  have i : ∀ n : Fin 3, idx_main_v53 (ix3 b t d) n = ix4 b t n d := fun n => by
    funext a; apply Fin.ext; fin_cases a <;> rfl
  rw [val_main_v53_apply, Fin.sum_univ_three, i, i, i, e, e, e]
  simp only [stack0_at, stack1_at, stack2_at]
  have z : val_main_cst_5 (F := Ideal) (Shape.Idx.first h_S_) = 0 := by
    unfold val_main_cst_5
    pointwise []
  rw [z, zero_add]
  rfl

/-- The row after the merge. -/
theorem mixed_at (b : Fin 16) (t : Fin 2048) (d : Fin 1024) :
    val_main_v59 (F := Ideal) x0 x1 x2 x3 x4 x5 x6 x7 x8 x9 (ix3 b t d)
      = mixed (fun i => x0 (ix3 b t i)) (fun i => x1 (ix5 0 5 b 0 i))
          (normed (fun i => x0 (ix3 b t i)) (fun i => x2 (ix3 0 1 i)) (fun i => x1 (ix5 0 4 b 0 i)) (fun i => x1 (ix5 0 3 b 0 i)))
          (fun k n => x3 (ix3 0 k n)) (fun n w d => x8 (ix4 0 n w d)) (fun w => x4 (ix3 b t w) * x5 (ix3 b t w)) (fun w => x6 (ix3 b t w)) (fun w => x7 (ix3 b t w))
          (fun e d => x9 (ix3 0 e d)) d := by
  have e1 := gate_at x1 b d
  have e2 : val_main_v56 (F := Ideal) x0 x1 x2 x3 x4 x5 x6 x7 x8 x9 (ix3 b t d)
      = ∑ e : Fin 1024, val_main_v53 (F := Ideal) x0 x1 x2 x3 x4 x5 x6 x7 x8 (ix3 b t e) * x9 (ix3 0 e d) := by
    rw [val_main_v56_apply]
    refine Finset.sum_congr rfl fun k _ => congrArg₂ (· * ·) (congrArg (val_main_v53 (F := Ideal) x0 x1 x2 x3 x4 x5 x6 x7 x8) ?_)
      ((congrArg (val_main_v55 (F := Ideal) x9) ?_).trans (wo_at x9 k d)) <;>
      (funext a; apply Fin.ext; fin_cases a <;> rfl)
  have e3 : val_main_v59 (F := Ideal) x0 x1 x2 x3 x4 x5 x6 x7 x8 x9 (ix3 b t d)
      = x0 (ix3 b t d) + val_main_v50 (F := Ideal) x1 (ix2 b d) * val_main_v56 (F := Ideal) x0 x1 x2 x3 x4 x5 x6 x7 x8 x9 (ix3 b t d) := by
    unfold val_main_v59 val_main_v58 val_main_v57 val_main_v51
    generalize val_main_v50 (F := Ideal) x1 = A
    generalize val_main_v56 (F := Ideal) x0 x1 x2 x3 x4 x5 x6 x7 x8 x9 = B
    pointwise []
  rw [e3, e1, e2]
  simp only [merged_at]
  rfl

/-- The second normed, modulated row, from the row after the merge. -/
theorem normed2_at (b : Fin 16) (t : Fin 2048) (k : Fin 1024) :
    val_main_v91 (F := Ideal) x0 x1 x2 x3 x4 x5 x6 x7 x8 x9 (ix3 b t k)
      = normed (fun i => val_main_v59 (F := Ideal) x0 x1 x2 x3 x4 x5 x6 x7 x8 x9 (ix3 b t i)) (fun i => x2 (ix3 0 2 i)) (fun i => x1 (ix5 0 7 b 0 i)) (fun i => x1 (ix5 0 6 b 0 i)) k := by
  have e1 := shift2_at x1 b k
  have e2 := scale2_at x1 b k
  have e3 := gain2_at x2 k
  unfold val_main_v91 val_main_v90 val_main_v89 val_main_v88 val_main_v87 val_main_v86 val_main_v84 val_main_v83 val_main_v82 val_main_v81 val_main_v80 val_main_v79 val_main_v78
    val_main_v77 val_main_v75 val_main_v73 val_main_v72 val_main_v71
  generalize val_main_v68 (F := Ideal) x1 = A at e1 ⊢
  generalize val_main_v70 (F := Ideal) x1 = B at e2 ⊢
  generalize val_main_v62 (F := Ideal) x2 = C at e3 ⊢
  generalize val_main_v59 (F := Ideal) x0 x1 x2 x3 x4 x5 x6 x7 x8 x9 = X
  pointwise [val_main_v85, val_main_cst_9, val_main_v76, val_main_cst_8, val_main_v74, val_main_cst_7, val_main_cst_6]
  rw [e1, e2, e3]
  rfl

/-- The product with the feed-forward's input weights. -/
theorem proj_at (b : Fin 16) (t : Fin 2048) (n : Fin 5632) :
    val_main_v97 (F := Ideal) x0 x1 x2 x3 x4 x5 x6 x7 x8 x9 x10 (ix3 b t n)
      = ∑ k : Fin 1024, val_main_v91 (F := Ideal) x0 x1 x2 x3 x4 x5 x6 x7 x8 x9 (ix3 b t k) * x10 (ix3 0 k n) := by
  rw [val_main_v97_apply]
  refine Finset.sum_congr rfl fun k _ => congrArg₂ (· * ·) (congrArg (val_main_v91 (F := Ideal) x0 x1 x2 x3 x4 x5 x6 x7 x8 x9) ?_)
    ((congrArg (val_main_v64 (F := Ideal) x10) ?_).trans (wi2_at x10 k n)) <;>
    (funext a; apply Fin.ext; fin_cases a <;> rfl)

/-- A hidden unit. -/
theorem hidden_at (b : Fin 16) (t : Fin 2048) (j : Fin 2816) :
    val_main_v101 (F := Ideal) x0 x1 x2 x3 x4 x5 x6 x7 x8 x9 x10 (ix3 b t j)
      = hidden (val_main_v97 (F := Ideal) x0 x1 x2 x3 x4 x5 x6 x7 x8 x9 x10 (ix3 b t (lo j))) (val_main_v97 (F := Ideal) x0 x1 x2 x3 x4 x5 x6 x7 x8 x9 x10 (ix3 b t (hi j))) := by
  unfold val_main_v101 val_main_v100 val_main_call0_v5 val_main_call0_v3 val_main_call0_v1 val_main_call0_v0 val_main_v99 val_main_v98
  generalize val_main_v97 (F := Ideal) x0 x1 x2 x3 x4 x5 x6 x7 x8 x9 x10 = A
  pointwise [val_main_call0_v4, val_main_call0_v2, val_main_call0_cst, val_main_call0_cst_0]
  rfl

/-- The reference's result. -/
theorem result_at (b : Fin 16) (t : Fin 2048) (d : Fin 1024) :
    val_main_v105 (F := Ideal) x0 x1 x2 x3 x4 x5 x6 x7 x8 x9 x10 x11 (ix3 b t d)
      = halfStep (fun i => mixed (fun i => x0 (ix3 b t i)) (fun i => x1 (ix5 0 5 b 0 i))
            (normed (fun i => x0 (ix3 b t i)) (fun i => x2 (ix3 0 1 i)) (fun i => x1 (ix5 0 4 b 0 i)) (fun i => x1 (ix5 0 3 b 0 i)))
            (fun k n => x3 (ix3 0 k n)) (fun n w d => x8 (ix4 0 n w d)) (fun w => x4 (ix3 b t w) * x5 (ix3 b t w)) (fun w => x6 (ix3 b t w)) (fun w => x7 (ix3 b t w))
            (fun e d => x9 (ix3 0 e d)) i)
          (fun i => x2 (ix3 0 2 i)) (fun i => x1 (ix5 0 7 b 0 i)) (fun i => x1 (ix5 0 6 b 0 i)) (fun i => x1 (ix5 0 8 b 0 i))
          (fun k n => x10 (ix3 0 k n)) (fun j e => x11 (ix3 0 j e)) d := by
  have e1 := gate2_at x1 b d
  have e2 : val_main_v102 (F := Ideal) x0 x1 x2 x3 x4 x5 x6 x7 x8 x9 x10 x11 (ix3 b t d)
      = ∑ j : Fin 2816, val_main_v101 (F := Ideal) x0 x1 x2 x3 x4 x5 x6 x7 x8 x9 x10 (ix3 b t j) * x11 (ix3 0 j d) := by
    rw [val_main_v102_apply]
    refine Finset.sum_congr rfl fun k _ => congrArg₂ (· * ·) (congrArg (val_main_v101 (F := Ideal) x0 x1 x2 x3 x4 x5 x6 x7 x8 x9 x10) ?_)
      ((congrArg (val_main_v66 (F := Ideal) x11) ?_).trans (wo2_at x11 k d)) <;>
      (funext a; apply Fin.ext; fin_cases a <;> rfl)
  have e3 : val_main_v105 (F := Ideal) x0 x1 x2 x3 x4 x5 x6 x7 x8 x9 x10 x11 (ix3 b t d)
      = val_main_v59 (F := Ideal) x0 x1 x2 x3 x4 x5 x6 x7 x8 x9 (ix3 b t d)
        + Ideal.ofBits .f32 0x3F000000#32 * val_main_v93 (F := Ideal) x1 (ix2 b d) * val_main_v102 (F := Ideal) x0 x1 x2 x3 x4 x5 x6 x7 x8 x9 x10 x11 (ix3 b t d) := by
    unfold val_main_v105 val_main_v104 val_main_v103 val_main_v96 val_main_v94
    generalize val_main_v93 (F := Ideal) x1 = A
    generalize val_main_v102 (F := Ideal) x0 x1 x2 x3 x4 x5 x6 x7 x8 x9 x10 x11 = B
    generalize val_main_v59 (F := Ideal) x0 x1 x2 x3 x4 x5 x6 x7 x8 x9 = X
    pointwise [val_main_v95, val_main_cst_10]
  rw [e3, e1, e2]
  simp only [hidden_at, proj_at, normed2_at, mixed_at]
  rfl

end Cert.Reference3Ideal.RefRead

end
-- ==== Proof.MergeResult.lean ====
/- The merge call's result array is the reference's: every grid point's block, from the program's arguments, and the array whole. -/
module

public import proofs.«01_k».proof.Proof.Gen.Kernel3Ideal.Value
public import proofs.«01_k».proof.Proof.MergeOut
public import proofs.«01_k».proof.Proof.MergeRef
public import Idealize.ShloMosaic.Lib.Claim
public import Idealize.ShloMosaic.Lib.Pipeline.ValueKit

@[expose] public section

set_option maxRecDepth 16384

noncomputable section

namespace Cert.Kernel3Ideal.Result

open Cert.Kernel3Ideal Cert.Kernel3Ideal.Gen Cert.Kernel3Ideal.Block Cert.Ffn Cert.Merge Idealize.ShloMosaic Idealize.ShloMosaic.TcCoe Idealize.SL.Sem
open Idealize.ShloMosaic.Pipeline (Dat)

variable (m : (ℓ : Loc nD τ sig) → Buf (Elt Ideal) ℓ) (c : Dev nD)

/-- Which block of each array grid point `t` works on: batch `t / 4`, row tile `t % 4`; layer 0 of the parameters. -/
theorem coords : ∀ t : Fin cfg0.N, win0_0.index t = ![t.val / 4, t.val % 4, 0] ∧ win0_1.index t = ![0, 3, t.val / 4, 0, 0] ∧ win0_2.index t = ![0, 4, t.val / 4, 0, 0] ∧
    win0_3.index t = ![0, 5, t.val / 4, 0, 0] ∧ win0_4.index t = ![0, 6, t.val / 4, 0, 0] ∧ win0_5.index t = ![0, 7, t.val / 4, 0, 0] ∧ win0_6.index t = ![0, 8, t.val / 4, 0, 0] ∧
    win0_7.index t = ![0, 1, 0, 0] ∧ win0_8.index t = ![0, 2, 0, 0] ∧ win0_9.index t = ![0, 0, 0] ∧ win0_10.index t = ![t.val / 4, t.val % 4, 0] ∧
    win0_11.index t = ![t.val / 4, t.val % 4, 0] ∧ win0_12.index t = ![t.val / 4, t.val % 4, 0] ∧ win0_13.index t = ![t.val / 4, t.val % 4, 0] ∧ win0_14.index t = ![0, 0, 0, 0] ∧
    win0_15.index t = ![0, 0, 0] ∧ win0_16.index t = ![0, 0, 0] ∧ win0_17.index t = ![0, 0, 0] ∧ win0_18.index t = ![t.val / 4, t.val % 4, 0] ∧ t.val < 64 :=
  (by decide +kernel : ∀ t : Fin grid0.N, _)

/-- The batch of a grid point. -/
def bat (t : Fin cfg0.N) : Fin 16 := ⟨t.val / 4, by have h : t.val < 64 := t.isLt; omega⟩

/-- The token that row `p` of a grid point's block is. -/
def tok (t : Fin cfg0.N) (p : Fin 512) : Fin 2048 := ⟨512 * (t.val % 4) + p.val, by omega⟩

/-- The arguments as arrays. -/
def a0 : FVec Ideal S16x2048x1024 .f32 := m ((c : Thread nD τ).loc main_arg0)
def a1 : FVec Ideal S4x9x16x1x1024 .f32 := m ((c : Thread nD τ).loc main_arg1)
def a2 : FVec Ideal S4x3x1024 .f32 := m ((c : Thread nD τ).loc main_arg2)
def a3 : FVec Ideal S4x1024x3072 .f32 := m ((c : Thread nD τ).loc main_arg3)
def a4 : FVec Ideal S16x2048x384 .f32 := m ((c : Thread nD τ).loc main_arg4)
def a5 : FVec Ideal S16x2048x384 .f32 := m ((c : Thread nD τ).loc main_arg5)
def a6 : FVec Ideal S16x2048x384 .f32 := m ((c : Thread nD τ).loc main_arg6)
def a7 : FVec Ideal S16x2048x384 .f32 := m ((c : Thread nD τ).loc main_arg7)
def a8 : FVec Ideal S4x3x384x1024 .f32 := m ((c : Thread nD τ).loc main_arg8)
def a9 : FVec Ideal S4x1024x1024 .f32 := m ((c : Thread nD τ).loc main_arg9)
def a10 : FVec Ideal S4x1024x5632 .f32 := m ((c : Thread nD τ).loc main_arg10)
def a11 : FVec Ideal S4x2816x1024 .f32 := m ((c : Thread nD τ).loc main_arg11)

/-- The gains with a unit axis put in. -/
theorem gain_read : V m c main_v0 = shapeCast S4x3x1x1024 (a2 m c) shapeCasts_S4x3x1024_S4x3x1x1024 := by rfl

theorem gain_cast (x : FVec Ideal S4x3x1024 .f32) (i : Fin 4) (j : Fin 3) (k : Fin 1024) :
    shapeCast S4x3x1x1024 x shapeCasts_S4x3x1024_S4x3x1x1024 (ix4 i j 0 k) = x (ix3 i j k) := by
  pointwise []

/-- The weights and the two branches that are given to the call in bf16: casts, which change no value. -/
theorem cast_read1 : V m c main_v1 = truncf .bf16 (a3 m c) bitsLt_bf16_f32 := by rfl

theorem cast_read2 : V m c main_v2 = truncf .bf16 (a6 m c) bitsLt_bf16_f32 := by rfl

theorem cast_read3 : V m c main_v3 = truncf .bf16 (a7 m c) bitsLt_bf16_f32 := by rfl

theorem cast_read4 : V m c main_v4 = truncf .bf16 (a8 m c) bitsLt_bf16_f32 := by rfl

theorem cast_read5 : V m c main_v5 = truncf .bf16 (a9 m c) bitsLt_bf16_f32 := by rfl

theorem cast_read6 : V m c main_v6 = truncf .bf16 (a10 m c) bitsLt_bf16_f32 := by rfl

theorem cast_read7 : V m c main_v7 = truncf .bf16 (a11 m c) bitsLt_bf16_f32 := by rfl

/-- Each input block of a grid point, element by element. -/
theorem blk0 (t : Fin cfg0.N) (p : Fin 512) (k : Fin 1024) : iblk m c 0 t (ix3 0 p k) = a0 m c (ix3 (bat t) (tok t p) k) := by
  refine Eq.trans (b := V m c main_arg0 (ix3 (bat t) (tok t p) k)) ?_ (congrFun (V_main_arg0 m c) _)
  have := coords t
  unfold bat tok
  blk_ext [iblk, coords t]

theorem blk1 (t : Fin cfg0.N) (k : Fin 1024) : iblk m c 1 t (ix5 0 0 0 0 k) = a1 m c (ix5 0 3 (bat t) 0 k) := by
  refine Eq.trans (b := V m c main_arg1 (ix5 0 3 (bat t) 0 k)) ?_ (congrFun (V_main_arg1 m c) _)
  have := coords t
  unfold bat
  blk_ext [iblk, coords t]

theorem blk2 (t : Fin cfg0.N) (k : Fin 1024) : iblk m c 2 t (ix5 0 0 0 0 k) = a1 m c (ix5 0 4 (bat t) 0 k) := by
  refine Eq.trans (b := V m c main_arg1 (ix5 0 4 (bat t) 0 k)) ?_ (congrFun (V_main_arg1 m c) _)
  have := coords t
  unfold bat
  blk_ext [iblk, coords t]

theorem blk3 (t : Fin cfg0.N) (k : Fin 1024) : iblk m c 3 t (ix5 0 0 0 0 k) = a1 m c (ix5 0 5 (bat t) 0 k) := by
  refine Eq.trans (b := V m c main_arg1 (ix5 0 5 (bat t) 0 k)) ?_ (congrFun (V_main_arg1 m c) _)
  have := coords t
  unfold bat
  blk_ext [iblk, coords t]

theorem blk4 (t : Fin cfg0.N) (k : Fin 1024) : iblk m c 4 t (ix5 0 0 0 0 k) = a1 m c (ix5 0 6 (bat t) 0 k) := by
  refine Eq.trans (b := V m c main_arg1 (ix5 0 6 (bat t) 0 k)) ?_ (congrFun (V_main_arg1 m c) _)
  have := coords t
  unfold bat
  blk_ext [iblk, coords t]

theorem blk5 (t : Fin cfg0.N) (k : Fin 1024) : iblk m c 5 t (ix5 0 0 0 0 k) = a1 m c (ix5 0 7 (bat t) 0 k) := by
  refine Eq.trans (b := V m c main_arg1 (ix5 0 7 (bat t) 0 k)) ?_ (congrFun (V_main_arg1 m c) _)
  have := coords t
  unfold bat
  blk_ext [iblk, coords t]

theorem blk6 (t : Fin cfg0.N) (k : Fin 1024) : iblk m c 6 t (ix5 0 0 0 0 k) = a1 m c (ix5 0 8 (bat t) 0 k) := by
  refine Eq.trans (b := V m c main_arg1 (ix5 0 8 (bat t) 0 k)) ?_ (congrFun (V_main_arg1 m c) _)
  have := coords t
  unfold bat
  blk_ext [iblk, coords t]

theorem blk7 (t : Fin cfg0.N) (k : Fin 1024) : iblk m c 7 t (ix4 0 0 0 k) = a2 m c (ix3 0 1 k) := by
  refine Eq.trans (b := V m c main_v0 (ix4 0 1 0 k)) ?_ ((congrFun (gain_read m c) _).trans (gain_cast _ 0 1 k))
  have := coords t
  blk_ext [iblk, coords t]

theorem blk8 (t : Fin cfg0.N) (k : Fin 1024) : iblk m c 8 t (ix4 0 0 0 k) = a2 m c (ix3 0 2 k) := by
  refine Eq.trans (b := V m c main_v0 (ix4 0 2 0 k)) ?_ ((congrFun (gain_read m c) _).trans (gain_cast _ 0 2 k))
  have := coords t
  blk_ext [iblk, coords t]

theorem blk9 (t : Fin cfg0.N) (k : Fin 1024) (n : Fin 3072) : iblk m c 9 t (ix3 0 k n) = a3 m c (ix3 0 k n) := by
  refine Eq.trans (b := V m c main_v1 (ix3 0 k n)) ?_ (congrFun (cast_read1 m c) _)
  have := coords t
  blk_ext [iblk, coords t]

theorem blk10 (t : Fin cfg0.N) (p : Fin 512) (k : Fin 384) : iblk m c 10 t (ix3 0 p k) = a4 m c (ix3 (bat t) (tok t p) k) := by
  refine Eq.trans (b := V m c main_arg4 (ix3 (bat t) (tok t p) k)) ?_ (congrFun (V_main_arg4 m c) _)
  have := coords t
  unfold bat tok
  blk_ext [iblk, coords t]

theorem blk11 (t : Fin cfg0.N) (p : Fin 512) (k : Fin 384) : iblk m c 11 t (ix3 0 p k) = a5 m c (ix3 (bat t) (tok t p) k) := by
  refine Eq.trans (b := V m c main_arg5 (ix3 (bat t) (tok t p) k)) ?_ (congrFun (V_main_arg5 m c) _)
  have := coords t
  unfold bat tok
  blk_ext [iblk, coords t]

theorem blk12 (t : Fin cfg0.N) (p : Fin 512) (k : Fin 384) : iblk m c 12 t (ix3 0 p k) = a6 m c (ix3 (bat t) (tok t p) k) := by
  refine Eq.trans (b := V m c main_v2 (ix3 (bat t) (tok t p) k)) ?_ (congrFun (cast_read2 m c) _)
  have := coords t
  unfold bat tok
  blk_ext [iblk, coords t]

theorem blk13 (t : Fin cfg0.N) (p : Fin 512) (k : Fin 384) : iblk m c 13 t (ix3 0 p k) = a7 m c (ix3 (bat t) (tok t p) k) := by
  refine Eq.trans (b := V m c main_v3 (ix3 (bat t) (tok t p) k)) ?_ (congrFun (cast_read3 m c) _)
  have := coords t
  unfold bat tok
  blk_ext [iblk, coords t]

theorem blk14 (t : Fin cfg0.N) (n : Fin 3) (k : Fin 384) (d : Fin 1024) : iblk m c 14 t (ix4 0 n k d) = a8 m c (ix4 0 n k d) := by
  refine Eq.trans (b := V m c main_v4 (ix4 0 n k d)) ?_ (congrFun (cast_read4 m c) _)
  have := coords t
  blk_ext [iblk, coords t]

theorem blk15 (t : Fin cfg0.N) (e d : Fin 1024) : iblk m c 15 t (ix3 0 e d) = a9 m c (ix3 0 e d) := by
  refine Eq.trans (b := V m c main_v5 (ix3 0 e d)) ?_ (congrFun (cast_read5 m c) _)
  have := coords t
  blk_ext [iblk, coords t]

theorem blk16 (t : Fin cfg0.N) (k : Fin 1024) (n : Fin 5632) : iblk m c 16 t (ix3 0 k n) = a10 m c (ix3 0 k n) := by
  refine Eq.trans (b := V m c main_v6 (ix3 0 k n)) ?_ (congrFun (cast_read6 m c) _)
  have := coords t
  blk_ext [iblk, coords t]

theorem blk17 (t : Fin cfg0.N) (j : Fin 2816) (d : Fin 1024) : iblk m c 17 t (ix3 0 j d) = a11 m c (ix3 0 j d) := by
  refine Eq.trans (b := V m c main_v7 (ix3 0 j d)) ?_ (congrFun (cast_read7 m c) _)
  have := coords t
  blk_ext [iblk, coords t]

/-- The reference's result of the same arguments. -/
def ref : FVec Ideal S16x2048x1024 .f32 := Cert.Reference3Ideal.Read.val_main_v105 (F := Ideal) (a0 m c) (a1 m c) (a2 m c) (a3 m c) (a4 m c) (a5 m c) (a6 m c) (a7 m c) (a8 m c) (a9 m c) (a10 m c) (a11 m c)

/-- What a grid point leaves in its output block. -/
theorem block_eq (t : Fin cfg0.N) (p : Fin 512) (d : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 p d)
      = ref m c (ix3 (bat t) (tok t p) d) := by
  refine (out_at _ _ _ _ _ _ _ _ _ _ _ _ _ _ _ _ _ _ p d).trans ?_
  unfold row
  simp only [blk0, blk1, blk2, blk3, blk4, blk5, blk6, blk7, blk8, blk9, blk10, blk11, blk12, blk13, blk14, blk15, blk16, blk17]
  exact (Cert.Reference3Ideal.RefRead.result_at (a0 m c) (a1 m c) (a2 m c) (a3 m c) (a4 m c) (a5 m c) (a6 m c) (a7 m c) (a8 m c) (a9 m c) (a10 m c) (a11 m c) (bat t) (tok t p) d).symm

/-- The call's result array, whole. -/
theorem final : (dats m 0 c).arrAt 18 cfg0.N = ref m c := by
  refine Dat.arrAt_eq_of_covers (dats m 0 c) 18 (ref m c) (by decide +kernel) fun t _ y => ?_
  have hc := coords t
  blk_simp
  rw [after0_18]
  obtain ⟨p, hp⟩ : ∃ p : Fin 512, p.val = (y 1).val := ⟨⟨(y 1).val, (y 1).isLt⟩, rfl⟩
  obtain ⟨d, hd⟩ : ∃ d : Fin 1024, d.val = (y 2).val := ⟨⟨(y 2).val, (y 2).isLt⟩, rfl⟩
  have e := block_eq m c t p d
  unfold bat tok at e
  have e0 : (y 0).val < 1 := (y 0).isLt
  refine Eq.trans ?_ (e.trans ?_)
  · refine congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (funext fun a => Fin.ext ?_)
    fin_cases a
    · exact Nat.lt_one_iff.mp e0
    · exact hp.symm
    · exact hd.symm
  · blk_ext [hc]

end Cert.Kernel3Ideal.Result

end
-- ==== Proof.MergeClaims.lean ====
/- The claims about the merge call. -/
module

public import proofs.«01_k».proof.Defs
public import proofs.«01_k».proof.Proof.Gen.Kernel3.Frame
public import proofs.«01_k».proof.Proof.Gen.Reference3Ideal.Run
public import proofs.«01_k».proof.Proof.MergeResult
public import Idealize.ShloMosaic.Adequacy
public import Idealize.ShloMosaic.Init
public import Idealize.ShloMosaic.Lib.Quiescent

@[expose] public section

noncomputable section

namespace Cert.MergeClaims

open Idealize.ShloMosaic Idealize.SL.Sem

/-- The merge call over the extended reals terminates without a fault, keeps its arguments and ends with every semaphore counter at zero. -/
theorem frame_ideal : Cert.quiescent_Kernel3Ideal := fun m ρ _ => Cert.Kernel3Ideal.Gen.frame m ρ

/-- So does the call at machine floats. -/
theorem frame_kernel : Cert.quiescent_Kernel3 := fun m ρ _ => Cert.Kernel3.Gen.frame m ρ

/-- The reference terminates without a fault and keeps its arguments; it has no semaphores. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- From any equal arguments the merge call and its reference end with the same result. -/
theorem equal_results : Cert.algebraic_Kernel3Ideal_Reference3Ideal := by
  intro m g m' g' hpre hagree
  refine ⟨fun c => Cert.Kernel3Ideal.Result.ref m c, ?_, ?_⟩
  · exact (θ_run Cert.Kernel3Ideal.defs _ _).mono
      (fun r h c => ⟨(h c).1.trans (Cert.Kernel3Ideal.Result.final m c), (h c).2⟩)
      (Cert.Kernel3Ideal.Value.run_blocks m g)
  · refine (θ_run Cert.Reference3Ideal.defs _ _).mono (fun r h c => ⟨?_, (h c).2⟩) (Cert.Reference3Ideal.Value.run m' g')
    obtain ⟨h0, h1, h2, h3, h4, h5, h6, h7, h8, h9, h10, h11⟩ := hagree c
    refine ((h c).1.trans (Cert.Reference3Ideal.Read.val_main_v105_eq m' c)).trans ?_
    rw [h0, h1, h2, h3, h4, h5, h6, h7, h8, h9, h10, h11]
    rfl

end Cert.MergeClaims

end
-- ==== Proof.Final.lean ====
/- The final norm of one row, over the extended reals. -/
module

public import Idealize.ShloMosaic.PureOps.Ideal

@[expose] public section

noncomputable section

namespace Cert.Final

open Idealize.ShloMosaic

/-- The row divided by the root of its squares' mean, times the gain. -/
def rms (x g : Fin 1024 → EReal) (d : Fin 1024) : EReal :=
  x d * Ideal.rsqrt (Ideal.div (∑ i, x i * x i) (Ideal.ofBits .f32 0x44800000#32) + Ideal.ofBits .f32 0x358637BD#32) * g d

end Cert.Final

end
-- ==== Proof.FinalOut.lean ====
/- What the last layer's merge call computes of one block of 512 rows: what the merge call does, and then the final norm. Its values before
   that norm are the merge call's. -/
module

public import proofs.«01_k».proof.Proof.Gen.Kernel4Ideal.Frame
public import proofs.«01_k».proof.Proof.MergeOut
public import proofs.«01_k».proof.Proof.Final

@[expose] public section

set_option maxRecDepth 16384

noncomputable section

namespace Cert.Kernel4Ideal.Block

open Cert.Kernel4Ideal Cert.Kernel4Ideal.Gen Cert.Ffn Cert.Merge Cert.Final Idealize.ShloMosaic Idealize.SL.Sem

/-- The final norm of a block. -/
def fin (o : FVec Ideal S512x1024 .f32) (g : FVec Ideal S1x1024 .f32) : FVec Ideal S1x512x1024 .f32 :=
  shapeCast S1x512x1024 (mulf (mulf o (broadcastTo S512x1024 (rsqrt (Cert.Kernel3Ideal.Block.meanSq o)) broadcasts_S512x1_S512x1024))
    (broadcastTo S512x1024 (shapeCast S1x1024 g shapeCasts_S1x1024_S1x1024) broadcasts_S1x1024_S512x1024)) shapeCasts_S512x1024_S1x512x1024

theorem fin_at (o : FVec Ideal S512x1024 .f32) (g : FVec Ideal S1x1024 .f32) (p : Fin 512) (d : Fin 1024) :
    fin o g (ix3 0 p d) = rms (fun i => o (ix2 p i)) (fun i => g (ix2 0 i)) d := by
  pointwise [fin, Cert.Kernel3Ideal.Block.meanSq]
  rfl

/-- What the body stores is the final norm of what the merge call stores. -/
theorem fin_eq (a : FVec Ideal S512x1024 .f32) (b : FVec Ideal S1x1024 .f32) (t : FVec Ideal S512x1024 .f32) (h g : FVec Ideal S1x1024 .f32) :
    k0_pay1 (F := Ideal) a b t h g = fin (addf a (mulf (broadcastTo S512x1024 (mulf h b) broadcasts_S1x1024_S512x1024) t)) g := by
  dsimp only [k0_pay1, fin, Cert.Kernel3Ideal.Block.meanSq]

/-- What the merge call stores, at an index. -/
theorem stored_at (a : FVec Ideal S512x1024 .f32) (b : FVec Ideal S1x1024 .f32) (t : FVec Ideal S512x1024 .f32) (h : FVec Ideal S1x1024 .f32) (p : Fin 512) (d : Fin 1024) :
    Cert.Kernel3Ideal.Gen.k0_pay1 (F := Ideal) a b t h (ix3 0 p d)
      = addf a (mulf (broadcastTo S512x1024 (mulf h b) broadcasts_S1x1024_S512x1024) t) (ix2 p d) := by
  pointwise [Cert.Kernel3Ideal.Gen.k0_pay1]

/-! Each value of the body is the merge call's of the same number. -/

theorem same2 : @k0_pay2 Ideal = @Cert.Kernel3Ideal.Gen.k0_pay2 Ideal := by rfl

theorem same3 : @k0_pay3 Ideal = @Cert.Kernel3Ideal.Gen.k0_pay3 Ideal := by rfl

theorem same4 : @k0_pay4 Ideal = @Cert.Kernel3Ideal.Gen.k0_pay4 Ideal := by rfl

theorem same5 : @k0_pay5 Ideal = @Cert.Kernel3Ideal.Gen.k0_pay5 Ideal := by rfl

theorem same6 : @k0_pay6 Ideal = @Cert.Kernel3Ideal.Gen.k0_pay6 Ideal := by rfl

theorem same7 : @k0_pay7 Ideal = @Cert.Kernel3Ideal.Gen.k0_pay7 Ideal := by rfl

theorem same8 : @k0_pay8 Ideal = @Cert.Kernel3Ideal.Gen.k0_pay8 Ideal := by rfl

theorem same9 : @k0_pay9 Ideal = @Cert.Kernel3Ideal.Gen.k0_pay9 Ideal := by rfl

theorem same10 : @k0_pay10 Ideal = @Cert.Kernel3Ideal.Gen.k0_pay10 Ideal := by rfl

theorem same11 : @k0_pay11 Ideal _ = @Cert.Kernel3Ideal.Gen.k0_pay11 Ideal _ := by rfl

theorem same12 : @k0_pay12 Ideal _ = @Cert.Kernel3Ideal.Gen.k0_pay12 Ideal _ := by rfl

theorem same13 : @k0_pay13 Ideal _ = @Cert.Kernel3Ideal.Gen.k0_pay13 Ideal _ := by rfl

theorem same14 : @k0_pay14 Ideal _ = @Cert.Kernel3Ideal.Gen.k0_pay14 Ideal _ := by rfl

theorem same15 : @k0_pay15 Ideal = @Cert.Kernel3Ideal.Gen.k0_pay15 Ideal := by rfl

theorem same16 : @k0_pay16 Ideal _ = @Cert.Kernel3Ideal.Gen.k0_pay16 Ideal _ := by rfl

theorem same17 : @k0_pay17 Ideal = @Cert.Kernel3Ideal.Gen.k0_pay17 Ideal := by rfl

theorem same18 : @k0_pay18 Ideal = @Cert.Kernel3Ideal.Gen.k0_pay18 Ideal := by rfl

theorem same19 : @k0_pay19 Ideal = @Cert.Kernel3Ideal.Gen.k0_pay19 Ideal := by rfl

theorem same20 : @k0_pay20 Ideal = @Cert.Kernel3Ideal.Gen.k0_pay20 Ideal := by rfl

theorem same21 : @k0_pay21 Ideal _ = @Cert.Kernel3Ideal.Gen.k0_pay21 Ideal _ := by rfl

theorem same22 : @k0_pay22 Ideal _ = @Cert.Kernel3Ideal.Gen.k0_pay22 Ideal _ := by rfl

theorem same23 : @k0_pay23 Ideal _ = @Cert.Kernel3Ideal.Gen.k0_pay23 Ideal _ := by rfl

theorem same24 : @k0_pay24 Ideal _ = @Cert.Kernel3Ideal.Gen.k0_pay24 Ideal _ := by rfl

theorem same25 : @k0_pay25 Ideal _ = @Cert.Kernel3Ideal.Gen.k0_pay25 Ideal _ := by rfl

theorem same26 : @k0_pay26 Ideal _ = @Cert.Kernel3Ideal.Gen.k0_pay26 Ideal _ := by rfl

theorem same27 : @k0_pay27 Ideal _ = @Cert.Kernel3Ideal.Gen.k0_pay27 Ideal _ := by rfl

theorem same28 : @k0_pay28 Ideal = @Cert.Kernel3Ideal.Gen.k0_pay28 Ideal := by rfl

theorem same29 : @k0_pay29 Ideal _ = @Cert.Kernel3Ideal.Gen.k0_pay29 Ideal _ := by rfl

theorem same30 : @k0_pay30 Ideal _ = @Cert.Kernel3Ideal.Gen.k0_pay30 Ideal _ := by rfl

theorem same31 : @k0_pay31 Ideal _ = @Cert.Kernel3Ideal.Gen.k0_pay31 Ideal _ := by rfl

theorem same32 : @k0_pay32 Ideal _ = @Cert.Kernel3Ideal.Gen.k0_pay32 Ideal _ := by rfl

variable (x0 : FVec Ideal S1x512x1024 .f32) (x1 x2 x3 x4 x5 x6 : FVec Ideal S1x1x1x1x1024 .f32) (x7 x8 : FVec Ideal S1x1x1x1024 .f32)
  (x9 : FVec Ideal S1x1024x3072 .bf16) (x10 x11 : FVec Ideal S1x512x384 .f32) (x12 x13 : FVec Ideal S1x512x384 .bf16) (x14 : FVec Ideal S1x3x384x1024 .bf16)
  (x15 : FVec Ideal S1x1024x1024 .bf16) (x16 : FVec Ideal S1x1024x5632 .bf16) (x17 : FVec Ideal S1x2816x1024 .bf16) (x18 : FVec Ideal S1x1024 .f32)

theorem same33 : k0_pay33 (F := Ideal) x0 x1 x2 x3 x4 x5 x6 x7 x8 x9 x10 x11 x12 x13 x14 x15 x16 x17 x18 = Cert.Kernel3Ideal.Gen.k0_pay33 (F := Ideal) x0 x1 x2 x3 x4 x5 x6 x7 x8 x9 x10 x11 x12 x13 x14 x15 x16 x17 := by
  unfold k0_pay33 Cert.Kernel3Ideal.Gen.k0_pay33
  simp only [same2, same3, same4, same5, same6, same7, same8, same9, same10, same11, same12, same13, same14, same15, same16, same17, same18, same19, same20, same21, same22, same23, same24, same25, same26, same27, same28, same29, same30, same31, same32]

theorem same34 : k0_pay34 (F := Ideal) x0 x1 x2 x3 x4 x5 x6 x7 x8 x9 x10 x11 x12 x13 x14 x15 x16 x17 x18 = Cert.Kernel3Ideal.Gen.k0_pay34 (F := Ideal) x0 x1 x2 x3 x4 x5 x6 x7 x8 x9 x10 x11 x12 x13 x14 x15 x16 x17 := by
  unfold k0_pay34 Cert.Kernel3Ideal.Gen.k0_pay34
  simp only [same2, same3, same4, same5, same6, same7, same8, same9, same10, same11, same12, same13, same14, same15, same16, same17, same18, same19, same20, same21, same22, same23, same24, same25, same26, same27, same28, same29, same30, same31, same32, same33]

theorem same35 : k0_pay35 (F := Ideal) x0 x1 x2 x3 x4 x5 x6 x7 x8 x9 x10 x11 x12 x13 x14 x15 x16 x17 x18 = Cert.Kernel3Ideal.Gen.k0_pay35 (F := Ideal) x0 x1 x2 x3 x4 x5 x6 x7 x8 x9 x10 x11 x12 x13 x14 x15 x16 x17 := by
  unfold k0_pay35 Cert.Kernel3Ideal.Gen.k0_pay35
  simp only [same2, same3, same4, same5, same6, same7, same8, same9, same10, same11, same12, same13, same14, same15, same16, same17, same18, same19, same20, same21, same22, same23, same24, same25, same26, same27, same28, same29, same30, same31, same32, same33, same34]

theorem same36 : k0_pay36 (F := Ideal) x0 x1 x2 x3 x4 x5 x6 x7 x8 x9 x10 x11 x12 x13 x14 x15 x16 x17 x18 = Cert.Kernel3Ideal.Gen.k0_pay36 (F := Ideal) x0 x1 x2 x3 x4 x5 x6 x7 x8 x9 x10 x11 x12 x13 x14 x15 x16 x17 := by
  unfold k0_pay36 Cert.Kernel3Ideal.Gen.k0_pay36
  simp only [same2, same3, same4, same5, same6, same7, same8, same9, same10, same11, same12, same13, same14, same15, same16, same17, same18, same19, same20, same21, same22, same23, same24, same25, same26, same27, same28, same29, same30, same31, same32, same33, same34, same35]

theorem same37 : k0_pay37 (F := Ideal) x0 x1 x2 x3 x4 x5 x6 x7 x8 x9 x10 x11 x12 x13 x14 x15 x16 x17 x18 = Cert.Kernel3Ideal.Gen.k0_pay37 (F := Ideal) x0 x1 x2 x3 x4 x5 x6 x7 x8 x9 x10 x11 x12 x13 x14 x15 x16 x17 := by
  unfold k0_pay37 Cert.Kernel3Ideal.Gen.k0_pay37
  simp only [same2, same3, same4, same5, same6, same7, same8, same9, same10, same11, same12, same13, same14, same15, same16, same17, same18, same19, same20, same21, same22, same23, same24, same25, same26, same27, same28, same29, same30, same31, same32, same33, same34, same35, same36]

theorem same38 : k0_pay38 (F := Ideal) x0 x1 x2 x3 x4 x5 x6 x7 x8 x9 x10 x11 x12 x13 x14 x15 x16 x17 x18 = Cert.Kernel3Ideal.Gen.k0_pay38 (F := Ideal) x0 x1 x2 x3 x4 x5 x6 x7 x8 x9 x10 x11 x12 x13 x14 x15 x16 x17 := by
  unfold k0_pay38 Cert.Kernel3Ideal.Gen.k0_pay38
  simp only [same2, same3, same4, same5, same6, same7, same8, same9, same10, same11, same12, same13, same14, same15, same16, same17, same18, same19, same20, same21, same22, same23, same24, same25, same26, same27, same28, same29, same30, same31, same32, same33, same34, same35, same36, same37]

theorem same39 : k0_pay39 (F := Ideal) x0 x1 x2 x3 x4 x5 x6 x7 x8 x9 x10 x11 x12 x13 x14 x15 x16 x17 x18 = Cert.Kernel3Ideal.Gen.k0_pay39 (F := Ideal) x0 x1 x2 x3 x4 x5 x6 x7 x8 x9 x10 x11 x12 x13 x14 x15 x16 x17 := by
  unfold k0_pay39 Cert.Kernel3Ideal.Gen.k0_pay39
  simp only [same2, same3, same4, same5, same6, same7, same8, same9, same10, same11, same12, same13, same14, same15, same16, same17, same18, same19, same20, same21, same22, same23, same24, same25, same26, same27, same28, same29, same30, same31, same32, same33, same34, same35, same36, same37, same38]

theorem same40 : k0_pay40 (F := Ideal) x0 x1 x2 x3 x4 x5 x6 x7 x8 x9 x10 x11 x12 x13 x14 x15 x16 x17 x18 = Cert.Kernel3Ideal.Gen.k0_pay40 (F := Ideal) x0 x1 x2 x3 x4 x5 x6 x7 x8 x9 x10 x11 x12 x13 x14 x15 x16 x17 := by
  unfold k0_pay40 Cert.Kernel3Ideal.Gen.k0_pay40
  simp only [same2, same3, same4, same5, same6, same7, same8, same9, same10, same11, same12, same13, same14, same15, same16, same17, same18, same19, same20, same21, same22, same23, same24, same25, same26, same27, same28, same29, same30, same31, same32, same33, same34, same35, same36, same37, same38, same39]

theorem same41 : k0_pay41 (F := Ideal) x0 x1 x2 x3 x4 x5 x6 x7 x8 x9 x10 x11 x12 x13 x14 x15 x16 x17 x18 = Cert.Kernel3Ideal.Gen.k0_pay41 (F := Ideal) x0 x1 x2 x3 x4 x5 x6 x7 x8 x9 x10 x11 x12 x13 x14 x15 x16 x17 := by
  unfold k0_pay41 Cert.Kernel3Ideal.Gen.k0_pay41
  simp only [same2, same3, same4, same5, same6, same7, same8, same9, same10, same11, same12, same13, same14, same15, same16, same17, same18, same19, same20, same21, same22, same23, same24, same25, same26, same27, same28, same29, same30, same31, same32, same33, same34, same35, same36, same37, same38, same39, same40]

theorem same42 : k0_pay42 (F := Ideal) x0 x1 x2 x3 x4 x5 x6 x7 x8 x9 x10 x11 x12 x13 x14 x15 x16 x17 x18 = Cert.Kernel3Ideal.Gen.k0_pay42 (F := Ideal) x0 x1 x2 x3 x4 x5 x6 x7 x8 x9 x10 x11 x12 x13 x14 x15 x16 x17 := by
  unfold k0_pay42 Cert.Kernel3Ideal.Gen.k0_pay42
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41]

theorem same43 : k0_pay43 (F := Ideal) x0 x1 x2 x3 x4 x5 x6 x7 x8 x9 x10 x11 x12 x13 x14 x15 x16 x17 x18 = Cert.Kernel3Ideal.Gen.k0_pay43 (F := Ideal) x0 x1 x2 x3 x4 x5 x6 x7 x8 x9 x10 x11 x12 x13 x14 x15 x16 x17 := by
  unfold k0_pay43 Cert.Kernel3Ideal.Gen.k0_pay43
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42]

theorem same44 : k0_pay44 (F := Ideal) x0 x1 x2 x3 x4 x5 x6 x7 x8 x9 x10 x11 x12 x13 x14 x15 x16 x17 x18 = Cert.Kernel3Ideal.Gen.k0_pay44 (F := Ideal) x0 x1 x2 x3 x4 x5 x6 x7 x8 x9 x10 x11 x12 x13 x14 x15 x16 x17 := by
  unfold k0_pay44 Cert.Kernel3Ideal.Gen.k0_pay44
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43]

theorem same45 : k0_pay45 (F := Ideal) x0 x1 x2 x3 x4 x5 x6 x7 x8 x9 x10 x11 x12 x13 x14 x15 x16 x17 x18 = Cert.Kernel3Ideal.Gen.k0_pay45 (F := Ideal) x0 x1 x2 x3 x4 x5 x6 x7 x8 x9 x10 x11 x12 x13 x14 x15 x16 x17 := by
  unfold k0_pay45 Cert.Kernel3Ideal.Gen.k0_pay45
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44]

theorem same46 : k0_pay46 (F := Ideal) x0 x1 x2 x3 x4 x5 x6 x7 x8 x9 x10 x11 x12 x13 x14 x15 x16 x17 x18 = Cert.Kernel3Ideal.Gen.k0_pay46 (F := Ideal) x0 x1 x2 x3 x4 x5 x6 x7 x8 x9 x10 x11 x12 x13 x14 x15 x16 x17 := by
  unfold k0_pay46 Cert.Kernel3Ideal.Gen.k0_pay46
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45]

theorem same47 : k0_pay47 (F := Ideal) x0 x1 x2 x3 x4 x5 x6 x7 x8 x9 x10 x11 x12 x13 x14 x15 x16 x17 x18 = Cert.Kernel3Ideal.Gen.k0_pay47 (F := Ideal) x0 x1 x2 x3 x4 x5 x6 x7 x8 x9 x10 x11 x12 x13 x14 x15 x16 x17 := by
  unfold k0_pay47 Cert.Kernel3Ideal.Gen.k0_pay47
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46]

theorem same48 : k0_pay48 (F := Ideal) x0 x1 x2 x3 x4 x5 x6 x7 x8 x9 x10 x11 x12 x13 x14 x15 x16 x17 x18 = Cert.Kernel3Ideal.Gen.k0_pay48 (F := Ideal) x0 x1 x2 x3 x4 x5 x6 x7 x8 x9 x10 x11 x12 x13 x14 x15 x16 x17 := by
  unfold k0_pay48 Cert.Kernel3Ideal.Gen.k0_pay48
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46, same47]

theorem same49 : k0_pay49 (F := Ideal) x0 x1 x2 x3 x4 x5 x6 x7 x8 x9 x10 x11 x12 x13 x14 x15 x16 x17 x18 = Cert.Kernel3Ideal.Gen.k0_pay49 (F := Ideal) x0 x1 x2 x3 x4 x5 x6 x7 x8 x9 x10 x11 x12 x13 x14 x15 x16 x17 := by
  unfold k0_pay49 Cert.Kernel3Ideal.Gen.k0_pay49
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46, same47, same48]

theorem same50 : k0_pay50 (F := Ideal) x0 x1 x2 x3 x4 x5 x6 x7 x8 x9 x10 x11 x12 x13 x14 x15 x16 x17 x18 = Cert.Kernel3Ideal.Gen.k0_pay50 (F := Ideal) x0 x1 x2 x3 x4 x5 x6 x7 x8 x9 x10 x11 x12 x13 x14 x15 x16 x17 := by
  unfold k0_pay50 Cert.Kernel3Ideal.Gen.k0_pay50
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46, same47, same48, same49]

/-- The block the body leaves, at row `p` and column `d`: the final norm of the row the merge call leaves. -/
theorem out_at (p : Fin 512) (d : Fin 1024) :
    out0_19 (F := Ideal) x0 x1 x2 x3 x4 x5 x6 x7 x8 x9 x10 x11 x12 x13 x14 x15 x16 x17 x18 (ix3 0 p d)
      = rms (fun i => Cert.Kernel3Ideal.Gen.out0_18 (F := Ideal) x0 x1 x2 x3 x4 x5 x6 x7 x8 x9 x10 x11 x12 x13 x14 x15 x16 x17 (ix3 0 p i)) (fun i => x18 (ix2 0 i)) d := by
  unfold out0_19 Cert.Kernel3Ideal.Gen.out0_18
  rw [View.canon_cons_unit_lit _ _ _ (by decide), View.canon_cons_unit_lit _ _ _ (by decide)]
  have e : View.ld (Val := Elt Ideal) (e' := .f32) x18 r0_44 = x18 := View.ld_unit_lit _ _ (by decide)
  rw [e, fin_eq, fin_at]
  refine congrArg (fun r => rms r (fun i => x18 (ix2 0 i)) d) (funext fun i => ?_)
  refine Eq.trans ?_ (stored_at _ _ _ _ p i).symm
  simp only [same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46, same47, same48, same49, same50]

end Cert.Kernel4Ideal.Block

end
-- ==== Proof.FinalRef.lean ====
/- The last layer's merge reference, element by element: the branches' merge of its row, the half step of what that gives, and the final norm. -/
module

public import proofs.«01_k».proof.Proof.Gen.Reference4Ideal.Read
public import proofs.«01_k».proof.Proof.Ffn
public import proofs.«01_k».proof.Proof.Merge
public import proofs.«01_k».proof.Proof.Final
public import Idealize.ShloMosaic.Lib.Pointwise

@[expose] public section

set_option maxRecDepth 16384

noncomputable section

namespace Cert.Reference4Ideal.RefRead

open Cert.Reference4Ideal Cert.Reference4Ideal.Gen Cert.Reference4Ideal.Read Cert.Ffn Cert.Merge Cert.Final Idealize.ShloMosaic Idealize.SL.Sem

variable (x0 : FVec Ideal S16x2048x1024 .f32) (x1 : FVec Ideal S4x9x16x1x1024 .f32) (x2 : FVec Ideal S4x3x1024 .f32) (x3 : FVec Ideal S4x1024x3072 .f32)
  (x4 x5 x6 x7 : FVec Ideal S16x2048x384 .f32) (x8 : FVec Ideal S4x3x384x1024 .f32) (x9 : FVec Ideal S4x1024x1024 .f32)
  (x10 : FVec Ideal S4x1024x5632 .f32) (x11 : FVec Ideal S4x2816x1024 .f32)

/-- The first norm's shift of batch `b`. -/
theorem shift_at (b : Fin 16) (k : Fin 1024) : val_main_v6 (F := Ideal) x1 (ix2 b k) = x1 (ix5 3 3 b 0 k) := by
  pointwise [val_main_v6, val_main_v5, val_main_v2, val_main_v1, val_main_v0]

/-- The first norm's scale of batch `b`. -/
theorem scale_at (b : Fin 16) (k : Fin 1024) : val_main_v8 (F := Ideal) x1 (ix2 b k) = x1 (ix5 3 4 b 0 k) := by
  pointwise [val_main_v8, val_main_v7, val_main_v2, val_main_v1, val_main_v0]

/-- The merge's gate of batch `b`. -/
theorem gate_at (b : Fin 16) (k : Fin 1024) : val_main_v50 (F := Ideal) x1 (ix2 b k) = x1 (ix5 3 5 b 0 k) := by
  pointwise [val_main_v50, val_main_v49, val_main_v2, val_main_v1, val_main_v0]

/-- The second norm's shift of batch `b`. -/
theorem shift2_at (b : Fin 16) (k : Fin 1024) : val_main_v68 (F := Ideal) x1 (ix2 b k) = x1 (ix5 3 6 b 0 k) := by
  pointwise [val_main_v68, val_main_v67, val_main_v60, val_main_v2, val_main_v1, val_main_v0]

/-- The second norm's scale of batch `b`. -/
theorem scale2_at (b : Fin 16) (k : Fin 1024) : val_main_v70 (F := Ideal) x1 (ix2 b k) = x1 (ix5 3 7 b 0 k) := by
  pointwise [val_main_v70, val_main_v69, val_main_v60, val_main_v2, val_main_v1, val_main_v0]

/-- The feed-forward's gate of batch `b`. -/
theorem gate2_at (b : Fin 16) (k : Fin 1024) : val_main_v93 (F := Ideal) x1 (ix2 b k) = x1 (ix5 3 8 b 0 k) := by
  pointwise [val_main_v93, val_main_v92, val_main_v60, val_main_v2, val_main_v1, val_main_v0]

/-- The norms' gains. -/
theorem gain_at (k : Fin 1024) : val_main_v4 (F := Ideal) x2 (ix1 k) = x2 (ix3 3 1 k) := by
  pointwise [val_main_v4, val_main_v3]

theorem gain2_at (k : Fin 1024) : val_main_v62 (F := Ideal) x2 (ix1 k) = x2 (ix3 3 2 k) := by
  pointwise [val_main_v62, val_main_v61]

/-- The weights of layer 3. -/
theorem wg_at (k : Fin 1024) (n : Fin 3072) : val_main_v40 (F := Ideal) x3 (ix2 k n) = x3 (ix3 3 k n) := by
  pointwise [val_main_v40, val_main_v39]

theorem bw_at (n : Fin 3) (k : Fin 384) (d : Fin 1024) : val_main_v36 (F := Ideal) x8 (ix3 n k d) = x8 (ix4 3 n k d) := by
  pointwise [val_main_v36, val_main_v35]

theorem wo_at (e d : Fin 1024) : val_main_v55 (F := Ideal) x9 (ix2 e d) = x9 (ix3 3 e d) := by
  pointwise [val_main_v55, val_main_v54]

theorem wi2_at (k : Fin 1024) (n : Fin 5632) : val_main_v64 (F := Ideal) x10 (ix2 k n) = x10 (ix3 3 k n) := by
  pointwise [val_main_v64, val_main_v63]

theorem wo2_at (j : Fin 2816) (d : Fin 1024) : val_main_v66 (F := Ideal) x11 (ix2 j d) = x11 (ix3 3 j d) := by
  pointwise [val_main_v66, val_main_v65]

/-- The first normed, modulated row. -/
theorem normed_at (b : Fin 16) (t : Fin 2048) (k : Fin 1024) :
    val_main_v29 (F := Ideal) x0 x1 x2 (ix3 b t k)
      = normed (fun i => x0 (ix3 b t i)) (fun i => x2 (ix3 3 1 i)) (fun i => x1 (ix5 3 4 b 0 i)) (fun i => x1 (ix5 3 3 b 0 i)) k := by
  have e1 := shift_at x1 b k
  have e2 := scale_at x1 b k
  have e3 := gain_at x2 k
  unfold val_main_v29 val_main_v28 val_main_v27 val_main_v26 val_main_v25 val_main_v24 val_main_v22 val_main_v21 val_main_v20 val_main_v19
  generalize val_main_v6 (F := Ideal) x1 = A at e1 ⊢
  generalize val_main_v8 (F := Ideal) x1 = B at e2 ⊢
  generalize val_main_v4 (F := Ideal) x2 = C at e3 ⊢
  pointwise [val_main_v23, val_main_cst_2, val_main_v18, val_main_v17, val_main_v16, val_main_v15, val_main_v14, val_main_cst_1, val_main_v13, val_main_v12, val_main_cst_0,
    val_main_v11, val_main_v10, val_main_cst, val_main_v9]
  rw [e1, e2, e3]
  rfl

/-- The gates before the sigmoid. -/
theorem logit_at (b : Fin 16) (t : Fin 2048) (n : Fin 3072) :
    val_main_v41 (F := Ideal) x0 x1 x2 x3 (ix3 b t n) = ∑ k : Fin 1024, val_main_v29 (F := Ideal) x0 x1 x2 (ix3 b t k) * x3 (ix3 3 k n) := by
  rw [val_main_v41_apply]
  refine Finset.sum_congr rfl fun k _ => congrArg₂ (· * ·) (congrArg (val_main_v29 (F := Ideal) x0 x1 x2) ?_) ((congrArg (val_main_v40 (F := Ideal) x3) ?_).trans (wg_at x3 k n)) <;>
    (funext a; apply Fin.ext; fin_cases a <;> rfl)

/-- The gate of output `d` of branch `n`. -/
theorem sigma_at (b : Fin 16) (t : Fin 2048) (n : Fin 3) (d : Fin 1024) :
    val_main_v48 (F := Ideal) x0 x1 x2 x3 (ix4 b t n d) = Ideal.logistic (val_main_v41 (F := Ideal) x0 x1 x2 x3 (ix3 b t (gcol n d))) := by
  unfold val_main_v48 val_main_v46 val_main_v44 val_main_v43 val_main_v42
  generalize val_main_v41 (F := Ideal) x0 x1 x2 x3 = A
  pointwise [val_main_v45, val_main_v47, val_main_cst_3, val_main_cst_4]
  rfl

/-- The first branch is its two inputs' product. -/
theorem stack0_at (b : Fin 16) (t : Fin 2048) (w : Fin 384) : val_main_v34 (F := Ideal) x4 x5 x6 x7 (ix4 b t 0 w) = x4 (ix3 b t w) * x5 (ix3 b t w) := by
  pointwise [val_main_v34, val_main_v31, val_main_v32, val_main_v33, val_main_v30]

theorem stack1_at (b : Fin 16) (t : Fin 2048) (w : Fin 384) : val_main_v34 (F := Ideal) x4 x5 x6 x7 (ix4 b t 1 w) = x6 (ix3 b t w) := by
  pointwise [val_main_v34, val_main_v31, val_main_v32, val_main_v33, val_main_v30]

theorem stack2_at (b : Fin 16) (t : Fin 2048) (w : Fin 384) : val_main_v34 (F := Ideal) x4 x5 x6 x7 (ix4 b t 2 w) = x7 (ix3 b t w) := by
  pointwise [val_main_v34, val_main_v31, val_main_v32, val_main_v33, val_main_v30]

/-- A branch's projection. -/
theorem bproj_at (b : Fin 16) (t : Fin 2048) (n : Fin 3) (d : Fin 1024) :
    val_main_v38 (F := Ideal) x4 x5 x6 x7 x8 (ix4 b t n d) = ∑ w : Fin 384, val_main_v34 (F := Ideal) x4 x5 x6 x7 (ix4 b t n w) * x8 (ix4 3 n w d) := by
  have e : val_main_v38 (F := Ideal) x4 x5 x6 x7 x8 (ix4 b t n d) = val_main_v37 (F := Ideal) x4 x5 x6 x7 x8 (ix4 n d b t) := by
    unfold val_main_v38
    generalize val_main_v37 (F := Ideal) x4 x5 x6 x7 x8 = A
    pointwise []
  rw [e, val_main_v37_apply]
  refine Finset.sum_congr rfl fun k _ => (mul_comm _ _).trans (congrArg₂ (· * ·) (congrArg (val_main_v34 (F := Ideal) x4 x5 x6 x7) ?_) ((congrArg (val_main_v36 (F := Ideal) x8) ?_).trans (bw_at x8 n k d))) <;>
    (funext a; apply Fin.ext; fin_cases a <;> rfl)

/-- The gated branches added up. -/
theorem merged_at (b : Fin 16) (t : Fin 2048) (d : Fin 1024) :
    val_main_v53 (F := Ideal) x0 x1 x2 x3 x4 x5 x6 x7 x8 (ix3 b t d)
      = merged (normed (fun i => x0 (ix3 b t i)) (fun i => x2 (ix3 3 1 i)) (fun i => x1 (ix5 3 4 b 0 i)) (fun i => x1 (ix5 3 3 b 0 i)))
          (fun k n => x3 (ix3 3 k n)) (fun n w d => x8 (ix4 3 n w d)) (fun w => x4 (ix3 b t w) * x5 (ix3 b t w)) (fun w => x6 (ix3 b t w)) (fun w => x7 (ix3 b t w)) d := by
  have e : ∀ n : Fin 3, val_main_v52 (F := Ideal) x0 x1 x2 x3 x4 x5 x6 x7 x8 (ix4 b t n d)
      = branch (normed (fun i => x0 (ix3 b t i)) (fun i => x2 (ix3 3 1 i)) (fun i => x1 (ix5 3 4 b 0 i)) (fun i => x1 (ix5 3 3 b 0 i)))
          (fun k n => x3 (ix3 3 k n)) (fun n w d => x8 (ix4 3 n w d)) n (fun w => val_main_v34 (F := Ideal) x4 x5 x6 x7 (ix4 b t n w)) d := by
    intro n
    refine Eq.trans (b := val_main_v48 (F := Ideal) x0 x1 x2 x3 (ix4 b t n d) * val_main_v38 (F := Ideal) x4 x5 x6 x7 x8 (ix4 b t n d)) rfl ?_
    rw [sigma_at, logit_at, bproj_at]
    simp only [normed_at]
    rfl
  have i : ∀ n : Fin 3, idx_main_v53 (ix3 b t d) n = ix4 b t n d := fun n => by
    funext a; apply Fin.ext; fin_cases a <;> rfl
  rw [val_main_v53_apply, Fin.sum_univ_three, i, i, i, e, e, e]
  simp only [stack0_at, stack1_at, stack2_at]
  have z : val_main_cst_5 (F := Ideal) (Shape.Idx.first h_S_) = 0 := by
    unfold val_main_cst_5
    pointwise []
  rw [z, zero_add]
  rfl

/-- The row after the merge. -/
theorem mixed_at (b : Fin 16) (t : Fin 2048) (d : Fin 1024) :
    val_main_v59 (F := Ideal) x0 x1 x2 x3 x4 x5 x6 x7 x8 x9 (ix3 b t d)
      = mixed (fun i => x0 (ix3 b t i)) (fun i => x1 (ix5 3 5 b 0 i))
          (normed (fun i => x0 (ix3 b t i)) (fun i => x2 (ix3 3 1 i)) (fun i => x1 (ix5 3 4 b 0 i)) (fun i => x1 (ix5 3 3 b 0 i)))
          (fun k n => x3 (ix3 3 k n)) (fun n w d => x8 (ix4 3 n w d)) (fun w => x4 (ix3 b t w) * x5 (ix3 b t w)) (fun w => x6 (ix3 b t w)) (fun w => x7 (ix3 b t w))
          (fun e d => x9 (ix3 3 e d)) d := by
  have e1 := gate_at x1 b d
  have e2 : val_main_v56 (F := Ideal) x0 x1 x2 x3 x4 x5 x6 x7 x8 x9 (ix3 b t d)
      = ∑ e : Fin 1024, val_main_v53 (F := Ideal) x0 x1 x2 x3 x4 x5 x6 x7 x8 (ix3 b t e) * x9 (ix3 3 e d) := by
    rw [val_main_v56_apply]
    refine Finset.sum_congr rfl fun k _ => congrArg₂ (· * ·) (congrArg (val_main_v53 (F := Ideal) x0 x1 x2 x3 x4 x5 x6 x7 x8) ?_)
      ((congrArg (val_main_v55 (F := Ideal) x9) ?_).trans (wo_at x9 k d)) <;>
      (funext a; apply Fin.ext; fin_cases a <;> rfl)
  have e3 : val_main_v59 (F := Ideal) x0 x1 x2 x3 x4 x5 x6 x7 x8 x9 (ix3 b t d)
      = x0 (ix3 b t d) + val_main_v50 (F := Ideal) x1 (ix2 b d) * val_main_v56 (F := Ideal) x0 x1 x2 x3 x4 x5 x6 x7 x8 x9 (ix3 b t d) := by
    unfold val_main_v59 val_main_v58 val_main_v57 val_main_v51
    generalize val_main_v50 (F := Ideal) x1 = A
    generalize val_main_v56 (F := Ideal) x0 x1 x2 x3 x4 x5 x6 x7 x8 x9 = B
    pointwise []
  rw [e3, e1, e2]
  simp only [merged_at]
  rfl

/-- The second normed, modulated row, from the row after the merge. -/
theorem normed2_at (b : Fin 16) (t : Fin 2048) (k : Fin 1024) :
    val_main_v91 (F := Ideal) x0 x1 x2 x3 x4 x5 x6 x7 x8 x9 (ix3 b t k)
      = normed (fun i => val_main_v59 (F := Ideal) x0 x1 x2 x3 x4 x5 x6 x7 x8 x9 (ix3 b t i)) (fun i => x2 (ix3 3 2 i)) (fun i => x1 (ix5 3 7 b 0 i)) (fun i => x1 (ix5 3 6 b 0 i)) k := by
  have e1 := shift2_at x1 b k
  have e2 := scale2_at x1 b k
  have e3 := gain2_at x2 k
  unfold val_main_v91 val_main_v90 val_main_v89 val_main_v88 val_main_v87 val_main_v86 val_main_v84 val_main_v83 val_main_v82 val_main_v81 val_main_v80 val_main_v79 val_main_v78
    val_main_v77 val_main_v75 val_main_v73 val_main_v72 val_main_v71
  generalize val_main_v68 (F := Ideal) x1 = A at e1 ⊢
  generalize val_main_v70 (F := Ideal) x1 = B at e2 ⊢
  generalize val_main_v62 (F := Ideal) x2 = C at e3 ⊢
  generalize val_main_v59 (F := Ideal) x0 x1 x2 x3 x4 x5 x6 x7 x8 x9 = X
  pointwise [val_main_v85, val_main_cst_9, val_main_v76, val_main_cst_8, val_main_v74, val_main_cst_7, val_main_cst_6]
  rw [e1, e2, e3]
  rfl

/-- The product with the feed-forward's input weights. -/
theorem proj_at (b : Fin 16) (t : Fin 2048) (n : Fin 5632) :
    val_main_v97 (F := Ideal) x0 x1 x2 x3 x4 x5 x6 x7 x8 x9 x10 (ix3 b t n)
      = ∑ k : Fin 1024, val_main_v91 (F := Ideal) x0 x1 x2 x3 x4 x5 x6 x7 x8 x9 (ix3 b t k) * x10 (ix3 3 k n) := by
  rw [val_main_v97_apply]
  refine Finset.sum_congr rfl fun k _ => congrArg₂ (· * ·) (congrArg (val_main_v91 (F := Ideal) x0 x1 x2 x3 x4 x5 x6 x7 x8 x9) ?_)
    ((congrArg (val_main_v64 (F := Ideal) x10) ?_).trans (wi2_at x10 k n)) <;>
    (funext a; apply Fin.ext; fin_cases a <;> rfl)

/-- A hidden unit. -/
theorem hidden_at (b : Fin 16) (t : Fin 2048) (j : Fin 2816) :
    val_main_v101 (F := Ideal) x0 x1 x2 x3 x4 x5 x6 x7 x8 x9 x10 (ix3 b t j)
      = hidden (val_main_v97 (F := Ideal) x0 x1 x2 x3 x4 x5 x6 x7 x8 x9 x10 (ix3 b t (lo j))) (val_main_v97 (F := Ideal) x0 x1 x2 x3 x4 x5 x6 x7 x8 x9 x10 (ix3 b t (hi j))) := by
  unfold val_main_v101 val_main_v100 val_main_call0_v5 val_main_call0_v3 val_main_call0_v1 val_main_call0_v0 val_main_v99 val_main_v98
  generalize val_main_v97 (F := Ideal) x0 x1 x2 x3 x4 x5 x6 x7 x8 x9 x10 = A
  pointwise [val_main_call0_v4, val_main_call0_v2, val_main_call0_cst, val_main_call0_cst_0]
  rfl

/-- The row before the final norm. -/
theorem step_at (b : Fin 16) (t : Fin 2048) (d : Fin 1024) :
    val_main_v105 (F := Ideal) x0 x1 x2 x3 x4 x5 x6 x7 x8 x9 x10 x11 (ix3 b t d)
      = halfStep (fun i => mixed (fun i => x0 (ix3 b t i)) (fun i => x1 (ix5 3 5 b 0 i))
            (normed (fun i => x0 (ix3 b t i)) (fun i => x2 (ix3 3 1 i)) (fun i => x1 (ix5 3 4 b 0 i)) (fun i => x1 (ix5 3 3 b 0 i)))
            (fun k n => x3 (ix3 3 k n)) (fun n w d => x8 (ix4 3 n w d)) (fun w => x4 (ix3 b t w) * x5 (ix3 b t w)) (fun w => x6 (ix3 b t w)) (fun w => x7 (ix3 b t w))
            (fun e d => x9 (ix3 3 e d)) i)
          (fun i => x2 (ix3 3 2 i)) (fun i => x1 (ix5 3 7 b 0 i)) (fun i => x1 (ix5 3 6 b 0 i)) (fun i => x1 (ix5 3 8 b 0 i))
          (fun k n => x10 (ix3 3 k n)) (fun j e => x11 (ix3 3 j e)) d := by
  have e1 := gate2_at x1 b d
  have e2 : val_main_v102 (F := Ideal) x0 x1 x2 x3 x4 x5 x6 x7 x8 x9 x10 x11 (ix3 b t d)
      = ∑ j : Fin 2816, val_main_v101 (F := Ideal) x0 x1 x2 x3 x4 x5 x6 x7 x8 x9 x10 (ix3 b t j) * x11 (ix3 3 j d) := by
    rw [val_main_v102_apply]
    refine Finset.sum_congr rfl fun k _ => congrArg₂ (· * ·) (congrArg (val_main_v101 (F := Ideal) x0 x1 x2 x3 x4 x5 x6 x7 x8 x9 x10) ?_)
      ((congrArg (val_main_v66 (F := Ideal) x11) ?_).trans (wo2_at x11 k d)) <;>
      (funext a; apply Fin.ext; fin_cases a <;> rfl)
  have e3 : val_main_v105 (F := Ideal) x0 x1 x2 x3 x4 x5 x6 x7 x8 x9 x10 x11 (ix3 b t d)
      = val_main_v59 (F := Ideal) x0 x1 x2 x3 x4 x5 x6 x7 x8 x9 (ix3 b t d)
        + Ideal.ofBits .f32 0x3F000000#32 * val_main_v93 (F := Ideal) x1 (ix2 b d) * val_main_v102 (F := Ideal) x0 x1 x2 x3 x4 x5 x6 x7 x8 x9 x10 x11 (ix3 b t d) := by
    unfold val_main_v105 val_main_v104 val_main_v103 val_main_v96 val_main_v94
    generalize val_main_v93 (F := Ideal) x1 = A
    generalize val_main_v102 (F := Ideal) x0 x1 x2 x3 x4 x5 x6 x7 x8 x9 x10 x11 = B
    generalize val_main_v59 (F := Ideal) x0 x1 x2 x3 x4 x5 x6 x7 x8 x9 = X
    pointwise [val_main_v95, val_main_cst_10]
  rw [e3, e1, e2]
  simp only [hidden_at, proj_at, normed2_at, mixed_at]
  rfl

/-- The reference's result: the final norm of that row. -/
theorem result_at (x12 : FVec Ideal S1024 .f32) (b : Fin 16) (t : Fin 2048) (d : Fin 1024) :
    val_main_v118 (F := Ideal) x0 x1 x2 x3 x4 x5 x6 x7 x8 x9 x10 x11 x12 (ix3 b t d)
      = rms (fun i => val_main_v105 (F := Ideal) x0 x1 x2 x3 x4 x5 x6 x7 x8 x9 x10 x11 (ix3 b t i)) (fun i => x12 (ix1 i)) d := by
  unfold val_main_v118 val_main_v117 val_main_v116 val_main_v115 val_main_v114 val_main_v113 val_main_v112 val_main_v110 val_main_v108 val_main_v107 val_main_v106
  generalize val_main_v105 (F := Ideal) x0 x1 x2 x3 x4 x5 x6 x7 x8 x9 x10 x11 = X
  pointwise [val_main_v111, val_main_v109, val_main_cst_11, val_main_cst_12, val_main_cst_13]
  rfl

end Cert.Reference4Ideal.RefRead

end
-- ==== Proof.FinalResult.lean ====
/- The last layer's merge call's result array is the reference's: every grid point's block, from the program's arguments, and the array whole. -/
module

public import proofs.«01_k».proof.Proof.Gen.Kernel4Ideal.Frame
public import proofs.«01_k».proof.Proof.FinalOut
public import proofs.«01_k».proof.Proof.FinalRef
public import Idealize.ShloMosaic.Lib.Claim
public import Idealize.ShloMosaic.Lib.Pipeline.ValueKit

@[expose] public section

set_option maxRecDepth 16384

noncomputable section

namespace Cert.Kernel4Ideal.Result

open Cert.Kernel4Ideal Cert.Kernel4Ideal.Gen Cert.Ffn Cert.Merge Cert.Final Idealize.ShloMosaic Idealize.ShloMosaic.TcCoe Idealize.SL.Sem
open Idealize.ShloMosaic.Pipeline (Dat)

variable (m : (ℓ : Loc nD τ sig) → Buf (Elt Ideal) ℓ) (c : Dev nD)

/-- Which block of each array grid point `t` works on: batch `t / 4`, row tile `t % 4`; layer 3 of the parameters. -/
theorem coords : ∀ t : Fin cfg0.N, win0_0.index t = ![t.val / 4, t.val % 4, 0] ∧ win0_1.index t = ![3, 3, t.val / 4, 0, 0] ∧ win0_2.index t = ![3, 4, t.val / 4, 0, 0] ∧
    win0_3.index t = ![3, 5, t.val / 4, 0, 0] ∧ win0_4.index t = ![3, 6, t.val / 4, 0, 0] ∧ win0_5.index t = ![3, 7, t.val / 4, 0, 0] ∧ win0_6.index t = ![3, 8, t.val / 4, 0, 0] ∧
    win0_7.index t = ![3, 1, 0, 0] ∧ win0_8.index t = ![3, 2, 0, 0] ∧ win0_9.index t = ![3, 0, 0] ∧ win0_10.index t = ![t.val / 4, t.val % 4, 0] ∧
    win0_11.index t = ![t.val / 4, t.val % 4, 0] ∧ win0_12.index t = ![t.val / 4, t.val % 4, 0] ∧ win0_13.index t = ![t.val / 4, t.val % 4, 0] ∧ win0_14.index t = ![3, 0, 0, 0] ∧
    win0_15.index t = ![3, 0, 0] ∧ win0_16.index t = ![3, 0, 0] ∧ win0_17.index t = ![3, 0, 0] ∧ win0_18.index t = ![0, 0] ∧ win0_19.index t = ![t.val / 4, t.val % 4, 0] ∧ t.val < 64 :=
  (by decide +kernel : ∀ t : Fin grid0.N, _)

/-- The batch of a grid point. -/
def bat (t : Fin cfg0.N) : Fin 16 := ⟨t.val / 4, by have h : t.val < 64 := t.isLt; omega⟩

/-- The token that row `p` of a grid point's block is. -/
def tok (t : Fin cfg0.N) (p : Fin 512) : Fin 2048 := ⟨512 * (t.val % 4) + p.val, by omega⟩

/-- The arguments as arrays. -/
def a0 : FVec Ideal S16x2048x1024 .f32 := m ((c : Thread nD τ).loc main_arg0)
def a1 : FVec Ideal S4x9x16x1x1024 .f32 := m ((c : Thread nD τ).loc main_arg1)
def a2 : FVec Ideal S4x3x1024 .f32 := m ((c : Thread nD τ).loc main_arg2)
def a3 : FVec Ideal S4x1024x3072 .f32 := m ((c : Thread nD τ).loc main_arg3)
def a4 : FVec Ideal S16x2048x384 .f32 := m ((c : Thread nD τ).loc main_arg4)
def a5 : FVec Ideal S16x2048x384 .f32 := m ((c : Thread nD τ).loc main_arg5)
def a6 : FVec Ideal S16x2048x384 .f32 := m ((c : Thread nD τ).loc main_arg6)
def a7 : FVec Ideal S16x2048x384 .f32 := m ((c : Thread nD τ).loc main_arg7)
def a8 : FVec Ideal S4x3x384x1024 .f32 := m ((c : Thread nD τ).loc main_arg8)
def a9 : FVec Ideal S4x1024x1024 .f32 := m ((c : Thread nD τ).loc main_arg9)
def a10 : FVec Ideal S4x1024x5632 .f32 := m ((c : Thread nD τ).loc main_arg10)
def a11 : FVec Ideal S4x2816x1024 .f32 := m ((c : Thread nD τ).loc main_arg11)
def a12 : FVec Ideal S1024 .f32 := m ((c : Thread nD τ).loc main_arg12)

/-- The gains with a unit axis put in. -/
theorem gain_read : V m c main_v0 = shapeCast S4x3x1x1024 (a2 m c) shapeCasts_S4x3x1024_S4x3x1x1024 := by rfl

theorem gain_cast (x : FVec Ideal S4x3x1024 .f32) (i : Fin 4) (j : Fin 3) (k : Fin 1024) :
    shapeCast S4x3x1x1024 x shapeCasts_S4x3x1024_S4x3x1x1024 (ix4 i j 0 k) = x (ix3 i j k) := by
  pointwise []

/-- The weights and the two branches that are given to the call in bf16: casts, which change no value. -/
theorem cast_read1 : V m c main_v1 = truncf .bf16 (a3 m c) bitsLt_bf16_f32 := by rfl

theorem cast_read2 : V m c main_v2 = truncf .bf16 (a6 m c) bitsLt_bf16_f32 := by rfl

theorem cast_read3 : V m c main_v3 = truncf .bf16 (a7 m c) bitsLt_bf16_f32 := by rfl

theorem cast_read4 : V m c main_v4 = truncf .bf16 (a8 m c) bitsLt_bf16_f32 := by rfl

theorem cast_read5 : V m c main_v5 = truncf .bf16 (a9 m c) bitsLt_bf16_f32 := by rfl

theorem cast_read6 : V m c main_v6 = truncf .bf16 (a10 m c) bitsLt_bf16_f32 := by rfl

theorem cast_read7 : V m c main_v7 = truncf .bf16 (a11 m c) bitsLt_bf16_f32 := by rfl

/-- The final gain as a row. -/
theorem final_read : V m c main_v8 = shapeCast S1x1024 (a12 m c) shapeCasts_S1024_S1x1024 := by rfl

theorem final_cast (x : FVec Ideal S1024 .f32) (k : Fin 1024) : shapeCast S1x1024 x shapeCasts_S1024_S1x1024 (ix2 0 k) = x (ix1 k) := by
  pointwise []

/-- Each input block of a grid point, element by element. -/
theorem blk0 (t : Fin cfg0.N) (p : Fin 512) (k : Fin 1024) : iblk m c 0 t (ix3 0 p k) = a0 m c (ix3 (bat t) (tok t p) k) := by
  refine Eq.trans (b := V m c main_arg0 (ix3 (bat t) (tok t p) k)) ?_ (congrFun (V_main_arg0 m c) _)
  have := coords t
  unfold bat tok
  blk_ext [iblk, coords t]

theorem blk1 (t : Fin cfg0.N) (k : Fin 1024) : iblk m c 1 t (ix5 0 0 0 0 k) = a1 m c (ix5 3 3 (bat t) 0 k) := by
  refine Eq.trans (b := V m c main_arg1 (ix5 3 3 (bat t) 0 k)) ?_ (congrFun (V_main_arg1 m c) _)
  have := coords t
  unfold bat
  blk_ext [iblk, coords t]

theorem blk2 (t : Fin cfg0.N) (k : Fin 1024) : iblk m c 2 t (ix5 0 0 0 0 k) = a1 m c (ix5 3 4 (bat t) 0 k) := by
  refine Eq.trans (b := V m c main_arg1 (ix5 3 4 (bat t) 0 k)) ?_ (congrFun (V_main_arg1 m c) _)
  have := coords t
  unfold bat
  blk_ext [iblk, coords t]

theorem blk3 (t : Fin cfg0.N) (k : Fin 1024) : iblk m c 3 t (ix5 0 0 0 0 k) = a1 m c (ix5 3 5 (bat t) 0 k) := by
  refine Eq.trans (b := V m c main_arg1 (ix5 3 5 (bat t) 0 k)) ?_ (congrFun (V_main_arg1 m c) _)
  have := coords t
  unfold bat
  blk_ext [iblk, coords t]

theorem blk4 (t : Fin cfg0.N) (k : Fin 1024) : iblk m c 4 t (ix5 0 0 0 0 k) = a1 m c (ix5 3 6 (bat t) 0 k) := by
  refine Eq.trans (b := V m c main_arg1 (ix5 3 6 (bat t) 0 k)) ?_ (congrFun (V_main_arg1 m c) _)
  have := coords t
  unfold bat
  blk_ext [iblk, coords t]

theorem blk5 (t : Fin cfg0.N) (k : Fin 1024) : iblk m c 5 t (ix5 0 0 0 0 k) = a1 m c (ix5 3 7 (bat t) 0 k) := by
  refine Eq.trans (b := V m c main_arg1 (ix5 3 7 (bat t) 0 k)) ?_ (congrFun (V_main_arg1 m c) _)
  have := coords t
  unfold bat
  blk_ext [iblk, coords t]

theorem blk6 (t : Fin cfg0.N) (k : Fin 1024) : iblk m c 6 t (ix5 0 0 0 0 k) = a1 m c (ix5 3 8 (bat t) 0 k) := by
  refine Eq.trans (b := V m c main_arg1 (ix5 3 8 (bat t) 0 k)) ?_ (congrFun (V_main_arg1 m c) _)
  have := coords t
  unfold bat
  blk_ext [iblk, coords t]

theorem blk7 (t : Fin cfg0.N) (k : Fin 1024) : iblk m c 7 t (ix4 0 0 0 k) = a2 m c (ix3 3 1 k) := by
  refine Eq.trans (b := V m c main_v0 (ix4 3 1 0 k)) ?_ ((congrFun (gain_read m c) _).trans (gain_cast _ 3 1 k))
  have := coords t
  blk_ext [iblk, coords t]

theorem blk8 (t : Fin cfg0.N) (k : Fin 1024) : iblk m c 8 t (ix4 0 0 0 k) = a2 m c (ix3 3 2 k) := by
  refine Eq.trans (b := V m c main_v0 (ix4 3 2 0 k)) ?_ ((congrFun (gain_read m c) _).trans (gain_cast _ 3 2 k))
  have := coords t
  blk_ext [iblk, coords t]

theorem blk9 (t : Fin cfg0.N) (k : Fin 1024) (n : Fin 3072) : iblk m c 9 t (ix3 0 k n) = a3 m c (ix3 3 k n) := by
  refine Eq.trans (b := V m c main_v1 (ix3 3 k n)) ?_ (congrFun (cast_read1 m c) _)
  have := coords t
  blk_ext [iblk, coords t]

theorem blk10 (t : Fin cfg0.N) (p : Fin 512) (k : Fin 384) : iblk m c 10 t (ix3 0 p k) = a4 m c (ix3 (bat t) (tok t p) k) := by
  refine Eq.trans (b := V m c main_arg4 (ix3 (bat t) (tok t p) k)) ?_ (congrFun (V_main_arg4 m c) _)
  have := coords t
  unfold bat tok
  blk_ext [iblk, coords t]

theorem blk11 (t : Fin cfg0.N) (p : Fin 512) (k : Fin 384) : iblk m c 11 t (ix3 0 p k) = a5 m c (ix3 (bat t) (tok t p) k) := by
  refine Eq.trans (b := V m c main_arg5 (ix3 (bat t) (tok t p) k)) ?_ (congrFun (V_main_arg5 m c) _)
  have := coords t
  unfold bat tok
  blk_ext [iblk, coords t]

theorem blk12 (t : Fin cfg0.N) (p : Fin 512) (k : Fin 384) : iblk m c 12 t (ix3 0 p k) = a6 m c (ix3 (bat t) (tok t p) k) := by
  refine Eq.trans (b := V m c main_v2 (ix3 (bat t) (tok t p) k)) ?_ (congrFun (cast_read2 m c) _)
  have := coords t
  unfold bat tok
  blk_ext [iblk, coords t]

theorem blk13 (t : Fin cfg0.N) (p : Fin 512) (k : Fin 384) : iblk m c 13 t (ix3 0 p k) = a7 m c (ix3 (bat t) (tok t p) k) := by
  refine Eq.trans (b := V m c main_v3 (ix3 (bat t) (tok t p) k)) ?_ (congrFun (cast_read3 m c) _)
  have := coords t
  unfold bat tok
  blk_ext [iblk, coords t]

theorem blk14 (t : Fin cfg0.N) (n : Fin 3) (k : Fin 384) (d : Fin 1024) : iblk m c 14 t (ix4 0 n k d) = a8 m c (ix4 3 n k d) := by
  refine Eq.trans (b := V m c main_v4 (ix4 3 n k d)) ?_ (congrFun (cast_read4 m c) _)
  have := coords t
  blk_ext [iblk, coords t]

theorem blk15 (t : Fin cfg0.N) (e d : Fin 1024) : iblk m c 15 t (ix3 0 e d) = a9 m c (ix3 3 e d) := by
  refine Eq.trans (b := V m c main_v5 (ix3 3 e d)) ?_ (congrFun (cast_read5 m c) _)
  have := coords t
  blk_ext [iblk, coords t]

theorem blk16 (t : Fin cfg0.N) (k : Fin 1024) (n : Fin 5632) : iblk m c 16 t (ix3 0 k n) = a10 m c (ix3 3 k n) := by
  refine Eq.trans (b := V m c main_v6 (ix3 3 k n)) ?_ (congrFun (cast_read6 m c) _)
  have := coords t
  blk_ext [iblk, coords t]

theorem blk17 (t : Fin cfg0.N) (j : Fin 2816) (d : Fin 1024) : iblk m c 17 t (ix3 0 j d) = a11 m c (ix3 3 j d) := by
  refine Eq.trans (b := V m c main_v7 (ix3 3 j d)) ?_ (congrFun (cast_read7 m c) _)
  have := coords t
  blk_ext [iblk, coords t]

theorem blk18 (t : Fin cfg0.N) (k : Fin 1024) : iblk m c 18 t (ix2 0 k) = a12 m c (ix1 k) := by
  refine Eq.trans (b := V m c main_v8 (ix2 0 k)) ?_ ((congrFun (final_read m c) _).trans (final_cast _ k))
  have := coords t
  blk_ext [iblk, coords t]

/-- The reference's result of the same arguments. -/
def ref : FVec Ideal S16x2048x1024 .f32 := Cert.Reference4Ideal.Read.val_main_v118 (F := Ideal) (a0 m c) (a1 m c) (a2 m c) (a3 m c) (a4 m c) (a5 m c) (a6 m c) (a7 m c) (a8 m c) (a9 m c) (a10 m c) (a11 m c) (a12 m c)

/-- The row that the merge call leaves before the final norm is the reference's. -/
theorem step_eq (t : Fin cfg0.N) (p : Fin 512) (d : Fin 1024) :
    Cert.Kernel3Ideal.Gen.out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 p d)
      = Cert.Reference4Ideal.Read.val_main_v105 (F := Ideal) (a0 m c) (a1 m c) (a2 m c) (a3 m c) (a4 m c) (a5 m c) (a6 m c) (a7 m c) (a8 m c) (a9 m c) (a10 m c) (a11 m c) (ix3 (bat t) (tok t p) d) := by
  refine (Cert.Kernel3Ideal.Block.out_at _ _ _ _ _ _ _ _ _ _ _ _ _ _ _ _ _ _ p d).trans ?_
  unfold Cert.Kernel3Ideal.Block.row
  simp only [blk0, blk1, blk2, blk3, blk4, blk5, blk6, blk7, blk8, blk9, blk10, blk11, blk12, blk13, blk14, blk15, blk16, blk17]
  exact (Cert.Reference4Ideal.RefRead.step_at (a0 m c) (a1 m c) (a2 m c) (a3 m c) (a4 m c) (a5 m c) (a6 m c) (a7 m c) (a8 m c) (a9 m c) (a10 m c) (a11 m c) (bat t) (tok t p) d).symm

/-- What a grid point leaves in its output block. -/
theorem block_eq (t : Fin cfg0.N) (p : Fin 512) (d : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 0 p d) = ref m c (ix3 (bat t) (tok t p) d) := by
  refine (Cert.Kernel4Ideal.Block.out_at _ _ _ _ _ _ _ _ _ _ _ _ _ _ _ _ _ _ _ p d).trans ?_
  rw [funext (step_eq m c t p), funext (blk18 m c t)]
  exact (Cert.Reference4Ideal.RefRead.result_at (a0 m c) (a1 m c) (a2 m c) (a3 m c) (a4 m c) (a5 m c) (a6 m c) (a7 m c) (a8 m c) (a9 m c) (a10 m c) (a11 m c) (a12 m c) (bat t) (tok t p) d).symm

/-- The call's result array, whole. -/
theorem final : (dats m 0 c).arrAt 19 cfg0.N = ref m c := by
  refine Dat.arrAt_eq_of_covers (dats m 0 c) 19 (ref m c) (by decide +kernel) fun t _ y => ?_
  have hc := coords t
  blk_simp
  rw [after0_19]
  obtain ⟨p, hp⟩ : ∃ p : Fin 512, p.val = (y 1).val := ⟨⟨(y 1).val, (y 1).isLt⟩, rfl⟩
  obtain ⟨d, hd⟩ : ∃ d : Fin 1024, d.val = (y 2).val := ⟨⟨(y 2).val, (y 2).isLt⟩, rfl⟩
  have e := block_eq m c t p d
  unfold bat tok at e
  have e0 : (y 0).val < 1 := (y 0).isLt
  refine Eq.trans ?_ (e.trans ?_)
  · refine congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) (funext fun a => Fin.ext ?_)
    fin_cases a
    · exact Nat.lt_one_iff.mp e0
    · exact hp.symm
    · exact hd.symm
  · blk_ext [hc]

/-- The call's run: it ends with its result array and with its arguments as they were. -/
theorem run (ρ : Dev nD → PrngReg) : θ_run defs (onTc (τ := τ) (main (F := Ideal))) ⟨m, fun _ => 0, ρ⟩ fun r => ∀ c : Dev nD,
      r.2.mem ((c : Thread nD τ).loc main_v9) = ref m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 19).trans (final m c),
      ((h c).1 0).trans (((dats m 0 c).arrAt_in 0 rfl _).trans ((A_eq m c 0).trans (V_main_arg0 m c))),
      ((h c).1 6).trans (((dats m 0 c).arrAt_in 6 rfl _).trans ((A_eq m c 6).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 10).trans (((dats m 0 c).arrAt_in 10 rfl _).trans ((A_eq m c 10).trans (V_main_arg4 m c))),
      ((h c).1 11).trans (((dats m 0 c).arrAt_in 11 rfl _).trans ((A_eq m c 11).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.Kernel4Ideal.Result

end
-- ==== Proof.FinalClaims.lean ====
/- The claims about the last layer's merge call. -/
module

public import proofs.«01_k».proof.Defs
public import proofs.«01_k».proof.Proof.Gen.Kernel4.Frame
public import proofs.«01_k».proof.Proof.Gen.Reference4Ideal.Run
public import proofs.«01_k».proof.Proof.FinalResult
public import Idealize.ShloMosaic.Adequacy
public import Idealize.ShloMosaic.Init
public import Idealize.ShloMosaic.Lib.Quiescent

@[expose] public section

noncomputable section

namespace Cert.FinalClaims

open Idealize.ShloMosaic Idealize.SL.Sem

/-- The last layer's merge call over the extended reals terminates without a fault, keeps its arguments and ends with every semaphore counter at zero. -/
theorem frame_ideal : Cert.quiescent_Kernel4Ideal := fun m ρ _ => Cert.Kernel4Ideal.Gen.frame m ρ

/-- So does the call at machine floats. -/
theorem frame_kernel : Cert.quiescent_Kernel4 := fun m ρ _ => Cert.Kernel4.Gen.frame m ρ

/-- The reference terminates without a fault and keeps its arguments; it has no semaphores. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- From any equal arguments the last layer's merge call and its reference end with the same result. -/
theorem equal_results : Cert.algebraic_Kernel4Ideal_Reference4Ideal := by
  intro m g m' g' hpre hagree
  refine ⟨fun c => Cert.Kernel4Ideal.Result.ref m c, ?_, ?_⟩
  · exact Cert.Kernel4Ideal.Result.run m g
  · refine (θ_run Cert.Reference4Ideal.defs _ _).mono (fun r h c => ⟨?_, (h c).2⟩) (Cert.Reference4Ideal.Value.run m' g')
    obtain ⟨h0, h1, h2, h3, h4, h5, h6, h7, h8, h9, h10, h11, h12⟩ := hagree c
    refine ((h c).1.trans (Cert.Reference4Ideal.Read.val_main_v118_eq _)).trans ?_
    change Cert.Reference4Ideal.Read.val_main_v118 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) = _
    rw [h0, h1, h2, h3, h4, h5, h6, h7, h8, h9, h10, h11, h12]
    rfl

end Cert.FinalClaims

end
-- ==== Proof.Finite.lean ====
/- What the precondition says of the query and key arguments: every element is a real number. -/
module

public import proofs.«01_k».proof.Defs
public import proofs.«01_k».proof.Proof.Gen.Pre_finite_scores
public import Idealize.ShloMosaic.Lib.Pointwise
public import Idealize.ShloMosaic.Lib.ReduceAll

@[expose] public section

set_option maxRecDepth 16384

noncomputable section

namespace Cert.Finite

open Cert.Pre_finite_scores Idealize.ShloMosaic Idealize.SL.Sem

theorem pos_inf : Ideal.ofBits .f32 0x7F800000#32 = ⊤ := by simp [Ideal.ofBits, Ideal.ieee]

/-- An extended real whose absolute value is below +∞ is a real number. -/
theorem real_of_abs_lt {x : EReal} (h : Ideal.cmp .olt (max x (-x)) (Ideal.ofBits .f32 0x7F800000#32) = 1#1) : ∃ r : ℝ, x = r := by
  rw [pos_inf] at h
  induction x with
  | bot => simp [Ideal.cmp] at h
  | top => simp [Ideal.cmp] at h
  | coe r => exact ⟨r, rfl⟩

instance : Subsingleton S_.Idx := ⟨fun a b => funext fun i => i.elim0⟩

theorem and_split {a b : IVec S_ 1} {j : S_.Idx} (h : andi a b j = 1#1) : a j = 1#1 ∧ b j = 1#1 := by
  have h' : a j &&& b j = 1#1 := h
  revert h'
  generalize a j = u
  generalize b j = v
  revert u v
  decide

variable (x0 : FVec Ideal S16x2048x6x64 .f32) (x1 : FVec Ideal S16x2048x6x32 .f32) (x2 : FVec Ideal S16x2048x6x64 .f32)
  (x3 : FVec Ideal S16x2048x32 .f32) (x4 : FVec Ideal S16x2048x6x64 .f32)

/-- Under the precondition every element of both query parts and both key parts is a real number. -/
theorem reals (h : fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h (Shape.Idx.first Gen.h_S_)
  unfold fn fn_part1 at h0
  obtain ⟨h012, h3⟩ := and_split h0
  obtain ⟨h01, h2⟩ := and_split h012
  obtain ⟨h0, h1⟩ := and_split h01
  refine ⟨fun i => ?_, fun i => ?_, fun i => ?_, fun i => ?_⟩
  · exact real_of_abs_lt (Host.reduce_andi_all _ _ _ _ _ h0 i)
  · exact real_of_abs_lt (Host.reduce_andi_all _ _ _ _ _ h1 i)
  · exact real_of_abs_lt (Host.reduce_andi_all _ _ _ _ _ h2 i)
  · exact real_of_abs_lt (Host.reduce_andi_all _ _ _ _ _ h3 i)

end Cert.Finite

end
-- ==== Proof.Softmax.lean ====
/-  The arithmetic of an online softmax on the extended reals: a running maximum, a running total of
    base-two weights and a running weighted sum, rescaled whenever a block of keys raises the maximum, end
    at the same quotient as the plain softmax over all keys at once. -/
module

public import Idealize.ShloMosaic.PureOps.Ideal
public import Idealize.ShloMosaic.PureOps.Ideal.Laws

@[expose] public section

noncomputable section

namespace Cert.Softmax

open Idealize.ShloMosaic

variable {ι : Type*} [DecidableEq ι]

/-- A nonnegative factor below `⊤` goes inside a finite sum of extended reals. -/
theorem mul_sum_of_nonneg (c : EReal) (h0 : 0 ≤ c) (ht : c ≠ ⊤) (A : Finset ι) (f : ι → EReal) :
    c * ∑ k ∈ A, f k = ∑ k ∈ A, c * f k := by
  induction A using Finset.induction_on with
  | empty => simp
  | insert a A ha ih =>
    rw [Finset.sum_insert ha, Finset.sum_insert ha, EReal.left_distrib_of_nonneg_of_ne_top h0 ht, ih]

/-- A finite sum of reals, as an extended real. -/
theorem coe_sum (A : Finset ι) (f : ι → ℝ) : ((∑ k ∈ A, f k : ℝ) : EReal) = ∑ k ∈ A, (f k : EReal) := by
  induction A using Finset.induction_on with
  | empty => simp
  | insert a A ha ih => rw [Finset.sum_insert ha, Finset.sum_insert ha, EReal.coe_add, ih]

/-- A base-two weight is nonnegative. -/
theorem exp2_nonneg (x : EReal) : 0 ≤ Ideal.exp2 x := by
  induction x with
  | bot => simp
  | top => simp
  | coe r => simpa using Real.rpow_nonneg (by norm_num) r

/-- A base-two weight of something below `⊤` is below `⊤`. -/
theorem exp2_ne_top {x : EReal} (h : x ≠ ⊤) : Ideal.exp2 x ≠ ⊤ := by
  induction x with
  | bot => simp
  | top => exact absurd rfl h
  | coe r => exact EReal.coe_ne_top _

/-- Rescaling a weight taken at the maximum `a` to the larger maximum `b`. -/
theorem rescale {s a b : EReal} (ha : a ≠ ⊤) (hb : b ≠ ⊤) (hsa : s ≤ a) (hab : a ≤ b) :
    Ideal.exp2 (a - b) * Ideal.exp2 (s - a) = Ideal.exp2 (s - b) := by
  induction s with
  | bot => simp [EReal.bot_sub]
  | top => exact absurd (top_le_iff.mp hsa) ha
  | coe s =>
    induction a with
    | bot => exact absurd (le_bot_iff.mp hsa) (EReal.coe_ne_bot s)
    | top => exact absurd rfl ha
    | coe a =>
      induction b with
      | bot => exact absurd (le_bot_iff.mp hab) (EReal.coe_ne_bot a)
      | top => exact absurd rfl hb
      | coe b =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (s - a) = (2 : ℝ) ^ (s - b)
        rw [← Real.rpow_add (by norm_num)]
        congr 1
        ring

/-- `a - b` is below `⊤` when `a ≤ b < ⊤`. -/
theorem sub_ne_top {a b : EReal} (hb : b ≠ ⊤) (hab : a ≤ b) : a - b ≠ ⊤ := by
  induction a with
  | bot => simp [EReal.bot_sub]
  | top => exact absurd (top_le_iff.mp hab) hb
  | coe a =>
    induction b with
    | bot => exact absurd (le_bot_iff.mp hab) (EReal.coe_ne_bot a)
    | top => exact absurd rfl hb
    | coe b => rw [← EReal.coe_sub]; exact EReal.coe_ne_top _

/-- The running maximum and total after the keys of `A`, whose scores are `s`. -/
structure Stat (s : ι → EReal) (A : Finset ι) (m l : EReal) : Prop where
  max_eq : m = A.sup s
  tot_eq : l = ∑ k ∈ A, Ideal.exp2 (s k - m)

/-- The running weighted sum after the keys of `A`, whose scores are `s` and values `v`. -/
def Wsum (s v : ι → EReal) (A : Finset ι) (m a : EReal) : Prop :=
  a = ∑ k ∈ A, v k * Ideal.exp2 (s k - m)

/-- Before any key. -/
theorem Stat.empty (s : ι → EReal) : Stat s ∅ ⊥ 0 := ⟨by simp, by simp⟩

/-- Before any key. -/
theorem Wsum.empty (s v : ι → EReal) (m : EReal) : Wsum s v ∅ m 0 := by simp [Wsum]

theorem sup_ne_top {s : ι → EReal} (hs : ∀ k, s k ≠ ⊤) (A : Finset ι) : A.sup s ≠ ⊤ := by
  refine ne_of_lt ((Finset.sup_lt_iff (by simp)).mpr fun k _ => lt_top_iff_ne_top.mpr (hs k))

/-- One block of keys `B`: the maximum and the total. -/
theorem Stat.step {s : ι → EReal} (hs : ∀ k, s k ≠ ⊤) {A B : Finset ι} (hd : Disjoint A B) {m l m' : EReal}
    (h : Stat s A m l) (hm : m' = max m (B.sup s)) :
    Stat s (A ∪ B) m' (Ideal.exp2 (m - m') * l + ∑ k ∈ B, Ideal.exp2 (s k - m')) := by
  have hm' : m' = (A ∪ B).sup s := by rw [hm, h.max_eq, Finset.sup_union]
  have hmt : m ≠ ⊤ := h.max_eq ▸ sup_ne_top hs A
  have hmt' : m' ≠ ⊤ := hm' ▸ sup_ne_top hs _
  have hle : m ≤ m' := hm ▸ le_max_left _ _
  refine ⟨hm', ?_⟩
  rw [Finset.sum_union hd, h.tot_eq, mul_sum_of_nonneg _ (exp2_nonneg _) (exp2_ne_top (sub_ne_top hmt' hle))]
  congr 1
  exact Finset.sum_congr rfl fun k hk => rescale hmt hmt' (h.max_eq ▸ Finset.le_sup hk) hle

/-- One block of keys `B`: the weighted sum. -/
theorem Wsum.step {s v : ι → EReal} (hs : ∀ k, s k ≠ ⊤) {A B : Finset ι} (hd : Disjoint A B) {m l m' a : EReal}
    (h : Stat s A m l) (ha : Wsum s v A m a) (hm : m' = max m (B.sup s)) :
    Wsum s v (A ∪ B) m' (Ideal.exp2 (m - m') * a + ∑ k ∈ B, v k * Ideal.exp2 (s k - m')) := by
  have hm' : m' = (A ∪ B).sup s := by rw [hm, h.max_eq, Finset.sup_union]
  have hmt : m ≠ ⊤ := h.max_eq ▸ sup_ne_top hs A
  have hmt' : m' ≠ ⊤ := hm' ▸ sup_ne_top hs _
  have hle : m ≤ m' := hm ▸ le_max_left _ _
  unfold Wsum at ha ⊢
  rw [Finset.sum_union hd, ha, mul_sum_of_nonneg _ (exp2_nonneg _) (exp2_ne_top (sub_ne_top hmt' hle))]
  congr 1
  refine Finset.sum_congr rfl fun k hk => ?_
  rw [← rescale hmt hmt' (h.max_eq ▸ Finset.le_sup hk : s k ≤ m) hle, mul_left_comm]

/-- The end: the quotient of the weighted sum by the total is the softmax-weighted sum of the values over
    every key, `x` being the scores in natural units, `⊥` at the keys outside `A`. -/
theorem quotient [Fintype ι] {s x v : ι → EReal} {A : Finset ι} {m l a : EReal}
    (h : Stat s A m l) (ha : Wsum s v A m a)
    (hx : ∀ k ∈ A, (s k = ⊥ ∧ x k = ⊥) ∨ ∃ r : ℝ, s k = r ∧ x k = ((r * Real.log 2 : ℝ) : EReal))
    (hout : ∀ k, k ∉ A → x k = ⊥) (hne : ∃ k ∈ A, s k ≠ ⊥) :
    Ideal.div a l = ∑ k, v k * Ideal.div (Ideal.exp (x k - Finset.univ.sup x))
      (∑ j, Ideal.exp (x j - Finset.univ.sup x)) := by
  obtain ⟨k1, hk1, hk1b⟩ := hne
  obtain ⟨k0, hk0, hk0e⟩ := Finset.exists_mem_eq_sup A ⟨k1, hk1⟩ s
  have hlog : 0 < Real.log 2 := Real.log_pos (by norm_num)
  have hm0 : m = s k0 := h.max_eq.trans hk0e
  obtain ⟨M, hM, hXM⟩ : ∃ M : ℝ, s k0 = M ∧ x k0 = ((M * Real.log 2 : ℝ) : EReal) := by
    rcases hx k0 hk0 with ⟨hb, _⟩ | h'
    · exact absurd (le_bot_iff.mp (hb ▸ hk0e ▸ Finset.le_sup hk1)) hk1b
    · exact h'
  have hX : Finset.univ.sup x = ((M * Real.log 2 : ℝ) : EReal) := by
    refine le_antisymm (Finset.sup_le fun k _ => ?_) (hXM ▸ Finset.le_sup (Finset.mem_univ k0))
    by_cases hk : k ∈ A
    · rcases hx k hk with ⟨_, hb⟩ | ⟨r, hr, hxr⟩
      · rw [hb]; exact bot_le
      · rw [hxr, EReal.coe_le_coe_iff]
        have : (r : EReal) ≤ (M : EReal) := by rw [← hr, ← hM, ← hk0e]; exact Finset.le_sup hk
        exact mul_le_mul_of_nonneg_right (EReal.coe_le_coe_iff.mp this) hlog.le
    · rw [hout k hk]; exact bot_le
  have hmM : m = (M : EReal) := hm0.trans hM
  -- the weights agree
  have hw : ∀ k ∈ A, Ideal.exp (x k - Finset.univ.sup x) = Ideal.exp2 (s k - m) := by
    intro k hk
    rw [hX, hmM]
    rcases hx k hk with ⟨hb, hb'⟩ | ⟨r, hr, hxr⟩
    · rw [hb, hb', EReal.bot_sub, EReal.bot_sub]; rfl
    · rw [hr, hxr, ← EReal.coe_sub, ← EReal.coe_sub, Ideal.exp2_coe]
      show ((Real.exp _ : ℝ) : EReal) = (((2 : ℝ) ^ (r - M) : ℝ) : EReal)
      rw [Real.rpow_def_of_pos (by norm_num)]
      congr 2; ring
  have hw0 : ∀ k, k ∉ A → Ideal.exp (x k - Finset.univ.sup x) = 0 := by
    intro k hk; rw [hout k hk, EReal.bot_sub]; rfl
  have htot : ∑ j, Ideal.exp (x j - Finset.univ.sup x) = l := by
    rw [h.tot_eq, ← Finset.sum_subset (Finset.subset_univ A) fun k _ hk => hw0 k hk]
    exact Finset.sum_congr rfl hw
  -- the total is a positive real
  have hreal : ∀ k ∈ A, ∃ r : ℝ, 0 ≤ r ∧ Ideal.exp2 (s k - m) = (r : EReal) := by
    intro k hk
    rw [hmM]
    rcases hx k hk with ⟨hb, _⟩ | ⟨r, hr, _⟩
    · exact ⟨0, le_rfl, by rw [hb, EReal.bot_sub]; rfl⟩
    · exact ⟨(2 : ℝ) ^ (r - M), Real.rpow_nonneg (by norm_num) _, by rw [hr, ← EReal.coe_sub]; rfl⟩
  choose! w hwn hwr using hreal
  have hlr : l = ((∑ k ∈ A, w k : ℝ) : EReal) := by
    rw [h.tot_eq, coe_sum]; exact Finset.sum_congr rfl hwr
  have hpos : 0 < ∑ k ∈ A, w k := by
    refine Finset.sum_pos' hwn ⟨k0, hk0, ?_⟩
    have h1 := hwr k0 hk0
    rw [hm0, hM, ← EReal.coe_sub, sub_self, Ideal.exp2_coe] at h1
    have h2 : ((2 : ℝ) ^ (0 : ℝ)) = w k0 := EReal.coe_eq_coe_iff.mp h1
    rw [← h2]; norm_num
  have hl0 : l ≠ 0 := by rw [hlr]; exact_mod_cast hpos.ne'
  rw [htot]
  have hinv : l⁻¹ = ((∑ k ∈ A, w k)⁻¹ : ℝ) := by rw [hlr, EReal.coe_inv]
  simp only [Ideal.div, if_neg hl0]
  rw [← Finset.sum_subset (Finset.subset_univ A) fun k _ hk => by rw [hw0 k hk, zero_mul, mul_zero]]
  have hc0 : (0 : EReal) ≤ l⁻¹ := by rw [hinv]; exact_mod_cast (inv_pos.mpr hpos).le
  have hct : l⁻¹ ≠ ⊤ := by rw [hinv]; exact EReal.coe_ne_top _
  unfold Wsum at ha
  rw [ha, mul_comm, mul_sum_of_nonneg _ hc0 hct]
  refine Finset.sum_congr rfl fun k hk => ?_
  rw [hw k hk, mul_comm, mul_assoc]

end Cert.Softmax
-- ==== Proof.Step.lean ====
/- One head's update of the running softmax over one strip of keys, as the kernel writes it: the scores of a strip (512 or 256 keys
   against the tile's 256 queries), their running maximum, the weights, the rescaling factor, the running total and the running weighted
   sum of the values — each a definition over the vectors it reads —, and each read at an index. -/
module

public import proofs.«01_k».proof.Proof.Gen.KernelIdeal.Skeleton
public import proofs.«01_k».proof.Proof.Softmax
public import Idealize.ShloMosaic.Lib.Pipeline.ValueKit

@[expose] public section

set_option maxRecDepth 16384

noncomputable section

namespace Cert.KernelIdeal.Step

open Cert.KernelIdeal Cert.KernelIdeal.Gen Idealize.ShloMosaic Idealize.SL.Sem

/-- A running maximum from the bottom is the supremum. -/
theorem fold_max_eq_sup {n : ℕ} (f : Fin n → EReal) : Finset.univ.fold max ⊥ f = Finset.univ.sup f := rfl

/-! ## Strips of 256 keys -/

/-- The scores of a strip of 256 keys against a tile of queries. -/
def score1 (kb : FVec Ideal S1x1x256x128 .bf16) (qb : FVec Ideal S1x128x256 .bf16) : FVec Ideal S256x256 .f32 :=
  matmul dot_S256x128_S128x256_S256x256_1_0_0_1_n_n none (shapeCast S256x128 kb shapeCasts_S1x1x256x128_S256x128) (shapeCast S128x256 qb shapeCasts_S1x128x256_S128x256) (constant S256x256 .f32 0x00000000#32)

/-- The new running maximum. -/
def top1 (s : FVec Ideal S256x256 .f32) (mo : FVec Ideal S1x1x256 .f32) : FVec Ideal S1x256 .f32 :=
  maximumf (shapeCast S1x256 mo shapeCasts_S1x1x256_S1x256) (shapeCast S1x256 (multiReduction .maximumf [0] S256 s 0xFF800000#32 reduces_S256x256_S256 (.inl rfl) rfl) shapeCasts_S256_S1x256)

/-- The strip's weights. -/
def wts1 (s : FVec Ideal S256x256 .f32) (mo : FVec Ideal S1x1x256 .f32) : FVec Ideal S256x256 .f32 :=
  exp2 (subf s (broadcastTo S256x256 (top1 s mo) broadcasts_S1x256_S256x256))

/-- The factor by which what was accumulated before is rescaled. -/
def fac1 (s : FVec Ideal S256x256 .f32) (mo : FVec Ideal S1x1x256 .f32) : FVec Ideal S1x256 .f32 :=
  exp2 (subf (shapeCast S1x256 mo shapeCasts_S1x1x256_S1x256) (top1 s mo))

/-- The new running maximum as it is stored. -/
def newM1 (s : FVec Ideal S256x256 .f32) (mo : FVec Ideal S1x1x256 .f32) : FVec Ideal S1x1x256 .f32 :=
  shapeCast S1x1x256 (top1 s mo) shapeCasts_S1x256_S1x1x256

/-- The new running total as it is stored. -/
def newL1 (s : FVec Ideal S256x256 .f32) (mo lo : FVec Ideal S1x1x256 .f32) : FVec Ideal S1x1x256 .f32 :=
  shapeCast S1x1x256 (addf (mulf (fac1 s mo) (shapeCast S1x256 lo shapeCasts_S1x1x256_S1x256)) (shapeCast S1x256 (multiReduction .add [0] S256 (wts1 s mo) 0x00000000#32 reduces_S256x256_S256 (.inl rfl) rfl) shapeCasts_S256_S1x256)) shapeCasts_S1x256_S1x1x256

/-- The new weighted sum of one head's 64 value rows as it is stored. -/
def newA1 (vs : FVec Ideal S64x256 .bf16) (s : FVec Ideal S256x256 .f32) (mo : FVec Ideal S1x1x256 .f32) (ao : FVec Ideal S64x256 .f32) : FVec Ideal S64x256 .f32 :=
  shapeCast S64x256 (addf (mulf (broadcastTo S64x256 (fac1 s mo) broadcasts_S1x256_S64x256) ao) (matmul dot_S64x256_S256x256_S64x256_1_0_0_1_n_n none vs (truncf .bf16 (wts1 s mo) bitsLt_bf16_f32) (constant S64x256 .f32 0x00000000#32))) shapeCasts_S64x256_S64x256

theorem score1_at (kb : FVec Ideal S1x1x256x128 .bf16) (qb : FVec Ideal S1x128x256 .bf16) (a : Fin 256) (b : Fin 256) :
    score1 kb qb (ix2 a b) = ∑ d : Fin 128, kb (ix4 0 0 a d) * qb (ix3 0 d b) := by
  pointwise [score1]

theorem top1_at (s : FVec Ideal S256x256 .f32) (mo : FVec Ideal S1x1x256 .f32) (z : Fin 1) (b : Fin 256) :
    top1 s mo (ix2 z b) = max (mo (ix3 0 0 b)) (Finset.univ.sup fun a : Fin 256 => s (ix2 a b)) := by
  pointwise [top1]
  rfl

theorem newM1_at (s : FVec Ideal S256x256 .f32) (mo : FVec Ideal S1x1x256 .f32) (b : Fin 256) :
    newM1 s mo (ix3 0 0 b) = max (mo (ix3 0 0 b)) (Finset.univ.sup fun a : Fin 256 => s (ix2 a b)) := by
  pointwise [newM1, top1_at]

theorem newL1_at (s : FVec Ideal S256x256 .f32) (mo lo : FVec Ideal S1x1x256 .f32) (b : Fin 256) :
    newL1 s mo lo (ix3 0 0 b) = Ideal.exp2 (mo (ix3 0 0 b) - newM1 s mo (ix3 0 0 b)) * lo (ix3 0 0 b) + ∑ a : Fin 256, Ideal.exp2 (s (ix2 a b) - newM1 s mo (ix3 0 0 b)) := by
  rw [newM1_at]
  pointwise [newL1, fac1, wts1, top1_at]
  rfl

theorem newA1_at (vs : FVec Ideal S64x256 .bf16) (s : FVec Ideal S256x256 .f32) (mo : FVec Ideal S1x1x256 .f32) (ao : FVec Ideal S64x256 .f32) (r : Fin 64) (b : Fin 256) :
    newA1 vs s mo ao (ix2 r b) = Ideal.exp2 (mo (ix3 0 0 b) - newM1 s mo (ix3 0 0 b)) * ao (ix2 r b) + ∑ a : Fin 256, vs (ix2 r a) * Ideal.exp2 (s (ix2 a b) - newM1 s mo (ix3 0 0 b)) := by
  rw [newM1_at]
  pointwise [newA1, fac1, wts1, top1_at]
  rfl

/-! ## Strips of 512 keys -/

/-- The scores of a strip of 512 keys against a tile of queries. -/
def score2 (kb : FVec Ideal S1x1x512x128 .bf16) (qb : FVec Ideal S1x128x256 .bf16) : FVec Ideal S512x256 .f32 :=
  matmul dot_S512x128_S128x256_S512x256_1_0_0_1_n_n none (shapeCast S512x128 kb shapeCasts_S1x1x512x128_S512x128) (shapeCast S128x256 qb shapeCasts_S1x128x256_S128x256) (constant S512x256 .f32 0x00000000#32)

/-- The new running maximum. -/
def top2 (s : FVec Ideal S512x256 .f32) (mo : FVec Ideal S1x1x256 .f32) : FVec Ideal S1x256 .f32 :=
  maximumf (shapeCast S1x256 mo shapeCasts_S1x1x256_S1x256) (shapeCast S1x256 (multiReduction .maximumf [0] S256 s 0xFF800000#32 reduces_S512x256_S256 (.inl rfl) rfl) shapeCasts_S256_S1x256)

/-- The strip's weights. -/
def wts2 (s : FVec Ideal S512x256 .f32) (mo : FVec Ideal S1x1x256 .f32) : FVec Ideal S512x256 .f32 :=
  exp2 (subf s (broadcastTo S512x256 (top2 s mo) broadcasts_S1x256_S512x256))

/-- The factor by which what was accumulated before is rescaled. -/
def fac2 (s : FVec Ideal S512x256 .f32) (mo : FVec Ideal S1x1x256 .f32) : FVec Ideal S1x256 .f32 :=
  exp2 (subf (shapeCast S1x256 mo shapeCasts_S1x1x256_S1x256) (top2 s mo))

/-- The new running maximum as it is stored. -/
def newM2 (s : FVec Ideal S512x256 .f32) (mo : FVec Ideal S1x1x256 .f32) : FVec Ideal S1x1x256 .f32 :=
  shapeCast S1x1x256 (top2 s mo) shapeCasts_S1x256_S1x1x256

/-- The new running total as it is stored. -/
def newL2 (s : FVec Ideal S512x256 .f32) (mo lo : FVec Ideal S1x1x256 .f32) : FVec Ideal S1x1x256 .f32 :=
  shapeCast S1x1x256 (addf (mulf (fac2 s mo) (shapeCast S1x256 lo shapeCasts_S1x1x256_S1x256)) (shapeCast S1x256 (multiReduction .add [0] S256 (wts2 s mo) 0x00000000#32 reduces_S512x256_S256 (.inl rfl) rfl) shapeCasts_S256_S1x256)) shapeCasts_S1x256_S1x1x256

/-- The new weighted sum of one head's 64 value rows as it is stored. -/
def newA2 (vs : FVec Ideal S64x512 .bf16) (s : FVec Ideal S512x256 .f32) (mo : FVec Ideal S1x1x256 .f32) (ao : FVec Ideal S64x256 .f32) : FVec Ideal S64x256 .f32 :=
  shapeCast S64x256 (addf (mulf (broadcastTo S64x256 (fac2 s mo) broadcasts_S1x256_S64x256) ao) (matmul dot_S64x512_S512x256_S64x256_1_0_0_1_n_n none vs (truncf .bf16 (wts2 s mo) bitsLt_bf16_f32) (constant S64x256 .f32 0x00000000#32))) shapeCasts_S64x256_S64x256

theorem score2_at (kb : FVec Ideal S1x1x512x128 .bf16) (qb : FVec Ideal S1x128x256 .bf16) (a : Fin 512) (b : Fin 256) :
    score2 kb qb (ix2 a b) = ∑ d : Fin 128, kb (ix4 0 0 a d) * qb (ix3 0 d b) := by
  pointwise [score2]

theorem top2_at (s : FVec Ideal S512x256 .f32) (mo : FVec Ideal S1x1x256 .f32) (z : Fin 1) (b : Fin 256) :
    top2 s mo (ix2 z b) = max (mo (ix3 0 0 b)) (Finset.univ.sup fun a : Fin 512 => s (ix2 a b)) := by
  pointwise [top2]
  rfl

theorem newM2_at (s : FVec Ideal S512x256 .f32) (mo : FVec Ideal S1x1x256 .f32) (b : Fin 256) :
    newM2 s mo (ix3 0 0 b) = max (mo (ix3 0 0 b)) (Finset.univ.sup fun a : Fin 512 => s (ix2 a b)) := by
  pointwise [newM2, top2_at]

theorem newL2_at (s : FVec Ideal S512x256 .f32) (mo lo : FVec Ideal S1x1x256 .f32) (b : Fin 256) :
    newL2 s mo lo (ix3 0 0 b) = Ideal.exp2 (mo (ix3 0 0 b) - newM2 s mo (ix3 0 0 b)) * lo (ix3 0 0 b) + ∑ a : Fin 512, Ideal.exp2 (s (ix2 a b) - newM2 s mo (ix3 0 0 b)) := by
  rw [newM2_at]
  pointwise [newL2, fac2, wts2, top2_at]
  rfl

theorem newA2_at (vs : FVec Ideal S64x512 .bf16) (s : FVec Ideal S512x256 .f32) (mo : FVec Ideal S1x1x256 .f32) (ao : FVec Ideal S64x256 .f32) (r : Fin 64) (b : Fin 256) :
    newA2 vs s mo ao (ix2 r b) = Ideal.exp2 (mo (ix3 0 0 b) - newM2 s mo (ix3 0 0 b)) * ao (ix2 r b) + ∑ a : Fin 512, vs (ix2 r a) * Ideal.exp2 (s (ix2 a b) - newM2 s mo (ix3 0 0 b)) := by
  rw [newM2_at]
  pointwise [newA2, fac2, wts2, top2_at]
  rfl

end Cert.KernelIdeal.Step

end
-- ==== Proof.State.lean ====
/- What the kernel's scratch holds between strips: for every head and query the running maximum and total of the keys seen (`Softmax.Stat`),
   for every head's value row the running weighted sum (`Softmax.Wsum`) — `Held` —, and how one strip's update moves it on. -/
module

public import proofs.«01_k».proof.Proof.Step
public import Idealize.ShloMosaic.Lib.WritesUnit

@[expose] public section

set_option maxRecDepth 16384

noncomputable section

namespace Cert.KernelIdeal.State

open Cert.KernelIdeal Cert.KernelIdeal.Gen Cert.KernelIdeal.Step Cert.Softmax Idealize.ShloMosaic Idealize.SL.Sem

/-- The `n` keys from `st` on. -/
def keys (st n : ℕ) : Finset (Fin 2048) := Finset.univ.filter fun k => st ≤ k.val ∧ k.val < st + n

/-- Value row `r` of head `hd`. -/
def row (hd : Fin 6) (r : Fin 64) : Fin 384 := ⟨64 * hd.val + r.val, by omega⟩

theorem mem_keys {st n : ℕ} {k : Fin 2048} : k ∈ keys st n ↔ st ≤ k.val ∧ k.val < st + n := by
  simp only [keys, Finset.mem_filter, Finset.mem_univ, true_and]

theorem keys_zero (st : ℕ) : keys st 0 = ∅ := by
  ext k
  simp only [mem_keys, Finset.notMem_empty, iff_false]
  omega

theorem keys_add (st a b : ℕ) : keys st (a + b) = keys st a ∪ keys (st + a) b := by
  ext k
  simp only [mem_keys, Finset.mem_union]
  omega

theorem keys_subset {st n st' n' : ℕ} (h : st' ≤ st) (h' : st + n ≤ st' + n') : keys st n ⊆ keys st' n' := by
  intro k
  simp only [mem_keys]
  omega

theorem keys_disjoint {st n st' n' : ℕ} (h : st + n ≤ st' ∨ st' + n' ≤ st) : Disjoint (keys st n) (keys st' n') := by
  refine Finset.disjoint_left.2 fun k => ?_
  simp only [mem_keys]
  omega

theorem keys_eq_map (st n : ℕ) (h : st + n ≤ 2048) :
    keys st n = Finset.univ.map ⟨fun a : Fin n => (⟨st + a.val, by omega⟩ : Fin 2048), fun a b hab => Fin.ext (by have := congrArg Fin.val hab; dsimp only at this; omega)⟩ := by
  ext k
  simp only [keys, Finset.mem_filter, Finset.mem_univ, true_and, Finset.mem_map, Function.Embedding.coeFn_mk]
  constructor
  · intro hk
    exact ⟨⟨k.val - st, by omega⟩, Fin.ext (show st + (k.val - st) = k.val by omega)⟩
  · rintro ⟨a, rfl⟩
    have := a.isLt
    exact ⟨show st ≤ st + a.val by omega, show st + a.val < st + n by omega⟩

theorem sum_keys (st n : ℕ) (h : st + n ≤ 2048) (f : Fin 2048 → EReal) :
    ∑ k ∈ keys st n, f k = ∑ a : Fin n, f ⟨st + a.val, by omega⟩ := by
  rw [keys_eq_map st n h, Finset.sum_map]; rfl

theorem sup_keys (st n : ℕ) (h : st + n ≤ 2048) (f : Fin 2048 → EReal) :
    (keys st n).sup f = Finset.univ.sup fun a : Fin n => f ⟨st + a.val, by omega⟩ := by
  rw [keys_eq_map st n h, Finset.sup_map]; rfl

variable (s : Fin 6 → Fin 256 → Fin 2048 → EReal) (v : Fin 384 → Fin 2048 → EReal)

/-- The scratch holds the running softmax of the keys in `A`: maximum `M`, total `L`, weighted sums `acc`. -/
def Held (A : Finset (Fin 2048)) (acc : FVec Ideal S384x256 .f32) (M L : FVec Ideal S6x1x256 .f32) : Prop :=
  ∀ hd c, Stat (s hd c) A (M (ix3 hd 0 c)) (L (ix3 hd 0 c)) ∧ ∀ r : Fin 64, Wsum (s hd c) (v (row hd r)) A (M (ix3 hd 0 c)) (acc (ix2 (row hd r) c))

/-- Before the first strip. -/
theorem Held.empty (acc : FVec Ideal S384x256 .f32) (M L : FVec Ideal S6x1x256 .f32) (hM : ∀ hd c, M (ix3 hd 0 c) = ⊥)
    (hL : ∀ hd c, L (ix3 hd 0 c) = 0) (ha : ∀ r c, acc (ix2 r c) = 0) : Held s v ∅ acc M L := by
  intro hd c
  rw [hM, hL]
  exact ⟨Stat.empty _, fun r => by rw [ha]; exact Wsum.empty _ _ _⟩

theorem Held.step_gen {n : ℕ} {s v} (hs : ∀ hd c k, s hd c k ≠ ⊤) {A : Finset (Fin 2048)} {acc acc' : FVec Ideal S384x256 .f32} {M L M' L' : FVec Ideal S6x1x256 .f32}
    (h : Held s v A acc M L) (st : ℕ) (hst : st + n ≤ 2048) (hd : Disjoint A (keys st n))
    (S : Fin 6 → Fin n → Fin 256 → EReal) (V : Fin 6 → Fin 64 → Fin n → EReal)
    (hS : ∀ hd c a, S hd a c = s hd c ⟨st + a.val, by omega⟩) (hV : ∀ hd r a, V hd r a = v (row hd r) ⟨st + a.val, by omega⟩)
    (hM : ∀ hd c, M' (ix3 hd 0 c) = max (M (ix3 hd 0 c)) (Finset.univ.sup fun a => S hd a c))
    (hL : ∀ hd c, L' (ix3 hd 0 c) = Ideal.exp2 (M (ix3 hd 0 c) - M' (ix3 hd 0 c)) * L (ix3 hd 0 c) + ∑ a, Ideal.exp2 (S hd a c - M' (ix3 hd 0 c)))
    (ha : ∀ hd r c, acc' (ix2 (row hd r) c) = Ideal.exp2 (M (ix3 hd 0 c) - M' (ix3 hd 0 c)) * acc (ix2 (row hd r) c) + ∑ a, V hd r a * Ideal.exp2 (S hd a c - M' (ix3 hd 0 c))) :
    Held s v (A ∪ keys st n) acc' M' L' := by
  intro i c
  have hm : M' (ix3 i 0 c) = max (M (ix3 i 0 c)) ((keys st n).sup (s i c)) := by
    rw [hM, sup_keys st n hst]; simp only [hS]
  obtain ⟨h1, h2⟩ := h i c
  constructor
  · rw [hL]
    have := Stat.step (hs i c) hd h1 hm
    rw [sum_keys st n hst] at this
    simpa only [hS] using this
  · intro r
    rw [ha]
    have := Wsum.step (hs i c) hd h1 (h2 r) hm
    rw [sum_keys st n hst] at this
    simpa only [hS, hV] using this

/-- One strip of 256 keys. -/
theorem Held.step1 {s v} (hs : ∀ hd c k, s hd c k ≠ ⊤) {A : Finset (Fin 2048)} {acc acc' : FVec Ideal S384x256 .f32} {M L M' L' : FVec Ideal S6x1x256 .f32}
    (h : Held s v A acc M L) (st : ℕ) (hst : st + 256 ≤ 2048) (hd : Disjoint A (keys st 256))
    (S : Fin 6 → FVec Ideal S256x256 .f32) (V : Fin 6 → FVec Ideal S64x256 .bf16) (mo lo : Fin 6 → FVec Ideal S1x1x256 .f32) (ao : Fin 6 → FVec Ideal S64x256 .f32)
    (hS : ∀ hd c (a : Fin 256), S hd (ix2 a c) = s hd c ⟨st + a.val, by omega⟩) (hV : ∀ hd r (a : Fin 256), V hd (ix2 r a) = v (row hd r) ⟨st + a.val, by omega⟩)
    (hmo : ∀ hd c, mo hd (ix3 0 0 c) = M (ix3 hd 0 c)) (hlo : ∀ hd c, lo hd (ix3 0 0 c) = L (ix3 hd 0 c))
    (hao : ∀ hd r c, ao hd (ix2 r c) = acc (ix2 (row hd r) c))
    (hM : ∀ hd c, M' (ix3 hd 0 c) = newM1 (S hd) (mo hd) (ix3 0 0 c))
    (hL : ∀ hd c, L' (ix3 hd 0 c) = newL1 (S hd) (mo hd) (lo hd) (ix3 0 0 c))
    (ha : ∀ hd r c, acc' (ix2 (row hd r) c) = newA1 (V hd) (S hd) (mo hd) (ao hd) (ix2 r c)) :
    Held s v (A ∪ keys st 256) acc' M' L' := by
  refine h.step_gen hs st hst hd (fun i a c => S i (ix2 a c)) (fun i r a => V i (ix2 r a)) (fun i c a => hS i c a) (fun i r a => hV i r a) ?_ ?_ ?_
  · intro i c
    rw [hM, newM1_at, hmo]
  · intro i c
    rw [hL, newL1_at, ← hM, hmo, hlo]
  · intro i r c
    rw [ha, newA1_at, ← hM, hmo, hao]

/-- One strip of 512 keys. -/
theorem Held.step2 {s v} (hs : ∀ hd c k, s hd c k ≠ ⊤) {A : Finset (Fin 2048)} {acc acc' : FVec Ideal S384x256 .f32} {M L M' L' : FVec Ideal S6x1x256 .f32}
    (h : Held s v A acc M L) (st : ℕ) (hst : st + 512 ≤ 2048) (hd : Disjoint A (keys st 512))
    (S : Fin 6 → FVec Ideal S512x256 .f32) (V : Fin 6 → FVec Ideal S64x512 .bf16) (mo lo : Fin 6 → FVec Ideal S1x1x256 .f32) (ao : Fin 6 → FVec Ideal S64x256 .f32)
    (hS : ∀ hd c (a : Fin 512), S hd (ix2 a c) = s hd c ⟨st + a.val, by omega⟩) (hV : ∀ hd r (a : Fin 512), V hd (ix2 r a) = v (row hd r) ⟨st + a.val, by omega⟩)
    (hmo : ∀ hd c, mo hd (ix3 0 0 c) = M (ix3 hd 0 c)) (hlo : ∀ hd c, lo hd (ix3 0 0 c) = L (ix3 hd 0 c))
    (hao : ∀ hd r c, ao hd (ix2 r c) = acc (ix2 (row hd r) c))
    (hM : ∀ hd c, M' (ix3 hd 0 c) = newM2 (S hd) (mo hd) (ix3 0 0 c))
    (hL : ∀ hd c, L' (ix3 hd 0 c) = newL2 (S hd) (mo hd) (lo hd) (ix3 0 0 c))
    (ha : ∀ hd r c, acc' (ix2 (row hd r) c) = newA2 (V hd) (S hd) (mo hd) (ao hd) (ix2 r c)) :
    Held s v (A ∪ keys st 512) acc' M' L' := by
  refine h.step_gen hs st hst hd (fun i a c => S i (ix2 a c)) (fun i r a => V i (ix2 r a)) (fun i c a => hS i c a) (fun i r a => hV i r a) ?_ ?_ ?_
  · intro i c
    rw [hM, newM2_at, hmo]
  · intro i c
    rw [hL, newL2_at, ← hM, hmo, hlo]
  · intro i r c
    rw [ha, newA2_at, ← hM, hmo, hao]

/-- Six stores, one per head, read at head `hd`: that head's store. -/
theorem read_rows3 {Val : EltTy → Type} {sig : RefSig} {κ : Kind} {sp : Space} (w : View sig κ sp S6x1x256 .f32) (f : w.ty.Contents Val)
    (inb0 : ∀ a, ![0, 0, 0] a + S1x1x256.size a ≤ S6x1x256.size a) (inb1 : ∀ a, ![1, 0, 0] a + S1x1x256.size a ≤ S6x1x256.size a) (inb2 : ∀ a, ![2, 0, 0] a + S1x1x256.size a ≤ S6x1x256.size a) (inb3 : ∀ a, ![3, 0, 0] a + S1x1x256.size a ≤ S6x1x256.size a) (inb4 : ∀ a, ![4, 0, 0] a + S1x1x256.size a ≤ S6x1x256.size a) (inb5 : ∀ a, ![5, 0, 0] a + S1x1x256.size a ≤ S6x1x256.size a)
    (P0 P1 P2 P3 P4 P5 : S1x1x256.Idx → Val .f32) (rest : List (View.Piece Val S6x1x256 .f32)) (hd : Fin 6) (c : Fin 256) :
    w.read Val (w.writes Val f ((⟨Rect.unit ![5, 0, 0] S1x1x256.size inb5, P5⟩ : View.Piece Val S6x1x256 .f32) :: (⟨Rect.unit ![4, 0, 0] S1x1x256.size inb4, P4⟩ : View.Piece Val S6x1x256 .f32) :: (⟨Rect.unit ![3, 0, 0] S1x1x256.size inb3, P3⟩ : View.Piece Val S6x1x256 .f32) :: (⟨Rect.unit ![2, 0, 0] S1x1x256.size inb2, P2⟩ : View.Piece Val S6x1x256 .f32) :: (⟨Rect.unit ![1, 0, 0] S1x1x256.size inb1, P1⟩ : View.Piece Val S6x1x256 .f32) :: (⟨Rect.unit ![0, 0, 0] S1x1x256.size inb0, P0⟩ : View.Piece Val S6x1x256 .f32) :: rest)) (ix3 hd 0 c)
      = (![P0, P1, P2, P3, P4, P5] : Fin 6 → S1x1x256.Idx → Val .f32) hd (ix3 0 0 c) := by
  fin_cases hd
  · refine (View.read_writes_cons_unit_of_not_mem w f _ _ _ _ rfl (0 : Fin 3) (Or.inl (show 0 < 5 by omega))).trans ?_
    refine (View.read_writes_cons_unit_of_not_mem w f _ _ _ _ rfl (0 : Fin 3) (Or.inl (show 0 < 4 by omega))).trans ?_
    refine (View.read_writes_cons_unit_of_not_mem w f _ _ _ _ rfl (0 : Fin 3) (Or.inl (show 0 < 3 by omega))).trans ?_
    refine (View.read_writes_cons_unit_of_not_mem w f _ _ _ _ rfl (0 : Fin 3) (Or.inl (show 0 < 2 by omega))).trans ?_
    refine (View.read_writes_cons_unit_of_not_mem w f _ _ _ _ rfl (0 : Fin 3) (Or.inl (show 0 < 1 by omega))).trans ?_
    exact View.read_writes_cons_unit_of_mem w f _ _ _ _ (ix3 0 0 c) rfl (Fin.forall_fin_succ.2 ⟨rfl, Fin.forall_fin_two.2 ⟨rfl, (Nat.zero_add _).symm⟩⟩)
  · refine (View.read_writes_cons_unit_of_not_mem w f _ _ _ _ rfl (0 : Fin 3) (Or.inl (show 1 < 5 by omega))).trans ?_
    refine (View.read_writes_cons_unit_of_not_mem w f _ _ _ _ rfl (0 : Fin 3) (Or.inl (show 1 < 4 by omega))).trans ?_
    refine (View.read_writes_cons_unit_of_not_mem w f _ _ _ _ rfl (0 : Fin 3) (Or.inl (show 1 < 3 by omega))).trans ?_
    refine (View.read_writes_cons_unit_of_not_mem w f _ _ _ _ rfl (0 : Fin 3) (Or.inl (show 1 < 2 by omega))).trans ?_
    exact View.read_writes_cons_unit_of_mem w f _ _ _ _ (ix3 0 0 c) rfl (Fin.forall_fin_succ.2 ⟨rfl, Fin.forall_fin_two.2 ⟨rfl, (Nat.zero_add _).symm⟩⟩)
  · refine (View.read_writes_cons_unit_of_not_mem w f _ _ _ _ rfl (0 : Fin 3) (Or.inl (show 2 < 5 by omega))).trans ?_
    refine (View.read_writes_cons_unit_of_not_mem w f _ _ _ _ rfl (0 : Fin 3) (Or.inl (show 2 < 4 by omega))).trans ?_
    refine (View.read_writes_cons_unit_of_not_mem w f _ _ _ _ rfl (0 : Fin 3) (Or.inl (show 2 < 3 by omega))).trans ?_
    exact View.read_writes_cons_unit_of_mem w f _ _ _ _ (ix3 0 0 c) rfl (Fin.forall_fin_succ.2 ⟨rfl, Fin.forall_fin_two.2 ⟨rfl, (Nat.zero_add _).symm⟩⟩)
  · refine (View.read_writes_cons_unit_of_not_mem w f _ _ _ _ rfl (0 : Fin 3) (Or.inl (show 3 < 5 by omega))).trans ?_
    refine (View.read_writes_cons_unit_of_not_mem w f _ _ _ _ rfl (0 : Fin 3) (Or.inl (show 3 < 4 by omega))).trans ?_
    exact View.read_writes_cons_unit_of_mem w f _ _ _ _ (ix3 0 0 c) rfl (Fin.forall_fin_succ.2 ⟨rfl, Fin.forall_fin_two.2 ⟨rfl, (Nat.zero_add _).symm⟩⟩)
  · refine (View.read_writes_cons_unit_of_not_mem w f _ _ _ _ rfl (0 : Fin 3) (Or.inl (show 4 < 5 by omega))).trans ?_
    exact View.read_writes_cons_unit_of_mem w f _ _ _ _ (ix3 0 0 c) rfl (Fin.forall_fin_succ.2 ⟨rfl, Fin.forall_fin_two.2 ⟨rfl, (Nat.zero_add _).symm⟩⟩)
  · exact View.read_writes_cons_unit_of_mem w f _ _ _ _ (ix3 0 0 c) rfl (Fin.forall_fin_succ.2 ⟨rfl, Fin.forall_fin_two.2 ⟨rfl, (Nat.zero_add _).symm⟩⟩)

/-- Six stores, one per head, read at head `hd`: that head's store. -/
theorem read_rows2 {Val : EltTy → Type} {sig : RefSig} {κ : Kind} {sp : Space} (w : View sig κ sp S384x256 .f32) (f : w.ty.Contents Val)
    (inb0 : ∀ a, ![0, 0] a + S64x256.size a ≤ S384x256.size a) (inb1 : ∀ a, ![64, 0] a + S64x256.size a ≤ S384x256.size a) (inb2 : ∀ a, ![128, 0] a + S64x256.size a ≤ S384x256.size a) (inb3 : ∀ a, ![192, 0] a + S64x256.size a ≤ S384x256.size a) (inb4 : ∀ a, ![256, 0] a + S64x256.size a ≤ S384x256.size a) (inb5 : ∀ a, ![320, 0] a + S64x256.size a ≤ S384x256.size a)
    (P0 P1 P2 P3 P4 P5 : S64x256.Idx → Val .f32) (rest : List (View.Piece Val S384x256 .f32)) (hd : Fin 6) (r : Fin 64) (c : Fin 256) :
    w.read Val (w.writes Val f ((⟨Rect.unit ![320, 0] S64x256.size inb5, P5⟩ : View.Piece Val S384x256 .f32) :: (⟨Rect.unit ![256, 0] S64x256.size inb4, P4⟩ : View.Piece Val S384x256 .f32) :: (⟨Rect.unit ![192, 0] S64x256.size inb3, P3⟩ : View.Piece Val S384x256 .f32) :: (⟨Rect.unit ![128, 0] S64x256.size inb2, P2⟩ : View.Piece Val S384x256 .f32) :: (⟨Rect.unit ![64, 0] S64x256.size inb1, P1⟩ : View.Piece Val S384x256 .f32) :: (⟨Rect.unit ![0, 0] S64x256.size inb0, P0⟩ : View.Piece Val S384x256 .f32) :: rest)) (ix2 (row hd r) c)
      = (![P0, P1, P2, P3, P4, P5] : Fin 6 → S64x256.Idx → Val .f32) hd (ix2 r c) := by
  fin_cases hd
  · refine (View.read_writes_cons_unit_of_not_mem w f _ _ _ _ rfl (0 : Fin 2) (Or.inl (show 64 * 0 + r.val < 320 by omega))).trans ?_
    refine (View.read_writes_cons_unit_of_not_mem w f _ _ _ _ rfl (0 : Fin 2) (Or.inl (show 64 * 0 + r.val < 256 by omega))).trans ?_
    refine (View.read_writes_cons_unit_of_not_mem w f _ _ _ _ rfl (0 : Fin 2) (Or.inl (show 64 * 0 + r.val < 192 by omega))).trans ?_
    refine (View.read_writes_cons_unit_of_not_mem w f _ _ _ _ rfl (0 : Fin 2) (Or.inl (show 64 * 0 + r.val < 128 by omega))).trans ?_
    refine (View.read_writes_cons_unit_of_not_mem w f _ _ _ _ rfl (0 : Fin 2) (Or.inl (show 64 * 0 + r.val < 64 by omega))).trans ?_
    exact View.read_writes_cons_unit_of_mem w f _ _ _ _ (ix2 r c) rfl (Fin.forall_fin_two.2 ⟨rfl, (Nat.zero_add _).symm⟩)
  · refine (View.read_writes_cons_unit_of_not_mem w f _ _ _ _ rfl (0 : Fin 2) (Or.inl (show 64 * 1 + r.val < 320 by omega))).trans ?_
    refine (View.read_writes_cons_unit_of_not_mem w f _ _ _ _ rfl (0 : Fin 2) (Or.inl (show 64 * 1 + r.val < 256 by omega))).trans ?_
    refine (View.read_writes_cons_unit_of_not_mem w f _ _ _ _ rfl (0 : Fin 2) (Or.inl (show 64 * 1 + r.val < 192 by omega))).trans ?_
    refine (View.read_writes_cons_unit_of_not_mem w f _ _ _ _ rfl (0 : Fin 2) (Or.inl (show 64 * 1 + r.val < 128 by omega))).trans ?_
    exact View.read_writes_cons_unit_of_mem w f _ _ _ _ (ix2 r c) rfl (Fin.forall_fin_two.2 ⟨rfl, (Nat.zero_add _).symm⟩)
  · refine (View.read_writes_cons_unit_of_not_mem w f _ _ _ _ rfl (0 : Fin 2) (Or.inl (show 64 * 2 + r.val < 320 by omega))).trans ?_
    refine (View.read_writes_cons_unit_of_not_mem w f _ _ _ _ rfl (0 : Fin 2) (Or.inl (show 64 * 2 + r.val < 256 by omega))).trans ?_
    refine (View.read_writes_cons_unit_of_not_mem w f _ _ _ _ rfl (0 : Fin 2) (Or.inl (show 64 * 2 + r.val < 192 by omega))).trans ?_
    exact View.read_writes_cons_unit_of_mem w f _ _ _ _ (ix2 r c) rfl (Fin.forall_fin_two.2 ⟨rfl, (Nat.zero_add _).symm⟩)
  · refine (View.read_writes_cons_unit_of_not_mem w f _ _ _ _ rfl (0 : Fin 2) (Or.inl (show 64 * 3 + r.val < 320 by omega))).trans ?_
    refine (View.read_writes_cons_unit_of_not_mem w f _ _ _ _ rfl (0 : Fin 2) (Or.inl (show 64 * 3 + r.val < 256 by omega))).trans ?_
    exact View.read_writes_cons_unit_of_mem w f _ _ _ _ (ix2 r c) rfl (Fin.forall_fin_two.2 ⟨rfl, (Nat.zero_add _).symm⟩)
  · refine (View.read_writes_cons_unit_of_not_mem w f _ _ _ _ rfl (0 : Fin 2) (Or.inl (show 64 * 4 + r.val < 320 by omega))).trans ?_
    exact View.read_writes_cons_unit_of_mem w f _ _ _ _ (ix2 r c) rfl (Fin.forall_fin_two.2 ⟨rfl, (Nat.zero_add _).symm⟩)
  · exact View.read_writes_cons_unit_of_mem w f _ _ _ _ (ix2 r c) rfl (Fin.forall_fin_two.2 ⟨rfl, (Nat.zero_add _).symm⟩)

end Cert.KernelIdeal.State

end
-- ==== Proof.Loads.lean ====
/- What the kernel's loads read: a strip of one head's keys, one head's queries, the value rows of one or two tiles, one head's rows of the
   scratch — each at an index of the block or of the scratch's contents. -/
module

public import proofs.«01_k».proof.Proof.State

@[expose] public section

set_option maxRecDepth 16384

noncomputable section

namespace Cert.KernelIdeal.Loads

open Cert.KernelIdeal Cert.KernelIdeal.Gen Cert.KernelIdeal.Step Cert.KernelIdeal.State Idealize.ShloMosaic Idealize.SL.Sem

/-- The score of key `k` against query `c` of the tile, head `hd`, before masking: the contraction over 128 lanes. -/
def raw (x0 : FVec Ideal S1x768x256 .bf16) (x1 : FVec Ideal S1x6x2048x128 .bf16) (hd : Fin 6) (c : Fin 256) (k : Fin 2048) : EReal :=
  ∑ d : Fin 128, x1 (ix4 0 hd k d) * x0 (ix3 0 ⟨128 * hd.val + d.val, by omega⟩ c)

/-- The value of row `r` at key `k`. -/
def val (x2 : FVec Ideal S1x8x384x256 .bf16) (r : Fin 384) (k : Fin 2048) : EReal :=
  x2 (ix4 0 ⟨k.val / 256, by omega⟩ r ⟨k.val % 256, by omega⟩)

theorem load_k1 (arg3 : Memref sig .tc .vmem S1x6x2048x128 .bf16) (harg3 : arg3.IsWhole) (x1 : FVec Ideal S1x6x2048x128 .bf16) {off : Fin S1x6x2048x128.rank → ℕ} (inb : ∀ a, off a + S1x1x256x128.size a ≤ S1x6x2048x128.size a)
    (hd : Fin 6) (st : ℕ) (hst : st + 256 ≤ 2048) (a : Fin 256) (d : Fin 128) (ho : off = ![0, hd.val, st, 0]) :
    View.readAt (Elt Ideal) arg3.view (Rect.unit off S1x1x256x128.size inb).toLoadRect (harg3.unread x1) (ix4 0 0 a d) = x1 (ix4 0 hd ⟨st + a.val, by omega⟩ d) := by
  subst ho
  show View.read (Elt Ideal) arg3.view (harg3.unread x1) _ = _
  rw [harg3.read_unread]
  refine congrArg x1 (funext fun a => Fin.ext ?_)
  fin_cases a <;> simp

theorem load_k2 (arg3 : Memref sig .tc .vmem S1x6x2048x128 .bf16) (harg3 : arg3.IsWhole) (x1 : FVec Ideal S1x6x2048x128 .bf16) {off : Fin S1x6x2048x128.rank → ℕ} (inb : ∀ a, off a + S1x1x512x128.size a ≤ S1x6x2048x128.size a)
    (hd : Fin 6) (st : ℕ) (hst : st + 512 ≤ 2048) (a : Fin 512) (d : Fin 128) (ho : off = ![0, hd.val, st, 0]) :
    View.readAt (Elt Ideal) arg3.view (Rect.unit off S1x1x512x128.size inb).toLoadRect (harg3.unread x1) (ix4 0 0 a d) = x1 (ix4 0 hd ⟨st + a.val, by omega⟩ d) := by
  subst ho
  show View.read (Elt Ideal) arg3.view (harg3.unread x1) _ = _
  rw [harg3.read_unread]
  refine congrArg x1 (funext fun a => Fin.ext ?_)
  fin_cases a <;> simp

theorem load_q (arg2 : Memref sig .tc .vmem S1x768x256 .bf16) (harg2 : arg2.IsWhole) (x0 : FVec Ideal S1x768x256 .bf16) {off : Fin S1x768x256.rank → ℕ} (inb : ∀ a, off a + S1x128x256.size a ≤ S1x768x256.size a)
    (hd : Fin 6) (d : Fin 128) (c : Fin 256) (ho : off = ![0, 128 * hd.val, 0]) :
    View.readAt (Elt Ideal) arg2.view (Rect.unit off S1x128x256.size inb).toLoadRect (harg2.unread x0) (ix3 0 d c) = x0 (ix3 0 ⟨128 * hd.val + d.val, by omega⟩ c) := by
  subst ho
  show View.read (Elt Ideal) arg2.view (harg2.unread x0) _ = _
  rw [harg2.read_unread]
  refine congrArg x0 (funext fun a => Fin.ext ?_)
  fin_cases a <;> simp

theorem load_v (arg4 : Memref sig .tc .vmem S1x8x384x256 .bf16) (harg4 : arg4.IsWhole) (x2 : FVec Ideal S1x8x384x256 .bf16) {off : Fin S1x8x384x256.rank → ℕ} (inb : ∀ a, off a + S1x1x384x256.size a ≤ S1x8x384x256.size a)
    (j : ℕ) (hj : j < 8) (r : Fin 384) (a : Fin 256) (ho : off = ![0, j, 0, 0]) :
    View.readAt (Elt Ideal) arg4.view (Rect.unit off S1x1x384x256.size inb).toLoadRect (harg4.unread x2) (ix4 0 0 r a) = x2 (ix4 0 ⟨j, hj⟩ r a) := by
  subst ho
  show View.read (Elt Ideal) arg4.view (harg4.unread x2) _ = _
  rw [harg4.read_unread]
  refine congrArg x2 (funext fun a => Fin.ext ?_)
  fin_cases a <;> simp

/-- The score with the causal mask: query `c` of tile `q` sees the keys up to its own position. -/
def sc (x0 : FVec Ideal S1x768x256 .bf16) (x1 : FVec Ideal S1x6x2048x128 .bf16) (q : ℕ) (hd : Fin 6) (c : Fin 256) (k : Fin 2048) : EReal :=
  if k.val ≤ 256 * q + c.val then raw x0 x1 hd c k else ⊥

theorem sc_ne_top {x0 : FVec Ideal S1x768x256 .bf16} {x1 : FVec Ideal S1x6x2048x128 .bf16} (h : ∀ hd c k, raw x0 x1 hd c k ≠ ⊤) (q : ℕ) (hd : Fin 6) (c : Fin 256) (k : Fin 2048) :
    sc x0 x1 q hd c k ≠ ⊤ := by
  unfold sc
  split
  · exact h hd c k
  · exact bot_ne_top

/-- Two value tiles side by side. -/
def vals2 (v0 v1 : FVec Ideal S1x1x384x256 .bf16) : FVec Ideal S384x512 .bf16 :=
  concatenate S384x512 1 [⟨S384x256, shapeCast S384x256 v0 shapeCasts_S1x1x384x256_S384x256⟩, ⟨S384x256, shapeCast S384x256 v1 shapeCasts_S1x1x384x256_S384x256⟩] concatenates_S384x256_S384x256_S384x512_d1

theorem vals2_at (v0 v1 : FVec Ideal S1x1x384x256 .bf16) (r : Fin 384) (a : Fin 512) :
    vals2 v0 v1 (ix2 r a) = if h : a.val < 256 then v0 (ix4 0 0 r ⟨a.val, h⟩) else v1 (ix4 0 0 r ⟨a.val - 256, by omega⟩) := by
  pointwise [vals2]

/-- One head's 64 rows of the values of a strip. -/
theorem slice1 (o : Fin 2 → ℕ) (X : FVec Ideal S384x256 .bf16) (h : S384x256.Slices o S64x256) (hd : Fin 6) (ho : o = ![64 * hd.val, 0]) (r : Fin 64) (a : Fin 256) :
    extractStridedSlice S64x256 o X h (ix2 r a) = X (ix2 (row hd r) a) := by
  subst ho
  refine extractStridedSlice_apply _ X h _ _ fun b => ?_
  fin_cases b
  · rfl
  · exact (Nat.zero_add _).symm

/-- The scores of a strip of 256 keys from `st`, read off the blocks. -/
theorem strip_score1 (arg2 : Memref sig .tc .vmem S1x768x256 .bf16) (harg2 : arg2.IsWhole) (x0 : FVec Ideal S1x768x256 .bf16) (arg3 : Memref sig .tc .vmem S1x6x2048x128 .bf16) (harg3 : arg3.IsWhole) (x1 : FVec Ideal S1x6x2048x128 .bf16)
    (hd : Fin 6) {st : ℕ} (hst : st + 256 ≤ 2048) {off : Fin S1x6x2048x128.rank → ℕ} (inb : ∀ a, off a + S1x1x256x128.size a ≤ S1x6x2048x128.size a) (ho : off = ![0, hd.val, st, 0])
    {offq : Fin S1x768x256.rank → ℕ} (inbq : ∀ a, offq a + S1x128x256.size a ≤ S1x768x256.size a) (hoq : offq = ![0, 128 * hd.val, 0]) (a : Fin 256) (c : Fin 256) :
    score1 (View.readAt (Elt Ideal) arg3.view (Rect.unit off S1x1x256x128.size inb).toLoadRect (harg3.unread x1)) (View.readAt (Elt Ideal) arg2.view (Rect.unit offq S1x128x256.size inbq).toLoadRect (harg2.unread x0)) (ix2 a c)
      = raw x0 x1 hd c ⟨st + a.val, by omega⟩ := by
  rw [score1_at]
  exact Finset.sum_congr rfl fun d _ => congrArg₂ (· * ·) (load_k1 arg3 harg3 x1 inb hd st hst a d ho) (load_q arg2 harg2 x0 inbq hd d c hoq)

/-- One head's 64 rows of the values of a strip. -/
theorem slice2 (o : Fin 2 → ℕ) (X : FVec Ideal S384x512 .bf16) (h : S384x512.Slices o S64x512) (hd : Fin 6) (ho : o = ![64 * hd.val, 0]) (r : Fin 64) (a : Fin 512) :
    extractStridedSlice S64x512 o X h (ix2 r a) = X (ix2 (row hd r) a) := by
  subst ho
  refine extractStridedSlice_apply _ X h _ _ fun b => ?_
  fin_cases b
  · rfl
  · exact (Nat.zero_add _).symm

/-- The scores of a strip of 512 keys from `st`, read off the blocks. -/
theorem strip_score2 (arg2 : Memref sig .tc .vmem S1x768x256 .bf16) (harg2 : arg2.IsWhole) (x0 : FVec Ideal S1x768x256 .bf16) (arg3 : Memref sig .tc .vmem S1x6x2048x128 .bf16) (harg3 : arg3.IsWhole) (x1 : FVec Ideal S1x6x2048x128 .bf16)
    (hd : Fin 6) {st : ℕ} (hst : st + 512 ≤ 2048) {off : Fin S1x6x2048x128.rank → ℕ} (inb : ∀ a, off a + S1x1x512x128.size a ≤ S1x6x2048x128.size a) (ho : off = ![0, hd.val, st, 0])
    {offq : Fin S1x768x256.rank → ℕ} (inbq : ∀ a, offq a + S1x128x256.size a ≤ S1x768x256.size a) (hoq : offq = ![0, 128 * hd.val, 0]) (a : Fin 512) (c : Fin 256) :
    score2 (View.readAt (Elt Ideal) arg3.view (Rect.unit off S1x1x512x128.size inb).toLoadRect (harg3.unread x1)) (View.readAt (Elt Ideal) arg2.view (Rect.unit offq S1x128x256.size inbq).toLoadRect (harg2.unread x0)) (ix2 a c)
      = raw x0 x1 hd c ⟨st + a.val, by omega⟩ := by
  rw [score2_at]
  exact Finset.sum_congr rfl fun d _ => congrArg₂ (· * ·) (load_k2 arg3 harg3 x1 inb hd st hst a d ho) (load_q arg2 harg2 x0 inbq hd d c hoq)

/-- The values of a strip of 256 keys: one tile. -/
theorem strip_val1 (arg4 : Memref sig .tc .vmem S1x8x384x256 .bf16) (harg4 : arg4.IsWhole) (x2 : FVec Ideal S1x8x384x256 .bf16) (j : ℕ) (hj : j < 8)
    {off : Fin S1x8x384x256.rank → ℕ} (inb : ∀ a, off a + S1x1x384x256.size a ≤ S1x8x384x256.size a) (ho : off = ![0, j, 0, 0]) (r : Fin 384) (a : Fin 256) :
    shapeCast S384x256 (View.readAt (Elt Ideal) arg4.view (Rect.unit off S1x1x384x256.size inb).toLoadRect (harg4.unread x2)) shapeCasts_S1x1x384x256_S384x256 (ix2 r a) = val x2 r ⟨256 * j + a.val, by omega⟩ := by
  have e : ∀ X : FVec Ideal S1x1x384x256 .bf16, shapeCast S384x256 X shapeCasts_S1x1x384x256_S384x256 (ix2 r a) = X (ix4 0 0 r a) := by
    intro X
    pointwise
  rw [e]
  refine (load_v arg4 harg4 x2 inb j hj r a ho).trans (congrArg x2 ?_)
  have h1 : (⟨j, hj⟩ : Fin 8) = ⟨(256 * j + a.val) / 256, by omega⟩ := Fin.ext (show j = (256 * j + a.val) / 256 by omega)
  have h2 : a = ⟨(256 * j + a.val) % 256, by omega⟩ := Fin.ext (show a.val = (256 * j + a.val) % 256 by omega)
  exact congrArg₂ (fun u w => ix4 (0 : Fin 1) u r w) h1 h2

/-- The values of a strip of 512 keys: two tiles side by side. -/
theorem strip_val2 (arg4 : Memref sig .tc .vmem S1x8x384x256 .bf16) (harg4 : arg4.IsWhole) (x2 : FVec Ideal S1x8x384x256 .bf16) (j : ℕ) (hj : j + 1 < 8)
    {off : Fin S1x8x384x256.rank → ℕ} (inb : ∀ a, off a + S1x1x384x256.size a ≤ S1x8x384x256.size a) (ho : off = ![0, j, 0, 0])
    {off' : Fin S1x8x384x256.rank → ℕ} (inb' : ∀ a, off' a + S1x1x384x256.size a ≤ S1x8x384x256.size a) (ho' : off' = ![0, j + 1, 0, 0]) (r : Fin 384) (a : Fin 512) :
    vals2 (View.readAt (Elt Ideal) arg4.view (Rect.unit off S1x1x384x256.size inb).toLoadRect (harg4.unread x2)) (View.readAt (Elt Ideal) arg4.view (Rect.unit off' S1x1x384x256.size inb').toLoadRect (harg4.unread x2)) (ix2 r a)
      = val x2 r ⟨256 * j + a.val, by omega⟩ := by
  rw [vals2_at]
  split
  · next h =>
    refine (load_v arg4 harg4 x2 inb j (by omega) r _ ho).trans (congrArg x2 ?_)
    have h1 : (⟨j, by omega⟩ : Fin 8) = ⟨(256 * j + a.val) / 256, by omega⟩ := Fin.ext (show j = (256 * j + a.val) / 256 by omega)
    have h2 : (⟨a.val, h⟩ : Fin 256) = ⟨(256 * j + a.val) % 256, by omega⟩ := Fin.ext (show a.val = (256 * j + a.val) % 256 by omega)
    exact congrArg₂ (fun u w => ix4 (0 : Fin 1) u r w) h1 h2
  · next h =>
    refine (load_v arg4 harg4 x2 inb' (j + 1) hj r _ ho').trans (congrArg x2 ?_)
    have h1 : (⟨j + 1, hj⟩ : Fin 8) = ⟨(256 * j + a.val) / 256, by omega⟩ := Fin.ext (show j + 1 = (256 * j + a.val) / 256 by omega)
    have h2 : (⟨a.val - 256, by omega⟩ : Fin 256) = ⟨(256 * j + a.val) % 256, by omega⟩ := Fin.ext (show a.val - 256 = (256 * j + a.val) % 256 by omega)
    exact congrArg₂ (fun u w => ix4 (0 : Fin 1) u r w) h1 h2

/-- One head's row of a `6 × 1 × 256` scratch, loaded. -/
theorem load_row3 (w : Memref sig .tc .vmem S6x1x256 .f32) (f : BufTy.Contents (Elt Ideal) w.view.ty) {off : Fin S6x1x256.rank → ℕ} (inb : ∀ a, off a + S1x1x256.size a ≤ S6x1x256.size a)
    (hd : Fin 6) (c : Fin 256) (ho : off = ![hd.val, 0, 0]) :
    View.readAt (Elt Ideal) w.view (Rect.unit off S1x1x256.size inb).toLoadRect f (ix3 0 0 c) = w.view.read (Elt Ideal) f (ix3 hd 0 c) := by
  subst ho
  show View.read (Elt Ideal) w.view f _ = _
  refine congrArg _ (funext fun a => Fin.ext ?_)
  fin_cases a <;> simp

/-- One head's 64 rows of the accumulator, loaded. -/
theorem load_row2 (w : Memref sig .tc .vmem S384x256 .f32) (f : BufTy.Contents (Elt Ideal) w.view.ty) {off : Fin S384x256.rank → ℕ} (inb : ∀ a, off a + S64x256.size a ≤ S384x256.size a)
    (hd : Fin 6) (r : Fin 64) (c : Fin 256) (ho : off = ![64 * hd.val, 0]) :
    View.readAt (Elt Ideal) w.view (Rect.unit off S64x256.size inb).toLoadRect f (ix2 r c) = w.view.read (Elt Ideal) f (ix2 (row hd r) c) := by
  subst ho
  show View.read (Elt Ideal) w.view f _ = _
  refine congrArg _ (funext fun a => Fin.ext ?_)
  fin_cases a <;> simp [row]

/-- The six heads' rows of a `6 × 1 × 256` scratch, as they are loaded. -/
def rows3 (w : Memref sig .tc .vmem S6x1x256 .f32) (f : BufTy.Contents (Elt Ideal) w.view.ty) : Fin 6 → FVec Ideal S1x1x256 .f32 :=
  ![View.readAt (Elt Ideal) w.view (Rect.unit (s := S6x1x256) ![0, 0, 0] S1x1x256.size (by decide)).toLoadRect f, View.readAt (Elt Ideal) w.view (Rect.unit (s := S6x1x256) ![1, 0, 0] S1x1x256.size (by decide)).toLoadRect f, View.readAt (Elt Ideal) w.view (Rect.unit (s := S6x1x256) ![2, 0, 0] S1x1x256.size (by decide)).toLoadRect f, View.readAt (Elt Ideal) w.view (Rect.unit (s := S6x1x256) ![3, 0, 0] S1x1x256.size (by decide)).toLoadRect f, View.readAt (Elt Ideal) w.view (Rect.unit (s := S6x1x256) ![4, 0, 0] S1x1x256.size (by decide)).toLoadRect f, View.readAt (Elt Ideal) w.view (Rect.unit (s := S6x1x256) ![5, 0, 0] S1x1x256.size (by decide)).toLoadRect f]

theorem rows3_at (w : Memref sig .tc .vmem S6x1x256 .f32) (f : BufTy.Contents (Elt Ideal) w.view.ty) (hd : Fin 6) (c : Fin 256) :
    rows3 w f hd (ix3 0 0 c) = w.view.read (Elt Ideal) f (ix3 hd 0 c) := by
  fin_cases hd <;> exact load_row3 w f _ _ c rfl

/-- The six heads' rows of the accumulator, as they are loaded. -/
def rows2 (w : Memref sig .tc .vmem S384x256 .f32) (f : BufTy.Contents (Elt Ideal) w.view.ty) : Fin 6 → FVec Ideal S64x256 .f32 :=
  ![View.readAt (Elt Ideal) w.view (Rect.unit (s := S384x256) ![0, 0] S64x256.size (by decide)).toLoadRect f, View.readAt (Elt Ideal) w.view (Rect.unit (s := S384x256) ![64, 0] S64x256.size (by decide)).toLoadRect f, View.readAt (Elt Ideal) w.view (Rect.unit (s := S384x256) ![128, 0] S64x256.size (by decide)).toLoadRect f, View.readAt (Elt Ideal) w.view (Rect.unit (s := S384x256) ![192, 0] S64x256.size (by decide)).toLoadRect f, View.readAt (Elt Ideal) w.view (Rect.unit (s := S384x256) ![256, 0] S64x256.size (by decide)).toLoadRect f, View.readAt (Elt Ideal) w.view (Rect.unit (s := S384x256) ![320, 0] S64x256.size (by decide)).toLoadRect f]

theorem rows2_at (w : Memref sig .tc .vmem S384x256 .f32) (f : BufTy.Contents (Elt Ideal) w.view.ty) (hd : Fin 6) (r : Fin 64) (c : Fin 256) :
    rows2 w f hd (ix2 r c) = w.view.read (Elt Ideal) f (ix2 (row hd r) c) := by
  fin_cases hd <;> exact load_row2 w f _ _ r c rfl

end Cert.KernelIdeal.Loads

end
-- ==== Proof.Offs.lean ====
/- The kernel's run-time offsets in closed form: where each strip of keys starts, and how often the loop over the strips runs. `q` is the
   tile of queries, grid coordinate 1. -/
module

public import proofs.«01_k».proof.Proof.Gen.KernelIdeal.Loops

@[expose] public section

set_option maxRecDepth 16384

noncomputable section

namespace Cert.KernelIdeal.Offs

open Cert.KernelIdeal Cert.KernelIdeal.Gen Idealize.ShloMosaic Idealize.SL.Sem

/-- The loop over pairs of key tiles before the two next to the diagonal runs ⌊(q − 1) / 2⌋ times, -/
theorem trips1 : ∀ i : grid0.Coords, (k0_t1_loop i).trips = ((i 1).val - 1) / 2 := by decide +kernel

/-- the loop for what is left over never, -/
theorem trips2 : ∀ i : grid0.Coords, (k0_t2_loop i).trips = 0 := by decide +kernel

/-- and a trip reads the key tiles `2k` and `2k + 1`. -/
theorem loop_offs : ∀ (i : grid0.Coords) (k : Fin (k0_t1_loop i).trips),
    k0_off8 i k 0#32 = ![0, 2 * k.val, 0, 0] ∧ k0_off8 i k 1#32 = ![0, 2 * k.val + 1, 0, 0] ∧
    k0_off9 i k = ![0, 0, 512 * k.val, 0] ∧ k0_off10 i k = ![0, 1, 512 * k.val, 0] ∧ k0_off11 i k = ![0, 2, 512 * k.val, 0] ∧
    k0_off12 i k = ![0, 3, 512 * k.val, 0] ∧ k0_off13 i k = ![0, 4, 512 * k.val, 0] ∧ k0_off14 i k = ![0, 5, 512 * k.val, 0] := by decide +kernel

/-- The strip at the diagonal starts at tile `q − 1`. -/
theorem diag_offs : ∀ (i : grid0.Coords), 1 ≤ (i 1).val →
    k0_off1 i 0#32 = ![0, (i 1).val - 1, 0, 0] ∧ k0_off1 i 1#32 = ![0, (i 1).val, 0, 0] ∧
    k0_off2 i = ![0, 0, 256 * ((i 1).val - 1), 0] ∧ k0_off3 i = ![0, 1, 256 * ((i 1).val - 1), 0] ∧ k0_off4 i = ![0, 2, 256 * ((i 1).val - 1), 0] ∧
    k0_off5 i = ![0, 3, 256 * ((i 1).val - 1), 0] ∧ k0_off6 i = ![0, 4, 256 * ((i 1).val - 1), 0] ∧ k0_off7 i = ![0, 5, 256 * ((i 1).val - 1), 0] := by decide +kernel

/-- The single strip left when `q` is even and positive is tile `q − 2`. -/
theorem last_offs : ∀ (i : grid0.Coords), 2 ≤ (i 1).val →
    k0_off22 i = ![0, (i 1).val - 2, 0, 0] ∧
    k0_off23 i = ![0, 0, 256 * ((i 1).val - 2), 0] ∧ k0_off24 i = ![0, 1, 256 * ((i 1).val - 2), 0] ∧ k0_off25 i = ![0, 2, 256 * ((i 1).val - 2), 0] ∧
    k0_off26 i = ![0, 3, 256 * ((i 1).val - 2), 0] ∧ k0_off27 i = ![0, 4, 256 * ((i 1).val - 2), 0] ∧ k0_off28 i = ![0, 5, 256 * ((i 1).val - 2), 0] := by decide +kernel

end Cert.KernelIdeal.Offs

end
-- ==== Proof.Trip.lean ====
/- One trip of the loop over the unmasked strips — 512 keys each — and the loop: the running state the trips before the k-th leave is the
   state over the keys those trips reached together with the keys seen before the loop. -/
module

public import proofs.«01_k».proof.Proof.Loads
public import proofs.«01_k».proof.Proof.Offs
public import proofs.«01_k».proof.Proof.Gen.KernelIdeal.Loops

@[expose] public section

set_option maxRecDepth 16384

noncomputable section

namespace Cert.KernelIdeal.Trip

open Cert.KernelIdeal Cert.KernelIdeal.Gen Cert.KernelIdeal.Step Cert.KernelIdeal.State Cert.KernelIdeal.Loads Cert.KernelIdeal.Offs Idealize.ShloMosaic Idealize.SL.Sem

/-- One trip: from the state over the keys `A` to the state over `A` and the 512 keys from `512 k`. -/
theorem trip_held (𝒱 : Variants) (c : Dev nD) (bd : Option 𝒱.V) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (v19 : BitVec 32) (c2_i32 : BitVec 32) (v20 : BitVec 32) (v25 : BitVec 32) (v30 : BitVec 32)
    (x0 : FVec Ideal S1x768x256 .bf16) (x1 : FVec Ideal S1x6x2048x128 .bf16) (x2 : FVec Ideal S1x8x384x256 .bf16) (hraw : ∀ hd c k, raw x0 x1 hd c k ≠ ⊤)
    (k : Fin (k0_t1_loop i).trips) (f6 : BufTy.Contents (Elt Ideal) arg6.view.ty) (f7 : BufTy.Contents (Elt Ideal) arg7.view.ty) (f8 : BufTy.Contents (Elt Ideal) arg8.view.ty)
    {A : Finset (Fin 2048)} (hA : Disjoint A (keys (512 * k.val) 512))
    (h : Held (sc x0 x1 (i 1).val) (val x2) A (arg6.view.read (Elt Ideal) f6) (arg7.view.read (Elt Ideal) f7) (arg8.view.read (Elt Ideal) f8)) :
    Held (sc x0 x1 (i 1).val) (val x2) (A ∪ keys (512 * k.val) 512)
      (arg6.view.read (Elt Ideal) (arg6.view.writes (Elt Ideal) f6 ((trip_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) k).1 f6 f7 f8)))
      (arg7.view.read (Elt Ideal) (arg7.view.writes (Elt Ideal) f7 ((trip_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) k).2.1 f6 f7 f8)))
      (arg8.view.read (Elt Ideal) (arg8.view.writes (Elt Ideal) f8 ((trip_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) k).2.2.1 f6 f7 f8))) := by
  have hk : k.val < ((i 1).val - 1) / 2 := (trips1 i) ▸ k.isLt
  have hi : (i 1).val < 8 := (i 1).isLt
  have hst : 512 * k.val + 512 ≤ 2048 := by omega
  have ho := loop_offs i k
  unfold trip_k0_t1
  dsimp only
  refine Held.step2 (sc_ne_top hraw _) h (512 * k.val) hst hA
    (![trip_k0_t1.sl.v108 i arg2 arg3 (harg2.unread x0) (harg3.unread x1) k, trip_k0_t1.sl.v114 i arg2 arg3 (harg2.unread x0) (harg3.unread x1) k, trip_k0_t1.sl.v120 i arg2 arg3 (harg2.unread x0) (harg3.unread x1) k, trip_k0_t1.sl.v126 i arg2 arg3 (harg2.unread x0) (harg3.unread x1) k, trip_k0_t1.sl.v132 i arg2 arg3 (harg2.unread x0) (harg3.unread x1) k, trip_k0_t1.sl.v138 i arg2 arg3 (harg2.unread x0) (harg3.unread x1) k] : Fin 6 → FVec Ideal S512x256 .f32)
    (![trip_k0_t1.sl.v280 i arg4 (harg4.unread x2) k, trip_k0_t1.sl.v289 i arg4 (harg4.unread x2) k, trip_k0_t1.sl.v298 i arg4 (harg4.unread x2) k, trip_k0_t1.sl.v307 i arg4 (harg4.unread x2) k, trip_k0_t1.sl.v316 i arg4 (harg4.unread x2) k, trip_k0_t1.sl.v325 i arg4 (harg4.unread x2) k] : Fin 6 → FVec Ideal S64x512 .bf16)
    (rows3 arg7 f7) (rows3 arg8 f8) (rows2 arg6 f6)
    ?_ ?_ ?_ ?_ ?_ ?_ ?_ ?_
  · intro hd b a
    have e : sc x0 x1 (i 1).val hd b ⟨512 * k.val + a.val, by omega⟩ = raw x0 x1 hd b ⟨512 * k.val + a.val, by omega⟩ := if_pos (show 512 * k.val + a.val ≤ 256 * (i 1).val + b.val by omega)
    rw [e]
    fin_cases hd
    · exact strip_score2 arg2 harg2 x0 arg3 harg3 x1 0 hst _ ho.2.2.1 _ rfl a b
    · exact strip_score2 arg2 harg2 x0 arg3 harg3 x1 1 hst _ ho.2.2.2.1 _ rfl a b
    · exact strip_score2 arg2 harg2 x0 arg3 harg3 x1 2 hst _ ho.2.2.2.2.1 _ rfl a b
    · exact strip_score2 arg2 harg2 x0 arg3 harg3 x1 3 hst _ ho.2.2.2.2.2.1 _ rfl a b
    · exact strip_score2 arg2 harg2 x0 arg3 harg3 x1 4 hst _ ho.2.2.2.2.2.2.1 _ rfl a b
    · exact strip_score2 arg2 harg2 x0 arg3 harg3 x1 5 hst _ ho.2.2.2.2.2.2.2 _ rfl a b
  · intro hd r a
    fin_cases hd
    · exact (slice2 _ _ slices_S384x512_o0_0_S64x512 0 rfl r a).trans ((strip_val2 arg4 harg4 x2 (2 * k.val) (by omega) _ ho.1 _ ho.2.1 _ a).trans (congrArg (val x2 _) (Fin.ext (show 256 * (2 * k.val) + a.val = 512 * k.val + a.val by omega))))
    · exact (slice2 _ _ slices_S384x512_o64_0_S64x512 1 rfl r a).trans ((strip_val2 arg4 harg4 x2 (2 * k.val) (by omega) _ ho.1 _ ho.2.1 _ a).trans (congrArg (val x2 _) (Fin.ext (show 256 * (2 * k.val) + a.val = 512 * k.val + a.val by omega))))
    · exact (slice2 _ _ slices_S384x512_o128_0_S64x512 2 rfl r a).trans ((strip_val2 arg4 harg4 x2 (2 * k.val) (by omega) _ ho.1 _ ho.2.1 _ a).trans (congrArg (val x2 _) (Fin.ext (show 256 * (2 * k.val) + a.val = 512 * k.val + a.val by omega))))
    · exact (slice2 _ _ slices_S384x512_o192_0_S64x512 3 rfl r a).trans ((strip_val2 arg4 harg4 x2 (2 * k.val) (by omega) _ ho.1 _ ho.2.1 _ a).trans (congrArg (val x2 _) (Fin.ext (show 256 * (2 * k.val) + a.val = 512 * k.val + a.val by omega))))
    · exact (slice2 _ _ slices_S384x512_o256_0_S64x512 4 rfl r a).trans ((strip_val2 arg4 harg4 x2 (2 * k.val) (by omega) _ ho.1 _ ho.2.1 _ a).trans (congrArg (val x2 _) (Fin.ext (show 256 * (2 * k.val) + a.val = 512 * k.val + a.val by omega))))
    · exact (slice2 _ _ slices_S384x512_o320_0_S64x512 5 rfl r a).trans ((strip_val2 arg4 harg4 x2 (2 * k.val) (by omega) _ ho.1 _ ho.2.1 _ a).trans (congrArg (val x2 _) (Fin.ext (show 256 * (2 * k.val) + a.val = 512 * k.val + a.val by omega))))
  · intro hd b
    exact rows3_at arg7 f7 hd b
  · intro hd b
    exact rows3_at arg8 f8 hd b
  · intro hd r b
    exact rows2_at arg6 f6 hd r b
  · intro hd b
    refine (read_rows3 arg7.view f7 _ _ _ _ _ _ _ _ _ _ _ _ [] hd b).trans ?_
    fin_cases hd <;> rfl
  · intro hd b
    refine (read_rows3 arg8.view f8 _ _ _ _ _ _ _ _ _ _ _ _ [] hd b).trans ?_
    fin_cases hd <;> rfl
  · intro hd r b
    refine (read_rows2 arg6.view f6 _ _ _ _ _ _ _ _ _ _ _ _ [] hd r b).trans ?_
    fin_cases hd <;> rfl

/-- The loop: after `n` trips, the state over the keys seen before it and the `512 n` keys from the start. -/
theorem loop_held (𝒱 : Variants) (c : Dev nD) (bd : Option 𝒱.V) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (v19 : BitVec 32) (c2_i32 : BitVec 32) (v20 : BitVec 32) (v25 : BitVec 32) (v30 : BitVec 32)
    (x0 : FVec Ideal S1x768x256 .bf16) (x1 : FVec Ideal S1x6x2048x128 .bf16) (x2 : FVec Ideal S1x8x384x256 .bf16) (hraw : ∀ hd c k, raw x0 x1 hd c k ≠ ⊤)
    (g6 : BufTy.Contents (Elt Ideal) arg6.view.ty) (g7 : BufTy.Contents (Elt Ideal) arg7.view.ty) (g8 : BufTy.Contents (Elt Ideal) arg8.view.ty)
    {A : Finset (Fin 2048)} (hA : Disjoint A (keys 0 (512 * (((i 1).val - 1) / 2))))
    (h : Held (sc x0 x1 (i 1).val) (val x2) A (arg6.view.read (Elt Ideal) g6) (arg7.view.read (Elt Ideal) g7) (arg8.view.read (Elt Ideal) g8))
    (n : ℕ) (hn : n ≤ ((i 1).val - 1) / 2) :
    Held (sc x0 x1 (i 1).val) (val x2) (A ∪ keys 0 (512 * n))
      (arg6.view.read (Elt Ideal) (arg6.view.writes (Elt Ideal) g6 (pb_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) g6 g7 g8 n).1))
      (arg7.view.read (Elt Ideal) (arg7.view.writes (Elt Ideal) g7 (pb_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) g6 g7 g8 n).2.1))
      (arg8.view.read (Elt Ideal) (arg8.view.writes (Elt Ideal) g8 (pb_k0_t1 (F := Ideal) 𝒱 c bd i arg2 harg2 arg3 harg3 arg4 harg4 arg5 harg5 arg6 harg6 arg7 harg7 arg8 harg8 v19 c2_i32 v20 v25 v30 (harg2.unread x0) (harg3.unread x1) (harg4.unread x2) g6 g7 g8 n).2.2)) := by
  induction n with
  | zero =>
    have e : A ∪ keys 0 (512 * 0) = A := by rw [show keys 0 (512 * 0) = ∅ from keys_zero 0, Finset.union_empty]
    rw [e]
    exact h
  | succ n ih =>
    have hlt : n < (k0_t1_loop i).trips := by rw [trips1]; omega
    have e : A ∪ keys 0 (512 * (n + 1)) = (A ∪ keys 0 (512 * n)) ∪ keys (512 * n) 512 := by
      rw [Finset.union_assoc, show 512 * (n + 1) = 512 * n + 512 by omega, keys_add 0, Nat.zero_add]
    have hd : Disjoint (A ∪ keys 0 (512 * n)) (keys (512 * n) 512) := by
      refine Finset.disjoint_union_left.2 ⟨hA.mono_right ?_, ?_⟩
      · exact keys_subset (by omega) (by omega)
      · exact keys_disjoint (by omega)
    rw [e, pb_k0_t1_succ 𝒱 c bd i arg2 harg2 arg3 harg3 arg4 harg4 arg5 harg5 arg6 harg6 arg7 harg7 arg8 harg8 v19 c2_i32 v20 v25 v30 (harg2.unread x0) (harg3.unread x1) (harg4.unread x2) g6 g7 g8 ⟨n, hlt⟩, View.writes_append, View.writes_append, View.writes_append]
    exact trip_held 𝒱 c bd i arg2 harg2 arg3 harg3 arg4 harg4 arg5 harg5 arg6 harg6 arg7 harg7 arg8 harg8 v19 c2_i32 v20 v25 v30 x0 x1 x2 hraw ⟨n, hlt⟩ _ _ _ hd (ih (by omega))

end Cert.KernelIdeal.Trip

end
-- ==== Proof.Point.lean ====
/- What is common to the three kinds of grid point: the causal mask on a strip's scores, the scratch's first fill, a head's row read past the
   stores of the other heads, the unmasked loop on top of the stores before it, and the block that is written. -/
module

public import proofs.«01_k».proof.Proof.Trip
public import Idealize.ShloMosaic.Lib.WordCmp

@[expose] public section

set_option maxRecDepth 16384

noncomputable section

namespace Cert.KernelIdeal.Point

open Cert.KernelIdeal Cert.KernelIdeal.Gen Cert.KernelIdeal.Step Cert.KernelIdeal.State Cert.KernelIdeal.Loads Cert.KernelIdeal.Offs Cert.KernelIdeal.Trip Idealize.ShloMosaic Idealize.SL.Sem

/-- The scores of a strip of 256 keys that ends with the tile's own keys, masked. -/
def mask1 (s : FVec Ideal S256x256 .f32) : FVec Ideal S256x256 .f32 :=
  select (cmpi .sle (iota .tc S256x256 32 [0] (by decide)) (addi (iota .tc S256x256 32 [1] (by decide)) (broadcast S256x256 0#32))) s (broadcast S256x256 (Named.named (F := Ideal) κ "masked" 0xF149F2CA#32 : Ideal .f32))

theorem mask1_at (s : FVec Ideal S256x256 .f32) (a : Fin 256) (b : Fin 256) :
    mask1 s (ix2 a b) = if a.val ≤ b.val + 0 then s (ix2 a b) else ⊥ := by
  pointwise [mask1]
  have e : IntOp.addi (BitVec.ofNat 32 b.val) 0#32 = BitVec.ofNat 32 (b.val + 0) := (BitVec.ofNat_add b.val 0).symm
  have n : (Named.named κ "masked" 0xF149F2CA#32 : Ideal .f32) = ⊥ := rfl
  rw [e, n]
  have ha := a.isLt
  have hb := b.isLt
  simp (disch := omega) only [hlo_ix, Scalar.select, Nat.add_zero]

/-- The scores of a strip of 512 keys that ends with the tile's own keys, masked. -/
def mask2 (s : FVec Ideal S512x256 .f32) : FVec Ideal S512x256 .f32 :=
  select (cmpi .sle (iota .tc S512x256 32 [0] (by decide)) (addi (iota .tc S512x256 32 [1] (by decide)) (broadcast S512x256 256#32))) s (broadcast S512x256 (Named.named (F := Ideal) κ "masked" 0xF149F2CA#32 : Ideal .f32))

theorem mask2_at (s : FVec Ideal S512x256 .f32) (a : Fin 512) (b : Fin 256) :
    mask2 s (ix2 a b) = if a.val ≤ b.val + 256 then s (ix2 a b) else ⊥ := by
  pointwise [mask2]
  have e : IntOp.addi (BitVec.ofNat 32 b.val) 256#32 = BitVec.ofNat 32 (b.val + 256) := (BitVec.ofNat_add b.val 256).symm
  have n : (Named.named κ "masked" 0xF149F2CA#32 : Ideal .f32) = ⊥ := rfl
  rw [e, n]
  have ha := a.isLt
  have hb := b.isLt
  simp (disch := omega) only [hlo_ix, Scalar.select, Nat.add_zero]

/-- A store to another head's rows does not reach head `h`. -/
theorem skip3 {Val : EltTy → Type} {sig : RefSig} {κ : Kind} {sp : Space} (w : View sig κ sp S6x1x256 .f32) (f : w.ty.Contents Val) {off : Fin S6x1x256.rank → ℕ} (inb : ∀ a, off a + S1x1x256.size a ≤ S6x1x256.size a)
    (P : S1x1x256.Idx → Val .f32) (L : List (View.Piece Val S6x1x256 .f32)) (h g : Fin 6) (ho : off = ![g.val, 0, 0]) (hg : g ≠ h) (c : Fin 256) :
    w.read Val (w.writes Val f ((⟨Rect.unit off S1x1x256.size inb, P⟩ : View.Piece Val S6x1x256 .f32) :: L)) (ix3 h 0 c) = w.read Val (w.writes Val f L) (ix3 h 0 c) := by
  subst ho
  refine View.read_writes_cons_unit_of_not_mem w f _ _ _ _ rfl (0 : Fin 3) ?_
  rcases Nat.lt_or_gt_of_ne (fun e => hg (Fin.ext e) : g.val ≠ h.val) with e | e
  · exact Or.inr (show g.val + 1 ≤ h.val from e)
  · exact Or.inl (show h.val < g.val from e)

/-- The first fill, read. -/
theorem fill3 {Val : EltTy → Type} {sig : RefSig} {κ : Kind} {sp : Space} (w : View sig κ sp S6x1x256 .f32) (f : w.ty.Contents Val) (inb : ∀ a, ![0, 0, 0] a + S6x1x256.size a ≤ S6x1x256.size a)
    (P : S6x1x256.Idx → Val .f32) (hd : Fin 6) (c : Fin 256) :
    w.read Val (w.writes Val f [(⟨Rect.unit ![0, 0, 0] S6x1x256.size inb, P⟩ : View.Piece Val S6x1x256 .f32)]) (ix3 hd 0 c) = P (ix3 hd 0 c) := by
  refine View.read_writes_cons_unit_of_mem w f _ _ _ _ (ix3 hd 0 c) rfl fun a => ?_
  fin_cases a <;> exact (Nat.zero_add _).symm

/-- A store to another head's rows does not reach head `h`. -/
theorem skip2 {Val : EltTy → Type} {sig : RefSig} {κ : Kind} {sp : Space} (w : View sig κ sp S384x256 .f32) (f : w.ty.Contents Val) {off : Fin S384x256.rank → ℕ} (inb : ∀ a, off a + S64x256.size a ≤ S384x256.size a)
    (P : S64x256.Idx → Val .f32) (L : List (View.Piece Val S384x256 .f32)) (h g : Fin 6) (ho : off = ![64 * g.val, 0]) (hg : g ≠ h) (r : Fin 64) (c : Fin 256) :
    w.read Val (w.writes Val f ((⟨Rect.unit off S64x256.size inb, P⟩ : View.Piece Val S384x256 .f32) :: L)) (ix2 (row h r) c) = w.read Val (w.writes Val f L) (ix2 (row h r) c) := by
  subst ho
  refine View.read_writes_cons_unit_of_not_mem w f _ _ _ _ rfl (0 : Fin 2) ?_
  rcases Nat.lt_or_gt_of_ne (fun e => hg (Fin.ext e) : g.val ≠ h.val) with e | e
  · exact Or.inr (show 64 * g.val + 64 ≤ 64 * h.val + r.val by omega)
  · exact Or.inl (show 64 * h.val + r.val < 64 * g.val by omega)

/-- The first fill, read. -/
theorem fill2 {Val : EltTy → Type} {sig : RefSig} {κ : Kind} {sp : Space} (w : View sig κ sp S384x256 .f32) (f : w.ty.Contents Val) (inb : ∀ a, ![0, 0] a + S384x256.size a ≤ S384x256.size a)
    (P : S384x256.Idx → Val .f32) (r : Fin 384) (c : Fin 256) :
    w.read Val (w.writes Val f [(⟨Rect.unit ![0, 0] S384x256.size inb, P⟩ : View.Piece Val S384x256 .f32)]) (ix2 r c) = P (ix2 r c) := by
  refine View.read_writes_cons_unit_of_mem w f _ _ _ _ (ix2 r c) rfl fun a => ?_
  fin_cases a <;> exact (Nat.zero_add _).symm

/-- The scratch starts at the lowest score, -/
theorem neg_at (hd : Fin 6) (c : Fin 256) : (k0_pay302 (F := Ideal)) (ix3 hd 0 c) = ⊥ := by
  pointwise [k0_pay302]
  rfl

/-- at an empty total, -/
theorem zero3_at (hd : Fin 6) (c : Fin 256) : (k0_pay303 (F := Ideal)) (ix3 hd 0 c) = 0 := by
  pointwise [k0_pay303]

/-- and at an empty weighted sum. -/
theorem zero2_at (r : Fin 384) (c : Fin 256) : (k0_pay301 (F := Ideal)) (ix2 r c) = 0 := by
  pointwise [k0_pay301]

/-- The stores the loop leaves in the three scratch buffers, on top of `L6`, `L7`, `L8`. -/
def after (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (v19 v20 v25 v41 : BitVec 32) (x0 : FVec Ideal S1x768x256 .bf16) (x1 : FVec Ideal S1x6x2048x128 .bf16) (x2 : FVec Ideal S1x8x384x256 .bf16)
    (L6 : List (View.Piece (Elt Ideal) S384x256 .f32)) (L7 L8 : List (View.Piece (Elt Ideal) S6x1x256 .f32)) : List (View.Piece (Elt Ideal) S384x256 .f32) × List (View.Piece (Elt Ideal) S6x1x256 .f32) × List (View.Piece (Elt Ideal) S6x1x256 .f32) :=
  ((pb_k0_t2 (F := Ideal) Variants.none c none i arg2 harg2 arg3 harg3 arg4 harg4 arg5 harg5 arg6 harg6 arg7 harg7 arg8 harg8 v19 2#32 v20 v25 1#32 v41 (harg2.unread x0) (harg3.unread x1) (harg4.unread x2) (arg6.view.writes (Elt Ideal) arg6.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).1 ++ L6)) (arg7.view.writes (Elt Ideal) arg7.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.1 ++ L7)) (arg8.view.writes (Elt Ideal) arg8.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.2 ++ L8)) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).1 ++ L6),
    (pb_k0_t2 (F := Ideal) Variants.none c none i arg2 harg2 arg3 harg3 arg4 harg4 arg5 harg5 arg6 harg6 arg7 harg7 arg8 harg8 v19 2#32 v20 v25 1#32 v41 (harg2.unread x0) (harg3.unread x1) (harg4.unread x2) (arg6.view.writes (Elt Ideal) arg6.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).1 ++ L6)) (arg7.view.writes (Elt Ideal) arg7.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.1 ++ L7)) (arg8.view.writes (Elt Ideal) arg8.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.2 ++ L8)) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.1 ++ L7),
    (pb_k0_t2 (F := Ideal) Variants.none c none i arg2 harg2 arg3 harg3 arg4 harg4 arg5 harg5 arg6 harg6 arg7 harg7 arg8 harg8 v19 2#32 v20 v25 1#32 v41 (harg2.unread x0) (harg3.unread x1) (harg4.unread x2) (arg6.view.writes (Elt Ideal) arg6.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).1 ++ L6)) (arg7.view.writes (Elt Ideal) arg7.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.1 ++ L7)) (arg8.view.writes (Elt Ideal) arg8.view.junk ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.2 ++ L8)) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 v19 2#32 v20 v25 1#32 (harg2.unread x0) (harg3.unread x1) (harg4.unread x2) (arg6.view.writes (Elt Ideal) arg6.view.junk L6) (arg7.view.writes (Elt Ideal) arg7.view.junk L7) (arg8.view.writes (Elt Ideal) arg8.view.junk L8) (Scf.trips (k0_t1_loop i).lb (k0_t1_loop i).ub (k0_t1_loop i).st)).2.2 ++ L8))

/-- The whole loop: the state over the keys seen before it and the `512 ⌊(q − 1) / 2⌋` keys from the start. -/
theorem after_held (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (v19 v20 v25 v41 : BitVec 32) (x0 : FVec Ideal S1x768x256 .bf16) (x1 : FVec Ideal S1x6x2048x128 .bf16) (x2 : FVec Ideal S1x8x384x256 .bf16) (hraw : ∀ hd c k, raw x0 x1 hd c k ≠ ⊤)
    (L6 : List (View.Piece (Elt Ideal) S384x256 .f32)) (L7 L8 : List (View.Piece (Elt Ideal) S6x1x256 .f32)) {A : Finset (Fin 2048)} (hA : Disjoint A (keys 0 (512 * (((i 1).val - 1) / 2))))
    (h : Held (sc x0 x1 (i 1).val) (val x2) A (arg6.view.read (Elt Ideal) (arg6.view.writes (Elt Ideal) arg6.view.junk L6)) (arg7.view.read (Elt Ideal) (arg7.view.writes (Elt Ideal) arg7.view.junk L7)) (arg8.view.read (Elt Ideal) (arg8.view.writes (Elt Ideal) arg8.view.junk L8))) :
    Held (sc x0 x1 (i 1).val) (val x2) (A ∪ keys 0 (512 * (((i 1).val - 1) / 2)))
      (arg6.view.read (Elt Ideal) (arg6.view.writes (Elt Ideal) arg6.view.junk (after c i arg2 harg2 arg3 harg3 arg4 harg4 arg5 harg5 arg6 harg6 arg7 harg7 arg8 harg8 v19 v20 v25 v41 x0 x1 x2 L6 L7 L8).1))
      (arg7.view.read (Elt Ideal) (arg7.view.writes (Elt Ideal) arg7.view.junk (after c i arg2 harg2 arg3 harg3 arg4 harg4 arg5 harg5 arg6 harg6 arg7 harg7 arg8 harg8 v19 v20 v25 v41 x0 x1 x2 L6 L7 L8).2.1))
      (arg8.view.read (Elt Ideal) (arg8.view.writes (Elt Ideal) arg8.view.junk (after c i arg2 harg2 arg3 harg3 arg4 harg4 arg5 harg5 arg6 harg6 arg7 harg7 arg8 harg8 v19 v20 v25 v41 x0 x1 x2 L6 L7 L8).2.2)) := by
  have h1 : (Scf.trips (k0_t1_loop i).lb (k0_t1_loop i).ub (k0_t1_loop i).st) = ((i 1).val - 1) / 2 := trips1 i
  have h2 : (Scf.trips (k0_t2_loop i).lb (k0_t2_loop i).ub (k0_t2_loop i).st) = 0 := trips2 i
  have e := loop_held Variants.none c none i arg2 harg2 arg3 harg3 arg4 harg4 arg5 harg5 arg6 harg6 arg7 harg7 arg8 harg8 v19 2#32 v20 v25 1#32 x0 x1 x2 hraw _ _ _ hA h (((i 1).val - 1) / 2) le_rfl
  unfold after
  rw [h1, h2, pb_k0_t2.eq_1]
  simp only [List.nil_append, View.writes_append]
  exact e

/-- The block a grid point writes, from the heads' weighted sums and totals. -/
def outp (a : Fin 6 → FVec Ideal S64x256 .f32) (l : Fin 6 → FVec Ideal S1x1x256 .f32) : FVec Ideal S1x256x384 .bf16 :=
  k0_pay1 (k0_pay313 (a 0) (l 0)) (a 1) (k0_pay314 (l 1)) (a 2) (l 2) (a 3) (l 3) (a 4) (l 4) (a 5) (l 5)

theorem outp_at (a : Fin 6 → FVec Ideal S64x256 .f32) (l : Fin 6 → FVec Ideal S1x1x256 .f32) (hd : Fin 6) (r : Fin 64) (c : Fin 256) :
    outp a l (ix3 0 c (row hd r)) = Ideal.div (a hd (ix2 r c)) (l hd (ix3 0 0 c)) := by
  unfold row
  fin_cases hd
  all_goals pointwise [outp, k0_pay1, k0_pay313, k0_pay314]
  · have e : (⟨128 + r.val - 64 - 64, by omega⟩ : Fin 64) = r := Fin.ext (show 128 + r.val - 64 - 64 = r.val by omega)
    rw [dif_neg (by omega), dif_neg (by omega), dif_pos (by omega), e]
  · have e : (⟨192 + r.val - 64 - 64 - 64, by omega⟩ : Fin 64) = r := Fin.ext (show 192 + r.val - 64 - 64 - 64 = r.val by omega)
    rw [dif_neg (by omega), dif_neg (by omega), dif_neg (by omega), dif_pos (by omega), e]
  · have e : (⟨256 + r.val - 64 - 64 - 64 - 64, by omega⟩ : Fin 64) = r := Fin.ext (show 256 + r.val - 64 - 64 - 64 - 64 = r.val by omega)
    rw [dif_neg (by omega), dif_neg (by omega), dif_neg (by omega), dif_neg (by omega), dif_pos (by omega), e]
  · have e : (⟨320 + r.val - 64 - 64 - 64 - 64 - 64, by omega⟩ : Fin 64) = r := Fin.ext (show 320 + r.val - 64 - 64 - 64 - 64 - 64 = r.val by omega)
    rw [dif_neg (by omega), dif_neg (by omega), dif_neg (by omega), dif_neg (by omega), dif_neg (by omega), e]

end Cert.KernelIdeal.Point

end
-- ==== Proof.CaseA.lean ====
/- The first query tile: the strip with the causal mask, and the block that is written. -/
module

public import proofs.«01_k».proof.Proof.Gen.KernelIdeal.Frame
public import proofs.«01_k».proof.Proof.Point

@[expose] public section

set_option maxRecDepth 16384
set_option maxHeartbeats 200000

noncomputable section

namespace Cert.KernelIdeal.CaseA

open Cert.KernelIdeal Cert.KernelIdeal.Gen Cert.KernelIdeal.Step Cert.KernelIdeal.State Cert.KernelIdeal.Loads Cert.KernelIdeal.Offs Cert.KernelIdeal.Point Idealize.ShloMosaic Idealize.SL.Sem

/-- The six heads' scores of the strip with the causal mask, -/
def diagS (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S256x256 .f32 :=
  ![kernelRun0_A.sl.r (F := Ideal) c arg2 harg2 arg3 harg3 x0 x1, kernelRun0_A.sl.r_1 (F := Ideal) c arg2 harg2 arg3 harg3 x0 x1, kernelRun0_A.sl.r_2 (F := Ideal) c arg2 harg2 arg3 harg3 x0 x1, kernelRun0_A.sl.r_3 (F := Ideal) c arg2 harg2 arg3 harg3 x0 x1, kernelRun0_A.sl.r_4 (F := Ideal) c arg2 harg2 arg3 harg3 x0 x1, kernelRun0_A.sl.r_5 (F := Ideal) c arg2 harg2 arg3 harg3 x0 x1]

/-- their values, -/
def diagV (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S64x256 .bf16 :=
  ![extractStridedSlice S64x256 ![0, 0] (kernelRun0_A.sl.v93 (F := Ideal) c arg4 harg4 x2 : FVec Ideal S384x256 .bf16) slices_S384x256_o0_0_S64x256, extractStridedSlice S64x256 ![64, 0] (kernelRun0_A.sl.v93 (F := Ideal) c arg4 harg4 x2 : FVec Ideal S384x256 .bf16) slices_S384x256_o64_0_S64x256, extractStridedSlice S64x256 ![128, 0] (kernelRun0_A.sl.v93 (F := Ideal) c arg4 harg4 x2 : FVec Ideal S384x256 .bf16) slices_S384x256_o128_0_S64x256, extractStridedSlice S64x256 ![192, 0] (kernelRun0_A.sl.v93 (F := Ideal) c arg4 harg4 x2 : FVec Ideal S384x256 .bf16) slices_S384x256_o192_0_S64x256, extractStridedSlice S64x256 ![256, 0] (kernelRun0_A.sl.v93 (F := Ideal) c arg4 harg4 x2 : FVec Ideal S384x256 .bf16) slices_S384x256_o256_0_S64x256, extractStridedSlice S64x256 ![320, 0] (kernelRun0_A.sl.v93 (F := Ideal) c arg4 harg4 x2 : FVec Ideal S384x256 .bf16) slices_S384x256_o320_0_S64x256]

/-- their maxima before it, -/
def diagM (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S1x1x256 .f32 :=
  ![kernelRun0_A.sl.v147 (F := Ideal) c arg7, kernelRun0_A.sl.v170 (F := Ideal) c arg2 harg2 arg3 harg3 arg7 x0 x1, kernelRun0_A.sl.v193 (F := Ideal) c arg2 harg2 arg3 harg3 arg7 x0 x1, kernelRun0_A.sl.v216 (F := Ideal) c arg2 harg2 arg3 harg3 arg7 x0 x1, kernelRun0_A.sl.v239 (F := Ideal) c arg2 harg2 arg3 harg3 arg7 x0 x1, kernelRun0_A.sl.v262 (F := Ideal) c arg2 harg2 arg3 harg3 arg7 x0 x1]

/-- their totals before it, -/
def diagL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S1x1x256 .f32 :=
  ![kernelRun0_A.sl.v157 (F := Ideal) c arg8, kernelRun0_A.sl.v180 (F := Ideal) c arg2 harg2 arg3 harg3 arg7 arg8 x0 x1, kernelRun0_A.sl.v203 (F := Ideal) c arg2 harg2 arg3 harg3 arg7 arg8 x0 x1, kernelRun0_A.sl.v226 (F := Ideal) c arg2 harg2 arg3 harg3 arg7 arg8 x0 x1, kernelRun0_A.sl.v249 (F := Ideal) c arg2 harg2 arg3 harg3 arg7 arg8 x0 x1, kernelRun0_A.sl.v272 (F := Ideal) c arg2 harg2 arg3 harg3 arg7 arg8 x0 x1]

/-- and their weighted sums before it. -/
def diagA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S64x256 .f32 :=
  ![kernelRun0_A.sl.v285 (F := Ideal) c arg6, kernelRun0_A.sl.v294 (F := Ideal) c arg2 harg2 arg3 harg3 arg4 harg4 arg6 arg7 x0 x1 x2, kernelRun0_A.sl.v303 (F := Ideal) c arg2 harg2 arg3 harg3 arg4 harg4 arg6 arg7 x0 x1 x2, kernelRun0_A.sl.v312 (F := Ideal) c arg2 harg2 arg3 harg3 arg4 harg4 arg6 arg7 x0 x1 x2, kernelRun0_A.sl.v321 (F := Ideal) c arg2 harg2 arg3 harg3 arg4 harg4 arg6 arg7 x0 x1 x2, kernelRun0_A.sl.v330 (F := Ideal) c arg2 harg2 arg3 harg3 arg4 harg4 arg6 arg7 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 x0 x1 x2

theorem diagS_0  : diagS c i arg2 harg2 arg3 harg3 arg4 harg4 arg5 harg5 arg6 harg6 arg7 harg7 arg8 harg8 hc1 x0 x1 x2 0 = kernelRun0_A.sl.r (F := Ideal) c arg2 harg2 arg3 harg3 x0 x1 := by
  simp only [diagS, Matrix.cons_val]

theorem diagS_1  : diagS c i arg2 harg2 arg3 harg3 arg4 harg4 arg5 harg5 arg6 harg6 arg7 harg7 arg8 harg8 hc1 x0 x1 x2 1 = kernelRun0_A.sl.r_1 (F := Ideal) c arg2 harg2 arg3 harg3 x0 x1 := by
  simp only [diagS, Matrix.cons_val]

theorem diagS_2  : diagS c i arg2 harg2 arg3 harg3 arg4 harg4 arg5 harg5 arg6 harg6 arg7 harg7 arg8 harg8 hc1 x0 x1 x2 2 = kernelRun0_A.sl.r_2 (F := Ideal) c arg2 harg2 arg3 harg3 x0 x1 := by
  simp only [diagS, Matrix.cons_val]

theorem diagS_3  : diagS c i arg2 harg2 arg3 harg3 arg4 harg4 arg5 harg5 arg6 harg6 arg7 harg7 arg8 harg8 hc1 x0 x1 x2 3 = kernelRun0_A.sl.r_3 (F := Ideal) c arg2 harg2 arg3 harg3 x0 x1 := by
  simp only [diagS, Matrix.cons_val]

theorem diagS_4  : diagS c i arg2 harg2 arg3 harg3 arg4 harg4 arg5 harg5 arg6 harg6 arg7 harg7 arg8 harg8 hc1 x0 x1 x2 4 = kernelRun0_A.sl.r_4 (F := Ideal) c arg2 harg2 arg3 harg3 x0 x1 := by
  simp only [diagS, Matrix.cons_val]

theorem diagS_5  : diagS c i arg2 harg2 arg3 harg3 arg4 harg4 arg5 harg5 arg6 harg6 arg7 harg7 arg8 harg8 hc1 x0 x1 x2 5 = kernelRun0_A.sl.r_5 (F := Ideal) c arg2 harg2 arg3 harg3 x0 x1 := by
  simp only [diagS, Matrix.cons_val]

theorem diagV_0  : diagV c i arg2 harg2 arg3 harg3 arg4 harg4 arg5 harg5 arg6 harg6 arg7 harg7 arg8 harg8 hc1 x0 x1 x2 0 = extractStridedSlice S64x256 ![0, 0] (kernelRun0_A.sl.v93 (F := Ideal) c arg4 harg4 x2 : FVec Ideal S384x256 .bf16) slices_S384x256_o0_0_S64x256 := by
  simp only [diagV, Matrix.cons_val]

theorem diagV_1  : diagV c i arg2 harg2 arg3 harg3 arg4 harg4 arg5 harg5 arg6 harg6 arg7 harg7 arg8 harg8 hc1 x0 x1 x2 1 = extractStridedSlice S64x256 ![64, 0] (kernelRun0_A.sl.v93 (F := Ideal) c arg4 harg4 x2 : FVec Ideal S384x256 .bf16) slices_S384x256_o64_0_S64x256 := by
  simp only [diagV, Matrix.cons_val]

theorem diagV_2  : diagV c i arg2 harg2 arg3 harg3 arg4 harg4 arg5 harg5 arg6 harg6 arg7 harg7 arg8 harg8 hc1 x0 x1 x2 2 = extractStridedSlice S64x256 ![128, 0] (kernelRun0_A.sl.v93 (F := Ideal) c arg4 harg4 x2 : FVec Ideal S384x256 .bf16) slices_S384x256_o128_0_S64x256 := by
  simp only [diagV, Matrix.cons_val]

theorem diagV_3  : diagV c i arg2 harg2 arg3 harg3 arg4 harg4 arg5 harg5 arg6 harg6 arg7 harg7 arg8 harg8 hc1 x0 x1 x2 3 = extractStridedSlice S64x256 ![192, 0] (kernelRun0_A.sl.v93 (F := Ideal) c arg4 harg4 x2 : FVec Ideal S384x256 .bf16) slices_S384x256_o192_0_S64x256 := by
  simp only [diagV, Matrix.cons_val]

theorem diagV_4  : diagV c i arg2 harg2 arg3 harg3 arg4 harg4 arg5 harg5 arg6 harg6 arg7 harg7 arg8 harg8 hc1 x0 x1 x2 4 = extractStridedSlice S64x256 ![256, 0] (kernelRun0_A.sl.v93 (F := Ideal) c arg4 harg4 x2 : FVec Ideal S384x256 .bf16) slices_S384x256_o256_0_S64x256 := by
  simp only [diagV, Matrix.cons_val]

theorem diagV_5  : diagV c i arg2 harg2 arg3 harg3 arg4 harg4 arg5 harg5 arg6 harg6 arg7 harg7 arg8 harg8 hc1 x0 x1 x2 5 = extractStridedSlice S64x256 ![320, 0] (kernelRun0_A.sl.v93 (F := Ideal) c arg4 harg4 x2 : FVec Ideal S384x256 .bf16) slices_S384x256_o320_0_S64x256 := by
  simp only [diagV, Matrix.cons_val]

theorem diagM_0  : diagM c i arg2 harg2 arg3 harg3 arg4 harg4 arg5 harg5 arg6 harg6 arg7 harg7 arg8 harg8 hc1 x0 x1 x2 0 = kernelRun0_A.sl.v147 (F := Ideal) c arg7 := by
  simp only [diagM, Matrix.cons_val]

theorem diagM_1  : diagM c i arg2 harg2 arg3 harg3 arg4 harg4 arg5 harg5 arg6 harg6 arg7 harg7 arg8 harg8 hc1 x0 x1 x2 1 = kernelRun0_A.sl.v170 (F := Ideal) c arg2 harg2 arg3 harg3 arg7 x0 x1 := by
  simp only [diagM, Matrix.cons_val]

theorem diagM_2  : diagM c i arg2 harg2 arg3 harg3 arg4 harg4 arg5 harg5 arg6 harg6 arg7 harg7 arg8 harg8 hc1 x0 x1 x2 2 = kernelRun0_A.sl.v193 (F := Ideal) c arg2 harg2 arg3 harg3 arg7 x0 x1 := by
  simp only [diagM, Matrix.cons_val]

theorem diagM_3  : diagM c i arg2 harg2 arg3 harg3 arg4 harg4 arg5 harg5 arg6 harg6 arg7 harg7 arg8 harg8 hc1 x0 x1 x2 3 = kernelRun0_A.sl.v216 (F := Ideal) c arg2 harg2 arg3 harg3 arg7 x0 x1 := by
  simp only [diagM, Matrix.cons_val]

theorem diagM_4  : diagM c i arg2 harg2 arg3 harg3 arg4 harg4 arg5 harg5 arg6 harg6 arg7 harg7 arg8 harg8 hc1 x0 x1 x2 4 = kernelRun0_A.sl.v239 (F := Ideal) c arg2 harg2 arg3 harg3 arg7 x0 x1 := by
  simp only [diagM, Matrix.cons_val]

theorem diagM_5  : diagM c i arg2 harg2 arg3 harg3 arg4 harg4 arg5 harg5 arg6 harg6 arg7 harg7 arg8 harg8 hc1 x0 x1 x2 5 = kernelRun0_A.sl.v262 (F := Ideal) c arg2 harg2 arg3 harg3 arg7 x0 x1 := by
  simp only [diagM, Matrix.cons_val]

theorem diagL_0  : diagL c i arg2 harg2 arg3 harg3 arg4 harg4 arg5 harg5 arg6 harg6 arg7 harg7 arg8 harg8 hc1 x0 x1 x2 0 = kernelRun0_A.sl.v157 (F := Ideal) c arg8 := by
  simp only [diagL, Matrix.cons_val]

theorem diagL_1  : diagL c i arg2 harg2 arg3 harg3 arg4 harg4 arg5 harg5 arg6 harg6 arg7 harg7 arg8 harg8 hc1 x0 x1 x2 1 = kernelRun0_A.sl.v180 (F := Ideal) c arg2 harg2 arg3 harg3 arg7 arg8 x0 x1 := by
  simp only [diagL, Matrix.cons_val]

theorem diagL_2  : diagL c i arg2 harg2 arg3 harg3 arg4 harg4 arg5 harg5 arg6 harg6 arg7 harg7 arg8 harg8 hc1 x0 x1 x2 2 = kernelRun0_A.sl.v203 (F := Ideal) c arg2 harg2 arg3 harg3 arg7 arg8 x0 x1 := by
  simp only [diagL, Matrix.cons_val]

theorem diagL_3  : diagL c i arg2 harg2 arg3 harg3 arg4 harg4 arg5 harg5 arg6 harg6 arg7 harg7 arg8 harg8 hc1 x0 x1 x2 3 = kernelRun0_A.sl.v226 (F := Ideal) c arg2 harg2 arg3 harg3 arg7 arg8 x0 x1 := by
  simp only [diagL, Matrix.cons_val]

theorem diagL_4  : diagL c i arg2 harg2 arg3 harg3 arg4 harg4 arg5 harg5 arg6 harg6 arg7 harg7 arg8 harg8 hc1 x0 x1 x2 4 = kernelRun0_A.sl.v249 (F := Ideal) c arg2 harg2 arg3 harg3 arg7 arg8 x0 x1 := by
  simp only [diagL, Matrix.cons_val]

theorem diagL_5  : diagL c i arg2 harg2 arg3 harg3 arg4 harg4 arg5 harg5 arg6 harg6 arg7 harg7 arg8 harg8 hc1 x0 x1 x2 5 = kernelRun0_A.sl.v272 (F := Ideal) c arg2 harg2 arg3 harg3 arg7 arg8 x0 x1 := by
  simp only [diagL, Matrix.cons_val]

theorem diagA_0  : diagA c i arg2 harg2 arg3 harg3 arg4 harg4 arg5 harg5 arg6 harg6 arg7 harg7 arg8 harg8 hc1 x0 x1 x2 0 = kernelRun0_A.sl.v285 (F := Ideal) c arg6 := by
  simp only [diagA, Matrix.cons_val]

theorem diagA_1  : diagA c i arg2 harg2 arg3 harg3 arg4 harg4 arg5 harg5 arg6 harg6 arg7 harg7 arg8 harg8 hc1 x0 x1 x2 1 = kernelRun0_A.sl.v294 (F := Ideal) c arg2 harg2 arg3 harg3 arg4 harg4 arg6 arg7 x0 x1 x2 := by
  simp only [diagA, Matrix.cons_val]

theorem diagA_2  : diagA c i arg2 harg2 arg3 harg3 arg4 harg4 arg5 harg5 arg6 harg6 arg7 harg7 arg8 harg8 hc1 x0 x1 x2 2 = kernelRun0_A.sl.v303 (F := Ideal) c arg2 harg2 arg3 harg3 arg4 harg4 arg6 arg7 x0 x1 x2 := by
  simp only [diagA, Matrix.cons_val]

theorem diagA_3  : diagA c i arg2 harg2 arg3 harg3 arg4 harg4 arg5 harg5 arg6 harg6 arg7 harg7 arg8 harg8 hc1 x0 x1 x2 3 = kernelRun0_A.sl.v312 (F := Ideal) c arg2 harg2 arg3 harg3 arg4 harg4 arg6 arg7 x0 x1 x2 := by
  simp only [diagA, Matrix.cons_val]

theorem diagA_4  : diagA c i arg2 harg2 arg3 harg3 arg4 harg4 arg5 harg5 arg6 harg6 arg7 harg7 arg8 harg8 hc1 x0 x1 x2 4 = kernelRun0_A.sl.v321 (F := Ideal) c arg2 harg2 arg3 harg3 arg4 harg4 arg6 arg7 x0 x1 x2 := by
  simp only [diagA, Matrix.cons_val]

theorem diagA_5  : diagA c i arg2 harg2 arg3 harg3 arg4 harg4 arg5 harg5 arg6 harg6 arg7 harg7 arg8 harg8 hc1 x0 x1 x2 5 = kernelRun0_A.sl.v330 (F := Ideal) c arg2 harg2 arg3 harg3 arg4 harg4 arg6 arg7 x0 x1 x2 := by
  simp only [diagA, Matrix.cons_val]

/-- Head 0's scores, from the loads. -/
theorem diagS_load_0  : ∃ inb inbq, kernelRun0_A.sl.r (F := Ideal) c arg2 harg2 arg3 harg3 x0 x1 = mask1 (score1 (View.readAt (Elt Ideal) arg3.view (Rect.unit (s := S1x6x2048x128) ![0, 0, 0, 0] S1x1x256x128.size inb).toLoadRect (harg3.unread x1)) (View.readAt (Elt Ideal) arg2.view (Rect.unit (s := S1x768x256) ![0, 0, 0] S1x128x256.size inbq).toLoadRect (harg2.unread x0))) :=
  ⟨_, _, rfl⟩

/-- Head 1's scores, from the loads. -/
theorem diagS_load_1  : ∃ inb inbq, kernelRun0_A.sl.r_1 (F := Ideal) c arg2 harg2 arg3 harg3 x0 x1 = mask1 (score1 (View.readAt (Elt Ideal) arg3.view (Rect.unit (s := S1x6x2048x128) ![0, 1, 0, 0] S1x1x256x128.size inb).toLoadRect (harg3.unread x1)) (View.readAt (Elt Ideal) arg2.view (Rect.unit (s := S1x768x256) ![0, 128, 0] S1x128x256.size inbq).toLoadRect (harg2.unread x0))) :=
  ⟨_, _, rfl⟩

/-- Head 2's scores, from the loads. -/
theorem diagS_load_2  : ∃ inb inbq, kernelRun0_A.sl.r_2 (F := Ideal) c arg2 harg2 arg3 harg3 x0 x1 = mask1 (score1 (View.readAt (Elt Ideal) arg3.view (Rect.unit (s := S1x6x2048x128) ![0, 2, 0, 0] S1x1x256x128.size inb).toLoadRect (harg3.unread x1)) (View.readAt (Elt Ideal) arg2.view (Rect.unit (s := S1x768x256) ![0, 256, 0] S1x128x256.size inbq).toLoadRect (harg2.unread x0))) :=
  ⟨_, _, rfl⟩

/-- Head 3's scores, from the loads. -/
theorem diagS_load_3  : ∃ inb inbq, kernelRun0_A.sl.r_3 (F := Ideal) c arg2 harg2 arg3 harg3 x0 x1 = mask1 (score1 (View.readAt (Elt Ideal) arg3.view (Rect.unit (s := S1x6x2048x128) ![0, 3, 0, 0] S1x1x256x128.size inb).toLoadRect (harg3.unread x1)) (View.readAt (Elt Ideal) arg2.view (Rect.unit (s := S1x768x256) ![0, 384, 0] S1x128x256.size inbq).toLoadRect (harg2.unread x0))) :=
  ⟨_, _, rfl⟩

/-- Head 4's scores, from the loads. -/
theorem diagS_load_4  : ∃ inb inbq, kernelRun0_A.sl.r_4 (F := Ideal) c arg2 harg2 arg3 harg3 x0 x1 = mask1 (score1 (View.readAt (Elt Ideal) arg3.view (Rect.unit (s := S1x6x2048x128) ![0, 4, 0, 0] S1x1x256x128.size inb).toLoadRect (harg3.unread x1)) (View.readAt (Elt Ideal) arg2.view (Rect.unit (s := S1x768x256) ![0, 512, 0] S1x128x256.size inbq).toLoadRect (harg2.unread x0))) :=
  ⟨_, _, rfl⟩

/-- Head 5's scores, from the loads. -/
theorem diagS_load_5  : ∃ inb inbq, kernelRun0_A.sl.r_5 (F := Ideal) c arg2 harg2 arg3 harg3 x0 x1 = mask1 (score1 (View.readAt (Elt Ideal) arg3.view (Rect.unit (s := S1x6x2048x128) ![0, 5, 0, 0] S1x1x256x128.size inb).toLoadRect (harg3.unread x1)) (View.readAt (Elt Ideal) arg2.view (Rect.unit (s := S1x768x256) ![0, 640, 0] S1x128x256.size inbq).toLoadRect (harg2.unread x0))) :=
  ⟨_, _, rfl⟩

/-- The values, from the load. -/
theorem diagV_load  : ∃ inb, kernelRun0_A.sl.v93 (F := Ideal) c arg4 harg4 x2 = shapeCast S384x256 (View.readAt (Elt Ideal) arg4.view (Rect.unit (s := S1x8x384x256) ![0, 0, 0, 0] S1x1x384x256.size inb).toLoadRect (harg4.unread x2)) shapeCasts_S1x1x384x256_S384x256 :=
  ⟨_, rfl⟩

/-- Head 0's maximum loaded is the one before the strip. -/
theorem diagM_at_0  (b : Fin 256) : diagM c i arg2 harg2 arg3 harg3 arg4 harg4 arg5 harg5 arg6 harg6 arg7 harg7 arg8 harg8 hc1 x0 x1 x2 0 (ix3 0 0 b) = (arg7.view.read (Elt Ideal) (arg7.view.writes (Elt Ideal) arg7.view.junk (kernelRun0_A.sl.HS1_1 (F := Ideal) ))) (ix3 0 0 b) := by
  rw [diagM_0]
  unfold kernelRun0_A.sl.v147 View.readCov
  refine (load_row3 arg7 _ _ 0 b rfl).trans ?_
  rfl

/-- Head 1's maximum loaded is the one before the strip. -/
theorem diagM_at_1  (b : Fin 256) : diagM c i arg2 harg2 arg3 harg3 arg4 harg4 arg5 harg5 arg6 harg6 arg7 harg7 arg8 harg8 hc1 x0 x1 x2 1 (ix3 0 0 b) = (arg7.view.read (Elt Ideal) (arg7.view.writes (Elt Ideal) arg7.view.junk (kernelRun0_A.sl.HS1_1 (F := Ideal) ))) (ix3 1 0 b) := by
  rw [diagM_1]
  unfold kernelRun0_A.sl.v170 View.readCov
  refine (load_row3 arg7 _ _ 1 b rfl).trans ?_
  unfold kernelRun0_A.sl.HS1_2
  refine (skip3 _ _ _ _ _ 1 0 rfl (by decide) b).trans ?_
  rfl

/-- Head 2's maximum loaded is the one before the strip. -/
theorem diagM_at_2  (b : Fin 256) : diagM c i arg2 harg2 arg3 harg3 arg4 harg4 arg5 harg5 arg6 harg6 arg7 harg7 arg8 harg8 hc1 x0 x1 x2 2 (ix3 0 0 b) = (arg7.view.read (Elt Ideal) (arg7.view.writes (Elt Ideal) arg7.view.junk (kernelRun0_A.sl.HS1_1 (F := Ideal) ))) (ix3 2 0 b) := by
  rw [diagM_2]
  unfold kernelRun0_A.sl.v193 View.readCov
  refine (load_row3 arg7 _ _ 2 b rfl).trans ?_
  unfold kernelRun0_A.sl.HS1_3
  refine (skip3 _ _ _ _ _ 2 1 rfl (by decide) b).trans ?_
  unfold kernelRun0_A.sl.HS1_2
  refine (skip3 _ _ _ _ _ 2 0 rfl (by decide) b).trans ?_
  rfl

/-- Head 3's maximum loaded is the one before the strip. -/
theorem diagM_at_3  (b : Fin 256) : diagM c i arg2 harg2 arg3 harg3 arg4 harg4 arg5 harg5 arg6 harg6 arg7 harg7 arg8 harg8 hc1 x0 x1 x2 3 (ix3 0 0 b) = (arg7.view.read (Elt Ideal) (arg7.view.writes (Elt Ideal) arg7.view.junk (kernelRun0_A.sl.HS1_1 (F := Ideal) ))) (ix3 3 0 b) := by
  rw [diagM_3]
  unfold kernelRun0_A.sl.v216 View.readCov
  refine (load_row3 arg7 _ _ 3 b rfl).trans ?_
  unfold kernelRun0_A.sl.HS1_4
  refine (skip3 _ _ _ _ _ 3 2 rfl (by decide) b).trans ?_
  unfold kernelRun0_A.sl.HS1_3
  refine (skip3 _ _ _ _ _ 3 1 rfl (by decide) b).trans ?_
  unfold kernelRun0_A.sl.HS1_2
  refine (skip3 _ _ _ _ _ 3 0 rfl (by decide) b).trans ?_
  rfl

/-- Head 4's maximum loaded is the one before the strip. -/
theorem diagM_at_4  (b : Fin 256) : diagM c i arg2 harg2 arg3 harg3 arg4 harg4 arg5 harg5 arg6 harg6 arg7 harg7 arg8 harg8 hc1 x0 x1 x2 4 (ix3 0 0 b) = (arg7.view.read (Elt Ideal) (arg7.view.writes (Elt Ideal) arg7.view.junk (kernelRun0_A.sl.HS1_1 (F := Ideal) ))) (ix3 4 0 b) := by
  rw [diagM_4]
  unfold kernelRun0_A.sl.v239 View.readCov
  refine (load_row3 arg7 _ _ 4 b rfl).trans ?_
  unfold kernelRun0_A.sl.HS1_5
  refine (skip3 _ _ _ _ _ 4 3 rfl (by decide) b).trans ?_
  unfold kernelRun0_A.sl.HS1_4
  refine (skip3 _ _ _ _ _ 4 2 rfl (by decide) b).trans ?_
  unfold kernelRun0_A.sl.HS1_3
  refine (skip3 _ _ _ _ _ 4 1 rfl (by decide) b).trans ?_
  unfold kernelRun0_A.sl.HS1_2
  refine (skip3 _ _ _ _ _ 4 0 rfl (by decide) b).trans ?_
  rfl

/-- Head 5's maximum loaded is the one before the strip. -/
theorem diagM_at_5  (b : Fin 256) : diagM c i arg2 harg2 arg3 harg3 arg4 harg4 arg5 harg5 arg6 harg6 arg7 harg7 arg8 harg8 hc1 x0 x1 x2 5 (ix3 0 0 b) = (arg7.view.read (Elt Ideal) (arg7.view.writes (Elt Ideal) arg7.view.junk (kernelRun0_A.sl.HS1_1 (F := Ideal) ))) (ix3 5 0 b) := by
  rw [diagM_5]
  unfold kernelRun0_A.sl.v262 View.readCov
  refine (load_row3 arg7 _ _ 5 b rfl).trans ?_
  unfold kernelRun0_A.sl.HS1_6
  refine (skip3 _ _ _ _ _ 5 4 rfl (by decide) b).trans ?_
  unfold kernelRun0_A.sl.HS1_5
  refine (skip3 _ _ _ _ _ 5 3 rfl (by decide) b).trans ?_
  unfold kernelRun0_A.sl.HS1_4
  refine (skip3 _ _ _ _ _ 5 2 rfl (by decide) b).trans ?_
  unfold kernelRun0_A.sl.HS1_3
  refine (skip3 _ _ _ _ _ 5 1 rfl (by decide) b).trans ?_
  unfold kernelRun0_A.sl.HS1_2
  refine (skip3 _ _ _ _ _ 5 0 rfl (by decide) b).trans ?_
  rfl

/-- The maximums loaded are those before the strip. -/
theorem diagM_at  (hd : Fin 6) (b : Fin 256) : diagM c i arg2 harg2 arg3 harg3 arg4 harg4 arg5 harg5 arg6 harg6 arg7 harg7 arg8 harg8 hc1 x0 x1 x2 hd (ix3 0 0 b) = (arg7.view.read (Elt Ideal) (arg7.view.writes (Elt Ideal) arg7.view.junk (kernelRun0_A.sl.HS1_1 (F := Ideal) ))) (ix3 hd 0 b) := by
  fin_cases hd
  exacts [diagM_at_0 c i arg2 harg2 arg3 harg3 arg4 harg4 arg5 harg5 arg6 harg6 arg7 harg7 arg8 harg8 hc1 x0 x1 x2 b, diagM_at_1 c i arg2 harg2 arg3 harg3 arg4 harg4 arg5 harg5 arg6 harg6 arg7 harg7 arg8 harg8 hc1 x0 x1 x2 b, diagM_at_2 c i arg2 harg2 arg3 harg3 arg4 harg4 arg5 harg5 arg6 harg6 arg7 harg7 arg8 harg8 hc1 x0 x1 x2 b, diagM_at_3 c i arg2 harg2 arg3 harg3 arg4 harg4 arg5 harg5 arg6 harg6 arg7 harg7 arg8 harg8 hc1 x0 x1 x2 b, diagM_at_4 c i arg2 harg2 arg3 harg3 arg4 harg4 arg5 harg5 arg6 harg6 arg7 harg7 arg8 harg8 hc1 x0 x1 x2 b, diagM_at_5 c i arg2 harg2 arg3 harg3 arg4 harg4 arg5 harg5 arg6 harg6 arg7 harg7 arg8 harg8 hc1 x0 x1 x2 b]

/-- Head 0's maximum after the strip. -/
theorem diagM_new_0  (b : Fin 256) : (arg7.view.read (Elt Ideal) (arg7.view.writes (Elt Ideal) arg7.view.junk (kernelRun0_A.sl.HS1_7 (F := Ideal) c arg2 harg2 arg3 harg3 arg7 x0 x1))) (ix3 0 0 b) = newM1 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (ix3 0 0 b) := by
  rw [diagS_0, diagM_0]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 0 b).trans ?_
  simp only [Matrix.cons_val]
  rfl

/-- Head 1's maximum after the strip. -/
theorem diagM_new_1  (b : Fin 256) : (arg7.view.read (Elt Ideal) (arg7.view.writes (Elt Ideal) arg7.view.junk (kernelRun0_A.sl.HS1_7 (F := Ideal) c arg2 harg2 arg3 harg3 arg7 x0 x1))) (ix3 1 0 b) = newM1 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (ix3 0 0 b) := by
  rw [diagS_1, diagM_1]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 1 b).trans ?_
  simp only [Matrix.cons_val]
  rfl

/-- Head 2's maximum after the strip. -/
theorem diagM_new_2  (b : Fin 256) : (arg7.view.read (Elt Ideal) (arg7.view.writes (Elt Ideal) arg7.view.junk (kernelRun0_A.sl.HS1_7 (F := Ideal) c arg2 harg2 arg3 harg3 arg7 x0 x1))) (ix3 2 0 b) = newM1 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (ix3 0 0 b) := by
  rw [diagS_2, diagM_2]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 2 b).trans ?_
  simp only [Matrix.cons_val]
  rfl

/-- Head 3's maximum after the strip. -/
theorem diagM_new_3  (b : Fin 256) : (arg7.view.read (Elt Ideal) (arg7.view.writes (Elt Ideal) arg7.view.junk (kernelRun0_A.sl.HS1_7 (F := Ideal) c arg2 harg2 arg3 harg3 arg7 x0 x1))) (ix3 3 0 b) = newM1 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (ix3 0 0 b) := by
  rw [diagS_3, diagM_3]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 3 b).trans ?_
  simp only [Matrix.cons_val]
  rfl

/-- Head 4's maximum after the strip. -/
theorem diagM_new_4  (b : Fin 256) : (arg7.view.read (Elt Ideal) (arg7.view.writes (Elt Ideal) arg7.view.junk (kernelRun0_A.sl.HS1_7 (F := Ideal) c arg2 harg2 arg3 harg3 arg7 x0 x1))) (ix3 4 0 b) = newM1 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (ix3 0 0 b) := by
  rw [diagS_4, diagM_4]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 4 b).trans ?_
  simp only [Matrix.cons_val]
  rfl

/-- Head 5's maximum after the strip. -/
theorem diagM_new_5  (b : Fin 256) : (arg7.view.read (Elt Ideal) (arg7.view.writes (Elt Ideal) arg7.view.junk (kernelRun0_A.sl.HS1_7 (F := Ideal) c arg2 harg2 arg3 harg3 arg7 x0 x1))) (ix3 5 0 b) = newM1 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (ix3 0 0 b) := by
  rw [diagS_5, diagM_5]
  unfold kernelRun0_A.sl.HS1_7
  unfold kernelRun0_A.sl.HS1_6
  unfold kernelRun0_A.sl.HS1_5
  unfold kernelRun0_A.sl.HS1_4
  unfold kernelRun0_A.sl.HS1_3
  unfold kernelRun0_A.sl.HS1_2
  refine (read_rows3 arg7.view _ _ _ _ _ _ _ _ _ _ _ _ _ _ 5 b).trans ?_
  simp only [Matrix.cons_val]
  rfl

/-- The maximums after the strip. -/
theorem diagM_new  (hd : Fin 6) (b : Fin 256) : (arg7.view.read (Elt Ideal) (arg7.view.writes (Elt Ideal) arg7.view.junk (kernelRun0_A.sl.HS1_7 (F := Ideal) c arg2 harg2 arg3 harg3 arg7 x0 x1))) (ix3 hd 0 b) = newM1 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (ix3 0 0 b) := by
  fin_cases hd
  exacts [diagM_new_0 c i arg2 harg2 arg3 harg3 arg4 harg4 arg5 harg5 arg6 harg6 arg7 harg7 arg8 harg8 hc1 x0 x1 x2 b, diagM_new_1 c i arg2 harg2 arg3 harg3 arg4 harg4 arg5 harg5 arg6 harg6 arg7 harg7 arg8 harg8 hc1 x0 x1 x2 b, diagM_new_2 c i arg2 harg2 arg3 harg3 arg4 harg4 arg5 harg5 arg6 harg6 arg7 harg7 arg8 harg8 hc1 x0 x1 x2 b, diagM_new_3 c i arg2 harg2 arg3 harg3 arg4 harg4 arg5 harg5 arg6 harg6 arg7 harg7 arg8 harg8 hc1 x0 x1 x2 b, diagM_new_4 c i arg2 harg2 arg3 harg3 arg4 harg4 arg5 harg5 arg6 harg6 arg7 harg7 arg8 harg8 hc1 x0 x1 x2 b, diagM_new_5 c i arg2 harg2 arg3 harg3 arg4 harg4 arg5 harg5 arg6 harg6 arg7 harg7 arg8 harg8 hc1 x0 x1 x2 b]

/-- Head 0's total loaded is the one before the strip. -/
theorem diagL_at_0  (b : Fin 256) : diagL c i arg2 harg2 arg3 harg3 arg4 harg4 arg5 harg5 arg6 harg6 arg7 harg7 arg8 harg8 hc1 x0 x1 x2 0 (ix3 0 0 b) = (arg8.view.read (Elt Ideal) (arg8.view.writes (Elt Ideal) arg8.view.junk (kernelRun0_A.sl.HS2_1 (F := Ideal) ))) (ix3 0 0 b) := by
  rw [diagL_0]
  unfold kernelRun0_A.sl.v157 View.readCov
  refine (load_row3 arg8 _ _ 0 b rfl).trans ?_
  rfl

/-- Head 1's total loaded is the one before the strip. -/
theorem diagL_at_1  (b : Fin 256) : diagL c i arg2 harg2 arg3 harg3 arg4 harg4 arg5 harg5 arg6 harg6 arg7 harg7 arg8 harg8 hc1 x0 x1 x2 1 (ix3 0 0 b) = (arg8.view.read (Elt Ideal) (arg8.view.writes (Elt Ideal) arg8.view.junk (kernelRun0_A.sl.HS2_1 (F := Ideal) ))) (ix3 1 0 b) := by
  rw [diagL_1]
  unfold kernelRun0_A.sl.v180 View.readCov
  refine (load_row3 arg8 _ _ 1 b rfl).trans ?_
  unfold kernelRun0_A.sl.HS2_2
  refine (skip3 _ _ _ _ _ 1 0 rfl (by decide) b).trans ?_
  rfl

/-- Head 2's total loaded is the one before the strip. -/
theorem diagL_at_2  (b : Fin 256) : diagL c i arg2 harg2 arg3 harg3 arg4 harg4 arg5 harg5 arg6 harg6 arg7 harg7 arg8 harg8 hc1 x0 x1 x2 2 (ix3 0 0 b) = (arg8.view.read (Elt Ideal) (arg8.view.writes (Elt Ideal) arg8.view.junk (kernelRun0_A.sl.HS2_1 (F := Ideal) ))) (ix3 2 0 b) := by
  rw [diagL_2]
  unfold kernelRun0_A.sl.v203 View.readCov
  refine (load_row3 arg8 _ _ 2 b rfl).trans ?_
  unfold kernelRun0_A.sl.HS2_3
  refine (skip3 _ _ _ _ _ 2 1 rfl (by decide) b).trans ?_
  unfold kernelRun0_A.sl.HS2_2
  refine (skip3 _ _ _ _ _ 2 0 rfl (by decide) b).trans ?_
  rfl

/-- Head 3's total loaded is the one before the strip. -/
theorem diagL_at_3  (b : Fin 256) : diagL c i arg2 harg2 arg3 harg3 arg4 harg4 arg5 harg5 arg6 harg6 arg7 harg7 arg8 harg8 hc1 x0 x1 x2 3 (ix3 0 0 b) = (arg8.view.read (Elt Ideal) (arg8.view.writes (Elt Ideal) arg8.view.junk (kernelRun0_A.sl.HS2_1 (F := Ideal) ))) (ix3 3 0 b) := by
  rw [diagL_3]
  unfold kernelRun0_A.sl.v226 View.readCov
  refine (load_row3 arg8 _ _ 3 b rfl).trans ?_
  unfold kernelRun0_A.sl.HS2_4
  refine (skip3 _ _ _ _ _ 3 2 rfl (by decide) b).trans ?_
  unfold kernelRun0_A.sl.HS2_3
  refine (skip3 _ _ _ _ _ 3 1 rfl (by decide) b).trans ?_
  unfold kernelRun0_A.sl.HS2_2
  refine (skip3 _ _ _ _ _ 3 0 rfl (by decide) b).trans ?_
  rfl

/-- Head 4's total loaded is the one before the strip. -/
theorem diagL_at_4  (b : Fin 256) : diagL c i arg2 harg2 arg3 harg3 arg4 harg4 arg5 harg5 arg6 harg6 arg7 harg7 arg8 harg8 hc1 x0 x1 x2 4 (ix3 0 0 b) = (arg8.view.read (Elt Ideal) (arg8.view.writes (Elt Ideal) arg8.view.junk (kernelRun0_A.sl.HS2_1 (F := Ideal) ))) (ix3 4 0 b) := by
  rw [diagL_4]
  unfold kernelRun0_A.sl.v249 View.readCov
  refine (load_row3 arg8 _ _ 4 b rfl).trans ?_
  unfold kernelRun0_A.sl.HS2_5
  refine (skip3 _ _ _ _ _ 4 3 rfl (by decide) b).trans ?_
  unfold kernelRun0_A.sl.HS2_4
  refine (skip3 _ _ _ _ _ 4 2 rfl (by decide) b).trans ?_
  unfold kernelRun0_A.sl.HS2_3
  refine (skip3 _ _ _ _ _ 4 1 rfl (by decide) b).trans ?_
  unfold kernelRun0_A.sl.HS2_2
  refine (skip3 _ _ _ _ _ 4 0 rfl (by decide) b).trans ?_
  rfl

/-- Head 5's total loaded is the one before the strip. -/
theorem diagL_at_5  (b : Fin 256) : diagL c i arg2 harg2 arg3 harg3 arg4 harg4 arg5 harg5 arg6 harg6 arg7 harg7 arg8 harg8 hc1 x0 x1 x2 5 (ix3 0 0 b) = (arg8.view.read (Elt Ideal) (arg8.view.writes (Elt Ideal) arg8.view.junk (kernelRun0_A.sl.HS2_1 (F := Ideal) ))) (ix3 5 0 b) := by
  rw [diagL_5]
  unfold kernelRun0_A.sl.v272 View.readCov
  refine (load_row3 arg8 _ _ 5 b rfl).trans ?_
  unfold kernelRun0_A.sl.HS2_6
  refine (skip3 _ _ _ _ _ 5 4 rfl (by decide) b).trans ?_
  unfold kernelRun0_A.sl.HS2_5
  refine (skip3 _ _ _ _ _ 5 3 rfl (by decide) b).trans ?_
  unfold kernelRun0_A.sl.HS2_4
  refine (skip3 _ _ _ _ _ 5 2 rfl (by decide) b).trans ?_
  unfold kernelRun0_A.sl.HS2_3
  refine (skip3 _ _ _ _ _ 5 1 rfl (by decide) b).trans ?_
  unfold kernelRun0_A.sl.HS2_2
  refine (skip3 _ _ _ _ _ 5 0 rfl (by decide) b).trans ?_
  rfl

/-- The totals loaded are those before the strip. -/
theorem diagL_at  (hd : Fin 6) (b : Fin 256) : diagL c i arg2 harg2 arg3 harg3 arg4 harg4 arg5 harg5 arg6 harg6 arg7 harg7 arg8 harg8 hc1 x0 x1 x2 hd (ix3 0 0 b) = (arg8.view.read (Elt Ideal) (arg8.view.writes (Elt Ideal) arg8.view.junk (kernelRun0_A.sl.HS2_1 (F := Ideal) ))) (ix3 hd 0 b) := by
  fin_cases hd
  exacts [diagL_at_0 c i arg2 harg2 arg3 harg3 arg4 harg4 arg5 harg5 arg6 harg6 arg7 harg7 arg8 harg8 hc1 x0 x1 x2 b, diagL_at_1 c i arg2 harg2 arg3 harg3 arg4 harg4 arg5 harg5 arg6 harg6 arg7 harg7 arg8 harg8 hc1 x0 x1 x2 b, diagL_at_2 c i arg2 harg2 arg3 harg3 arg4 harg4 arg5 harg5 arg6 harg6 arg7 harg7 arg8 harg8 hc1 x0 x1 x2 b, diagL_at_3 c i arg2 harg2 arg3 harg3 arg4 harg4 arg5 harg5 arg6 harg6 arg7 harg7 arg8 harg8 hc1 x0 x1 x2 b, diagL_at_4 c i arg2 harg2 arg3 harg3 arg4 harg4 arg5 harg5 arg6 harg6 arg7 harg7 arg8 harg8 hc1 x0 x1 x2 b, diagL_at_5 c i arg2 harg2 arg3 harg3 arg4 harg4 arg5 harg5 arg6 harg6 arg7 harg7 arg8 harg8 hc1 x0 x1 x2 b]

/-- Head 0's total after the strip. -/
theorem diagL_new_0  (b : Fin 256) : (arg8.view.read (Elt Ideal) (arg8.view.writes (Elt Ideal) arg8.view.junk (kernelRun0_A.sl.HS2_7 (F := Ideal) c arg2 harg2 arg3 harg3 arg7 arg8 x0 x1))) (ix3 0 0 b) = newL1 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagL c i arg2 harg2 arg3 harg3 arg4 harg4 arg5 harg5 arg6 harg6 arg7 harg7 arg8 harg8 hc1 x0 x1 x2 0) (ix3 0 0 b) := by
  rw [diagS_0, diagM_0, diagL_0]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 0 b).trans ?_
  simp only [Matrix.cons_val]
  rfl

/-- Head 1's total after the strip. -/
theorem diagL_new_1  (b : Fin 256) : (arg8.view.read (Elt Ideal) (arg8.view.writes (Elt Ideal) arg8.view.junk (kernelRun0_A.sl.HS2_7 (F := Ideal) c arg2 harg2 arg3 harg3 arg7 arg8 x0 x1))) (ix3 1 0 b) = newL1 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagL c i arg2 harg2 arg3 harg3 arg4 harg4 arg5 harg5 arg6 harg6 arg7 harg7 arg8 harg8 hc1 x0 x1 x2 1) (ix3 0 0 b) := by
  rw [diagS_1, diagM_1, diagL_1]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 1 b).trans ?_
  simp only [Matrix.cons_val]
  rfl

/-- Head 2's total after the strip. -/
theorem diagL_new_2  (b : Fin 256) : (arg8.view.read (Elt Ideal) (arg8.view.writes (Elt Ideal) arg8.view.junk (kernelRun0_A.sl.HS2_7 (F := Ideal) c arg2 harg2 arg3 harg3 arg7 arg8 x0 x1))) (ix3 2 0 b) = newL1 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagL c i arg2 harg2 arg3 harg3 arg4 harg4 arg5 harg5 arg6 harg6 arg7 harg7 arg8 harg8 hc1 x0 x1 x2 2) (ix3 0 0 b) := by
  rw [diagS_2, diagM_2, diagL_2]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 2 b).trans ?_
  simp only [Matrix.cons_val]
  rfl

/-- Head 3's total after the strip. -/
theorem diagL_new_3  (b : Fin 256) : (arg8.view.read (Elt Ideal) (arg8.view.writes (Elt Ideal) arg8.view.junk (kernelRun0_A.sl.HS2_7 (F := Ideal) c arg2 harg2 arg3 harg3 arg7 arg8 x0 x1))) (ix3 3 0 b) = newL1 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagL c i arg2 harg2 arg3 harg3 arg4 harg4 arg5 harg5 arg6 harg6 arg7 harg7 arg8 harg8 hc1 x0 x1 x2 3) (ix3 0 0 b) := by
  rw [diagS_3, diagM_3, diagL_3]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 3 b).trans ?_
  simp only [Matrix.cons_val]
  rfl

/-- Head 4's total after the strip. -/
theorem diagL_new_4  (b : Fin 256) : (arg8.view.read (Elt Ideal) (arg8.view.writes (Elt Ideal) arg8.view.junk (kernelRun0_A.sl.HS2_7 (F := Ideal) c arg2 harg2 arg3 harg3 arg7 arg8 x0 x1))) (ix3 4 0 b) = newL1 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagL c i arg2 harg2 arg3 harg3 arg4 harg4 arg5 harg5 arg6 harg6 arg7 harg7 arg8 harg8 hc1 x0 x1 x2 4) (ix3 0 0 b) := by
  rw [diagS_4, diagM_4, diagL_4]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 4 b).trans ?_
  simp only [Matrix.cons_val]
  rfl

/-- Head 5's total after the strip. -/
theorem diagL_new_5  (b : Fin 256) : (arg8.view.read (Elt Ideal) (arg8.view.writes (Elt Ideal) arg8.view.junk (kernelRun0_A.sl.HS2_7 (F := Ideal) c arg2 harg2 arg3 harg3 arg7 arg8 x0 x1))) (ix3 5 0 b) = newL1 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagL c i arg2 harg2 arg3 harg3 arg4 harg4 arg5 harg5 arg6 harg6 arg7 harg7 arg8 harg8 hc1 x0 x1 x2 5) (ix3 0 0 b) := by
  rw [diagS_5, diagM_5, diagL_5]
  unfold kernelRun0_A.sl.HS2_7
  unfold kernelRun0_A.sl.HS2_6
  unfold kernelRun0_A.sl.HS2_5
  unfold kernelRun0_A.sl.HS2_4
  unfold kernelRun0_A.sl.HS2_3
  unfold kernelRun0_A.sl.HS2_2
  refine (read_rows3 arg8.view _ _ _ _ _ _ _ _ _ _ _ _ _ _ 5 b).trans ?_
  simp only [Matrix.cons_val]
  rfl

/-- The totals after the strip. -/
theorem diagL_new  (hd : Fin 6) (b : Fin 256) : (arg8.view.read (Elt Ideal) (arg8.view.writes (Elt Ideal) arg8.view.junk (kernelRun0_A.sl.HS2_7 (F := Ideal) c arg2 harg2 arg3 harg3 arg7 arg8 x0 x1))) (ix3 hd 0 b) = newL1 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagL c i arg2 harg2 arg3 harg3 arg4 harg4 arg5 harg5 arg6 harg6 arg7 harg7 arg8 harg8 hc1 x0 x1 x2 hd) (ix3 0 0 b) := by
  fin_cases hd
  exacts [diagL_new_0 c i arg2 harg2 arg3 harg3 arg4 harg4 arg5 harg5 arg6 harg6 arg7 harg7 arg8 harg8 hc1 x0 x1 x2 b, diagL_new_1 c i arg2 harg2 arg3 harg3 arg4 harg4 arg5 harg5 arg6 harg6 arg7 harg7 arg8 harg8 hc1 x0 x1 x2 b, diagL_new_2 c i arg2 harg2 arg3 harg3 arg4 harg4 arg5 harg5 arg6 harg6 arg7 harg7 arg8 harg8 hc1 x0 x1 x2 b, diagL_new_3 c i arg2 harg2 arg3 harg3 arg4 harg4 arg5 harg5 arg6 harg6 arg7 harg7 arg8 harg8 hc1 x0 x1 x2 b, diagL_new_4 c i arg2 harg2 arg3 harg3 arg4 harg4 arg5 harg5 arg6 harg6 arg7 harg7 arg8 harg8 hc1 x0 x1 x2 b, diagL_new_5 c i arg2 harg2 arg3 harg3 arg4 harg4 arg5 harg5 arg6 harg6 arg7 harg7 arg8 harg8 hc1 x0 x1 x2 b]

/-- Head 0's weighted sum loaded is the one before the strip. -/
theorem diagA_at_0  (r : Fin 64) (b : Fin 256) : diagA c i arg2 harg2 arg3 harg3 arg4 harg4 arg5 harg5 arg6 harg6 arg7 harg7 arg8 harg8 hc1 x0 x1 x2 0 (ix2 r b) = (arg6.view.read (Elt Ideal) (arg6.view.writes (Elt Ideal) arg6.view.junk (kernelRun0_A.sl.HS0_1 (F := Ideal) ))) (ix2 (row 0 r) b) := by
  rw [diagA_0]
  unfold kernelRun0_A.sl.v285 View.readCov
  refine (load_row2 arg6 _ _ 0 r b rfl).trans ?_
  rfl

/-- Head 1's weighted sum loaded is the one before the strip. -/
theorem diagA_at_1  (r : Fin 64) (b : Fin 256) : diagA c i arg2 harg2 arg3 harg3 arg4 harg4 arg5 harg5 arg6 harg6 arg7 harg7 arg8 harg8 hc1 x0 x1 x2 1 (ix2 r b) = (arg6.view.read (Elt Ideal) (arg6.view.writes (Elt Ideal) arg6.view.junk (kernelRun0_A.sl.HS0_1 (F := Ideal) ))) (ix2 (row 1 r) b) := by
  rw [diagA_1]
  unfold kernelRun0_A.sl.v294 View.readCov
  refine (load_row2 arg6 _ _ 1 r b rfl).trans ?_
  unfold kernelRun0_A.sl.HS0_2
  refine (skip2 _ _ _ _ _ 1 0 rfl (by decide) r b).trans ?_
  rfl

/-- Head 2's weighted sum loaded is the one before the strip. -/
theorem diagA_at_2  (r : Fin 64) (b : Fin 256) : diagA c i arg2 harg2 arg3 harg3 arg4 harg4 arg5 harg5 arg6 harg6 arg7 harg7 arg8 harg8 hc1 x0 x1 x2 2 (ix2 r b) = (arg6.view.read (Elt Ideal) (arg6.view.writes (Elt Ideal) arg6.view.junk (kernelRun0_A.sl.HS0_1 (F := Ideal) ))) (ix2 (row 2 r) b) := by
  rw [diagA_2]
  unfold kernelRun0_A.sl.v303 View.readCov
  refine (load_row2 arg6 _ _ 2 r b rfl).trans ?_
  unfold kernelRun0_A.sl.HS0_3
  refine (skip2 _ _ _ _ _ 2 1 rfl (by decide) r b).trans ?_
  unfold kernelRun0_A.sl.HS0_2
  refine (skip2 _ _ _ _ _ 2 0 rfl (by decide) r b).trans ?_
  rfl

/-- Head 3's weighted sum loaded is the one before the strip. -/
theorem diagA_at_3  (r : Fin 64) (b : Fin 256) : diagA c i arg2 harg2 arg3 harg3 arg4 harg4 arg5 harg5 arg6 harg6 arg7 harg7 arg8 harg8 hc1 x0 x1 x2 3 (ix2 r b) = (arg6.view.read (Elt Ideal) (arg6.view.writes (Elt Ideal) arg6.view.junk (kernelRun0_A.sl.HS0_1 (F := Ideal) ))) (ix2 (row 3 r) b) := by
  rw [diagA_3]
  unfold kernelRun0_A.sl.v312 View.readCov
  refine (load_row2 arg6 _ _ 3 r b rfl).trans ?_
  unfold kernelRun0_A.sl.HS0_4
  refine (skip2 _ _ _ _ _ 3 2 rfl (by decide) r b).trans ?_
  unfold kernelRun0_A.sl.HS0_3
  refine (skip2 _ _ _ _ _ 3 1 rfl (by decide) r b).trans ?_
  unfold kernelRun0_A.sl.HS0_2
  refine (skip2 _ _ _ _ _ 3 0 rfl (by decide) r b).trans ?_
  rfl

/-- Head 4's weighted sum loaded is the one before the strip. -/
theorem diagA_at_4  (r : Fin 64) (b : Fin 256) : diagA c i arg2 harg2 arg3 harg3 arg4 harg4 arg5 harg5 arg6 harg6 arg7 harg7 arg8 harg8 hc1 x0 x1 x2 4 (ix2 r b) = (arg6.view.read (Elt Ideal) (arg6.view.writes (Elt Ideal) arg6.view.junk (kernelRun0_A.sl.HS0_1 (F := Ideal) ))) (ix2 (row 4 r) b) := by
  rw [diagA_4]
  unfold kernelRun0_A.sl.v321 View.readCov
  refine (load_row2 arg6 _ _ 4 r b rfl).trans ?_
  unfold kernelRun0_A.sl.HS0_5
  refine (skip2 _ _ _ _ _ 4 3 rfl (by decide) r b).trans ?_
  unfold kernelRun0_A.sl.HS0_4
  refine (skip2 _ _ _ _ _ 4 2 rfl (by decide) r b).trans ?_
  unfold kernelRun0_A.sl.HS0_3
  refine (skip2 _ _ _ _ _ 4 1 rfl (by decide) r b).trans ?_
  unfold kernelRun0_A.sl.HS0_2
  refine (skip2 _ _ _ _ _ 4 0 rfl (by decide) r b).trans ?_
  rfl

/-- Head 5's weighted sum loaded is the one before the strip. -/
theorem diagA_at_5  (r : Fin 64) (b : Fin 256) : diagA c i arg2 harg2 arg3 harg3 arg4 harg4 arg5 harg5 arg6 harg6 arg7 harg7 arg8 harg8 hc1 x0 x1 x2 5 (ix2 r b) = (arg6.view.read (Elt Ideal) (arg6.view.writes (Elt Ideal) arg6.view.junk (kernelRun0_A.sl.HS0_1 (F := Ideal) ))) (ix2 (row 5 r) b) := by
  rw [diagA_5]
  unfold kernelRun0_A.sl.v330 View.readCov
  refine (load_row2 arg6 _ _ 5 r b rfl).trans ?_
  unfold kernelRun0_A.sl.HS0_6
  refine (skip2 _ _ _ _ _ 5 4 rfl (by decide) r b).trans ?_
  unfold kernelRun0_A.sl.HS0_5
  refine (skip2 _ _ _ _ _ 5 3 rfl (by decide) r b).trans ?_
  unfold kernelRun0_A.sl.HS0_4
  refine (skip2 _ _ _ _ _ 5 2 rfl (by decide) r b).trans ?_
  unfold kernelRun0_A.sl.HS0_3
  refine (skip2 _ _ _ _ _ 5 1 rfl (by decide) r b).trans ?_
  unfold kernelRun0_A.sl.HS0_2
  refine (skip2 _ _ _ _ _ 5 0 rfl (by decide) r b).trans ?_
  rfl

/-- The weighted sums loaded are those before the strip. -/
theorem diagA_at  (hd : Fin 6) (r : Fin 64) (b : Fin 256) : diagA c i arg2 harg2 arg3 harg3 arg4 harg4 arg5 harg5 arg6 harg6 arg7 harg7 arg8 harg8 hc1 x0 x1 x2 hd (ix2 r b) = (arg6.view.read (Elt Ideal) (arg6.view.writes (Elt Ideal) arg6.view.junk (kernelRun0_A.sl.HS0_1 (F := Ideal) ))) (ix2 (row hd r) b) := by
  fin_cases hd
  exacts [diagA_at_0 c i arg2 harg2 arg3 harg3 arg4 harg4 arg5 harg5 arg6 harg6 arg7 harg7 arg8 harg8 hc1 x0 x1 x2 r b, diagA_at_1 c i arg2 harg2 arg3 harg3 arg4 harg4 arg5 harg5 arg6 harg6 arg7 harg7 arg8 harg8 hc1 x0 x1 x2 r b, diagA_at_2 c i arg2 harg2 arg3 harg3 arg4 harg4 arg5 harg5 arg6 harg6 arg7 harg7 arg8 harg8 hc1 x0 x1 x2 r b, diagA_at_3 c i arg2 harg2 arg3 harg3 arg4 harg4 arg5 harg5 arg6 harg6 arg7 harg7 arg8 harg8 hc1 x0 x1 x2 r b, diagA_at_4 c i arg2 harg2 arg3 harg3 arg4 harg4 arg5 harg5 arg6 harg6 arg7 harg7 arg8 harg8 hc1 x0 x1 x2 r b, diagA_at_5 c i arg2 harg2 arg3 harg3 arg4 harg4 arg5 harg5 arg6 harg6 arg7 harg7 arg8 harg8 hc1 x0 x1 x2 r b]

/-- Head 0's weighted sum after the strip. -/
theorem diagA_new_0  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 0 r) b) = newA1 (diagV c i arg2 harg2 arg3 harg3 arg4 harg4 arg5 harg5 arg6 harg6 arg7 harg7 arg8 harg8 hc1 x0 x1 x2 0) (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagA c i arg2 harg2 arg3 harg3 arg4 harg4 arg5 harg5 arg6 harg6 arg7 harg7 arg8 harg8 hc1 x0 x1 x2 0) (ix2 r b) := by
  rw [diagV_0, diagS_0, diagM_0, diagA_0]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 0 r b).trans ?_
  simp only [Matrix.cons_val]
  rfl

/-- Head 1's weighted sum after the strip. -/
theorem diagA_new_1  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 1 r) b) = newA1 (diagV c i arg2 harg2 arg3 harg3 arg4 harg4 arg5 harg5 arg6 harg6 arg7 harg7 arg8 harg8 hc1 x0 x1 x2 1) (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagA c i arg2 harg2 arg3 harg3 arg4 harg4 arg5 harg5 arg6 harg6 arg7 harg7 arg8 harg8 hc1 x0 x1 x2 1) (ix2 r b) := by
  rw [diagV_1, diagS_1, diagM_1, diagA_1]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 1 r b).trans ?_
  simp only [Matrix.cons_val]
  rfl

/-- Head 2's weighted sum after the strip. -/
theorem diagA_new_2  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 2 r) b) = newA1 (diagV c i arg2 harg2 arg3 harg3 arg4 harg4 arg5 harg5 arg6 harg6 arg7 harg7 arg8 harg8 hc1 x0 x1 x2 2) (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagA c i arg2 harg2 arg3 harg3 arg4 harg4 arg5 harg5 arg6 harg6 arg7 harg7 arg8 harg8 hc1 x0 x1 x2 2) (ix2 r b) := by
  rw [diagV_2, diagS_2, diagM_2, diagA_2]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 2 r b).trans ?_
  simp only [Matrix.cons_val]
  rfl

/-- Head 3's weighted sum after the strip. -/
theorem diagA_new_3  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 3 r) b) = newA1 (diagV c i arg2 harg2 arg3 harg3 arg4 harg4 arg5 harg5 arg6 harg6 arg7 harg7 arg8 harg8 hc1 x0 x1 x2 3) (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagA c i arg2 harg2 arg3 harg3 arg4 harg4 arg5 harg5 arg6 harg6 arg7 harg7 arg8 harg8 hc1 x0 x1 x2 3) (ix2 r b) := by
  rw [diagV_3, diagS_3, diagM_3, diagA_3]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 3 r b).trans ?_
  simp only [Matrix.cons_val]
  rfl

/-- Head 4's weighted sum after the strip. -/
theorem diagA_new_4  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 4 r) b) = newA1 (diagV c i arg2 harg2 arg3 harg3 arg4 harg4 arg5 harg5 arg6 harg6 arg7 harg7 arg8 harg8 hc1 x0 x1 x2 4) (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagA c i arg2 harg2 arg3 harg3 arg4 harg4 arg5 harg5 arg6 harg6 arg7 harg7 arg8 harg8 hc1 x0 x1 x2 4) (ix2 r b) := by
  rw [diagV_4, diagS_4, diagM_4, diagA_4]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 4 r b).trans ?_
  simp only [Matrix.cons_val]
  rfl

/-- Head 5's weighted sum after the strip. -/
theorem diagA_new_5  (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row 5 r) b) = newA1 (diagV c i arg2 harg2 arg3 harg3 arg4 harg4 arg5 harg5 arg6 harg6 arg7 harg7 arg8 harg8 hc1 x0 x1 x2 5) (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagA c i arg2 harg2 arg3 harg3 arg4 harg4 arg5 harg5 arg6 harg6 arg7 harg7 arg8 harg8 hc1 x0 x1 x2 5) (ix2 r b) := by
  rw [diagV_5, diagS_5, diagM_5, diagA_5]
  unfold kernelRun0_A.sl.HS0_7
  unfold kernelRun0_A.sl.HS0_6
  unfold kernelRun0_A.sl.HS0_5
  unfold kernelRun0_A.sl.HS0_4
  unfold kernelRun0_A.sl.HS0_3
  unfold kernelRun0_A.sl.HS0_2
  refine (read_rows2 arg6.view _ _ _ _ _ _ _ _ _ _ _ _ _ _ 5 r b).trans ?_
  simp only [Matrix.cons_val]
  rfl

/-- The weighted sums after the strip. -/
theorem diagA_new  (hd : Fin 6) (r : Fin 64) (b : Fin 256) : (arg6.view.read (Elt Ideal) (arg6.view.writes (Elt Ideal) arg6.view.junk (kernelRun0_A.sl.HS0_7 (F := Ideal) c arg2 harg2 arg3 harg3 arg4 harg4 arg6 arg7 x0 x1 x2))) (ix2 (row hd r) b) = newA1 (diagV c i arg2 harg2 arg3 harg3 arg4 harg4 arg5 harg5 arg6 harg6 arg7 harg7 arg8 harg8 hc1 x0 x1 x2 hd) (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagA c i arg2 harg2 arg3 harg3 arg4 harg4 arg5 harg5 arg6 harg6 arg7 harg7 arg8 harg8 hc1 x0 x1 x2 hd) (ix2 r b) := by
  fin_cases hd
  exacts [diagA_new_0 c i arg2 harg2 arg3 harg3 arg4 harg4 arg5 harg5 arg6 harg6 arg7 harg7 arg8 harg8 hc1 x0 x1 x2 r b, diagA_new_1 c i arg2 harg2 arg3 harg3 arg4 harg4 arg5 harg5 arg6 harg6 arg7 harg7 arg8 harg8 hc1 x0 x1 x2 r b, diagA_new_2 c i arg2 harg2 arg3 harg3 arg4 harg4 arg5 harg5 arg6 harg6 arg7 harg7 arg8 harg8 hc1 x0 x1 x2 r b, diagA_new_3 c i arg2 harg2 arg3 harg3 arg4 harg4 arg5 harg5 arg6 harg6 arg7 harg7 arg8 harg8 hc1 x0 x1 x2 r b, diagA_new_4 c i arg2 harg2 arg3 harg3 arg4 harg4 arg5 harg5 arg6 harg6 arg7 harg7 arg8 harg8 hc1 x0 x1 x2 r b, diagA_new_5 c i arg2 harg2 arg3 harg3 arg4 harg4 arg5 harg5 arg6 harg6 arg7 harg7 arg8 harg8 hc1 x0 x1 x2 r b]

/-- The strip with the causal mask: the state over the last 256 keys the tile sees. -/
theorem diag_held (hraw : ∀ hd c k, raw x0 x1 hd c k ≠ ⊤) (hq : (i 1).val = 0) :
    Held (sc x0 x1 (i 1).val) (val x2) (keys 0 256) (arg6.view.read (Elt Ideal) (arg6.view.writes (Elt Ideal) arg6.view.junk (kernelRun0_A.sl.HS0_7 (F := Ideal) c arg2 harg2 arg3 harg3 arg4 harg4 arg6 arg7 x0 x1 x2))) (arg7.view.read (Elt Ideal) (arg7.view.writes (Elt Ideal) arg7.view.junk (kernelRun0_A.sl.HS1_7 (F := Ideal) c arg2 harg2 arg3 harg3 arg7 x0 x1))) (arg8.view.read (Elt Ideal) (arg8.view.writes (Elt Ideal) arg8.view.junk (kernelRun0_A.sl.HS2_7 (F := Ideal) c arg2 harg2 arg3 harg3 arg7 arg8 x0 x1))) := by
  have hi : (i 1).val < 8 := (i 1).isLt
  have hst : 0 + 256 ≤ 2048 := by omega
  have h0 : Held (sc x0 x1 (i 1).val) (val x2) ∅ (arg6.view.read (Elt Ideal) (arg6.view.writes (Elt Ideal) arg6.view.junk (kernelRun0_A.sl.HS0_1 (F := Ideal) ))) (arg7.view.read (Elt Ideal) (arg7.view.writes (Elt Ideal) arg7.view.junk (kernelRun0_A.sl.HS1_1 (F := Ideal) ))) (arg8.view.read (Elt Ideal) (arg8.view.writes (Elt Ideal) arg8.view.junk (kernelRun0_A.sl.HS2_1 (F := Ideal) ))) :=
    Held.empty _ _ _ _ _ (fun hd b => (fill3 _ _ _ _ hd b).trans (neg_at hd b)) (fun hd b => (fill3 _ _ _ _ hd b).trans (zero3_at hd b)) (fun r b => (fill2 _ _ _ _ r b).trans (zero2_at r b))
  have h := Held.step1 (sc_ne_top hraw _) h0 0 hst (Finset.disjoint_empty_left _)
    (diagS c i arg2 harg2 arg3 harg3 arg4 harg4 arg5 harg5 arg6 harg6 arg7 harg7 arg8 harg8 hc1 x0 x1 x2) (diagV c i arg2 harg2 arg3 harg3 arg4 harg4 arg5 harg5 arg6 harg6 arg7 harg7 arg8 harg8 hc1 x0 x1 x2) (diagM c i arg2 harg2 arg3 harg3 arg4 harg4 arg5 harg5 arg6 harg6 arg7 harg7 arg8 harg8 hc1 x0 x1 x2) (diagL c i arg2 harg2 arg3 harg3 arg4 harg4 arg5 harg5 arg6 harg6 arg7 harg7 arg8 harg8 hc1 x0 x1 x2) (diagA c i arg2 harg2 arg3 harg3 arg4 harg4 arg5 harg5 arg6 harg6 arg7 harg7 arg8 harg8 hc1 x0 x1 x2) ?_ ?_ (diagM_at c i arg2 harg2 arg3 harg3 arg4 harg4 arg5 harg5 arg6 harg6 arg7 harg7 arg8 harg8 hc1 x0 x1 x2) (diagL_at c i arg2 harg2 arg3 harg3 arg4 harg4 arg5 harg5 arg6 harg6 arg7 harg7 arg8 harg8 hc1 x0 x1 x2) (diagA_at c i arg2 harg2 arg3 harg3 arg4 harg4 arg5 harg5 arg6 harg6 arg7 harg7 arg8 harg8 hc1 x0 x1 x2) (diagM_new c i arg2 harg2 arg3 harg3 arg4 harg4 arg5 harg5 arg6 harg6 arg7 harg7 arg8 harg8 hc1 x0 x1 x2) (diagL_new c i arg2 harg2 arg3 harg3 arg4 harg4 arg5 harg5 arg6 harg6 arg7 harg7 arg8 harg8 hc1 x0 x1 x2) (diagA_new c i arg2 harg2 arg3 harg3 arg4 harg4 arg5 harg5 arg6 harg6 arg7 harg7 arg8 harg8 hc1 x0 x1 x2)
  · rw [Finset.empty_union] at h
    exact h
  · intro hd b a
    have e : (sc x0 x1 (i 1).val hd b ⟨0 + a.val, by omega⟩ : EReal) = if a.val ≤ b.val + 0 then raw x0 x1 hd b ⟨0 + a.val, by omega⟩ else ⊥ :=
      if_congr (show 0 + a.val ≤ 256 * (i 1).val + b.val ↔ a.val ≤ b.val + 0 by omega) rfl rfl
    rw [e]
    fin_cases hd
    · obtain ⟨inb, inbq, e'⟩ := diagS_load_0 c i arg2 harg2 arg3 harg3 arg4 harg4 arg5 harg5 arg6 harg6 arg7 harg7 arg8 harg8 hc1 x0 x1 x2
      refine (congrFun ((diagS_0 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 0 hst inb rfl inbq rfl a b) rfl)
    · obtain ⟨inb, inbq, e'⟩ := diagS_load_1 c i arg2 harg2 arg3 harg3 arg4 harg4 arg5 harg5 arg6 harg6 arg7 harg7 arg8 harg8 hc1 x0 x1 x2
      refine (congrFun ((diagS_1 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 1 hst inb rfl inbq rfl a b) rfl)
    · obtain ⟨inb, inbq, e'⟩ := diagS_load_2 c i arg2 harg2 arg3 harg3 arg4 harg4 arg5 harg5 arg6 harg6 arg7 harg7 arg8 harg8 hc1 x0 x1 x2
      refine (congrFun ((diagS_2 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 2 hst inb rfl inbq rfl a b) rfl)
    · obtain ⟨inb, inbq, e'⟩ := diagS_load_3 c i arg2 harg2 arg3 harg3 arg4 harg4 arg5 harg5 arg6 harg6 arg7 harg7 arg8 harg8 hc1 x0 x1 x2
      refine (congrFun ((diagS_3 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 3 hst inb rfl inbq rfl a b) rfl)
    · obtain ⟨inb, inbq, e'⟩ := diagS_load_4 c i arg2 harg2 arg3 harg3 arg4 harg4 arg5 harg5 arg6 harg6 arg7 harg7 arg8 harg8 hc1 x0 x1 x2
      refine (congrFun ((diagS_4 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 4 hst inb rfl inbq rfl a b) rfl)
    · obtain ⟨inb, inbq, e'⟩ := diagS_load_5 c i arg2 harg2 arg3 harg3 arg4 harg4 arg5 harg5 arg6 harg6 arg7 harg7 arg8 harg8 hc1 x0 x1 x2
      refine (congrFun ((diagS_5 c i arg2 harg2 arg3 harg3 arg4 harg4 arg5 harg5 arg6 harg6 arg7 harg7 arg8 harg8 hc1 x0 x1 x2).trans e') _).trans ?_
      exact (mask1_at _ a b).trans (if_congr Iff.rfl (strip_score1 arg2 harg2 x0 arg3 harg3 x1 5 hst inb rfl inbq rfl a b) rfl)
  · intro hd r a
    obtain ⟨inb, e'⟩ := diagV_load c i arg2 harg2 arg3 harg3 arg4 harg4 arg5 harg5 arg6 harg6 arg7 harg7 arg8 harg8 hc1 x0 x1 x2
    fin_cases hd
    · refine (congrFun (diagV_0 c i arg2 harg2 arg3 harg3 arg4 harg4 arg5 harg5 arg6 harg6 arg7 harg7 arg8 harg8 hc1 x0 x1 x2) _).trans ?_
      rw [e']
      exact (slice1 _ _ slices_S384x256_o0_0_S64x256 0 rfl r a).trans (strip_val1 arg4 harg4 x2 0 (by omega) inb rfl _ a)
    · refine (congrFun (diagV_1 c i arg2 harg2 arg3 harg3 arg4 harg4 arg5 harg5 arg6 harg6 arg7 harg7 arg8 harg8 hc1 x0 x1 x2) _).trans ?_
      rw [e']
      exact (slice1 _ _ slices_S384x256_o64_0_S64x256 1 rfl r a).trans (strip_val1 arg4 harg4 x2 0 (by omega) inb rfl _ a)
    · refine (congrFun (diagV_2 c i arg2 harg2 arg3 harg3 arg4 harg4 arg5 harg5 arg6 harg6 arg7 harg7 arg8 harg8 hc1 x0 x1 x2) _).trans ?_
      rw [e']
      exact (slice1 _ _ slices_S384x256_o128_0_S64x256 2 rfl r a).trans (strip_val1 arg4 harg4 x2 0 (by omega) inb rfl _ a)
    · refine (congrFun (diagV_3 c i arg2 harg2 arg3 harg3 arg4 harg4 arg5 harg5 arg6 harg6 arg7 harg7 arg8 harg8 hc1 x0 x1 x2) _).trans ?_
      rw [e']
      exact (slice1 _ _ slices_S384x256_o192_0_S64x256 3 rfl r a).trans (strip_val1 arg4 harg4 x2 0 (by omega) inb rfl _ a)
    · refine (congrFun (diagV_4 c i arg2 harg2 arg3 harg3 arg4 harg4 arg5 harg5 arg6 harg6 arg7 harg7 arg8 harg8 hc1 x0 x1 x2) _).trans ?_
      rw [e']
      exact (slice1 _ _ slices_S384x256_o256_0_S64x256 4 rfl r a).trans (strip_val1 arg4 harg4 x2 0 (by omega) inb rfl _ a)
    · refine (congrFun (diagV_5 c i arg2 harg2 arg3 harg3 arg4 harg4 arg5 harg5 arg6 harg6 arg7 harg7 arg8 harg8 hc1 x0 x1 x2) _).trans ?_
      rw [e']
      exact (slice1 _ _ slices_S384x256_o320_0_S64x256 5 rfl r a).trans (strip_val1 arg4 harg4 x2 0 (by omega) inb rfl _ a)

/-- The strip with the mask and the pairs of tiles before it. -/
theorem pairs_held (hraw : ∀ hd c k, raw x0 x1 hd c k ≠ ⊤) (hq : (i 1).val = 0) :
    Held (sc x0 x1 (i 1).val) (val x2) (keys 0 256 ∪ keys 0 (512 * (((i 1).val - 1) / 2))) (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1))
      (arg7.view.read (Elt Ideal) (arg7.view.writes (Elt Ideal) arg7.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.1))
      (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) :=
  after_held c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 hraw _ _ _ (keys_disjoint (Or.inr (by omega))) (diag_held c i arg2 harg2 arg3 harg3 arg4 harg4 arg5 harg5 arg6 harg6 arg7 harg7 arg8 harg8 hc1 x0 x1 x2 hraw hq)

end

/-- The six heads' weighted sums, read back at the end, -/
def outA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S64x256 .f32 :=
  ![kernelRun0_A.sl.v55 (F := Ideal) c i arg2 harg2 arg3 harg3 arg4 harg4 arg5 harg5 arg6 harg6 arg7 harg7 arg8 harg8 x0 x1 x2, kernelRun0_A.sl.v60 (F := Ideal) c i arg2 harg2 arg3 harg3 arg4 harg4 arg5 harg5 arg6 harg6 arg7 harg7 arg8 harg8 x0 x1 x2, kernelRun0_A.sl.v65 (F := Ideal) c i arg2 harg2 arg3 harg3 arg4 harg4 arg5 harg5 arg6 harg6 arg7 harg7 arg8 harg8 x0 x1 x2, kernelRun0_A.sl.v70 (F := Ideal) c i arg2 harg2 arg3 harg3 arg4 harg4 arg5 harg5 arg6 harg6 arg7 harg7 arg8 harg8 x0 x1 x2, kernelRun0_A.sl.v75 (F := Ideal) c i arg2 harg2 arg3 harg3 arg4 harg4 arg5 harg5 arg6 harg6 arg7 harg7 arg8 harg8 x0 x1 x2, kernelRun0_A.sl.v80 (F := Ideal) c i arg2 harg2 arg3 harg3 arg4 harg4 arg5 harg5 arg6 harg6 arg7 harg7 arg8 harg8 x0 x1 x2]

/-- and their totals. -/
def outL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16) : Fin 6 → FVec Ideal S1x1x256 .f32 :=
  ![kernelRun0_A.sl.v56 (F := Ideal) c i arg2 harg2 arg3 harg3 arg4 harg4 arg5 harg5 arg6 harg6 arg7 harg7 arg8 harg8 x0 x1 x2, kernelRun0_A.sl.v61 (F := Ideal) c i arg2 harg2 arg3 harg3 arg4 harg4 arg5 harg5 arg6 harg6 arg7 harg7 arg8 harg8 x0 x1 x2, kernelRun0_A.sl.v66 (F := Ideal) c i arg2 harg2 arg3 harg3 arg4 harg4 arg5 harg5 arg6 harg6 arg7 harg7 arg8 harg8 x0 x1 x2, kernelRun0_A.sl.v71 (F := Ideal) c i arg2 harg2 arg3 harg3 arg4 harg4 arg5 harg5 arg6 harg6 arg7 harg7 arg8 harg8 x0 x1 x2, kernelRun0_A.sl.v76 (F := Ideal) c i arg2 harg2 arg3 harg3 arg4 harg4 arg5 harg5 arg6 harg6 arg7 harg7 arg8 harg8 x0 x1 x2, kernelRun0_A.sl.v81 (F := Ideal) c i arg2 harg2 arg3 harg3 arg4 harg4 arg5 harg5 arg6 harg6 arg7 harg7 arg8 harg8 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : ¬cond0_1 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 x0 x1 x2

theorem outA_at_0 (r : Fin 64) (b : Fin 256) : outA c i arg2 harg2 arg3 harg3 arg4 harg4 arg5 harg5 arg6 harg6 arg7 harg7 arg8 harg8 hc1 x0 x1 x2 0 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 0 r) b) := by
  simp only [outA, Matrix.cons_val]
  unfold kernelRun0_A.sl.v55 View.readCov
  refine (load_row2 arg6 _ _ 0 r b rfl).trans ?_
  unfold after
  rfl

theorem outA_at_1 (r : Fin 64) (b : Fin 256) : outA c i arg2 harg2 arg3 harg3 arg4 harg4 arg5 harg5 arg6 harg6 arg7 harg7 arg8 harg8 hc1 x0 x1 x2 1 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 1 r) b) := by
  simp only [outA, Matrix.cons_val]
  unfold kernelRun0_A.sl.v60 View.readCov
  refine (load_row2 arg6 _ _ 1 r b rfl).trans ?_
  unfold after
  rfl

theorem outA_at_2 (r : Fin 64) (b : Fin 256) : outA c i arg2 harg2 arg3 harg3 arg4 harg4 arg5 harg5 arg6 harg6 arg7 harg7 arg8 harg8 hc1 x0 x1 x2 2 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 2 r) b) := by
  simp only [outA, Matrix.cons_val]
  unfold kernelRun0_A.sl.v65 View.readCov
  refine (load_row2 arg6 _ _ 2 r b rfl).trans ?_
  unfold after
  rfl

theorem outA_at_3 (r : Fin 64) (b : Fin 256) : outA c i arg2 harg2 arg3 harg3 arg4 harg4 arg5 harg5 arg6 harg6 arg7 harg7 arg8 harg8 hc1 x0 x1 x2 3 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 3 r) b) := by
  simp only [outA, Matrix.cons_val]
  unfold kernelRun0_A.sl.v70 View.readCov
  refine (load_row2 arg6 _ _ 3 r b rfl).trans ?_
  unfold after
  rfl

theorem outA_at_4 (r : Fin 64) (b : Fin 256) : outA c i arg2 harg2 arg3 harg3 arg4 harg4 arg5 harg5 arg6 harg6 arg7 harg7 arg8 harg8 hc1 x0 x1 x2 4 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 4 r) b) := by
  simp only [outA, Matrix.cons_val]
  unfold kernelRun0_A.sl.v75 View.readCov
  refine (load_row2 arg6 _ _ 4 r b rfl).trans ?_
  unfold after
  rfl

theorem outA_at_5 (r : Fin 64) (b : Fin 256) : outA c i arg2 harg2 arg3 harg3 arg4 harg4 arg5 harg5 arg6 harg6 arg7 harg7 arg8 harg8 hc1 x0 x1 x2 5 (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row 5 r) b) := by
  simp only [outA, Matrix.cons_val]
  unfold kernelRun0_A.sl.v80 View.readCov
  refine (load_row2 arg6 _ _ 5 r b rfl).trans ?_
  unfold after
  rfl

/-- They are what the stores leave. -/
theorem outA_at (hd : Fin 6) (r : Fin 64) (b : Fin 256) : outA c i arg2 harg2 arg3 harg3 arg4 harg4 arg5 harg5 arg6 harg6 arg7 harg7 arg8 harg8 hc1 x0 x1 x2 hd (ix2 r b) = (arg6.view.read (Elt Ideal) (arg6.view.writes (Elt Ideal) arg6.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).1)) (ix2 (row hd r) b) := by
  fin_cases hd
  exacts [outA_at_0 c i arg2 harg2 arg3 harg3 arg4 harg4 arg5 harg5 arg6 harg6 arg7 harg7 arg8 harg8 hc1 x0 x1 x2 r b, outA_at_1 c i arg2 harg2 arg3 harg3 arg4 harg4 arg5 harg5 arg6 harg6 arg7 harg7 arg8 harg8 hc1 x0 x1 x2 r b, outA_at_2 c i arg2 harg2 arg3 harg3 arg4 harg4 arg5 harg5 arg6 harg6 arg7 harg7 arg8 harg8 hc1 x0 x1 x2 r b, outA_at_3 c i arg2 harg2 arg3 harg3 arg4 harg4 arg5 harg5 arg6 harg6 arg7 harg7 arg8 harg8 hc1 x0 x1 x2 r b, outA_at_4 c i arg2 harg2 arg3 harg3 arg4 harg4 arg5 harg5 arg6 harg6 arg7 harg7 arg8 harg8 hc1 x0 x1 x2 r b, outA_at_5 c i arg2 harg2 arg3 harg3 arg4 harg4 arg5 harg5 arg6 harg6 arg7 harg7 arg8 harg8 hc1 x0 x1 x2 r b]

theorem outL_at_0 (b : Fin 256) : outL c i arg2 harg2 arg3 harg3 arg4 harg4 arg5 harg5 arg6 harg6 arg7 harg7 arg8 harg8 hc1 x0 x1 x2 0 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 0 0 b) := by
  simp only [outL, Matrix.cons_val]
  unfold kernelRun0_A.sl.v56 View.readCov
  refine (load_row3 arg8 _ _ 0 b rfl).trans ?_
  unfold after
  rfl

theorem outL_at_1 (b : Fin 256) : outL c i arg2 harg2 arg3 harg3 arg4 harg4 arg5 harg5 arg6 harg6 arg7 harg7 arg8 harg8 hc1 x0 x1 x2 1 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 1 0 b) := by
  simp only [outL, Matrix.cons_val]
  unfold kernelRun0_A.sl.v61 View.readCov
  refine (load_row3 arg8 _ _ 1 b rfl).trans ?_
  unfold after
  rfl

theorem outL_at_2 (b : Fin 256) : outL c i arg2 harg2 arg3 harg3 arg4 harg4 arg5 harg5 arg6 harg6 arg7 harg7 arg8 harg8 hc1 x0 x1 x2 2 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 2 0 b) := by
  simp only [outL, Matrix.cons_val]
  unfold kernelRun0_A.sl.v66 View.readCov
  refine (load_row3 arg8 _ _ 2 b rfl).trans ?_
  unfold after
  rfl

theorem outL_at_3 (b : Fin 256) : outL c i arg2 harg2 arg3 harg3 arg4 harg4 arg5 harg5 arg6 harg6 arg7 harg7 arg8 harg8 hc1 x0 x1 x2 3 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 3 0 b) := by
  simp only [outL, Matrix.cons_val]
  unfold kernelRun0_A.sl.v71 View.readCov
  refine (load_row3 arg8 _ _ 3 b rfl).trans ?_
  unfold after
  rfl

theorem outL_at_4 (b : Fin 256) : outL c i arg2 harg2 arg3 harg3 arg4 harg4 arg5 harg5 arg6 harg6 arg7 harg7 arg8 harg8 hc1 x0 x1 x2 4 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 4 0 b) := by
  simp only [outL, Matrix.cons_val]
  unfold kernelRun0_A.sl.v76 View.readCov
  refine (load_row3 arg8 _ _ 4 b rfl).trans ?_
  unfold after
  rfl

theorem outL_at_5 (b : Fin 256) : outL c i arg2 harg2 arg3 harg3 arg4 harg4 arg5 harg5 arg6 harg6 arg7 harg7 arg8 harg8 hc1 x0 x1 x2 5 (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 5 0 b) := by
  simp only [outL, Matrix.cons_val]
  unfold kernelRun0_A.sl.v81 View.readCov
  refine (load_row3 arg8 _ _ 5 b rfl).trans ?_
  unfold after
  rfl

/-- They are what the stores leave. -/
theorem outL_at (hd : Fin 6) (b : Fin 256) : outL c i arg2 harg2 arg3 harg3 arg4 harg4 arg5 harg5 arg6 harg6 arg7 harg7 arg8 harg8 hc1 x0 x1 x2 hd (ix3 0 0 b) = (arg8.view.read (Elt Ideal) (arg8.view.writes (Elt Ideal) arg8.view.junk (after c i arg2 harg2 arg3 harg3 arg4 harg4 arg5 harg5 arg6 harg6 arg7 harg7 arg8 harg8 (kernelRun0_A.sl.v19 i) (kernelRun0_A.sl.v20 i) (kernelRun0_A.sl.v25 i) (kernelRun0_A.sl.v41 i) x0 x1 x2 (kernelRun0_A.sl.HS0_7 (F := Ideal) c arg2 harg2 arg3 harg3 arg4 harg4 arg6 arg7 x0 x1 x2) (kernelRun0_A.sl.HS1_7 (F := Ideal) c arg2 harg2 arg3 harg3 arg7 x0 x1) (kernelRun0_A.sl.HS2_7 (F := Ideal) c arg2 harg2 arg3 harg3 arg7 arg8 x0 x1)).2.2)) (ix3 hd 0 b) := by
  fin_cases hd
  exacts [outL_at_0 c i arg2 harg2 arg3 harg3 arg4 harg4 arg5 harg5 arg6 harg6 arg7 harg7 arg8 harg8 hc1 x0 x1 x2 b, outL_at_1 c i arg2 harg2 arg3 harg3 arg4 harg4 arg5 harg5 arg6 harg6 arg7 harg7 arg8 harg8 hc1 x0 x1 x2 b, outL_at_2 c i arg2 harg2 arg3 harg3 arg4 harg4 arg5 harg5 arg6 harg6 arg7 harg7 arg8 harg8 hc1 x0 x1 x2 b, outL_at_3 c i arg2 harg2 arg3 harg3 arg4 harg4 arg5 harg5 arg6 harg6 arg7 harg7 arg8 harg8 hc1 x0 x1 x2 b, outL_at_4 c i arg2 harg2 arg3 harg3 arg4 harg4 arg5 harg5 arg6 harg6 arg7 harg7 arg8 harg8 hc1 x0 x1 x2 b, outL_at_5 c i arg2 harg2 arg3 harg3 arg4 harg4 arg5 harg5 arg6 harg6 arg7 harg7 arg8 harg8 hc1 x0 x1 x2 b]

end

/-- The block the point writes: the weighted sums over the totals, over all the keys up to the tile's end. -/
theorem block (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc0 : cond0_0 i) (hc1 : ¬cond0_1 i) (hc2 : ¬cond0_2 i)
    (x0 : FVec Ideal S1x768x256 .bf16) (x1 : FVec Ideal S1x6x2048x128 .bf16) (x2 : FVec Ideal S1x8x384x256 .bf16) (hraw : ∀ hd c k, raw x0 x1 hd c k ≠ ⊤) (hq : (i 1).val = 0) :
    ∃ (acc : FVec Ideal S384x256 .f32) (M L : FVec Ideal S6x1x256 .f32), Held (sc x0 x1 (i 1).val) (val x2) (keys 0 (256 * ((i 1).val + 1))) acc M L ∧
      ∀ hd r b, out0_A_3 (F := Ideal) c i arg2 harg2 arg3 harg3 arg4 harg4 arg5 harg5 arg6 harg6 arg7 harg7 arg8 harg8 hc0 hc1 hc2 x0 x1 x2 (ix3 0 b (row hd r)) = Ideal.div (acc (ix2 (row hd r) b)) (L (ix3 hd 0 b)) := by
  have hi : (i 1).val < 8 := (i 1).isLt
  have ek : keys 0 (256 * ((i 1).val + 1)) = (keys 0 256 ∪ keys 0 (512 * (((i 1).val - 1) / 2))) := by
    ext k
    simp only [Finset.mem_union, mem_keys]
    omega
  have h := pairs_held c i arg2 harg2 arg3 harg3 arg4 harg4 arg5 harg5 arg6 harg6 arg7 harg7 arg8 harg8 hc1 x0 x1 x2 hraw hq
  rw [← ek] at h
  refine ⟨_, _, _, h, ?_⟩
  intro hd r b
  unfold out0_A_3 kernelRun0_A
  dsimp only
  refine (View.read_writes_cons_unit_of_mem _ _ _ _ _ _ (ix3 0 b (row hd r)) rfl fun a => by fin_cases a <;> exact (Nat.zero_add _).symm).trans ?_
  refine (outp_at (outA c i arg2 harg2 arg3 harg3 arg4 harg4 arg5 harg5 arg6 harg6 arg7 harg7 arg8 harg8 hc1 x0 x1 x2) (outL c i arg2 harg2 arg3 harg3 arg4 harg4 arg5 harg5 arg6 harg6 arg7 harg7 arg8 harg8 hc1 x0 x1 x2) hd r b).trans ?_
  rw [outA_at, outL_at]

end Cert.KernelIdeal.CaseA

end
-- ==== Proof.CaseB.lean ====
/- A query tile with an even number of tiles: the strip with the causal mask, the unmasked pairs of tiles, and the block that is written. -/
module

public import proofs.«01_k».proof.Proof.Gen.KernelIdeal.Frame
public import proofs.«01_k».proof.Proof.Point

@[expose] public section

set_option maxRecDepth 16384
set_option maxHeartbeats 200000

noncomputable section

namespace Cert.KernelIdeal.CaseB

open Cert.KernelIdeal Cert.KernelIdeal.Gen Cert.KernelIdeal.Step Cert.KernelIdeal.State Cert.KernelIdeal.Loads Cert.KernelIdeal.Offs Cert.KernelIdeal.Point Idealize.ShloMosaic Idealize.SL.Sem

/-- The six heads' scores of the strip with the causal mask, -/
def diagS (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S512x256 .f32 :=
  ![kernelRun0_B.sl.r_2 (F := Ideal) c i arg2 harg2 arg3 harg3 hc1 x0 x1, kernelRun0_B.sl.r_3 (F := Ideal) c i arg2 harg2 arg3 harg3 hc1 x0 x1, kernelRun0_B.sl.r_4 (F := Ideal) c i arg2 harg2 arg3 harg3 hc1 x0 x1, kernelRun0_B.sl.r_5 (F := Ideal) c i arg2 harg2 arg3 harg3 hc1 x0 x1, kernelRun0_B.sl.r_6 (F := Ideal) c i arg2 harg2 arg3 harg3 hc1 x0 x1, kernelRun0_B.sl.r_7 (F := Ideal) c i arg2 harg2 arg3 harg3 hc1 x0 x1]

/-- their values, -/
def diagV (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S64x512 .bf16 :=
  ![extractStridedSlice S64x512 ![0, 0] (kernelRun0_B.sl.v102 (F := Ideal) c i arg4 harg4 hc1 x2 : FVec Ideal S384x512 .bf16) slices_S384x512_o0_0_S64x512, extractStridedSlice S64x512 ![64, 0] (kernelRun0_B.sl.v102 (F := Ideal) c i arg4 harg4 hc1 x2 : FVec Ideal S384x512 .bf16) slices_S384x512_o64_0_S64x512, extractStridedSlice S64x512 ![128, 0] (kernelRun0_B.sl.v102 (F := Ideal) c i arg4 harg4 hc1 x2 : FVec Ideal S384x512 .bf16) slices_S384x512_o128_0_S64x512, extractStridedSlice S64x512 ![192, 0] (kernelRun0_B.sl.v102 (F := Ideal) c i arg4 harg4 hc1 x2 : FVec Ideal S384x512 .bf16) slices_S384x512_o192_0_S64x512, extractStridedSlice S64x512 ![256, 0] (kernelRun0_B.sl.v102 (F := Ideal) c i arg4 harg4 hc1 x2 : FVec Ideal S384x512 .bf16) slices_S384x512_o256_0_S64x512, extractStridedSlice S64x512 ![320, 0] (kernelRun0_B.sl.v102 (F := Ideal) c i arg4 harg4 hc1 x2 : FVec Ideal S384x512 .bf16) slices_S384x512_o320_0_S64x512]

/-- their maxima before it, -/
def diagM (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S1x1x256 .f32 :=
  ![kernelRun0_B.sl.v156 (F := Ideal) c arg7, kernelRun0_B.sl.v179 (F := Ideal) c i arg2 harg2 arg3 harg3 arg7 hc1 x0 x1, kernelRun0_B.sl.v202 (F := Ideal) c i arg2 harg2 arg3 harg3 arg7 hc1 x0 x1, kernelRun0_B.sl.v225 (F := Ideal) c i arg2 harg2 arg3 harg3 arg7 hc1 x0 x1, kernelRun0_B.sl.v248 (F := Ideal) c i arg2 harg2 arg3 harg3 arg7 hc1 x0 x1, kernelRun0_B.sl.v271 (F := Ideal) c i arg2 harg2 arg3 harg3 arg7 hc1 x0 x1]

/-- their totals before it, -/
def diagL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S1x1x256 .f32 :=
  ![kernelRun0_B.sl.v166 (F := Ideal) c arg8, kernelRun0_B.sl.v189 (F := Ideal) c i arg2 harg2 arg3 harg3 arg7 arg8 hc1 x0 x1, kernelRun0_B.sl.v212 (F := Ideal) c i arg2 harg2 arg3 harg3 arg7 arg8 hc1 x0 x1, kernelRun0_B.sl.v235 (F := Ideal) c i arg2 harg2 arg3 harg3 arg7 arg8 hc1 x0 x1, kernelRun0_B.sl.v258 (F := Ideal) c i arg2 harg2 arg3 harg3 arg7 arg8 hc1 x0 x1, kernelRun0_B.sl.v281 (F := Ideal) c i arg2 harg2 arg3 harg3 arg7 arg8 hc1 x0 x1]

/-- and their weighted sums before it. -/
def diagA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S64x256 .f32 :=
  ![kernelRun0_B.sl.v294 (F := Ideal) c arg6, kernelRun0_B.sl.v303 (F := Ideal) c i arg2 harg2 arg3 harg3 arg4 harg4 arg6 arg7 hc1 x0 x1 x2, kernelRun0_B.sl.v312 (F := Ideal) c i arg2 harg2 arg3 harg3 arg4 harg4 arg6 arg7 hc1 x0 x1 x2, kernelRun0_B.sl.v321 (F := Ideal) c i arg2 harg2 arg3 harg3 arg4 harg4 arg6 arg7 hc1 x0 x1 x2, kernelRun0_B.sl.v330 (F := Ideal) c i arg2 harg2 arg3 harg3 arg4 harg4 arg6 arg7 hc1 x0 x1 x2, kernelRun0_B.sl.v339 (F := Ideal) c i arg2 harg2 arg3 harg3 arg4 harg4 arg6 arg7 hc1 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 x0 x1 x2

theorem diagS_0  : diagS c i arg2 harg2 arg3 harg3 arg4 harg4 arg5 harg5 arg6 harg6 arg7 harg7 arg8 harg8 hc1 x0 x1 x2 0 = kernelRun0_B.sl.r_2 (F := Ideal) c i arg2 harg2 arg3 harg3 hc1 x0 x1 := by
  simp only [diagS, Matrix.cons_val]

theorem diagS_1  : diagS c i arg2 harg2 arg3 harg3 arg4 harg4 arg5 harg5 arg6 harg6 arg7 harg7 arg8 harg8 hc1 x0 x1 x2 1 = kernelRun0_B.sl.r_3 (F := Ideal) c i arg2 harg2 arg3 harg3 hc1 x0 x1 := by
  simp only [diagS, Matrix.cons_val]

theorem diagS_2  : diagS c i arg2 harg2 arg3 harg3 arg4 harg4 arg5 harg5 arg6 harg6 arg7 harg7 arg8 harg8 hc1 x0 x1 x2 2 = kernelRun0_B.sl.r_4 (F := Ideal) c i arg2 harg2 arg3 harg3 hc1 x0 x1 := by
  simp only [diagS, Matrix.cons_val]

theorem diagS_3  : diagS c i arg2 harg2 arg3 harg3 arg4 harg4 arg5 harg5 arg6 harg6 arg7 harg7 arg8 harg8 hc1 x0 x1 x2 3 = kernelRun0_B.sl.r_5 (F := Ideal) c i arg2 harg2 arg3 harg3 hc1 x0 x1 := by
  simp only [diagS, Matrix.cons_val]

theorem diagS_4  : diagS c i arg2 harg2 arg3 harg3 arg4 harg4 arg5 harg5 arg6 harg6 arg7 harg7 arg8 harg8 hc1 x0 x1 x2 4 = kernelRun0_B.sl.r_6 (F := Ideal) c i arg2 harg2 arg3 harg3 hc1 x0 x1 := by
  simp only [diagS, Matrix.cons_val]

theorem diagS_5  : diagS c i arg2 harg2 arg3 harg3 arg4 harg4 arg5 harg5 arg6 harg6 arg7 harg7 arg8 harg8 hc1 x0 x1 x2 5 = kernelRun0_B.sl.r_7 (F := Ideal) c i arg2 harg2 arg3 harg3 hc1 x0 x1 := by
  simp only [diagS, Matrix.cons_val]

theorem diagV_0  : diagV c i arg2 harg2 arg3 harg3 arg4 harg4 arg5 harg5 arg6 harg6 arg7 harg7 arg8 harg8 hc1 x0 x1 x2 0 = extractStridedSlice S64x512 ![0, 0] (kernelRun0_B.sl.v102 (F := Ideal) c i arg4 harg4 hc1 x2 : FVec Ideal S384x512 .bf16) slices_S384x512_o0_0_S64x512 := by
  simp only [diagV, Matrix.cons_val]

theorem diagV_1  : diagV c i arg2 harg2 arg3 harg3 arg4 harg4 arg5 harg5 arg6 harg6 arg7 harg7 arg8 harg8 hc1 x0 x1 x2 1 = extractStridedSlice S64x512 ![64, 0] (kernelRun0_B.sl.v102 (F := Ideal) c i arg4 harg4 hc1 x2 : FVec Ideal S384x512 .bf16) slices_S384x512_o64_0_S64x512 := by
  simp only [diagV, Matrix.cons_val]

theorem diagV_2  : diagV c i arg2 harg2 arg3 harg3 arg4 harg4 arg5 harg5 arg6 harg6 arg7 harg7 arg8 harg8 hc1 x0 x1 x2 2 = extractStridedSlice S64x512 ![128, 0] (kernelRun0_B.sl.v102 (F := Ideal) c i arg4 harg4 hc1 x2 : FVec Ideal S384x512 .bf16) slices_S384x512_o128_0_S64x512 := by
  simp only [diagV, Matrix.cons_val]

theorem diagV_3  : diagV c i arg2 harg2 arg3 harg3 arg4 harg4 arg5 harg5 arg6 harg6 arg7 harg7 arg8 harg8 hc1 x0 x1 x2 3 = extractStridedSlice S64x512 ![192, 0] (kernelRun0_B.sl.v102 (F := Ideal) c i arg4 harg4 hc1 x2 : FVec Ideal S384x512 .bf16) slices_S384x512_o192_0_S64x512 := by
  simp only [diagV, Matrix.cons_val]

theorem diagV_4  : diagV c i arg2 harg2 arg3 harg3 arg4 harg4 arg5 harg5 arg6 harg6 arg7 harg7 arg8 harg8 hc1 x0 x1 x2 4 = extractStridedSlice S64x512 ![256, 0] (kernelRun0_B.sl.v102 (F := Ideal) c i arg4 harg4 hc1 x2 : FVec Ideal S384x512 .bf16) slices_S384x512_o256_0_S64x512 := by
  simp only [diagV, Matrix.cons_val]

theorem diagV_5  : diagV c i arg2 harg2 arg3 harg3 arg4 harg4 arg5 harg5 arg6 harg6 arg7 harg7 arg8 harg8 hc1 x0 x1 x2 5 = extractStridedSlice S64x512 ![320, 0] (kernelRun0_B.sl.v102 (F := Ideal) c i arg4 harg4 hc1 x2 : FVec Ideal S384x512 .bf16) slices_S384x512_o320_0_S64x512 := by
  simp only [diagV, Matrix.cons_val]

theorem diagM_0  : diagM c i arg2 harg2 arg3 harg3 arg4 harg4 arg5 harg5 arg6 harg6 arg7 harg7 arg8 harg8 hc1 x0 x1 x2 0 = kernelRun0_B.sl.v156 (F := Ideal) c arg7 := by
  simp only [diagM, Matrix.cons_val]

theorem diagM_1  : diagM c i arg2 harg2 arg3 harg3 arg4 harg4 arg5 harg5 arg6 harg6 arg7 harg7 arg8 harg8 hc1 x0 x1 x2 1 = kernelRun0_B.sl.v179 (F := Ideal) c i arg2 harg2 arg3 harg3 arg7 hc1 x0 x1 := by
  simp only [diagM, Matrix.cons_val]

theorem diagM_2  : diagM c i arg2 harg2 arg3 harg3 arg4 harg4 arg5 harg5 arg6 harg6 arg7 harg7 arg8 harg8 hc1 x0 x1 x2 2 = kernelRun0_B.sl.v202 (F := Ideal) c i arg2 harg2 arg3 harg3 arg7 hc1 x0 x1 := by
  simp only [diagM, Matrix.cons_val]

theorem diagM_3  : diagM c i arg2 harg2 arg3 harg3 arg4 harg4 arg5 harg5 arg6 harg6 arg7 harg7 arg8 harg8 hc1 x0 x1 x2 3 = kernelRun0_B.sl.v225 (F := Ideal) c i arg2 harg2 arg3 harg3 arg7 hc1 x0 x1 := by
  simp only [diagM, Matrix.cons_val]

theorem diagM_4  : diagM c i arg2 harg2 arg3 harg3 arg4 harg4 arg5 harg5 arg6 harg6 arg7 harg7 arg8 harg8 hc1 x0 x1 x2 4 = kernelRun0_B.sl.v248 (F := Ideal) c i arg2 harg2 arg3 harg3 arg7 hc1 x0 x1 := by
  simp only [diagM, Matrix.cons_val]

theorem diagM_5  : diagM c i arg2 harg2 arg3 harg3 arg4 harg4 arg5 harg5 arg6 harg6 arg7 harg7 arg8 harg8 hc1 x0 x1 x2 5 = kernelRun0_B.sl.v271 (F := Ideal) c i arg2 harg2 arg3 harg3 arg7 hc1 x0 x1 := by
  simp only [diagM, Matrix.cons_val]

theorem diagL_0  : diagL c i arg2 harg2 arg3 harg3 arg4 harg4 arg5 harg5 arg6 harg6 arg7 harg7 arg8 harg8 hc1 x0 x1 x2 0 = kernelRun0_B.sl.v166 (F := Ideal) c arg8 := by
  simp only [diagL, Matrix.cons_val]

theorem diagL_1  : diagL c i arg2 harg2 arg3 harg3 arg4 harg4 arg5 harg5 arg6 harg6 arg7 harg7 arg8 harg8 hc1 x0 x1 x2 1 = kernelRun0_B.sl.v189 (F := Ideal) c i arg2 harg2 arg3 harg3 arg7 arg8 hc1 x0 x1 := by
  simp only [diagL, Matrix.cons_val]

theorem diagL_2  : diagL c i arg2 harg2 arg3 harg3 arg4 harg4 arg5 harg5 arg6 harg6 arg7 harg7 arg8 harg8 hc1 x0 x1 x2 2 = kernelRun0_B.sl.v212 (F := Ideal) c i arg2 harg2 arg3 harg3 arg7 arg8 hc1 x0 x1 := by
  simp only [diagL, Matrix.cons_val]

theorem diagL_3  : diagL c i arg2 harg2 arg3 harg3 arg4 harg4 arg5 harg5 arg6 harg6 arg7 harg7 arg8 harg8 hc1 x0 x1 x2 3 = kernelRun0_B.sl.v235 (F := Ideal) c i arg2 harg2 arg3 harg3 arg7 arg8 hc1 x0 x1 := by
  simp only [diagL, Matrix.cons_val]

theorem diagL_4  : diagL c i arg2 harg2 arg3 harg3 arg4 harg4 arg5 harg5 arg6 harg6 arg7 harg7 arg8 harg8 hc1 x0 x1 x2 4 = kernelRun0_B.sl.v258 (F := Ideal) c i arg2 harg2 arg3 harg3 arg7 arg8 hc1 x0 x1 := by
  simp only [diagL, Matrix.cons_val]

theorem diagL_5  : diagL c i arg2 harg2 arg3 harg3 arg4 harg4 arg5 harg5 arg6 harg6 arg7 harg7 arg8 harg8 hc1 x0 x1 x2 5 = kernelRun0_B.sl.v281 (F := Ideal) c i arg2 harg2 arg3 harg3 arg7 arg8 hc1 x0 x1 := by
  simp only [diagL, Matrix.cons_val]

theorem diagA_0  : diagA c i arg2 harg2 arg3 harg3 arg4 harg4 arg5 harg5 arg6 harg6 arg7 harg7 arg8 harg8 hc1 x0 x1 x2 0 = kernelRun0_B.sl.v294 (F := Ideal) c arg6 := by
  simp only [diagA, Matrix.cons_val]

theorem diagA_1  : diagA c i arg2 harg2 arg3 harg3 arg4 harg4 arg5 harg5 arg6 harg6 arg7 harg7 arg8 harg8 hc1 x0 x1 x2 1 = kernelRun0_B.sl.v303 (F := Ideal) c i arg2 harg2 arg3 harg3 arg4 harg4 arg6 arg7 hc1 x0 x1 x2 := by
  simp only [diagA, Matrix.cons_val]

theorem diagA_2  : diagA c i arg2 harg2 arg3 harg3 arg4 harg4 arg5 harg5 arg6 harg6 arg7 harg7 arg8 harg8 hc1 x0 x1 x2 2 = kernelRun0_B.sl.v312 (F := Ideal) c i arg2 harg2 arg3 harg3 arg4 harg4 arg6 arg7 hc1 x0 x1 x2 := by
  simp only [diagA, Matrix.cons_val]

theorem diagA_3  : diagA c i arg2 harg2 arg3 harg3 arg4 harg4 arg5 harg5 arg6 harg6 arg7 harg7 arg8 harg8 hc1 x0 x1 x2 3 = kernelRun0_B.sl.v321 (F := Ideal) c i arg2 harg2 arg3 harg3 arg4 harg4 arg6 arg7 hc1 x0 x1 x2 := by
  simp only [diagA, Matrix.cons_val]

theorem diagA_4  : diagA c i arg2 harg2 arg3 harg3 arg4 harg4 arg5 harg5 arg6 harg6 arg7 harg7 arg8 harg8 hc1 x0 x1 x2 4 = kernelRun0_B.sl.v330 (F := Ideal) c i arg2 harg2 arg3 harg3 arg4 harg4 arg6 arg7 hc1 x0 x1 x2 := by
  simp only [diagA, Matrix.cons_val]

theorem diagA_5  : diagA c i arg2 harg2 arg3 harg3 arg4 harg4 arg5 harg5 arg6 harg6 arg7 harg7 arg8 harg8 hc1 x0 x1 x2 5 = kernelRun0_B.sl.v339 (F := Ideal) c i arg2 harg2 arg3 harg3 arg4 harg4 arg6 arg7 hc1 x0 x1 x2 := by
  simp only [diagA, Matrix.cons_val]

/-- Head 0's scores, from the loads. -/
theorem diagS_load_0  : ∃ inb inbq, kernelRun0_B.sl.r_2 (F := Ideal) c i arg2 harg2 arg3 harg3 hc1 x0 x1 = mask2 (score2 (View.readAt (Elt Ideal) arg3.view (Rect.unit (s := S1x6x2048x128) (k0_off2 i) S1x1x512x128.size inb).toLoadRect (harg3.unread x1)) (View.readAt (Elt Ideal) arg2.view (Rect.unit (s := S1x768x256) ![0, 0, 0] S1x128x256.size inbq).toLoadRect (harg2.unread x0))) :=
  ⟨_, _, rfl⟩

/-- Head 1's scores, from the loads. -/
theorem diagS_load_1  : ∃ inb inbq, kernelRun0_B.sl.r_3 (F := Ideal) c i arg2 harg2 arg3 harg3 hc1 x0 x1 = mask2 (score2 (View.readAt (Elt Ideal) arg3.view (Rect.unit (s := S1x6x2048x128) (k0_off3 i) S1x1x512x128.size inb).toLoadRect (harg3.unread x1)) (View.readAt (Elt Ideal) arg2.view (Rect.unit (s := S1x768x256) ![0, 128, 0] S1x128x256.size inbq).toLoadRect (harg2.unread x0))) :=
  ⟨_, _, rfl⟩

/-- Head 2's scores, from the loads. -/
theorem diagS_load_2  : ∃ inb inbq, kernelRun0_B.sl.r_4 (F := Ideal) c i arg2 harg2 arg3 harg3 hc1 x0 x1 = mask2 (score2 (View.readAt (Elt Ideal) arg3.view (Rect.unit (s := S1x6x2048x128) (k0_off4 i) S1x1x512x128.size inb).toLoadRect (harg3.unread x1)) (View.readAt (Elt Ideal) arg2.view (Rect.unit (s := S1x768x256) ![0, 256, 0] S1x128x256.size inbq).toLoadRect (harg2.unread x0))) :=
  ⟨_, _, rfl⟩

/-- Head 3's scores, from the loads. -/
theorem diagS_load_3  : ∃ inb inbq, kernelRun0_B.sl.r_5 (F := Ideal) c i arg2 harg2 arg3 harg3 hc1 x0 x1 = mask2 (score2 (View.readAt (Elt Ideal) arg3.view (Rect.unit (s := S1x6x2048x128) (k0_off5 i) S1x1x512x128.size inb).toLoadRect (harg3.unread x1)) (View.readAt (Elt Ideal) arg2.view (Rect.unit (s := S1x768x256) ![0, 384, 0] S1x128x256.size inbq).toLoadRect (harg2.unread x0))) :=
  ⟨_, _, rfl⟩

/-- Head 4's scores, from the loads. -/
theorem diagS_load_4  : ∃ inb inbq, kernelRun0_B.sl.r_6 (F := Ideal) c i arg2 harg2 arg3 harg3 hc1 x0 x1 = mask2 (score2 (View.readAt (Elt Ideal) arg3.view (Rect.unit (s := S1x6x2048x128) (k0_off6 i) S1x1x512x128.size inb).toLoadRect (harg3.unread x1)) (View.readAt (Elt Ideal) arg2.view (Rect.unit (s := S1x768x256) ![0, 512, 0] S1x128x256.size inbq).toLoadRect (harg2.unread x0))) :=
  ⟨_, _, rfl⟩

/-- Head 5's scores, from the loads. -/
theorem diagS_load_5  : ∃ inb inbq, kernelRun0_B.sl.r_7 (F := Ideal) c i arg2 harg2 arg3 harg3 hc1 x0 x1 = mask2 (score2 (View.readAt (Elt Ideal) arg3.view (Rect.unit (s := S1x6x2048x128) (k0_off7 i) S1x1x512x128.size inb).toLoadRect (harg3.unread x1)) (View.readAt (Elt Ideal) arg2.view (Rect.unit (s := S1x768x256) ![0, 640, 0] S1x128x256.size inbq).toLoadRect (harg2.unread x0))) :=
  ⟨_, _, rfl⟩

/-- The values, from the loads. -/
theorem diagV_load  : ∃ inb inb', kernelRun0_B.sl.v102 (F := Ideal) c i arg4 harg4 hc1 x2 = vals2 (View.readAt (Elt Ideal) arg4.view (Rect.unit (s := S1x8x384x256) (k0_off1 i 0#32) S1x1x384x256.size inb).toLoadRect (harg4.unread x2)) (View.readAt (Elt Ideal) arg4.view (Rect.unit (s := S1x8x384x256) (k0_off1 i 1#32) S1x1x384x256.size inb').toLoadRect (harg4.unread x2)) :=
  ⟨_, _, rfl⟩

/-- Head 0's maximum loaded is the one before the strip. -/
theorem diagM_at_0  (b : Fin 256) : diagM c i arg2 harg2 arg3 harg3 arg4 harg4 arg5 harg5 arg6 harg6 arg7 harg7 arg8 harg8 hc1 x0 x1 x2 0 (ix3 0 0 b) = (arg7.view.read (Elt Ideal) (arg7.view.writes (Elt Ideal) arg7.view.junk (kernelRun0_B.sl.HS1_1 (F := Ideal) ))) (ix3 0 0 b) := by
  rw [diagM_0]
  unfold kernelRun0_B.sl.v156 View.readCov
  refine (load_row3 arg7 _ _ 0 b rfl).trans ?_
  rfl

/-- Head 1's maximum loaded is the one before the strip. -/
theorem diagM_at_1  (b : Fin 256) : diagM c i arg2 harg2 arg3 harg3 arg4 harg4 arg5 harg5 arg6 harg6 arg7 harg7 arg8 harg8 hc1 x0 x1 x2 1 (ix3 0 0 b) = (arg7.view.read (Elt Ideal) (arg7.view.writes (Elt Ideal) arg7.view.junk (kernelRun0_B.sl.HS1_1 (F := Ideal) ))) (ix3 1 0 b) := by
  rw [diagM_1]
  unfold kernelRun0_B.sl.v179 View.readCov
  refine (load_row3 arg7 _ _ 1 b rfl).trans ?_
  unfold kernelRun0_B.sl.HS1_2
  refine (skip3 _ _ _ _ _ 1 0 rfl (by decide) b).trans ?_
  rfl

/-- Head 2's maximum loaded is the one before the strip. -/
theorem diagM_at_2  (b : Fin 256) : diagM c i arg2 harg2 arg3 harg3 arg4 harg4 arg5 harg5 arg6 harg6 arg7 harg7 arg8 harg8 hc1 x0 x1 x2 2 (ix3 0 0 b) = (arg7.view.read (Elt Ideal) (arg7.view.writes (Elt Ideal) arg7.view.junk (kernelRun0_B.sl.HS1_1 (F := Ideal) ))) (ix3 2 0 b) := by
  rw [diagM_2]
  unfold kernelRun0_B.sl.v202 View.readCov
  refine (load_row3 arg7 _ _ 2 b rfl).trans ?_
  unfold kernelRun0_B.sl.HS1_3
  refine (skip3 _ _ _ _ _ 2 1 rfl (by decide) b).trans ?_
  unfold kernelRun0_B.sl.HS1_2
  refine (skip3 _ _ _ _ _ 2 0 rfl (by decide) b).trans ?_
  rfl

/-- Head 3's maximum loaded is the one before the strip. -/
theorem diagM_at_3  (b : Fin 256) : diagM c i arg2 harg2 arg3 harg3 arg4 harg4 arg5 harg5 arg6 harg6 arg7 harg7 arg8 harg8 hc1 x0 x1 x2 3 (ix3 0 0 b) = (arg7.view.read (Elt Ideal) (arg7.view.writes (Elt Ideal) arg7.view.junk (kernelRun0_B.sl.HS1_1 (F := Ideal) ))) (ix3 3 0 b) := by
  rw [diagM_3]
  unfold kernelRun0_B.sl.v225 View.readCov
  refine (load_row3 arg7 _ _ 3 b rfl).trans ?_
  unfold kernelRun0_B.sl.HS1_4
  refine (skip3 _ _ _ _ _ 3 2 rfl (by decide) b).trans ?_
  unfold kernelRun0_B.sl.HS1_3
  refine (skip3 _ _ _ _ _ 3 1 rfl (by decide) b).trans ?_
  unfold kernelRun0_B.sl.HS1_2
  refine (skip3 _ _ _ _ _ 3 0 rfl (by decide) b).trans ?_
  rfl

/-- Head 4's maximum loaded is the one before the strip. -/
theorem diagM_at_4  (b : Fin 256) : diagM c i arg2 harg2 arg3 harg3 arg4 harg4 arg5 harg5 arg6 harg6 arg7 harg7 arg8 harg8 hc1 x0 x1 x2 4 (ix3 0 0 b) = (arg7.view.read (Elt Ideal) (arg7.view.writes (Elt Ideal) arg7.view.junk (kernelRun0_B.sl.HS1_1 (F := Ideal) ))) (ix3 4 0 b) := by
  rw [diagM_4]
  unfold kernelRun0_B.sl.v248 View.readCov
  refine (load_row3 arg7 _ _ 4 b rfl).trans ?_
  unfold kernelRun0_B.sl.HS1_5
  refine (skip3 _ _ _ _ _ 4 3 rfl (by decide) b).trans ?_
  unfold kernelRun0_B.sl.HS1_4
  refine (skip3 _ _ _ _ _ 4 2 rfl (by decide) b).trans ?_
  unfold kernelRun0_B.sl.HS1_3
  refine (skip3 _ _ _ _ _ 4 1 rfl (by decide) b).trans ?_
  unfold kernelRun0_B.sl.HS1_2
  refine (skip3 _ _ _ _ _ 4 0 rfl (by decide) b).trans ?_
  rfl

/-- Head 5's maximum loaded is the one before the strip. -/
theorem diagM_at_5  (b : Fin 256) : diagM c i arg2 harg2 arg3 harg3 arg4 harg4 arg5 harg5 arg6 harg6 arg7 harg7 arg8 harg8 hc1 x0 x1 x2 5 (ix3 0 0 b) = (arg7.view.read (Elt Ideal) (arg7.view.writes (Elt Ideal) arg7.view.junk (kernelRun0_B.sl.HS1_1 (F := Ideal) ))) (ix3 5 0 b) := by
  rw [diagM_5]
  unfold kernelRun0_B.sl.v271 View.readCov
  refine (load_row3 arg7 _ _ 5 b rfl).trans ?_
  unfold kernelRun0_B.sl.HS1_6
  refine (skip3 _ _ _ _ _ 5 4 rfl (by decide) b).trans ?_
  unfold kernelRun0_B.sl.HS1_5
  refine (skip3 _ _ _ _ _ 5 3 rfl (by decide) b).trans ?_
  unfold kernelRun0_B.sl.HS1_4
  refine (skip3 _ _ _ _ _ 5 2 rfl (by decide) b).trans ?_
  unfold kernelRun0_B.sl.HS1_3
  refine (skip3 _ _ _ _ _ 5 1 rfl (by decide) b).trans ?_
  unfold kernelRun0_B.sl.HS1_2
  refine (skip3 _ _ _ _ _ 5 0 rfl (by decide) b).trans ?_
  rfl

/-- The maximums loaded are those before the strip. -/
theorem diagM_at  (hd : Fin 6) (b : Fin 256) : diagM c i arg2 harg2 arg3 harg3 arg4 harg4 arg5 harg5 arg6 harg6 arg7 harg7 arg8 harg8 hc1 x0 x1 x2 hd (ix3 0 0 b) = (arg7.view.read (Elt Ideal) (arg7.view.writes (Elt Ideal) arg7.view.junk (kernelRun0_B.sl.HS1_1 (F := Ideal) ))) (ix3 hd 0 b) := by
  fin_cases hd
  exacts [diagM_at_0 c i arg2 harg2 arg3 harg3 arg4 harg4 arg5 harg5 arg6 harg6 arg7 harg7 arg8 harg8 hc1 x0 x1 x2 b, diagM_at_1 c i arg2 harg2 arg3 harg3 arg4 harg4 arg5 harg5 arg6 harg6 arg7 harg7 arg8 harg8 hc1 x0 x1 x2 b, diagM_at_2 c i arg2 harg2 arg3 harg3 arg4 harg4 arg5 harg5 arg6 harg6 arg7 harg7 arg8 harg8 hc1 x0 x1 x2 b, diagM_at_3 c i arg2 harg2 arg3 harg3 arg4 harg4 arg5 harg5 arg6 harg6 arg7 harg7 arg8 harg8 hc1 x0 x1 x2 b, diagM_at_4 c i arg2 harg2 arg3 harg3 arg4 harg4 arg5 harg5 arg6 harg6 arg7 harg7 arg8 harg8 hc1 x0 x1 x2 b, diagM_at_5 c i arg2 harg2 arg3 harg3 arg4 harg4 arg5 harg5 arg6 harg6 arg7 harg7 arg8 harg8 hc1 x0 x1 x2 b]

/-- Head 0's maximum after the strip. -/
theorem diagM_new_0  (b : Fin 256) : (arg7.view.read (Elt Ideal) (arg7.view.writes (Elt Ideal) arg7.view.junk (kernelRun0_B.sl.HS1_7 (F := Ideal) c i arg2 harg2 arg3 harg3 arg7 hc1 x0 x1))) (ix3 0 0 b) = newM2 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (ix3 0 0 b) := by
  rw [diagS_0, diagM_0]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 0 b).trans ?_
  simp only [Matrix.cons_val]
  rfl

/-- Head 1's maximum after the strip. -/
theorem diagM_new_1  (b : Fin 256) : (arg7.view.read (Elt Ideal) (arg7.view.writes (Elt Ideal) arg7.view.junk (kernelRun0_B.sl.HS1_7 (F := Ideal) c i arg2 harg2 arg3 harg3 arg7 hc1 x0 x1))) (ix3 1 0 b) = newM2 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (ix3 0 0 b) := by
  rw [diagS_1, diagM_1]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 1 b).trans ?_
  simp only [Matrix.cons_val]
  rfl

/-- Head 2's maximum after the strip. -/
theorem diagM_new_2  (b : Fin 256) : (arg7.view.read (Elt Ideal) (arg7.view.writes (Elt Ideal) arg7.view.junk (kernelRun0_B.sl.HS1_7 (F := Ideal) c i arg2 harg2 arg3 harg3 arg7 hc1 x0 x1))) (ix3 2 0 b) = newM2 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (ix3 0 0 b) := by
  rw [diagS_2, diagM_2]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 2 b).trans ?_
  simp only [Matrix.cons_val]
  rfl

/-- Head 3's maximum after the strip. -/
theorem diagM_new_3  (b : Fin 256) : (arg7.view.read (Elt Ideal) (arg7.view.writes (Elt Ideal) arg7.view.junk (kernelRun0_B.sl.HS1_7 (F := Ideal) c i arg2 harg2 arg3 harg3 arg7 hc1 x0 x1))) (ix3 3 0 b) = newM2 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (ix3 0 0 b) := by
  rw [diagS_3, diagM_3]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 3 b).trans ?_
  simp only [Matrix.cons_val]
  rfl

/-- Head 4's maximum after the strip. -/
theorem diagM_new_4  (b : Fin 256) : (arg7.view.read (Elt Ideal) (arg7.view.writes (Elt Ideal) arg7.view.junk (kernelRun0_B.sl.HS1_7 (F := Ideal) c i arg2 harg2 arg3 harg3 arg7 hc1 x0 x1))) (ix3 4 0 b) = newM2 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (ix3 0 0 b) := by
  rw [diagS_4, diagM_4]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 4 b).trans ?_
  simp only [Matrix.cons_val]
  rfl

/-- Head 5's maximum after the strip. -/
theorem diagM_new_5  (b : Fin 256) : (arg7.view.read (Elt Ideal) (arg7.view.writes (Elt Ideal) arg7.view.junk (kernelRun0_B.sl.HS1_7 (F := Ideal) c i arg2 harg2 arg3 harg3 arg7 hc1 x0 x1))) (ix3 5 0 b) = newM2 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (ix3 0 0 b) := by
  rw [diagS_5, diagM_5]
  unfold kernelRun0_B.sl.HS1_7
  unfold kernelRun0_B.sl.HS1_6
  unfold kernelRun0_B.sl.HS1_5
  unfold kernelRun0_B.sl.HS1_4
  unfold kernelRun0_B.sl.HS1_3
  unfold kernelRun0_B.sl.HS1_2
  refine (read_rows3 arg7.view _ _ _ _ _ _ _ _ _ _ _ _ _ _ 5 b).trans ?_
  simp only [Matrix.cons_val]
  rfl

/-- The maximums after the strip. -/
theorem diagM_new  (hd : Fin 6) (b : Fin 256) : (arg7.view.read (Elt Ideal) (arg7.view.writes (Elt Ideal) arg7.view.junk (kernelRun0_B.sl.HS1_7 (F := Ideal) c i arg2 harg2 arg3 harg3 arg7 hc1 x0 x1))) (ix3 hd 0 b) = newM2 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (ix3 0 0 b) := by
  fin_cases hd
  exacts [diagM_new_0 c i arg2 harg2 arg3 harg3 arg4 harg4 arg5 harg5 arg6 harg6 arg7 harg7 arg8 harg8 hc1 x0 x1 x2 b, diagM_new_1 c i arg2 harg2 arg3 harg3 arg4 harg4 arg5 harg5 arg6 harg6 arg7 harg7 arg8 harg8 hc1 x0 x1 x2 b, diagM_new_2 c i arg2 harg2 arg3 harg3 arg4 harg4 arg5 harg5 arg6 harg6 arg7 harg7 arg8 harg8 hc1 x0 x1 x2 b, diagM_new_3 c i arg2 harg2 arg3 harg3 arg4 harg4 arg5 harg5 arg6 harg6 arg7 harg7 arg8 harg8 hc1 x0 x1 x2 b, diagM_new_4 c i arg2 harg2 arg3 harg3 arg4 harg4 arg5 harg5 arg6 harg6 arg7 harg7 arg8 harg8 hc1 x0 x1 x2 b, diagM_new_5 c i arg2 harg2 arg3 harg3 arg4 harg4 arg5 harg5 arg6 harg6 arg7 harg7 arg8 harg8 hc1 x0 x1 x2 b]

/-- Head 0's total loaded is the one before the strip. -/
theorem diagL_at_0  (b : Fin 256) : diagL c i arg2 harg2 arg3 harg3 arg4 harg4 arg5 harg5 arg6 harg6 arg7 harg7 arg8 harg8 hc1 x0 x1 x2 0 (ix3 0 0 b) = (arg8.view.read (Elt Ideal) (arg8.view.writes (Elt Ideal) arg8.view.junk (kernelRun0_B.sl.HS2_1 (F := Ideal) ))) (ix3 0 0 b) := by
  rw [diagL_0]
  unfold kernelRun0_B.sl.v166 View.readCov
  refine (load_row3 arg8 _ _ 0 b rfl).trans ?_
  rfl

/-- Head 1's total loaded is the one before the strip. -/
theorem diagL_at_1  (b : Fin 256) : diagL c i arg2 harg2 arg3 harg3 arg4 harg4 arg5 harg5 arg6 harg6 arg7 harg7 arg8 harg8 hc1 x0 x1 x2 1 (ix3 0 0 b) = (arg8.view.read (Elt Ideal) (arg8.view.writes (Elt Ideal) arg8.view.junk (kernelRun0_B.sl.HS2_1 (F := Ideal) ))) (ix3 1 0 b) := by
  rw [diagL_1]
  unfold kernelRun0_B.sl.v189 View.readCov
  refine (load_row3 arg8 _ _ 1 b rfl).trans ?_
  unfold kernelRun0_B.sl.HS2_2
  refine (skip3 _ _ _ _ _ 1 0 rfl (by decide) b).trans ?_
  rfl

/-- Head 2's total loaded is the one before the strip. -/
theorem diagL_at_2  (b : Fin 256) : diagL c i arg2 harg2 arg3 harg3 arg4 harg4 arg5 harg5 arg6 harg6 arg7 harg7 arg8 harg8 hc1 x0 x1 x2 2 (ix3 0 0 b) = (arg8.view.read (Elt Ideal) (arg8.view.writes (Elt Ideal) arg8.view.junk (kernelRun0_B.sl.HS2_1 (F := Ideal) ))) (ix3 2 0 b) := by
  rw [diagL_2]
  unfold kernelRun0_B.sl.v212 View.readCov
  refine (load_row3 arg8 _ _ 2 b rfl).trans ?_
  unfold kernelRun0_B.sl.HS2_3
  refine (skip3 _ _ _ _ _ 2 1 rfl (by decide) b).trans ?_
  unfold kernelRun0_B.sl.HS2_2
  refine (skip3 _ _ _ _ _ 2 0 rfl (by decide) b).trans ?_
  rfl

/-- Head 3's total loaded is the one before the strip. -/
theorem diagL_at_3  (b : Fin 256) : diagL c i arg2 harg2 arg3 harg3 arg4 harg4 arg5 harg5 arg6 harg6 arg7 harg7 arg8 harg8 hc1 x0 x1 x2 3 (ix3 0 0 b) = (arg8.view.read (Elt Ideal) (arg8.view.writes (Elt Ideal) arg8.view.junk (kernelRun0_B.sl.HS2_1 (F := Ideal) ))) (ix3 3 0 b) := by
  rw [diagL_3]
  unfold kernelRun0_B.sl.v235 View.readCov
  refine (load_row3 arg8 _ _ 3 b rfl).trans ?_
  unfold kernelRun0_B.sl.HS2_4
  refine (skip3 _ _ _ _ _ 3 2 rfl (by decide) b).trans ?_
  unfold kernelRun0_B.sl.HS2_3
  refine (skip3 _ _ _ _ _ 3 1 rfl (by decide) b).trans ?_
  unfold kernelRun0_B.sl.HS2_2
  refine (skip3 _ _ _ _ _ 3 0 rfl (by decide) b).trans ?_
  rfl

/-- Head 4's total loaded is the one before the strip. -/
theorem diagL_at_4  (b : Fin 256) : diagL c i arg2 harg2 arg3 harg3 arg4 harg4 arg5 harg5 arg6 harg6 arg7 harg7 arg8 harg8 hc1 x0 x1 x2 4 (ix3 0 0 b) = (arg8.view.read (Elt Ideal) (arg8.view.writes (Elt Ideal) arg8.view.junk (kernelRun0_B.sl.HS2_1 (F := Ideal) ))) (ix3 4 0 b) := by
  rw [diagL_4]
  unfold kernelRun0_B.sl.v258 View.readCov
  refine (load_row3 arg8 _ _ 4 b rfl).trans ?_
  unfold kernelRun0_B.sl.HS2_5
  refine (skip3 _ _ _ _ _ 4 3 rfl (by decide) b).trans ?_
  unfold kernelRun0_B.sl.HS2_4
  refine (skip3 _ _ _ _ _ 4 2 rfl (by decide) b).trans ?_
  unfold kernelRun0_B.sl.HS2_3
  refine (skip3 _ _ _ _ _ 4 1 rfl (by decide) b).trans ?_
  unfold kernelRun0_B.sl.HS2_2
  refine (skip3 _ _ _ _ _ 4 0 rfl (by decide) b).trans ?_
  rfl

/-- Head 5's total loaded is the one before the strip. -/
theorem diagL_at_5  (b : Fin 256) : diagL c i arg2 harg2 arg3 harg3 arg4 harg4 arg5 harg5 arg6 harg6 arg7 harg7 arg8 harg8 hc1 x0 x1 x2 5 (ix3 0 0 b) = (arg8.view.read (Elt Ideal) (arg8.view.writes (Elt Ideal) arg8.view.junk (kernelRun0_B.sl.HS2_1 (F := Ideal) ))) (ix3 5 0 b) := by
  rw [diagL_5]
  unfold kernelRun0_B.sl.v281 View.readCov
  refine (load_row3 arg8 _ _ 5 b rfl).trans ?_
  unfold kernelRun0_B.sl.HS2_6
  refine (skip3 _ _ _ _ _ 5 4 rfl (by decide) b).trans ?_
  unfold kernelRun0_B.sl.HS2_5
  refine (skip3 _ _ _ _ _ 5 3 rfl (by decide) b).trans ?_
  unfold kernelRun0_B.sl.HS2_4
  refine (skip3 _ _ _ _ _ 5 2 rfl (by decide) b).trans ?_
  unfold kernelRun0_B.sl.HS2_3
  refine (skip3 _ _ _ _ _ 5 1 rfl (by decide) b).trans ?_
  unfold kernelRun0_B.sl.HS2_2
  refine (skip3 _ _ _ _ _ 5 0 rfl (by decide) b).trans ?_
  rfl

/-- The totals loaded are those before the strip. -/
theorem diagL_at  (hd : Fin 6) (b : Fin 256) : diagL c i arg2 harg2 arg3 harg3 arg4 harg4 arg5 harg5 arg6 harg6 arg7 harg7 arg8 harg8 hc1 x0 x1 x2 hd (ix3 0 0 b) = (arg8.view.read (Elt Ideal) (arg8.view.writes (Elt Ideal) arg8.view.junk (kernelRun0_B.sl.HS2_1 (F := Ideal) ))) (ix3 hd 0 b) := by
  fin_cases hd
  exacts [diagL_at_0 c i arg2 harg2 arg3 harg3 arg4 harg4 arg5 harg5 arg6 harg6 arg7 harg7 arg8 harg8 hc1 x0 x1 x2 b, diagL_at_1 c i arg2 harg2 arg3 harg3 arg4 harg4 arg5 harg5 arg6 harg6 arg7 harg7 arg8 harg8 hc1 x0 x1 x2 b, diagL_at_2 c i arg2 harg2 arg3 harg3 arg4 harg4 arg5 harg5 arg6 harg6 arg7 harg7 arg8 harg8 hc1 x0 x1 x2 b, diagL_at_3 c i arg2 harg2 arg3 harg3 arg4 harg4 arg5 harg5 arg6 harg6 arg7 harg7 arg8 harg8 hc1 x0 x1 x2 b, diagL_at_4 c i arg2 harg2 arg3 harg3 arg4 harg4 arg5 harg5 arg6 harg6 arg7 harg7 arg8 harg8 hc1 x0 x1 x2 b, diagL_at_5 c i arg2 harg2 arg3 harg3 arg4 harg4 arg5 harg5 arg6 harg6 arg7 harg7 arg8 harg8 hc1 x0 x1 x2 b]

/-- Head 0's total after the strip. -/
theorem diagL_new_0  (b : Fin 256) : (arg8.view.read (Elt Ideal) (arg8.view.writes (Elt Ideal) arg8.view.junk (kernelRun0_B.sl.HS2_7 (F := Ideal) c i arg2 harg2 arg3 harg3 arg7 arg8 hc1 x0 x1))) (ix3 0 0 b) = newL2 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagL c i arg2 harg2 arg3 harg3 arg4 harg4 arg5 harg5 arg6 harg6 arg7 harg7 arg8 harg8 hc1 x0 x1 x2 0) (ix3 0 0 b) := by
  rw [diagS_0, diagM_0, diagL_0]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 0 b).trans ?_
  simp only [Matrix.cons_val]
  rfl

/-- Head 1's total after the strip. -/
theorem diagL_new_1  (b : Fin 256) : (arg8.view.read (Elt Ideal) (arg8.view.writes (Elt Ideal) arg8.view.junk (kernelRun0_B.sl.HS2_7 (F := Ideal) c i arg2 harg2 arg3 harg3 arg7 arg8 hc1 x0 x1))) (ix3 1 0 b) = newL2 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagL c i arg2 harg2 arg3 harg3 arg4 harg4 arg5 harg5 arg6 harg6 arg7 harg7 arg8 harg8 hc1 x0 x1 x2 1) (ix3 0 0 b) := by
  rw [diagS_1, diagM_1, diagL_1]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 1 b).trans ?_
  simp only [Matrix.cons_val]
  rfl

/-- Head 2's total after the strip. -/
theorem diagL_new_2  (b : Fin 256) : (arg8.view.read (Elt Ideal) (arg8.view.writes (Elt Ideal) arg8.view.junk (kernelRun0_B.sl.HS2_7 (F := Ideal) c i arg2 harg2 arg3 harg3 arg7 arg8 hc1 x0 x1))) (ix3 2 0 b) = newL2 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagL c i arg2 harg2 arg3 harg3 arg4 harg4 arg5 harg5 arg6 harg6 arg7 harg7 arg8 harg8 hc1 x0 x1 x2 2) (ix3 0 0 b) := by
  rw [diagS_2, diagM_2, diagL_2]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 2 b).trans ?_
  simp only [Matrix.cons_val]
  rfl

/-- Head 3's total after the strip. -/
theorem diagL_new_3  (b : Fin 256) : (arg8.view.read (Elt Ideal) (arg8.view.writes (Elt Ideal) arg8.view.junk (kernelRun0_B.sl.HS2_7 (F := Ideal) c i arg2 harg2 arg3 harg3 arg7 arg8 hc1 x0 x1))) (ix3 3 0 b) = newL2 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagL c i arg2 harg2 arg3 harg3 arg4 harg4 arg5 harg5 arg6 harg6 arg7 harg7 arg8 harg8 hc1 x0 x1 x2 3) (ix3 0 0 b) := by
  rw [diagS_3, diagM_3, diagL_3]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 3 b).trans ?_
  simp only [Matrix.cons_val]
  rfl

/-- Head 4's total after the strip. -/
theorem diagL_new_4  (b : Fin 256) : (arg8.view.read (Elt Ideal) (arg8.view.writes (Elt Ideal) arg8.view.junk (kernelRun0_B.sl.HS2_7 (F := Ideal) c i arg2 harg2 arg3 harg3 arg7 arg8 hc1 x0 x1))) (ix3 4 0 b) = newL2 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagL c i arg2 harg2 arg3 harg3 arg4 harg4 arg5 harg5 arg6 harg6 arg7 harg7 arg8 harg8 hc1 x0 x1 x2 4) (ix3 0 0 b) := by
  rw [diagS_4, diagM_4, diagL_4]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 4 b).trans ?_
  simp only [Matrix.cons_val]
  rfl

/-- Head 5's total after the strip. -/
theorem diagL_new_5  (b : Fin 256) : (arg8.view.read (Elt Ideal) (arg8.view.writes (Elt Ideal) arg8.view.junk (kernelRun0_B.sl.HS2_7 (F := Ideal) c i arg2 harg2 arg3 harg3 arg7 arg8 hc1 x0 x1))) (ix3 5 0 b) = newL2 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagL c i arg2 harg2 arg3 harg3 arg4 harg4 arg5 harg5 arg6 harg6 arg7 harg7 arg8 harg8 hc1 x0 x1 x2 5) (ix3 0 0 b) := by
  rw [diagS_5, diagM_5, diagL_5]
  unfold kernelRun0_B.sl.HS2_7
  unfold kernelRun0_B.sl.HS2_6
  unfold kernelRun0_B.sl.HS2_5
  unfold kernelRun0_B.sl.HS2_4
  unfold kernelRun0_B.sl.HS2_3
  unfold kernelRun0_B.sl.HS2_2
  refine (read_rows3 arg8.view _ _ _ _ _ _ _ _ _ _ _ _ _ _ 5 b).trans ?_
  simp only [Matrix.cons_val]
  rfl

/-- The totals after the strip. -/
theorem diagL_new  (hd : Fin 6) (b : Fin 256) : (arg8.view.read (Elt Ideal) (arg8.view.writes (Elt Ideal) arg8.view.junk (kernelRun0_B.sl.HS2_7 (F := Ideal) c i arg2 harg2 arg3 harg3 arg7 arg8 hc1 x0 x1))) (ix3 hd 0 b) = newL2 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagL c i arg2 harg2 arg3 harg3 arg4 harg4 arg5 harg5 arg6 harg6 arg7 harg7 arg8 harg8 hc1 x0 x1 x2 hd) (ix3 0 0 b) := by
  fin_cases hd
  exacts [diagL_new_0 c i arg2 harg2 arg3 harg3 arg4 harg4 arg5 harg5 arg6 harg6 arg7 harg7 arg8 harg8 hc1 x0 x1 x2 b, diagL_new_1 c i arg2 harg2 arg3 harg3 arg4 harg4 arg5 harg5 arg6 harg6 arg7 harg7 arg8 harg8 hc1 x0 x1 x2 b, diagL_new_2 c i arg2 harg2 arg3 harg3 arg4 harg4 arg5 harg5 arg6 harg6 arg7 harg7 arg8 harg8 hc1 x0 x1 x2 b, diagL_new_3 c i arg2 harg2 arg3 harg3 arg4 harg4 arg5 harg5 arg6 harg6 arg7 harg7 arg8 harg8 hc1 x0 x1 x2 b, diagL_new_4 c i arg2 harg2 arg3 harg3 arg4 harg4 arg5 harg5 arg6 harg6 arg7 harg7 arg8 harg8 hc1 x0 x1 x2 b, diagL_new_5 c i arg2 harg2 arg3 harg3 arg4 harg4 arg5 harg5 arg6 harg6 arg7 harg7 arg8 harg8 hc1 x0 x1 x2 b]

/-- Head 0's weighted sum loaded is the one before the strip. -/
theorem diagA_at_0  (r : Fin 64) (b : Fin 256) : diagA c i arg2 harg2 arg3 harg3 arg4 harg4 arg5 harg5 arg6 harg6 arg7 harg7 arg8 harg8 hc1 x0 x1 x2 0 (ix2 r b) = (arg6.view.read (Elt Ideal) (arg6.view.writes (Elt Ideal) arg6.view.junk (kernelRun0_B.sl.HS0_1 (F := Ideal) ))) (ix2 (row 0 r) b) := by
  rw [diagA_0]
  unfold kernelRun0_B.sl.v294 View.readCov
  refine (load_row2 arg6 _ _ 0 r b rfl).trans ?_
  rfl

/-- Head 1's weighted sum loaded is the one before the strip. -/
theorem diagA_at_1  (r : Fin 64) (b : Fin 256) : diagA c i arg2 harg2 arg3 harg3 arg4 harg4 arg5 harg5 arg6 harg6 arg7 harg7 arg8 harg8 hc1 x0 x1 x2 1 (ix2 r b) = (arg6.view.read (Elt Ideal) (arg6.view.writes (Elt Ideal) arg6.view.junk (kernelRun0_B.sl.HS0_1 (F := Ideal) ))) (ix2 (row 1 r) b) := by
  rw [diagA_1]
  unfold kernelRun0_B.sl.v303 View.readCov
  refine (load_row2 arg6 _ _ 1 r b rfl).trans ?_
  unfold kernelRun0_B.sl.HS0_2
  refine (skip2 _ _ _ _ _ 1 0 rfl (by decide) r b).trans ?_
  rfl

/-- Head 2's weighted sum loaded is the one before the strip. -/
theorem diagA_at_2  (r : Fin 64) (b : Fin 256) : diagA c i arg2 harg2 arg3 harg3 arg4 harg4 arg5 harg5 arg6 harg6 arg7 harg7 arg8 harg8 hc1 x0 x1 x2 2 (ix2 r b) = (arg6.view.read (Elt Ideal) (arg6.view.writes (Elt Ideal) arg6.view.junk (kernelRun0_B.sl.HS0_1 (F := Ideal) ))) (ix2 (row 2 r) b) := by
  rw [diagA_2]
  unfold kernelRun0_B.sl.v312 View.readCov
  refine (load_row2 arg6 _ _ 2 r b rfl).trans ?_
  unfold kernelRun0_B.sl.HS0_3
  refine (skip2 _ _ _ _ _ 2 1 rfl (by decide) r b).trans ?_
  unfold kernelRun0_B.sl.HS0_2
  refine (skip2 _ _ _ _ _ 2 0 rfl (by decide) r b).trans ?_
  rfl

/-- Head 3's weighted sum loaded is the one before the strip. -/
theorem diagA_at_3  (r : Fin 64) (b : Fin 256) : diagA c i arg2 harg2 arg3 harg3 arg4 harg4 arg5 harg5 arg6 harg6 arg7 harg7 arg8 harg8 hc1 x0 x1 x2 3 (ix2 r b) = (arg6.view.read (Elt Ideal) (arg6.view.writes (Elt Ideal) arg6.view.junk (kernelRun0_B.sl.HS0_1 (F := Ideal) ))) (ix2 (row 3 r) b) := by
  rw [diagA_3]
  unfold kernelRun0_B.sl.v321 View.readCov
  refine (load_row2 arg6 _ _ 3 r b rfl).trans ?_
  unfold kernelRun0_B.sl.HS0_4
  refine (skip2 _ _ _ _ _ 3 2 rfl (by decide) r b).trans ?_
  unfold kernelRun0_B.sl.HS0_3
  refine (skip2 _ _ _ _ _ 3 1 rfl (by decide) r b).trans ?_
  unfold kernelRun0_B.sl.HS0_2
  refine (skip2 _ _ _ _ _ 3 0 rfl (by decide) r b).trans ?_
  rfl

/-- Head 4's weighted sum loaded is the one before the strip. -/
theorem diagA_at_4  (r : Fin 64) (b : Fin 256) : diagA c i arg2 harg2 arg3 harg3 arg4 harg4 arg5 harg5 arg6 harg6 arg7 harg7 arg8 harg8 hc1 x0 x1 x2 4 (ix2 r b) = (arg6.view.read (Elt Ideal) (arg6.view.writes (Elt Ideal) arg6.view.junk (kernelRun0_B.sl.HS0_1 (F := Ideal) ))) (ix2 (row 4 r) b) := by
  rw [diagA_4]
  unfold kernelRun0_B.sl.v330 View.readCov
  refine (load_row2 arg6 _ _ 4 r b rfl).trans ?_
  unfold kernelRun0_B.sl.HS0_5
  refine (skip2 _ _ _ _ _ 4 3 rfl (by decide) r b).trans ?_
  unfold kernelRun0_B.sl.HS0_4
  refine (skip2 _ _ _ _ _ 4 2 rfl (by decide) r b).trans ?_
  unfold kernelRun0_B.sl.HS0_3
  refine (skip2 _ _ _ _ _ 4 1 rfl (by decide) r b).trans ?_
  unfold kernelRun0_B.sl.HS0_2
  refine (skip2 _ _ _ _ _ 4 0 rfl (by decide) r b).trans ?_
  rfl

/-- Head 5's weighted sum loaded is the one before the strip. -/
theorem diagA_at_5  (r : Fin 64) (b : Fin 256) : diagA c i arg2 harg2 arg3 harg3 arg4 harg4 arg5 harg5 arg6 harg6 arg7 harg7 arg8 harg8 hc1 x0 x1 x2 5 (ix2 r b) = (arg6.view.read (Elt Ideal) (arg6.view.writes (Elt Ideal) arg6.view.junk (kernelRun0_B.sl.HS0_1 (F := Ideal) ))) (ix2 (row 5 r) b) := by
  rw [diagA_5]
  unfold kernelRun0_B.sl.v339 View.readCov
  refine (load_row2 arg6 _ _ 5 r b rfl).trans ?_
  unfold kernelRun0_B.sl.HS0_6
  refine (skip2 _ _ _ _ _ 5 4 rfl (by decide) r b).trans ?_
  unfold kernelRun0_B.sl.HS0_5
  refine (skip2 _ _ _ _ _ 5 3 rfl (by decide) r b).trans ?_
  unfold kernelRun0_B.sl.HS0_4
  refine (skip2 _ _ _ _ _ 5 2 rfl (by decide) r b).trans ?_
  unfold kernelRun0_B.sl.HS0_3
  refine (skip2 _ _ _ _ _ 5 1 rfl (by decide) r b).trans ?_
  unfold kernelRun0_B.sl.HS0_2
  refine (skip2 _ _ _ _ _ 5 0 rfl (by decide) r b).trans ?_
  rfl

/-- The weighted sums loaded are those before the strip. -/
theorem diagA_at  (hd : Fin 6) (r : Fin 64) (b : Fin 256) : diagA c i arg2 harg2 arg3 harg3 arg4 harg4 arg5 harg5 arg6 harg6 arg7 harg7 arg8 harg8 hc1 x0 x1 x2 hd (ix2 r b) = (arg6.view.read (Elt Ideal) (arg6.view.writes (Elt Ideal) arg6.view.junk (kernelRun0_B.sl.HS0_1 (F := Ideal) ))) (ix2 (row hd r) b) := by
  fin_cases hd
  exacts [diagA_at_0 c i arg2 harg2 arg3 harg3 arg4 harg4 arg5 harg5 arg6 harg6 arg7 harg7 arg8 harg8 hc1 x0 x1 x2 r b, diagA_at_1 c i arg2 harg2 arg3 harg3 arg4 harg4 arg5 harg5 arg6 harg6 arg7 harg7 arg8 harg8 hc1 x0 x1 x2 r b, diagA_at_2 c i arg2 harg2 arg3 harg3 arg4 harg4 arg5 harg5 arg6 harg6 arg7 harg7 arg8 harg8 hc1 x0 x1 x2 r b, diagA_at_3 c i arg2 harg2 arg3 harg3 arg4 harg4 arg5 harg5 arg6 harg6 arg7 harg7 arg8 harg8 hc1 x0 x1 x2 r b, diagA_at_4 c i arg2 harg2 arg3 harg3 arg4 harg4 arg5 harg5 arg6 harg6 arg7 harg7 arg8 harg8 hc1 x0 x1 x2 r b, diagA_at_5 c i arg2 harg2 arg3 harg3 arg4 harg4 arg5 harg5 arg6 harg6 arg7 harg7 arg8 harg8 hc1 x0 x1 x2 r b]

/-- Head 0's weighted sum after the strip. -/
theorem diagA_new_0  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 0 r) b) = newA2 (diagV c i arg2 harg2 arg3 harg3 arg4 harg4 arg5 harg5 arg6 harg6 arg7 harg7 arg8 harg8 hc1 x0 x1 x2 0) (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagA c i arg2 harg2 arg3 harg3 arg4 harg4 arg5 harg5 arg6 harg6 arg7 harg7 arg8 harg8 hc1 x0 x1 x2 0) (ix2 r b) := by
  rw [diagV_0, diagS_0, diagM_0, diagA_0]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 0 r b).trans ?_
  simp only [Matrix.cons_val]
  rfl

/-- Head 1's weighted sum after the strip. -/
theorem diagA_new_1  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 1 r) b) = newA2 (diagV c i arg2 harg2 arg3 harg3 arg4 harg4 arg5 harg5 arg6 harg6 arg7 harg7 arg8 harg8 hc1 x0 x1 x2 1) (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagA c i arg2 harg2 arg3 harg3 arg4 harg4 arg5 harg5 arg6 harg6 arg7 harg7 arg8 harg8 hc1 x0 x1 x2 1) (ix2 r b) := by
  rw [diagV_1, diagS_1, diagM_1, diagA_1]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 1 r b).trans ?_
  simp only [Matrix.cons_val]
  rfl

/-- Head 2's weighted sum after the strip. -/
theorem diagA_new_2  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 2 r) b) = newA2 (diagV c i arg2 harg2 arg3 harg3 arg4 harg4 arg5 harg5 arg6 harg6 arg7 harg7 arg8 harg8 hc1 x0 x1 x2 2) (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagA c i arg2 harg2 arg3 harg3 arg4 harg4 arg5 harg5 arg6 harg6 arg7 harg7 arg8 harg8 hc1 x0 x1 x2 2) (ix2 r b) := by
  rw [diagV_2, diagS_2, diagM_2, diagA_2]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 2 r b).trans ?_
  simp only [Matrix.cons_val]
  rfl

/-- Head 3's weighted sum after the strip. -/
theorem diagA_new_3  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 3 r) b) = newA2 (diagV c i arg2 harg2 arg3 harg3 arg4 harg4 arg5 harg5 arg6 harg6 arg7 harg7 arg8 harg8 hc1 x0 x1 x2 3) (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagA c i arg2 harg2 arg3 harg3 arg4 harg4 arg5 harg5 arg6 harg6 arg7 harg7 arg8 harg8 hc1 x0 x1 x2 3) (ix2 r b) := by
  rw [diagV_3, diagS_3, diagM_3, diagA_3]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 3 r b).trans ?_
  simp only [Matrix.cons_val]
  rfl

/-- Head 4's weighted sum after the strip. -/
theorem diagA_new_4  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 4 r) b) = newA2 (diagV c i arg2 harg2 arg3 harg3 arg4 harg4 arg5 harg5 arg6 harg6 arg7 harg7 arg8 harg8 hc1 x0 x1 x2 4) (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagA c i arg2 harg2 arg3 harg3 arg4 harg4 arg5 harg5 arg6 harg6 arg7 harg7 arg8 harg8 hc1 x0 x1 x2 4) (ix2 r b) := by
  rw [diagV_4, diagS_4, diagM_4, diagA_4]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 4 r b).trans ?_
  simp only [Matrix.cons_val]
  rfl

/-- Head 5's weighted sum after the strip. -/
theorem diagA_new_5  (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row 5 r) b) = newA2 (diagV c i arg2 harg2 arg3 harg3 arg4 harg4 arg5 harg5 arg6 harg6 arg7 harg7 arg8 harg8 hc1 x0 x1 x2 5) (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagA c i arg2 harg2 arg3 harg3 arg4 harg4 arg5 harg5 arg6 harg6 arg7 harg7 arg8 harg8 hc1 x0 x1 x2 5) (ix2 r b) := by
  rw [diagV_5, diagS_5, diagM_5, diagA_5]
  unfold kernelRun0_B.sl.HS0_7
  unfold kernelRun0_B.sl.HS0_6
  unfold kernelRun0_B.sl.HS0_5
  unfold kernelRun0_B.sl.HS0_4
  unfold kernelRun0_B.sl.HS0_3
  unfold kernelRun0_B.sl.HS0_2
  refine (read_rows2 arg6.view _ _ _ _ _ _ _ _ _ _ _ _ _ _ 5 r b).trans ?_
  simp only [Matrix.cons_val]
  rfl

/-- The weighted sums after the strip. -/
theorem diagA_new  (hd : Fin 6) (r : Fin 64) (b : Fin 256) : (arg6.view.read (Elt Ideal) (arg6.view.writes (Elt Ideal) arg6.view.junk (kernelRun0_B.sl.HS0_7 (F := Ideal) c i arg2 harg2 arg3 harg3 arg4 harg4 arg6 arg7 hc1 x0 x1 x2))) (ix2 (row hd r) b) = newA2 (diagV c i arg2 harg2 arg3 harg3 arg4 harg4 arg5 harg5 arg6 harg6 arg7 harg7 arg8 harg8 hc1 x0 x1 x2 hd) (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagA c i arg2 harg2 arg3 harg3 arg4 harg4 arg5 harg5 arg6 harg6 arg7 harg7 arg8 harg8 hc1 x0 x1 x2 hd) (ix2 r b) := by
  fin_cases hd
  exacts [diagA_new_0 c i arg2 harg2 arg3 harg3 arg4 harg4 arg5 harg5 arg6 harg6 arg7 harg7 arg8 harg8 hc1 x0 x1 x2 r b, diagA_new_1 c i arg2 harg2 arg3 harg3 arg4 harg4 arg5 harg5 arg6 harg6 arg7 harg7 arg8 harg8 hc1 x0 x1 x2 r b, diagA_new_2 c i arg2 harg2 arg3 harg3 arg4 harg4 arg5 harg5 arg6 harg6 arg7 harg7 arg8 harg8 hc1 x0 x1 x2 r b, diagA_new_3 c i arg2 harg2 arg3 harg3 arg4 harg4 arg5 harg5 arg6 harg6 arg7 harg7 arg8 harg8 hc1 x0 x1 x2 r b, diagA_new_4 c i arg2 harg2 arg3 harg3 arg4 harg4 arg5 harg5 arg6 harg6 arg7 harg7 arg8 harg8 hc1 x0 x1 x2 r b, diagA_new_5 c i arg2 harg2 arg3 harg3 arg4 harg4 arg5 harg5 arg6 harg6 arg7 harg7 arg8 harg8 hc1 x0 x1 x2 r b]

/-- The strip with the causal mask: the state over the last 512 keys the tile sees. -/
theorem diag_held (hraw : ∀ hd c k, raw x0 x1 hd c k ≠ ⊤) (hq : 1 ≤ (i 1).val) :
    Held (sc x0 x1 (i 1).val) (val x2) (keys (256 * ((i 1).val - 1)) 512) (arg6.view.read (Elt Ideal) (arg6.view.writes (Elt Ideal) arg6.view.junk (kernelRun0_B.sl.HS0_7 (F := Ideal) c i arg2 harg2 arg3 harg3 arg4 harg4 arg6 arg7 hc1 x0 x1 x2))) (arg7.view.read (Elt Ideal) (arg7.view.writes (Elt Ideal) arg7.view.junk (kernelRun0_B.sl.HS1_7 (F := Ideal) c i arg2 harg2 arg3 harg3 arg7 hc1 x0 x1))) (arg8.view.read (Elt Ideal) (arg8.view.writes (Elt Ideal) arg8.view.junk (kernelRun0_B.sl.HS2_7 (F := Ideal) c i arg2 harg2 arg3 harg3 arg7 arg8 hc1 x0 x1))) := by
  have hi : (i 1).val < 8 := (i 1).isLt
  have hst : (256 * ((i 1).val - 1)) + 512 ≤ 2048 := by omega
  have ho := diag_offs i (by omega)
  have h0 : Held (sc x0 x1 (i 1).val) (val x2) ∅ (arg6.view.read (Elt Ideal) (arg6.view.writes (Elt Ideal) arg6.view.junk (kernelRun0_B.sl.HS0_1 (F := Ideal) ))) (arg7.view.read (Elt Ideal) (arg7.view.writes (Elt Ideal) arg7.view.junk (kernelRun0_B.sl.HS1_1 (F := Ideal) ))) (arg8.view.read (Elt Ideal) (arg8.view.writes (Elt Ideal) arg8.view.junk (kernelRun0_B.sl.HS2_1 (F := Ideal) ))) :=
    Held.empty _ _ _ _ _ (fun hd b => (fill3 _ _ _ _ hd b).trans (neg_at hd b)) (fun hd b => (fill3 _ _ _ _ hd b).trans (zero3_at hd b)) (fun r b => (fill2 _ _ _ _ r b).trans (zero2_at r b))
  have h := Held.step2 (sc_ne_top hraw _) h0 (256 * ((i 1).val - 1)) hst (Finset.disjoint_empty_left _)
    (diagS c i arg2 harg2 arg3 harg3 arg4 harg4 arg5 harg5 arg6 harg6 arg7 harg7 arg8 harg8 hc1 x0 x1 x2) (diagV c i arg2 harg2 arg3 harg3 arg4 harg4 arg5 harg5 arg6 harg6 arg7 harg7 arg8 harg8 hc1 x0 x1 x2) (diagM c i arg2 harg2 arg3 harg3 arg4 harg4 arg5 harg5 arg6 harg6 arg7 harg7 arg8 harg8 hc1 x0 x1 x2) (diagL c i arg2 harg2 arg3 harg3 arg4 harg4 arg5 harg5 arg6 harg6 arg7 harg7 arg8 harg8 hc1 x0 x1 x2) (diagA c i arg2 harg2 arg3 harg3 arg4 harg4 arg5 harg5 arg6 harg6 arg7 harg7 arg8 harg8 hc1 x0 x1 x2) ?_ ?_ (diagM_at c i arg2 harg2 arg3 harg3 arg4 harg4 arg5 harg5 arg6 harg6 arg7 harg7 arg8 harg8 hc1 x0 x1 x2) (diagL_at c i arg2 harg2 arg3 harg3 arg4 harg4 arg5 harg5 arg6 harg6 arg7 harg7 arg8 harg8 hc1 x0 x1 x2) (diagA_at c i arg2 harg2 arg3 harg3 arg4 harg4 arg5 harg5 arg6 harg6 arg7 harg7 arg8 harg8 hc1 x0 x1 x2) (diagM_new c i arg2 harg2 arg3 harg3 arg4 harg4 arg5 harg5 arg6 harg6 arg7 harg7 arg8 harg8 hc1 x0 x1 x2) (diagL_new c i arg2 harg2 arg3 harg3 arg4 harg4 arg5 harg5 arg6 harg6 arg7 harg7 arg8 harg8 hc1 x0 x1 x2) (diagA_new c i arg2 harg2 arg3 harg3 arg4 harg4 arg5 harg5 arg6 harg6 arg7 harg7 arg8 harg8 hc1 x0 x1 x2)
  · rw [Finset.empty_union] at h
    exact h
  · intro hd b a
    have e : (sc x0 x1 (i 1).val hd b ⟨(256 * ((i 1).val - 1)) + a.val, by omega⟩ : EReal) = if a.val ≤ b.val + 256 then raw x0 x1 hd b ⟨(256 * ((i 1).val - 1)) + a.val, by omega⟩ else ⊥ :=
      if_congr (show (256 * ((i 1).val - 1)) + a.val ≤ 256 * (i 1).val + b.val ↔ a.val ≤ b.val + 256 by omega) rfl rfl
    rw [e]
    fin_cases hd
    · obtain ⟨inb, inbq, e'⟩ := diagS_load_0 c i arg2 harg2 arg3 harg3 arg4 harg4 arg5 harg5 arg6 harg6 arg7 harg7 arg8 harg8 hc1 x0 x1 x2
      refine (congrFun ((diagS_0 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 0 hst inb ho.2.2.1 inbq rfl a b) rfl)
    · obtain ⟨inb, inbq, e'⟩ := diagS_load_1 c i arg2 harg2 arg3 harg3 arg4 harg4 arg5 harg5 arg6 harg6 arg7 harg7 arg8 harg8 hc1 x0 x1 x2
      refine (congrFun ((diagS_1 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 1 hst inb ho.2.2.2.1 inbq rfl a b) rfl)
    · obtain ⟨inb, inbq, e'⟩ := diagS_load_2 c i arg2 harg2 arg3 harg3 arg4 harg4 arg5 harg5 arg6 harg6 arg7 harg7 arg8 harg8 hc1 x0 x1 x2
      refine (congrFun ((diagS_2 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 2 hst inb ho.2.2.2.2.1 inbq rfl a b) rfl)
    · obtain ⟨inb, inbq, e'⟩ := diagS_load_3 c i arg2 harg2 arg3 harg3 arg4 harg4 arg5 harg5 arg6 harg6 arg7 harg7 arg8 harg8 hc1 x0 x1 x2
      refine (congrFun ((diagS_3 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 3 hst inb ho.2.2.2.2.2.1 inbq rfl a b) rfl)
    · obtain ⟨inb, inbq, e'⟩ := diagS_load_4 c i arg2 harg2 arg3 harg3 arg4 harg4 arg5 harg5 arg6 harg6 arg7 harg7 arg8 harg8 hc1 x0 x1 x2
      refine (congrFun ((diagS_4 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 4 hst inb ho.2.2.2.2.2.2.1 inbq rfl a b) rfl)
    · obtain ⟨inb, inbq, e'⟩ := diagS_load_5 c i arg2 harg2 arg3 harg3 arg4 harg4 arg5 harg5 arg6 harg6 arg7 harg7 arg8 harg8 hc1 x0 x1 x2
      refine (congrFun ((diagS_5 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 5 hst inb ho.2.2.2.2.2.2.2 inbq rfl a b) rfl)
  · intro hd r a
    obtain ⟨inb, inb', e'⟩ := diagV_load c i arg2 harg2 arg3 harg3 arg4 harg4 arg5 harg5 arg6 harg6 arg7 harg7 arg8 harg8 hc1 x0 x1 x2
    fin_cases hd
    · refine (congrFun (diagV_0 c i arg2 harg2 arg3 harg3 arg4 harg4 arg5 harg5 arg6 harg6 arg7 harg7 arg8 harg8 hc1 x0 x1 x2) _).trans ?_
      rw [e']
      exact (slice2 _ _ slices_S384x512_o0_0_S64x512 0 rfl r a).trans (strip_val2 arg4 harg4 x2 ((i 1).val - 1) (by omega) inb ho.1 inb' (ho.2.1.trans (by rw [show (i 1).val - 1 + 1 = (i 1).val by omega])) _ a)
    · refine (congrFun (diagV_1 c i arg2 harg2 arg3 harg3 arg4 harg4 arg5 harg5 arg6 harg6 arg7 harg7 arg8 harg8 hc1 x0 x1 x2) _).trans ?_
      rw [e']
      exact (slice2 _ _ slices_S384x512_o64_0_S64x512 1 rfl r a).trans (strip_val2 arg4 harg4 x2 ((i 1).val - 1) (by omega) inb ho.1 inb' (ho.2.1.trans (by rw [show (i 1).val - 1 + 1 = (i 1).val by omega])) _ a)
    · refine (congrFun (diagV_2 c i arg2 harg2 arg3 harg3 arg4 harg4 arg5 harg5 arg6 harg6 arg7 harg7 arg8 harg8 hc1 x0 x1 x2) _).trans ?_
      rw [e']
      exact (slice2 _ _ slices_S384x512_o128_0_S64x512 2 rfl r a).trans (strip_val2 arg4 harg4 x2 ((i 1).val - 1) (by omega) inb ho.1 inb' (ho.2.1.trans (by rw [show (i 1).val - 1 + 1 = (i 1).val by omega])) _ a)
    · refine (congrFun (diagV_3 c i arg2 harg2 arg3 harg3 arg4 harg4 arg5 harg5 arg6 harg6 arg7 harg7 arg8 harg8 hc1 x0 x1 x2) _).trans ?_
      rw [e']
      exact (slice2 _ _ slices_S384x512_o192_0_S64x512 3 rfl r a).trans (strip_val2 arg4 harg4 x2 ((i 1).val - 1) (by omega) inb ho.1 inb' (ho.2.1.trans (by rw [show (i 1).val - 1 + 1 = (i 1).val by omega])) _ a)
    · refine (congrFun (diagV_4 c i arg2 harg2 arg3 harg3 arg4 harg4 arg5 harg5 arg6 harg6 arg7 harg7 arg8 harg8 hc1 x0 x1 x2) _).trans ?_
      rw [e']
      exact (slice2 _ _ slices_S384x512_o256_0_S64x512 4 rfl r a).trans (strip_val2 arg4 harg4 x2 ((i 1).val - 1) (by omega) inb ho.1 inb' (ho.2.1.trans (by rw [show (i 1).val - 1 + 1 = (i 1).val by omega])) _ a)
    · refine (congrFun (diagV_5 c i arg2 harg2 arg3 harg3 arg4 harg4 arg5 harg5 arg6 harg6 arg7 harg7 arg8 harg8 hc1 x0 x1 x2) _).trans ?_
      rw [e']
      exact (slice2 _ _ slices_S384x512_o320_0_S64x512 5 rfl r a).trans (strip_val2 arg4 harg4 x2 ((i 1).val - 1) (by omega) inb ho.1 inb' (ho.2.1.trans (by rw [show (i 1).val - 1 + 1 = (i 1).val by omega])) _ a)

/-- The strip with the mask and the pairs of tiles before it. -/
theorem pairs_held (hraw : ∀ hd c k, raw x0 x1 hd c k ≠ ⊤) (hq : 1 ≤ (i 1).val) :
    Held (sc x0 x1 (i 1).val) (val x2) (keys (256 * ((i 1).val - 1)) 512 ∪ keys 0 (512 * (((i 1).val - 1) / 2))) (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1))
      (arg7.view.read (Elt Ideal) (arg7.view.writes (Elt Ideal) arg7.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.1))
      (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) :=
  after_held c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 hraw _ _ _ (keys_disjoint (Or.inr (by omega))) (diag_held c i arg2 harg2 arg3 harg3 arg4 harg4 arg5 harg5 arg6 harg6 arg7 harg7 arg8 harg8 hc1 x0 x1 x2 hraw hq)

end

/-- The six heads' weighted sums, read back at the end, -/
def outA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S64x256 .f32 :=
  ![kernelRun0_B.sl.v55 (F := Ideal) c i arg2 harg2 arg3 harg3 arg4 harg4 arg5 harg5 arg6 harg6 arg7 harg7 arg8 harg8 hc1 x0 x1 x2, kernelRun0_B.sl.v60 (F := Ideal) c i arg2 harg2 arg3 harg3 arg4 harg4 arg5 harg5 arg6 harg6 arg7 harg7 arg8 harg8 hc1 x0 x1 x2, kernelRun0_B.sl.v65 (F := Ideal) c i arg2 harg2 arg3 harg3 arg4 harg4 arg5 harg5 arg6 harg6 arg7 harg7 arg8 harg8 hc1 x0 x1 x2, kernelRun0_B.sl.v70 (F := Ideal) c i arg2 harg2 arg3 harg3 arg4 harg4 arg5 harg5 arg6 harg6 arg7 harg7 arg8 harg8 hc1 x0 x1 x2, kernelRun0_B.sl.v75 (F := Ideal) c i arg2 harg2 arg3 harg3 arg4 harg4 arg5 harg5 arg6 harg6 arg7 harg7 arg8 harg8 hc1 x0 x1 x2, kernelRun0_B.sl.v80 (F := Ideal) c i arg2 harg2 arg3 harg3 arg4 harg4 arg5 harg5 arg6 harg6 arg7 harg7 arg8 harg8 hc1 x0 x1 x2]

/-- and their totals. -/
def outL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S1x1x256 .f32 :=
  ![kernelRun0_B.sl.v56 (F := Ideal) c i arg2 harg2 arg3 harg3 arg4 harg4 arg5 harg5 arg6 harg6 arg7 harg7 arg8 harg8 hc1 x0 x1 x2, kernelRun0_B.sl.v61 (F := Ideal) c i arg2 harg2 arg3 harg3 arg4 harg4 arg5 harg5 arg6 harg6 arg7 harg7 arg8 harg8 hc1 x0 x1 x2, kernelRun0_B.sl.v66 (F := Ideal) c i arg2 harg2 arg3 harg3 arg4 harg4 arg5 harg5 arg6 harg6 arg7 harg7 arg8 harg8 hc1 x0 x1 x2, kernelRun0_B.sl.v71 (F := Ideal) c i arg2 harg2 arg3 harg3 arg4 harg4 arg5 harg5 arg6 harg6 arg7 harg7 arg8 harg8 hc1 x0 x1 x2, kernelRun0_B.sl.v76 (F := Ideal) c i arg2 harg2 arg3 harg3 arg4 harg4 arg5 harg5 arg6 harg6 arg7 harg7 arg8 harg8 hc1 x0 x1 x2, kernelRun0_B.sl.v81 (F := Ideal) c i arg2 harg2 arg3 harg3 arg4 harg4 arg5 harg5 arg6 harg6 arg7 harg7 arg8 harg8 hc1 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 x0 x1 x2

theorem outA_at_0 (r : Fin 64) (b : Fin 256) : outA c i arg2 harg2 arg3 harg3 arg4 harg4 arg5 harg5 arg6 harg6 arg7 harg7 arg8 harg8 hc1 x0 x1 x2 0 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 0 r) b) := by
  simp only [outA, Matrix.cons_val]
  unfold kernelRun0_B.sl.v55 View.readCov
  refine (load_row2 arg6 _ _ 0 r b rfl).trans ?_
  unfold after
  rfl

theorem outA_at_1 (r : Fin 64) (b : Fin 256) : outA c i arg2 harg2 arg3 harg3 arg4 harg4 arg5 harg5 arg6 harg6 arg7 harg7 arg8 harg8 hc1 x0 x1 x2 1 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 1 r) b) := by
  simp only [outA, Matrix.cons_val]
  unfold kernelRun0_B.sl.v60 View.readCov
  refine (load_row2 arg6 _ _ 1 r b rfl).trans ?_
  unfold after
  rfl

theorem outA_at_2 (r : Fin 64) (b : Fin 256) : outA c i arg2 harg2 arg3 harg3 arg4 harg4 arg5 harg5 arg6 harg6 arg7 harg7 arg8 harg8 hc1 x0 x1 x2 2 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 2 r) b) := by
  simp only [outA, Matrix.cons_val]
  unfold kernelRun0_B.sl.v65 View.readCov
  refine (load_row2 arg6 _ _ 2 r b rfl).trans ?_
  unfold after
  rfl

theorem outA_at_3 (r : Fin 64) (b : Fin 256) : outA c i arg2 harg2 arg3 harg3 arg4 harg4 arg5 harg5 arg6 harg6 arg7 harg7 arg8 harg8 hc1 x0 x1 x2 3 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 3 r) b) := by
  simp only [outA, Matrix.cons_val]
  unfold kernelRun0_B.sl.v70 View.readCov
  refine (load_row2 arg6 _ _ 3 r b rfl).trans ?_
  unfold after
  rfl

theorem outA_at_4 (r : Fin 64) (b : Fin 256) : outA c i arg2 harg2 arg3 harg3 arg4 harg4 arg5 harg5 arg6 harg6 arg7 harg7 arg8 harg8 hc1 x0 x1 x2 4 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 4 r) b) := by
  simp only [outA, Matrix.cons_val]
  unfold kernelRun0_B.sl.v75 View.readCov
  refine (load_row2 arg6 _ _ 4 r b rfl).trans ?_
  unfold after
  rfl

theorem outA_at_5 (r : Fin 64) (b : Fin 256) : outA c i arg2 harg2 arg3 harg3 arg4 harg4 arg5 harg5 arg6 harg6 arg7 harg7 arg8 harg8 hc1 x0 x1 x2 5 (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row 5 r) b) := by
  simp only [outA, Matrix.cons_val]
  unfold kernelRun0_B.sl.v80 View.readCov
  refine (load_row2 arg6 _ _ 5 r b rfl).trans ?_
  unfold after
  rfl

/-- They are what the stores leave. -/
theorem outA_at (hd : Fin 6) (r : Fin 64) (b : Fin 256) : outA c i arg2 harg2 arg3 harg3 arg4 harg4 arg5 harg5 arg6 harg6 arg7 harg7 arg8 harg8 hc1 x0 x1 x2 hd (ix2 r b) = (arg6.view.read (Elt Ideal) (arg6.view.writes (Elt Ideal) arg6.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).1)) (ix2 (row hd r) b) := by
  fin_cases hd
  exacts [outA_at_0 c i arg2 harg2 arg3 harg3 arg4 harg4 arg5 harg5 arg6 harg6 arg7 harg7 arg8 harg8 hc1 x0 x1 x2 r b, outA_at_1 c i arg2 harg2 arg3 harg3 arg4 harg4 arg5 harg5 arg6 harg6 arg7 harg7 arg8 harg8 hc1 x0 x1 x2 r b, outA_at_2 c i arg2 harg2 arg3 harg3 arg4 harg4 arg5 harg5 arg6 harg6 arg7 harg7 arg8 harg8 hc1 x0 x1 x2 r b, outA_at_3 c i arg2 harg2 arg3 harg3 arg4 harg4 arg5 harg5 arg6 harg6 arg7 harg7 arg8 harg8 hc1 x0 x1 x2 r b, outA_at_4 c i arg2 harg2 arg3 harg3 arg4 harg4 arg5 harg5 arg6 harg6 arg7 harg7 arg8 harg8 hc1 x0 x1 x2 r b, outA_at_5 c i arg2 harg2 arg3 harg3 arg4 harg4 arg5 harg5 arg6 harg6 arg7 harg7 arg8 harg8 hc1 x0 x1 x2 r b]

theorem outL_at_0 (b : Fin 256) : outL c i arg2 harg2 arg3 harg3 arg4 harg4 arg5 harg5 arg6 harg6 arg7 harg7 arg8 harg8 hc1 x0 x1 x2 0 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 0 0 b) := by
  simp only [outL, Matrix.cons_val]
  unfold kernelRun0_B.sl.v56 View.readCov
  refine (load_row3 arg8 _ _ 0 b rfl).trans ?_
  unfold after
  rfl

theorem outL_at_1 (b : Fin 256) : outL c i arg2 harg2 arg3 harg3 arg4 harg4 arg5 harg5 arg6 harg6 arg7 harg7 arg8 harg8 hc1 x0 x1 x2 1 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 1 0 b) := by
  simp only [outL, Matrix.cons_val]
  unfold kernelRun0_B.sl.v61 View.readCov
  refine (load_row3 arg8 _ _ 1 b rfl).trans ?_
  unfold after
  rfl

theorem outL_at_2 (b : Fin 256) : outL c i arg2 harg2 arg3 harg3 arg4 harg4 arg5 harg5 arg6 harg6 arg7 harg7 arg8 harg8 hc1 x0 x1 x2 2 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 2 0 b) := by
  simp only [outL, Matrix.cons_val]
  unfold kernelRun0_B.sl.v66 View.readCov
  refine (load_row3 arg8 _ _ 2 b rfl).trans ?_
  unfold after
  rfl

theorem outL_at_3 (b : Fin 256) : outL c i arg2 harg2 arg3 harg3 arg4 harg4 arg5 harg5 arg6 harg6 arg7 harg7 arg8 harg8 hc1 x0 x1 x2 3 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 3 0 b) := by
  simp only [outL, Matrix.cons_val]
  unfold kernelRun0_B.sl.v71 View.readCov
  refine (load_row3 arg8 _ _ 3 b rfl).trans ?_
  unfold after
  rfl

theorem outL_at_4 (b : Fin 256) : outL c i arg2 harg2 arg3 harg3 arg4 harg4 arg5 harg5 arg6 harg6 arg7 harg7 arg8 harg8 hc1 x0 x1 x2 4 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 4 0 b) := by
  simp only [outL, Matrix.cons_val]
  unfold kernelRun0_B.sl.v76 View.readCov
  refine (load_row3 arg8 _ _ 4 b rfl).trans ?_
  unfold after
  rfl

theorem outL_at_5 (b : Fin 256) : outL c i arg2 harg2 arg3 harg3 arg4 harg4 arg5 harg5 arg6 harg6 arg7 harg7 arg8 harg8 hc1 x0 x1 x2 5 (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 5 0 b) := by
  simp only [outL, Matrix.cons_val]
  unfold kernelRun0_B.sl.v81 View.readCov
  refine (load_row3 arg8 _ _ 5 b rfl).trans ?_
  unfold after
  rfl

/-- They are what the stores leave. -/
theorem outL_at (hd : Fin 6) (b : Fin 256) : outL c i arg2 harg2 arg3 harg3 arg4 harg4 arg5 harg5 arg6 harg6 arg7 harg7 arg8 harg8 hc1 x0 x1 x2 hd (ix3 0 0 b) = (arg8.view.read (Elt Ideal) (arg8.view.writes (Elt Ideal) arg8.view.junk (after c i arg2 harg2 arg3 harg3 arg4 harg4 arg5 harg5 arg6 harg6 arg7 harg7 arg8 harg8 (kernelRun0_B.sl.v19 i) (kernelRun0_B.sl.v20 i) (kernelRun0_B.sl.v25 i) (kernelRun0_B.sl.v41 i) x0 x1 x2 (kernelRun0_B.sl.HS0_7 (F := Ideal) c i arg2 harg2 arg3 harg3 arg4 harg4 arg6 arg7 hc1 x0 x1 x2) (kernelRun0_B.sl.HS1_7 (F := Ideal) c i arg2 harg2 arg3 harg3 arg7 hc1 x0 x1) (kernelRun0_B.sl.HS2_7 (F := Ideal) c i arg2 harg2 arg3 harg3 arg7 arg8 hc1 x0 x1)).2.2)) (ix3 hd 0 b) := by
  fin_cases hd
  exacts [outL_at_0 c i arg2 harg2 arg3 harg3 arg4 harg4 arg5 harg5 arg6 harg6 arg7 harg7 arg8 harg8 hc1 x0 x1 x2 b, outL_at_1 c i arg2 harg2 arg3 harg3 arg4 harg4 arg5 harg5 arg6 harg6 arg7 harg7 arg8 harg8 hc1 x0 x1 x2 b, outL_at_2 c i arg2 harg2 arg3 harg3 arg4 harg4 arg5 harg5 arg6 harg6 arg7 harg7 arg8 harg8 hc1 x0 x1 x2 b, outL_at_3 c i arg2 harg2 arg3 harg3 arg4 harg4 arg5 harg5 arg6 harg6 arg7 harg7 arg8 harg8 hc1 x0 x1 x2 b, outL_at_4 c i arg2 harg2 arg3 harg3 arg4 harg4 arg5 harg5 arg6 harg6 arg7 harg7 arg8 harg8 hc1 x0 x1 x2 b, outL_at_5 c i arg2 harg2 arg3 harg3 arg4 harg4 arg5 harg5 arg6 harg6 arg7 harg7 arg8 harg8 hc1 x0 x1 x2 b]

end

/-- The block the point writes: the weighted sums over the totals, over all the keys up to the tile's end. -/
theorem block (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc0 : ¬cond0_0 i) (hc1 : cond0_1 i) (hc2 : ¬cond0_2 i)
    (x0 : FVec Ideal S1x768x256 .bf16) (x1 : FVec Ideal S1x6x2048x128 .bf16) (x2 : FVec Ideal S1x8x384x256 .bf16) (hraw : ∀ hd c k, raw x0 x1 hd c k ≠ ⊤) (hq : 1 ≤ (i 1).val) (hodd : (i 1).val % 2 = 1) :
    ∃ (acc : FVec Ideal S384x256 .f32) (M L : FVec Ideal S6x1x256 .f32), Held (sc x0 x1 (i 1).val) (val x2) (keys 0 (256 * ((i 1).val + 1))) acc M L ∧
      ∀ hd r b, out0_B_3 (F := Ideal) c i arg2 harg2 arg3 harg3 arg4 harg4 arg5 harg5 arg6 harg6 arg7 harg7 arg8 harg8 hc0 hc1 hc2 x0 x1 x2 (ix3 0 b (row hd r)) = Ideal.div (acc (ix2 (row hd r) b)) (L (ix3 hd 0 b)) := by
  have hi : (i 1).val < 8 := (i 1).isLt
  have ek : keys 0 (256 * ((i 1).val + 1)) = (keys (256 * ((i 1).val - 1)) 512 ∪ keys 0 (512 * (((i 1).val - 1) / 2))) := by
    ext k
    simp only [Finset.mem_union, mem_keys]
    omega
  have h := pairs_held c i arg2 harg2 arg3 harg3 arg4 harg4 arg5 harg5 arg6 harg6 arg7 harg7 arg8 harg8 hc1 x0 x1 x2 hraw hq
  rw [← ek] at h
  refine ⟨_, _, _, h, ?_⟩
  intro hd r b
  unfold out0_B_3 kernelRun0_B
  dsimp only
  refine (View.read_writes_cons_unit_of_mem _ _ _ _ _ _ (ix3 0 b (row hd r)) rfl fun a => by fin_cases a <;> exact (Nat.zero_add _).symm).trans ?_
  refine (outp_at (outA c i arg2 harg2 arg3 harg3 arg4 harg4 arg5 harg5 arg6 harg6 arg7 harg7 arg8 harg8 hc1 x0 x1 x2) (outL c i arg2 harg2 arg3 harg3 arg4 harg4 arg5 harg5 arg6 harg6 arg7 harg7 arg8 harg8 hc1 x0 x1 x2) hd r b).trans ?_
  rw [outA_at, outL_at]

end Cert.KernelIdeal.CaseB

end
-- ==== Proof.CaseC.lean ====
/- A query tile with an odd number of tiles: the strip with the causal mask, the unmasked pairs of tiles, the single tile left over, and the block that is written. -/
module

public import proofs.«01_k».proof.Proof.Gen.KernelIdeal.Frame
public import proofs.«01_k».proof.Proof.Point

@[expose] public section

set_option maxRecDepth 16384
set_option maxHeartbeats 200000

noncomputable section

namespace Cert.KernelIdeal.CaseC

open Cert.KernelIdeal Cert.KernelIdeal.Gen Cert.KernelIdeal.Step Cert.KernelIdeal.State Cert.KernelIdeal.Loads Cert.KernelIdeal.Offs Cert.KernelIdeal.Point Idealize.ShloMosaic Idealize.SL.Sem

/-- The six heads' scores of the strip with the causal mask, -/
def diagS (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S512x256 .f32 :=
  ![kernelRun0_C.sl.r_2 (F := Ideal) c i arg2 harg2 arg3 harg3 hc1 x0 x1, kernelRun0_C.sl.r_3 (F := Ideal) c i arg2 harg2 arg3 harg3 hc1 x0 x1, kernelRun0_C.sl.r_4 (F := Ideal) c i arg2 harg2 arg3 harg3 hc1 x0 x1, kernelRun0_C.sl.r_5 (F := Ideal) c i arg2 harg2 arg3 harg3 hc1 x0 x1, kernelRun0_C.sl.r_6 (F := Ideal) c i arg2 harg2 arg3 harg3 hc1 x0 x1, kernelRun0_C.sl.r_7 (F := Ideal) c i arg2 harg2 arg3 harg3 hc1 x0 x1]

/-- their values, -/
def diagV (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S64x512 .bf16 :=
  ![extractStridedSlice S64x512 ![0, 0] (kernelRun0_C.sl.v102 (F := Ideal) c i arg4 harg4 hc1 x2 : FVec Ideal S384x512 .bf16) slices_S384x512_o0_0_S64x512, extractStridedSlice S64x512 ![64, 0] (kernelRun0_C.sl.v102 (F := Ideal) c i arg4 harg4 hc1 x2 : FVec Ideal S384x512 .bf16) slices_S384x512_o64_0_S64x512, extractStridedSlice S64x512 ![128, 0] (kernelRun0_C.sl.v102 (F := Ideal) c i arg4 harg4 hc1 x2 : FVec Ideal S384x512 .bf16) slices_S384x512_o128_0_S64x512, extractStridedSlice S64x512 ![192, 0] (kernelRun0_C.sl.v102 (F := Ideal) c i arg4 harg4 hc1 x2 : FVec Ideal S384x512 .bf16) slices_S384x512_o192_0_S64x512, extractStridedSlice S64x512 ![256, 0] (kernelRun0_C.sl.v102 (F := Ideal) c i arg4 harg4 hc1 x2 : FVec Ideal S384x512 .bf16) slices_S384x512_o256_0_S64x512, extractStridedSlice S64x512 ![320, 0] (kernelRun0_C.sl.v102 (F := Ideal) c i arg4 harg4 hc1 x2 : FVec Ideal S384x512 .bf16) slices_S384x512_o320_0_S64x512]

/-- their maxima before it, -/
def diagM (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S1x1x256 .f32 :=
  ![kernelRun0_C.sl.v156 (F := Ideal) c arg7, kernelRun0_C.sl.v179 (F := Ideal) c i arg2 harg2 arg3 harg3 arg7 hc1 x0 x1, kernelRun0_C.sl.v202 (F := Ideal) c i arg2 harg2 arg3 harg3 arg7 hc1 x0 x1, kernelRun0_C.sl.v225 (F := Ideal) c i arg2 harg2 arg3 harg3 arg7 hc1 x0 x1, kernelRun0_C.sl.v248 (F := Ideal) c i arg2 harg2 arg3 harg3 arg7 hc1 x0 x1, kernelRun0_C.sl.v271 (F := Ideal) c i arg2 harg2 arg3 harg3 arg7 hc1 x0 x1]

/-- their totals before it, -/
def diagL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S1x1x256 .f32 :=
  ![kernelRun0_C.sl.v166 (F := Ideal) c arg8, kernelRun0_C.sl.v189 (F := Ideal) c i arg2 harg2 arg3 harg3 arg7 arg8 hc1 x0 x1, kernelRun0_C.sl.v212 (F := Ideal) c i arg2 harg2 arg3 harg3 arg7 arg8 hc1 x0 x1, kernelRun0_C.sl.v235 (F := Ideal) c i arg2 harg2 arg3 harg3 arg7 arg8 hc1 x0 x1, kernelRun0_C.sl.v258 (F := Ideal) c i arg2 harg2 arg3 harg3 arg7 arg8 hc1 x0 x1, kernelRun0_C.sl.v281 (F := Ideal) c i arg2 harg2 arg3 harg3 arg7 arg8 hc1 x0 x1]

/-- and their weighted sums before it. -/
def diagA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16) : Fin 6 → FVec Ideal S64x256 .f32 :=
  ![kernelRun0_C.sl.v294 (F := Ideal) c arg6, kernelRun0_C.sl.v303 (F := Ideal) c i arg2 harg2 arg3 harg3 arg4 harg4 arg6 arg7 hc1 x0 x1 x2, kernelRun0_C.sl.v312 (F := Ideal) c i arg2 harg2 arg3 harg3 arg4 harg4 arg6 arg7 hc1 x0 x1 x2, kernelRun0_C.sl.v321 (F := Ideal) c i arg2 harg2 arg3 harg3 arg4 harg4 arg6 arg7 hc1 x0 x1 x2, kernelRun0_C.sl.v330 (F := Ideal) c i arg2 harg2 arg3 harg3 arg4 harg4 arg6 arg7 hc1 x0 x1 x2, kernelRun0_C.sl.v339 (F := Ideal) c i arg2 harg2 arg3 harg3 arg4 harg4 arg6 arg7 hc1 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 x0 x1 x2

theorem diagS_0  : diagS c i arg2 harg2 arg3 harg3 arg4 harg4 arg5 harg5 arg6 harg6 arg7 harg7 arg8 harg8 hc1 x0 x1 x2 0 = kernelRun0_C.sl.r_2 (F := Ideal) c i arg2 harg2 arg3 harg3 hc1 x0 x1 := by
  simp only [diagS, Matrix.cons_val]

theorem diagS_1  : diagS c i arg2 harg2 arg3 harg3 arg4 harg4 arg5 harg5 arg6 harg6 arg7 harg7 arg8 harg8 hc1 x0 x1 x2 1 = kernelRun0_C.sl.r_3 (F := Ideal) c i arg2 harg2 arg3 harg3 hc1 x0 x1 := by
  simp only [diagS, Matrix.cons_val]

theorem diagS_2  : diagS c i arg2 harg2 arg3 harg3 arg4 harg4 arg5 harg5 arg6 harg6 arg7 harg7 arg8 harg8 hc1 x0 x1 x2 2 = kernelRun0_C.sl.r_4 (F := Ideal) c i arg2 harg2 arg3 harg3 hc1 x0 x1 := by
  simp only [diagS, Matrix.cons_val]

theorem diagS_3  : diagS c i arg2 harg2 arg3 harg3 arg4 harg4 arg5 harg5 arg6 harg6 arg7 harg7 arg8 harg8 hc1 x0 x1 x2 3 = kernelRun0_C.sl.r_5 (F := Ideal) c i arg2 harg2 arg3 harg3 hc1 x0 x1 := by
  simp only [diagS, Matrix.cons_val]

theorem diagS_4  : diagS c i arg2 harg2 arg3 harg3 arg4 harg4 arg5 harg5 arg6 harg6 arg7 harg7 arg8 harg8 hc1 x0 x1 x2 4 = kernelRun0_C.sl.r_6 (F := Ideal) c i arg2 harg2 arg3 harg3 hc1 x0 x1 := by
  simp only [diagS, Matrix.cons_val]

theorem diagS_5  : diagS c i arg2 harg2 arg3 harg3 arg4 harg4 arg5 harg5 arg6 harg6 arg7 harg7 arg8 harg8 hc1 x0 x1 x2 5 = kernelRun0_C.sl.r_7 (F := Ideal) c i arg2 harg2 arg3 harg3 hc1 x0 x1 := by
  simp only [diagS, Matrix.cons_val]

theorem diagV_0  : diagV c i arg2 harg2 arg3 harg3 arg4 harg4 arg5 harg5 arg6 harg6 arg7 harg7 arg8 harg8 hc1 x0 x1 x2 0 = extractStridedSlice S64x512 ![0, 0] (kernelRun0_C.sl.v102 (F := Ideal) c i arg4 harg4 hc1 x2 : FVec Ideal S384x512 .bf16) slices_S384x512_o0_0_S64x512 := by
  simp only [diagV, Matrix.cons_val]

theorem diagV_1  : diagV c i arg2 harg2 arg3 harg3 arg4 harg4 arg5 harg5 arg6 harg6 arg7 harg7 arg8 harg8 hc1 x0 x1 x2 1 = extractStridedSlice S64x512 ![64, 0] (kernelRun0_C.sl.v102 (F := Ideal) c i arg4 harg4 hc1 x2 : FVec Ideal S384x512 .bf16) slices_S384x512_o64_0_S64x512 := by
  simp only [diagV, Matrix.cons_val]

theorem diagV_2  : diagV c i arg2 harg2 arg3 harg3 arg4 harg4 arg5 harg5 arg6 harg6 arg7 harg7 arg8 harg8 hc1 x0 x1 x2 2 = extractStridedSlice S64x512 ![128, 0] (kernelRun0_C.sl.v102 (F := Ideal) c i arg4 harg4 hc1 x2 : FVec Ideal S384x512 .bf16) slices_S384x512_o128_0_S64x512 := by
  simp only [diagV, Matrix.cons_val]

theorem diagV_3  : diagV c i arg2 harg2 arg3 harg3 arg4 harg4 arg5 harg5 arg6 harg6 arg7 harg7 arg8 harg8 hc1 x0 x1 x2 3 = extractStridedSlice S64x512 ![192, 0] (kernelRun0_C.sl.v102 (F := Ideal) c i arg4 harg4 hc1 x2 : FVec Ideal S384x512 .bf16) slices_S384x512_o192_0_S64x512 := by
  simp only [diagV, Matrix.cons_val]

theorem diagV_4  : diagV c i arg2 harg2 arg3 harg3 arg4 harg4 arg5 harg5 arg6 harg6 arg7 harg7 arg8 harg8 hc1 x0 x1 x2 4 = extractStridedSlice S64x512 ![256, 0] (kernelRun0_C.sl.v102 (F := Ideal) c i arg4 harg4 hc1 x2 : FVec Ideal S384x512 .bf16) slices_S384x512_o256_0_S64x512 := by
  simp only [diagV, Matrix.cons_val]

theorem diagV_5  : diagV c i arg2 harg2 arg3 harg3 arg4 harg4 arg5 harg5 arg6 harg6 arg7 harg7 arg8 harg8 hc1 x0 x1 x2 5 = extractStridedSlice S64x512 ![320, 0] (kernelRun0_C.sl.v102 (F := Ideal) c i arg4 harg4 hc1 x2 : FVec Ideal S384x512 .bf16) slices_S384x512_o320_0_S64x512 := by
  simp only [diagV, Matrix.cons_val]

theorem diagM_0  : diagM c i arg2 harg2 arg3 harg3 arg4 harg4 arg5 harg5 arg6 harg6 arg7 harg7 arg8 harg8 hc1 x0 x1 x2 0 = kernelRun0_C.sl.v156 (F := Ideal) c arg7 := by
  simp only [diagM, Matrix.cons_val]

theorem diagM_1  : diagM c i arg2 harg2 arg3 harg3 arg4 harg4 arg5 harg5 arg6 harg6 arg7 harg7 arg8 harg8 hc1 x0 x1 x2 1 = kernelRun0_C.sl.v179 (F := Ideal) c i arg2 harg2 arg3 harg3 arg7 hc1 x0 x1 := by
  simp only [diagM, Matrix.cons_val]

theorem diagM_2  : diagM c i arg2 harg2 arg3 harg3 arg4 harg4 arg5 harg5 arg6 harg6 arg7 harg7 arg8 harg8 hc1 x0 x1 x2 2 = kernelRun0_C.sl.v202 (F := Ideal) c i arg2 harg2 arg3 harg3 arg7 hc1 x0 x1 := by
  simp only [diagM, Matrix.cons_val]

theorem diagM_3  : diagM c i arg2 harg2 arg3 harg3 arg4 harg4 arg5 harg5 arg6 harg6 arg7 harg7 arg8 harg8 hc1 x0 x1 x2 3 = kernelRun0_C.sl.v225 (F := Ideal) c i arg2 harg2 arg3 harg3 arg7 hc1 x0 x1 := by
  simp only [diagM, Matrix.cons_val]

theorem diagM_4  : diagM c i arg2 harg2 arg3 harg3 arg4 harg4 arg5 harg5 arg6 harg6 arg7 harg7 arg8 harg8 hc1 x0 x1 x2 4 = kernelRun0_C.sl.v248 (F := Ideal) c i arg2 harg2 arg3 harg3 arg7 hc1 x0 x1 := by
  simp only [diagM, Matrix.cons_val]

theorem diagM_5  : diagM c i arg2 harg2 arg3 harg3 arg4 harg4 arg5 harg5 arg6 harg6 arg7 harg7 arg8 harg8 hc1 x0 x1 x2 5 = kernelRun0_C.sl.v271 (F := Ideal) c i arg2 harg2 arg3 harg3 arg7 hc1 x0 x1 := by
  simp only [diagM, Matrix.cons_val]

theorem diagL_0  : diagL c i arg2 harg2 arg3 harg3 arg4 harg4 arg5 harg5 arg6 harg6 arg7 harg7 arg8 harg8 hc1 x0 x1 x2 0 = kernelRun0_C.sl.v166 (F := Ideal) c arg8 := by
  simp only [diagL, Matrix.cons_val]

theorem diagL_1  : diagL c i arg2 harg2 arg3 harg3 arg4 harg4 arg5 harg5 arg6 harg6 arg7 harg7 arg8 harg8 hc1 x0 x1 x2 1 = kernelRun0_C.sl.v189 (F := Ideal) c i arg2 harg2 arg3 harg3 arg7 arg8 hc1 x0 x1 := by
  simp only [diagL, Matrix.cons_val]

theorem diagL_2  : diagL c i arg2 harg2 arg3 harg3 arg4 harg4 arg5 harg5 arg6 harg6 arg7 harg7 arg8 harg8 hc1 x0 x1 x2 2 = kernelRun0_C.sl.v212 (F := Ideal) c i arg2 harg2 arg3 harg3 arg7 arg8 hc1 x0 x1 := by
  simp only [diagL, Matrix.cons_val]

theorem diagL_3  : diagL c i arg2 harg2 arg3 harg3 arg4 harg4 arg5 harg5 arg6 harg6 arg7 harg7 arg8 harg8 hc1 x0 x1 x2 3 = kernelRun0_C.sl.v235 (F := Ideal) c i arg2 harg2 arg3 harg3 arg7 arg8 hc1 x0 x1 := by
  simp only [diagL, Matrix.cons_val]

theorem diagL_4  : diagL c i arg2 harg2 arg3 harg3 arg4 harg4 arg5 harg5 arg6 harg6 arg7 harg7 arg8 harg8 hc1 x0 x1 x2 4 = kernelRun0_C.sl.v258 (F := Ideal) c i arg2 harg2 arg3 harg3 arg7 arg8 hc1 x0 x1 := by
  simp only [diagL, Matrix.cons_val]

theorem diagL_5  : diagL c i arg2 harg2 arg3 harg3 arg4 harg4 arg5 harg5 arg6 harg6 arg7 harg7 arg8 harg8 hc1 x0 x1 x2 5 = kernelRun0_C.sl.v281 (F := Ideal) c i arg2 harg2 arg3 harg3 arg7 arg8 hc1 x0 x1 := by
  simp only [diagL, Matrix.cons_val]

theorem diagA_0  : diagA c i arg2 harg2 arg3 harg3 arg4 harg4 arg5 harg5 arg6 harg6 arg7 harg7 arg8 harg8 hc1 x0 x1 x2 0 = kernelRun0_C.sl.v294 (F := Ideal) c arg6 := by
  simp only [diagA, Matrix.cons_val]

theorem diagA_1  : diagA c i arg2 harg2 arg3 harg3 arg4 harg4 arg5 harg5 arg6 harg6 arg7 harg7 arg8 harg8 hc1 x0 x1 x2 1 = kernelRun0_C.sl.v303 (F := Ideal) c i arg2 harg2 arg3 harg3 arg4 harg4 arg6 arg7 hc1 x0 x1 x2 := by
  simp only [diagA, Matrix.cons_val]

theorem diagA_2  : diagA c i arg2 harg2 arg3 harg3 arg4 harg4 arg5 harg5 arg6 harg6 arg7 harg7 arg8 harg8 hc1 x0 x1 x2 2 = kernelRun0_C.sl.v312 (F := Ideal) c i arg2 harg2 arg3 harg3 arg4 harg4 arg6 arg7 hc1 x0 x1 x2 := by
  simp only [diagA, Matrix.cons_val]

theorem diagA_3  : diagA c i arg2 harg2 arg3 harg3 arg4 harg4 arg5 harg5 arg6 harg6 arg7 harg7 arg8 harg8 hc1 x0 x1 x2 3 = kernelRun0_C.sl.v321 (F := Ideal) c i arg2 harg2 arg3 harg3 arg4 harg4 arg6 arg7 hc1 x0 x1 x2 := by
  simp only [diagA, Matrix.cons_val]

theorem diagA_4  : diagA c i arg2 harg2 arg3 harg3 arg4 harg4 arg5 harg5 arg6 harg6 arg7 harg7 arg8 harg8 hc1 x0 x1 x2 4 = kernelRun0_C.sl.v330 (F := Ideal) c i arg2 harg2 arg3 harg3 arg4 harg4 arg6 arg7 hc1 x0 x1 x2 := by
  simp only [diagA, Matrix.cons_val]

theorem diagA_5  : diagA c i arg2 harg2 arg3 harg3 arg4 harg4 arg5 harg5 arg6 harg6 arg7 harg7 arg8 harg8 hc1 x0 x1 x2 5 = kernelRun0_C.sl.v339 (F := Ideal) c i arg2 harg2 arg3 harg3 arg4 harg4 arg6 arg7 hc1 x0 x1 x2 := by
  simp only [diagA, Matrix.cons_val]

/-- Head 0's scores, from the loads. -/
theorem diagS_load_0  : ∃ inb inbq, kernelRun0_C.sl.r_2 (F := Ideal) c i arg2 harg2 arg3 harg3 hc1 x0 x1 = mask2 (score2 (View.readAt (Elt Ideal) arg3.view (Rect.unit (s := S1x6x2048x128) (k0_off2 i) S1x1x512x128.size inb).toLoadRect (harg3.unread x1)) (View.readAt (Elt Ideal) arg2.view (Rect.unit (s := S1x768x256) ![0, 0, 0] S1x128x256.size inbq).toLoadRect (harg2.unread x0))) :=
  ⟨_, _, rfl⟩

/-- Head 1's scores, from the loads. -/
theorem diagS_load_1  : ∃ inb inbq, kernelRun0_C.sl.r_3 (F := Ideal) c i arg2 harg2 arg3 harg3 hc1 x0 x1 = mask2 (score2 (View.readAt (Elt Ideal) arg3.view (Rect.unit (s := S1x6x2048x128) (k0_off3 i) S1x1x512x128.size inb).toLoadRect (harg3.unread x1)) (View.readAt (Elt Ideal) arg2.view (Rect.unit (s := S1x768x256) ![0, 128, 0] S1x128x256.size inbq).toLoadRect (harg2.unread x0))) :=
  ⟨_, _, rfl⟩

/-- Head 2's scores, from the loads. -/
theorem diagS_load_2  : ∃ inb inbq, kernelRun0_C.sl.r_4 (F := Ideal) c i arg2 harg2 arg3 harg3 hc1 x0 x1 = mask2 (score2 (View.readAt (Elt Ideal) arg3.view (Rect.unit (s := S1x6x2048x128) (k0_off4 i) S1x1x512x128.size inb).toLoadRect (harg3.unread x1)) (View.readAt (Elt Ideal) arg2.view (Rect.unit (s := S1x768x256) ![0, 256, 0] S1x128x256.size inbq).toLoadRect (harg2.unread x0))) :=
  ⟨_, _, rfl⟩

/-- Head 3's scores, from the loads. -/
theorem diagS_load_3  : ∃ inb inbq, kernelRun0_C.sl.r_5 (F := Ideal) c i arg2 harg2 arg3 harg3 hc1 x0 x1 = mask2 (score2 (View.readAt (Elt Ideal) arg3.view (Rect.unit (s := S1x6x2048x128) (k0_off5 i) S1x1x512x128.size inb).toLoadRect (harg3.unread x1)) (View.readAt (Elt Ideal) arg2.view (Rect.unit (s := S1x768x256) ![0, 384, 0] S1x128x256.size inbq).toLoadRect (harg2.unread x0))) :=
  ⟨_, _, rfl⟩

/-- Head 4's scores, from the loads. -/
theorem diagS_load_4  : ∃ inb inbq, kernelRun0_C.sl.r_6 (F := Ideal) c i arg2 harg2 arg3 harg3 hc1 x0 x1 = mask2 (score2 (View.readAt (Elt Ideal) arg3.view (Rect.unit (s := S1x6x2048x128) (k0_off6 i) S1x1x512x128.size inb).toLoadRect (harg3.unread x1)) (View.readAt (Elt Ideal) arg2.view (Rect.unit (s := S1x768x256) ![0, 512, 0] S1x128x256.size inbq).toLoadRect (harg2.unread x0))) :=
  ⟨_, _, rfl⟩

/-- Head 5's scores, from the loads. -/
theorem diagS_load_5  : ∃ inb inbq, kernelRun0_C.sl.r_7 (F := Ideal) c i arg2 harg2 arg3 harg3 hc1 x0 x1 = mask2 (score2 (View.readAt (Elt Ideal) arg3.view (Rect.unit (s := S1x6x2048x128) (k0_off7 i) S1x1x512x128.size inb).toLoadRect (harg3.unread x1)) (View.readAt (Elt Ideal) arg2.view (Rect.unit (s := S1x768x256) ![0, 640, 0] S1x128x256.size inbq).toLoadRect (harg2.unread x0))) :=
  ⟨_, _, rfl⟩

/-- The values, from the loads. -/
theorem diagV_load  : ∃ inb inb', kernelRun0_C.sl.v102 (F := Ideal) c i arg4 harg4 hc1 x2 = vals2 (View.readAt (Elt Ideal) arg4.view (Rect.unit (s := S1x8x384x256) (k0_off1 i 0#32) S1x1x384x256.size inb).toLoadRect (harg4.unread x2)) (View.readAt (Elt Ideal) arg4.view (Rect.unit (s := S1x8x384x256) (k0_off1 i 1#32) S1x1x384x256.size inb').toLoadRect (harg4.unread x2)) :=
  ⟨_, _, rfl⟩

/-- Head 0's maximum loaded is the one before the strip. -/
theorem diagM_at_0  (b : Fin 256) : diagM c i arg2 harg2 arg3 harg3 arg4 harg4 arg5 harg5 arg6 harg6 arg7 harg7 arg8 harg8 hc1 x0 x1 x2 0 (ix3 0 0 b) = (arg7.view.read (Elt Ideal) (arg7.view.writes (Elt Ideal) arg7.view.junk (kernelRun0_C.sl.HS1_1 (F := Ideal) ))) (ix3 0 0 b) := by
  rw [diagM_0]
  unfold kernelRun0_C.sl.v156 View.readCov
  refine (load_row3 arg7 _ _ 0 b rfl).trans ?_
  rfl

/-- Head 1's maximum loaded is the one before the strip. -/
theorem diagM_at_1  (b : Fin 256) : diagM c i arg2 harg2 arg3 harg3 arg4 harg4 arg5 harg5 arg6 harg6 arg7 harg7 arg8 harg8 hc1 x0 x1 x2 1 (ix3 0 0 b) = (arg7.view.read (Elt Ideal) (arg7.view.writes (Elt Ideal) arg7.view.junk (kernelRun0_C.sl.HS1_1 (F := Ideal) ))) (ix3 1 0 b) := by
  rw [diagM_1]
  unfold kernelRun0_C.sl.v179 View.readCov
  refine (load_row3 arg7 _ _ 1 b rfl).trans ?_
  unfold kernelRun0_C.sl.HS1_2
  refine (skip3 _ _ _ _ _ 1 0 rfl (by decide) b).trans ?_
  rfl

/-- Head 2's maximum loaded is the one before the strip. -/
theorem diagM_at_2  (b : Fin 256) : diagM c i arg2 harg2 arg3 harg3 arg4 harg4 arg5 harg5 arg6 harg6 arg7 harg7 arg8 harg8 hc1 x0 x1 x2 2 (ix3 0 0 b) = (arg7.view.read (Elt Ideal) (arg7.view.writes (Elt Ideal) arg7.view.junk (kernelRun0_C.sl.HS1_1 (F := Ideal) ))) (ix3 2 0 b) := by
  rw [diagM_2]
  unfold kernelRun0_C.sl.v202 View.readCov
  refine (load_row3 arg7 _ _ 2 b rfl).trans ?_
  unfold kernelRun0_C.sl.HS1_3
  refine (skip3 _ _ _ _ _ 2 1 rfl (by decide) b).trans ?_
  unfold kernelRun0_C.sl.HS1_2
  refine (skip3 _ _ _ _ _ 2 0 rfl (by decide) b).trans ?_
  rfl

/-- Head 3's maximum loaded is the one before the strip. -/
theorem diagM_at_3  (b : Fin 256) : diagM c i arg2 harg2 arg3 harg3 arg4 harg4 arg5 harg5 arg6 harg6 arg7 harg7 arg8 harg8 hc1 x0 x1 x2 3 (ix3 0 0 b) = (arg7.view.read (Elt Ideal) (arg7.view.writes (Elt Ideal) arg7.view.junk (kernelRun0_C.sl.HS1_1 (F := Ideal) ))) (ix3 3 0 b) := by
  rw [diagM_3]
  unfold kernelRun0_C.sl.v225 View.readCov
  refine (load_row3 arg7 _ _ 3 b rfl).trans ?_
  unfold kernelRun0_C.sl.HS1_4
  refine (skip3 _ _ _ _ _ 3 2 rfl (by decide) b).trans ?_
  unfold kernelRun0_C.sl.HS1_3
  refine (skip3 _ _ _ _ _ 3 1 rfl (by decide) b).trans ?_
  unfold kernelRun0_C.sl.HS1_2
  refine (skip3 _ _ _ _ _ 3 0 rfl (by decide) b).trans ?_
  rfl

/-- Head 4's maximum loaded is the one before the strip. -/
theorem diagM_at_4  (b : Fin 256) : diagM c i arg2 harg2 arg3 harg3 arg4 harg4 arg5 harg5 arg6 harg6 arg7 harg7 arg8 harg8 hc1 x0 x1 x2 4 (ix3 0 0 b) = (arg7.view.read (Elt Ideal) (arg7.view.writes (Elt Ideal) arg7.view.junk (kernelRun0_C.sl.HS1_1 (F := Ideal) ))) (ix3 4 0 b) := by
  rw [diagM_4]
  unfold kernelRun0_C.sl.v248 View.readCov
  refine (load_row3 arg7 _ _ 4 b rfl).trans ?_
  unfold kernelRun0_C.sl.HS1_5
  refine (skip3 _ _ _ _ _ 4 3 rfl (by decide) b).trans ?_
  unfold kernelRun0_C.sl.HS1_4
  refine (skip3 _ _ _ _ _ 4 2 rfl (by decide) b).trans ?_
  unfold kernelRun0_C.sl.HS1_3
  refine (skip3 _ _ _ _ _ 4 1 rfl (by decide) b).trans ?_
  unfold kernelRun0_C.sl.HS1_2
  refine (skip3 _ _ _ _ _ 4 0 rfl (by decide) b).trans ?_
  rfl

/-- Head 5's maximum loaded is the one before the strip. -/
theorem diagM_at_5  (b : Fin 256) : diagM c i arg2 harg2 arg3 harg3 arg4 harg4 arg5 harg5 arg6 harg6 arg7 harg7 arg8 harg8 hc1 x0 x1 x2 5 (ix3 0 0 b) = (arg7.view.read (Elt Ideal) (arg7.view.writes (Elt Ideal) arg7.view.junk (kernelRun0_C.sl.HS1_1 (F := Ideal) ))) (ix3 5 0 b) := by
  rw [diagM_5]
  unfold kernelRun0_C.sl.v271 View.readCov
  refine (load_row3 arg7 _ _ 5 b rfl).trans ?_
  unfold kernelRun0_C.sl.HS1_6
  refine (skip3 _ _ _ _ _ 5 4 rfl (by decide) b).trans ?_
  unfold kernelRun0_C.sl.HS1_5
  refine (skip3 _ _ _ _ _ 5 3 rfl (by decide) b).trans ?_
  unfold kernelRun0_C.sl.HS1_4
  refine (skip3 _ _ _ _ _ 5 2 rfl (by decide) b).trans ?_
  unfold kernelRun0_C.sl.HS1_3
  refine (skip3 _ _ _ _ _ 5 1 rfl (by decide) b).trans ?_
  unfold kernelRun0_C.sl.HS1_2
  refine (skip3 _ _ _ _ _ 5 0 rfl (by decide) b).trans ?_
  rfl

/-- The maximums loaded are those before the strip. -/
theorem diagM_at  (hd : Fin 6) (b : Fin 256) : diagM c i arg2 harg2 arg3 harg3 arg4 harg4 arg5 harg5 arg6 harg6 arg7 harg7 arg8 harg8 hc1 x0 x1 x2 hd (ix3 0 0 b) = (arg7.view.read (Elt Ideal) (arg7.view.writes (Elt Ideal) arg7.view.junk (kernelRun0_C.sl.HS1_1 (F := Ideal) ))) (ix3 hd 0 b) := by
  fin_cases hd
  exacts [diagM_at_0 c i arg2 harg2 arg3 harg3 arg4 harg4 arg5 harg5 arg6 harg6 arg7 harg7 arg8 harg8 hc1 x0 x1 x2 b, diagM_at_1 c i arg2 harg2 arg3 harg3 arg4 harg4 arg5 harg5 arg6 harg6 arg7 harg7 arg8 harg8 hc1 x0 x1 x2 b, diagM_at_2 c i arg2 harg2 arg3 harg3 arg4 harg4 arg5 harg5 arg6 harg6 arg7 harg7 arg8 harg8 hc1 x0 x1 x2 b, diagM_at_3 c i arg2 harg2 arg3 harg3 arg4 harg4 arg5 harg5 arg6 harg6 arg7 harg7 arg8 harg8 hc1 x0 x1 x2 b, diagM_at_4 c i arg2 harg2 arg3 harg3 arg4 harg4 arg5 harg5 arg6 harg6 arg7 harg7 arg8 harg8 hc1 x0 x1 x2 b, diagM_at_5 c i arg2 harg2 arg3 harg3 arg4 harg4 arg5 harg5 arg6 harg6 arg7 harg7 arg8 harg8 hc1 x0 x1 x2 b]

/-- Head 0's maximum after the strip. -/
theorem diagM_new_0  (b : Fin 256) : (arg7.view.read (Elt Ideal) (arg7.view.writes (Elt Ideal) arg7.view.junk (kernelRun0_C.sl.HS1_7 (F := Ideal) c i arg2 harg2 arg3 harg3 arg7 hc1 x0 x1))) (ix3 0 0 b) = newM2 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (ix3 0 0 b) := by
  rw [diagS_0, diagM_0]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 0 b).trans ?_
  simp only [Matrix.cons_val]
  rfl

/-- Head 1's maximum after the strip. -/
theorem diagM_new_1  (b : Fin 256) : (arg7.view.read (Elt Ideal) (arg7.view.writes (Elt Ideal) arg7.view.junk (kernelRun0_C.sl.HS1_7 (F := Ideal) c i arg2 harg2 arg3 harg3 arg7 hc1 x0 x1))) (ix3 1 0 b) = newM2 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (ix3 0 0 b) := by
  rw [diagS_1, diagM_1]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 1 b).trans ?_
  simp only [Matrix.cons_val]
  rfl

/-- Head 2's maximum after the strip. -/
theorem diagM_new_2  (b : Fin 256) : (arg7.view.read (Elt Ideal) (arg7.view.writes (Elt Ideal) arg7.view.junk (kernelRun0_C.sl.HS1_7 (F := Ideal) c i arg2 harg2 arg3 harg3 arg7 hc1 x0 x1))) (ix3 2 0 b) = newM2 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (ix3 0 0 b) := by
  rw [diagS_2, diagM_2]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 2 b).trans ?_
  simp only [Matrix.cons_val]
  rfl

/-- Head 3's maximum after the strip. -/
theorem diagM_new_3  (b : Fin 256) : (arg7.view.read (Elt Ideal) (arg7.view.writes (Elt Ideal) arg7.view.junk (kernelRun0_C.sl.HS1_7 (F := Ideal) c i arg2 harg2 arg3 harg3 arg7 hc1 x0 x1))) (ix3 3 0 b) = newM2 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (ix3 0 0 b) := by
  rw [diagS_3, diagM_3]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 3 b).trans ?_
  simp only [Matrix.cons_val]
  rfl

/-- Head 4's maximum after the strip. -/
theorem diagM_new_4  (b : Fin 256) : (arg7.view.read (Elt Ideal) (arg7.view.writes (Elt Ideal) arg7.view.junk (kernelRun0_C.sl.HS1_7 (F := Ideal) c i arg2 harg2 arg3 harg3 arg7 hc1 x0 x1))) (ix3 4 0 b) = newM2 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (ix3 0 0 b) := by
  rw [diagS_4, diagM_4]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 4 b).trans ?_
  simp only [Matrix.cons_val]
  rfl

/-- Head 5's maximum after the strip. -/
theorem diagM_new_5  (b : Fin 256) : (arg7.view.read (Elt Ideal) (arg7.view.writes (Elt Ideal) arg7.view.junk (kernelRun0_C.sl.HS1_7 (F := Ideal) c i arg2 harg2 arg3 harg3 arg7 hc1 x0 x1))) (ix3 5 0 b) = newM2 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (ix3 0 0 b) := by
  rw [diagS_5, diagM_5]
  unfold kernelRun0_C.sl.HS1_7
  unfold kernelRun0_C.sl.HS1_6
  unfold kernelRun0_C.sl.HS1_5
  unfold kernelRun0_C.sl.HS1_4
  unfold kernelRun0_C.sl.HS1_3
  unfold kernelRun0_C.sl.HS1_2
  refine (read_rows3 arg7.view _ _ _ _ _ _ _ _ _ _ _ _ _ _ 5 b).trans ?_
  simp only [Matrix.cons_val]
  rfl

/-- The maximums after the strip. -/
theorem diagM_new  (hd : Fin 6) (b : Fin 256) : (arg7.view.read (Elt Ideal) (arg7.view.writes (Elt Ideal) arg7.view.junk (kernelRun0_C.sl.HS1_7 (F := Ideal) c i arg2 harg2 arg3 harg3 arg7 hc1 x0 x1))) (ix3 hd 0 b) = newM2 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (ix3 0 0 b) := by
  fin_cases hd
  exacts [diagM_new_0 c i arg2 harg2 arg3 harg3 arg4 harg4 arg5 harg5 arg6 harg6 arg7 harg7 arg8 harg8 hc1 x0 x1 x2 b, diagM_new_1 c i arg2 harg2 arg3 harg3 arg4 harg4 arg5 harg5 arg6 harg6 arg7 harg7 arg8 harg8 hc1 x0 x1 x2 b, diagM_new_2 c i arg2 harg2 arg3 harg3 arg4 harg4 arg5 harg5 arg6 harg6 arg7 harg7 arg8 harg8 hc1 x0 x1 x2 b, diagM_new_3 c i arg2 harg2 arg3 harg3 arg4 harg4 arg5 harg5 arg6 harg6 arg7 harg7 arg8 harg8 hc1 x0 x1 x2 b, diagM_new_4 c i arg2 harg2 arg3 harg3 arg4 harg4 arg5 harg5 arg6 harg6 arg7 harg7 arg8 harg8 hc1 x0 x1 x2 b, diagM_new_5 c i arg2 harg2 arg3 harg3 arg4 harg4 arg5 harg5 arg6 harg6 arg7 harg7 arg8 harg8 hc1 x0 x1 x2 b]

/-- Head 0's total loaded is the one before the strip. -/
theorem diagL_at_0  (b : Fin 256) : diagL c i arg2 harg2 arg3 harg3 arg4 harg4 arg5 harg5 arg6 harg6 arg7 harg7 arg8 harg8 hc1 x0 x1 x2 0 (ix3 0 0 b) = (arg8.view.read (Elt Ideal) (arg8.view.writes (Elt Ideal) arg8.view.junk (kernelRun0_C.sl.HS2_1 (F := Ideal) ))) (ix3 0 0 b) := by
  rw [diagL_0]
  unfold kernelRun0_C.sl.v166 View.readCov
  refine (load_row3 arg8 _ _ 0 b rfl).trans ?_
  rfl

/-- Head 1's total loaded is the one before the strip. -/
theorem diagL_at_1  (b : Fin 256) : diagL c i arg2 harg2 arg3 harg3 arg4 harg4 arg5 harg5 arg6 harg6 arg7 harg7 arg8 harg8 hc1 x0 x1 x2 1 (ix3 0 0 b) = (arg8.view.read (Elt Ideal) (arg8.view.writes (Elt Ideal) arg8.view.junk (kernelRun0_C.sl.HS2_1 (F := Ideal) ))) (ix3 1 0 b) := by
  rw [diagL_1]
  unfold kernelRun0_C.sl.v189 View.readCov
  refine (load_row3 arg8 _ _ 1 b rfl).trans ?_
  unfold kernelRun0_C.sl.HS2_2
  refine (skip3 _ _ _ _ _ 1 0 rfl (by decide) b).trans ?_
  rfl

/-- Head 2's total loaded is the one before the strip. -/
theorem diagL_at_2  (b : Fin 256) : diagL c i arg2 harg2 arg3 harg3 arg4 harg4 arg5 harg5 arg6 harg6 arg7 harg7 arg8 harg8 hc1 x0 x1 x2 2 (ix3 0 0 b) = (arg8.view.read (Elt Ideal) (arg8.view.writes (Elt Ideal) arg8.view.junk (kernelRun0_C.sl.HS2_1 (F := Ideal) ))) (ix3 2 0 b) := by
  rw [diagL_2]
  unfold kernelRun0_C.sl.v212 View.readCov
  refine (load_row3 arg8 _ _ 2 b rfl).trans ?_
  unfold kernelRun0_C.sl.HS2_3
  refine (skip3 _ _ _ _ _ 2 1 rfl (by decide) b).trans ?_
  unfold kernelRun0_C.sl.HS2_2
  refine (skip3 _ _ _ _ _ 2 0 rfl (by decide) b).trans ?_
  rfl

/-- Head 3's total loaded is the one before the strip. -/
theorem diagL_at_3  (b : Fin 256) : diagL c i arg2 harg2 arg3 harg3 arg4 harg4 arg5 harg5 arg6 harg6 arg7 harg7 arg8 harg8 hc1 x0 x1 x2 3 (ix3 0 0 b) = (arg8.view.read (Elt Ideal) (arg8.view.writes (Elt Ideal) arg8.view.junk (kernelRun0_C.sl.HS2_1 (F := Ideal) ))) (ix3 3 0 b) := by
  rw [diagL_3]
  unfold kernelRun0_C.sl.v235 View.readCov
  refine (load_row3 arg8 _ _ 3 b rfl).trans ?_
  unfold kernelRun0_C.sl.HS2_4
  refine (skip3 _ _ _ _ _ 3 2 rfl (by decide) b).trans ?_
  unfold kernelRun0_C.sl.HS2_3
  refine (skip3 _ _ _ _ _ 3 1 rfl (by decide) b).trans ?_
  unfold kernelRun0_C.sl.HS2_2
  refine (skip3 _ _ _ _ _ 3 0 rfl (by decide) b).trans ?_
  rfl

/-- Head 4's total loaded is the one before the strip. -/
theorem diagL_at_4  (b : Fin 256) : diagL c i arg2 harg2 arg3 harg3 arg4 harg4 arg5 harg5 arg6 harg6 arg7 harg7 arg8 harg8 hc1 x0 x1 x2 4 (ix3 0 0 b) = (arg8.view.read (Elt Ideal) (arg8.view.writes (Elt Ideal) arg8.view.junk (kernelRun0_C.sl.HS2_1 (F := Ideal) ))) (ix3 4 0 b) := by
  rw [diagL_4]
  unfold kernelRun0_C.sl.v258 View.readCov
  refine (load_row3 arg8 _ _ 4 b rfl).trans ?_
  unfold kernelRun0_C.sl.HS2_5
  refine (skip3 _ _ _ _ _ 4 3 rfl (by decide) b).trans ?_
  unfold kernelRun0_C.sl.HS2_4
  refine (skip3 _ _ _ _ _ 4 2 rfl (by decide) b).trans ?_
  unfold kernelRun0_C.sl.HS2_3
  refine (skip3 _ _ _ _ _ 4 1 rfl (by decide) b).trans ?_
  unfold kernelRun0_C.sl.HS2_2
  refine (skip3 _ _ _ _ _ 4 0 rfl (by decide) b).trans ?_
  rfl

/-- Head 5's total loaded is the one before the strip. -/
theorem diagL_at_5  (b : Fin 256) : diagL c i arg2 harg2 arg3 harg3 arg4 harg4 arg5 harg5 arg6 harg6 arg7 harg7 arg8 harg8 hc1 x0 x1 x2 5 (ix3 0 0 b) = (arg8.view.read (Elt Ideal) (arg8.view.writes (Elt Ideal) arg8.view.junk (kernelRun0_C.sl.HS2_1 (F := Ideal) ))) (ix3 5 0 b) := by
  rw [diagL_5]
  unfold kernelRun0_C.sl.v281 View.readCov
  refine (load_row3 arg8 _ _ 5 b rfl).trans ?_
  unfold kernelRun0_C.sl.HS2_6
  refine (skip3 _ _ _ _ _ 5 4 rfl (by decide) b).trans ?_
  unfold kernelRun0_C.sl.HS2_5
  refine (skip3 _ _ _ _ _ 5 3 rfl (by decide) b).trans ?_
  unfold kernelRun0_C.sl.HS2_4
  refine (skip3 _ _ _ _ _ 5 2 rfl (by decide) b).trans ?_
  unfold kernelRun0_C.sl.HS2_3
  refine (skip3 _ _ _ _ _ 5 1 rfl (by decide) b).trans ?_
  unfold kernelRun0_C.sl.HS2_2
  refine (skip3 _ _ _ _ _ 5 0 rfl (by decide) b).trans ?_
  rfl

/-- The totals loaded are those before the strip. -/
theorem diagL_at  (hd : Fin 6) (b : Fin 256) : diagL c i arg2 harg2 arg3 harg3 arg4 harg4 arg5 harg5 arg6 harg6 arg7 harg7 arg8 harg8 hc1 x0 x1 x2 hd (ix3 0 0 b) = (arg8.view.read (Elt Ideal) (arg8.view.writes (Elt Ideal) arg8.view.junk (kernelRun0_C.sl.HS2_1 (F := Ideal) ))) (ix3 hd 0 b) := by
  fin_cases hd
  exacts [diagL_at_0 c i arg2 harg2 arg3 harg3 arg4 harg4 arg5 harg5 arg6 harg6 arg7 harg7 arg8 harg8 hc1 x0 x1 x2 b, diagL_at_1 c i arg2 harg2 arg3 harg3 arg4 harg4 arg5 harg5 arg6 harg6 arg7 harg7 arg8 harg8 hc1 x0 x1 x2 b, diagL_at_2 c i arg2 harg2 arg3 harg3 arg4 harg4 arg5 harg5 arg6 harg6 arg7 harg7 arg8 harg8 hc1 x0 x1 x2 b, diagL_at_3 c i arg2 harg2 arg3 harg3 arg4 harg4 arg5 harg5 arg6 harg6 arg7 harg7 arg8 harg8 hc1 x0 x1 x2 b, diagL_at_4 c i arg2 harg2 arg3 harg3 arg4 harg4 arg5 harg5 arg6 harg6 arg7 harg7 arg8 harg8 hc1 x0 x1 x2 b, diagL_at_5 c i arg2 harg2 arg3 harg3 arg4 harg4 arg5 harg5 arg6 harg6 arg7 harg7 arg8 harg8 hc1 x0 x1 x2 b]

/-- Head 0's total after the strip. -/
theorem diagL_new_0  (b : Fin 256) : (arg8.view.read (Elt Ideal) (arg8.view.writes (Elt Ideal) arg8.view.junk (kernelRun0_C.sl.HS2_7 (F := Ideal) c i arg2 harg2 arg3 harg3 arg7 arg8 hc1 x0 x1))) (ix3 0 0 b) = newL2 (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagL c i arg2 harg2 arg3 harg3 arg4 harg4 arg5 harg5 arg6 harg6 arg7 harg7 arg8 harg8 hc1 x0 x1 x2 0) (ix3 0 0 b) := by
  rw [diagS_0, diagM_0, diagL_0]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 0 b).trans ?_
  simp only [Matrix.cons_val]
  rfl

/-- Head 1's total after the strip. -/
theorem diagL_new_1  (b : Fin 256) : (arg8.view.read (Elt Ideal) (arg8.view.writes (Elt Ideal) arg8.view.junk (kernelRun0_C.sl.HS2_7 (F := Ideal) c i arg2 harg2 arg3 harg3 arg7 arg8 hc1 x0 x1))) (ix3 1 0 b) = newL2 (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagL c i arg2 harg2 arg3 harg3 arg4 harg4 arg5 harg5 arg6 harg6 arg7 harg7 arg8 harg8 hc1 x0 x1 x2 1) (ix3 0 0 b) := by
  rw [diagS_1, diagM_1, diagL_1]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 1 b).trans ?_
  simp only [Matrix.cons_val]
  rfl

/-- Head 2's total after the strip. -/
theorem diagL_new_2  (b : Fin 256) : (arg8.view.read (Elt Ideal) (arg8.view.writes (Elt Ideal) arg8.view.junk (kernelRun0_C.sl.HS2_7 (F := Ideal) c i arg2 harg2 arg3 harg3 arg7 arg8 hc1 x0 x1))) (ix3 2 0 b) = newL2 (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagL c i arg2 harg2 arg3 harg3 arg4 harg4 arg5 harg5 arg6 harg6 arg7 harg7 arg8 harg8 hc1 x0 x1 x2 2) (ix3 0 0 b) := by
  rw [diagS_2, diagM_2, diagL_2]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 2 b).trans ?_
  simp only [Matrix.cons_val]
  rfl

/-- Head 3's total after the strip. -/
theorem diagL_new_3  (b : Fin 256) : (arg8.view.read (Elt Ideal) (arg8.view.writes (Elt Ideal) arg8.view.junk (kernelRun0_C.sl.HS2_7 (F := Ideal) c i arg2 harg2 arg3 harg3 arg7 arg8 hc1 x0 x1))) (ix3 3 0 b) = newL2 (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagL c i arg2 harg2 arg3 harg3 arg4 harg4 arg5 harg5 arg6 harg6 arg7 harg7 arg8 harg8 hc1 x0 x1 x2 3) (ix3 0 0 b) := by
  rw [diagS_3, diagM_3, diagL_3]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 3 b).trans ?_
  simp only [Matrix.cons_val]
  rfl

/-- Head 4's total after the strip. -/
theorem diagL_new_4  (b : Fin 256) : (arg8.view.read (Elt Ideal) (arg8.view.writes (Elt Ideal) arg8.view.junk (kernelRun0_C.sl.HS2_7 (F := Ideal) c i arg2 harg2 arg3 harg3 arg7 arg8 hc1 x0 x1))) (ix3 4 0 b) = newL2 (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagL c i arg2 harg2 arg3 harg3 arg4 harg4 arg5 harg5 arg6 harg6 arg7 harg7 arg8 harg8 hc1 x0 x1 x2 4) (ix3 0 0 b) := by
  rw [diagS_4, diagM_4, diagL_4]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 4 b).trans ?_
  simp only [Matrix.cons_val]
  rfl

/-- Head 5's total after the strip. -/
theorem diagL_new_5  (b : Fin 256) : (arg8.view.read (Elt Ideal) (arg8.view.writes (Elt Ideal) arg8.view.junk (kernelRun0_C.sl.HS2_7 (F := Ideal) c i arg2 harg2 arg3 harg3 arg7 arg8 hc1 x0 x1))) (ix3 5 0 b) = newL2 (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagL c i arg2 harg2 arg3 harg3 arg4 harg4 arg5 harg5 arg6 harg6 arg7 harg7 arg8 harg8 hc1 x0 x1 x2 5) (ix3 0 0 b) := by
  rw [diagS_5, diagM_5, diagL_5]
  unfold kernelRun0_C.sl.HS2_7
  unfold kernelRun0_C.sl.HS2_6
  unfold kernelRun0_C.sl.HS2_5
  unfold kernelRun0_C.sl.HS2_4
  unfold kernelRun0_C.sl.HS2_3
  unfold kernelRun0_C.sl.HS2_2
  refine (read_rows3 arg8.view _ _ _ _ _ _ _ _ _ _ _ _ _ _ 5 b).trans ?_
  simp only [Matrix.cons_val]
  rfl

/-- The totals after the strip. -/
theorem diagL_new  (hd : Fin 6) (b : Fin 256) : (arg8.view.read (Elt Ideal) (arg8.view.writes (Elt Ideal) arg8.view.junk (kernelRun0_C.sl.HS2_7 (F := Ideal) c i arg2 harg2 arg3 harg3 arg7 arg8 hc1 x0 x1))) (ix3 hd 0 b) = newL2 (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagL c i arg2 harg2 arg3 harg3 arg4 harg4 arg5 harg5 arg6 harg6 arg7 harg7 arg8 harg8 hc1 x0 x1 x2 hd) (ix3 0 0 b) := by
  fin_cases hd
  exacts [diagL_new_0 c i arg2 harg2 arg3 harg3 arg4 harg4 arg5 harg5 arg6 harg6 arg7 harg7 arg8 harg8 hc1 x0 x1 x2 b, diagL_new_1 c i arg2 harg2 arg3 harg3 arg4 harg4 arg5 harg5 arg6 harg6 arg7 harg7 arg8 harg8 hc1 x0 x1 x2 b, diagL_new_2 c i arg2 harg2 arg3 harg3 arg4 harg4 arg5 harg5 arg6 harg6 arg7 harg7 arg8 harg8 hc1 x0 x1 x2 b, diagL_new_3 c i arg2 harg2 arg3 harg3 arg4 harg4 arg5 harg5 arg6 harg6 arg7 harg7 arg8 harg8 hc1 x0 x1 x2 b, diagL_new_4 c i arg2 harg2 arg3 harg3 arg4 harg4 arg5 harg5 arg6 harg6 arg7 harg7 arg8 harg8 hc1 x0 x1 x2 b, diagL_new_5 c i arg2 harg2 arg3 harg3 arg4 harg4 arg5 harg5 arg6 harg6 arg7 harg7 arg8 harg8 hc1 x0 x1 x2 b]

/-- Head 0's weighted sum loaded is the one before the strip. -/
theorem diagA_at_0  (r : Fin 64) (b : Fin 256) : diagA c i arg2 harg2 arg3 harg3 arg4 harg4 arg5 harg5 arg6 harg6 arg7 harg7 arg8 harg8 hc1 x0 x1 x2 0 (ix2 r b) = (arg6.view.read (Elt Ideal) (arg6.view.writes (Elt Ideal) arg6.view.junk (kernelRun0_C.sl.HS0_1 (F := Ideal) ))) (ix2 (row 0 r) b) := by
  rw [diagA_0]
  unfold kernelRun0_C.sl.v294 View.readCov
  refine (load_row2 arg6 _ _ 0 r b rfl).trans ?_
  rfl

/-- Head 1's weighted sum loaded is the one before the strip. -/
theorem diagA_at_1  (r : Fin 64) (b : Fin 256) : diagA c i arg2 harg2 arg3 harg3 arg4 harg4 arg5 harg5 arg6 harg6 arg7 harg7 arg8 harg8 hc1 x0 x1 x2 1 (ix2 r b) = (arg6.view.read (Elt Ideal) (arg6.view.writes (Elt Ideal) arg6.view.junk (kernelRun0_C.sl.HS0_1 (F := Ideal) ))) (ix2 (row 1 r) b) := by
  rw [diagA_1]
  unfold kernelRun0_C.sl.v303 View.readCov
  refine (load_row2 arg6 _ _ 1 r b rfl).trans ?_
  unfold kernelRun0_C.sl.HS0_2
  refine (skip2 _ _ _ _ _ 1 0 rfl (by decide) r b).trans ?_
  rfl

/-- Head 2's weighted sum loaded is the one before the strip. -/
theorem diagA_at_2  (r : Fin 64) (b : Fin 256) : diagA c i arg2 harg2 arg3 harg3 arg4 harg4 arg5 harg5 arg6 harg6 arg7 harg7 arg8 harg8 hc1 x0 x1 x2 2 (ix2 r b) = (arg6.view.read (Elt Ideal) (arg6.view.writes (Elt Ideal) arg6.view.junk (kernelRun0_C.sl.HS0_1 (F := Ideal) ))) (ix2 (row 2 r) b) := by
  rw [diagA_2]
  unfold kernelRun0_C.sl.v312 View.readCov
  refine (load_row2 arg6 _ _ 2 r b rfl).trans ?_
  unfold kernelRun0_C.sl.HS0_3
  refine (skip2 _ _ _ _ _ 2 1 rfl (by decide) r b).trans ?_
  unfold kernelRun0_C.sl.HS0_2
  refine (skip2 _ _ _ _ _ 2 0 rfl (by decide) r b).trans ?_
  rfl

/-- Head 3's weighted sum loaded is the one before the strip. -/
theorem diagA_at_3  (r : Fin 64) (b : Fin 256) : diagA c i arg2 harg2 arg3 harg3 arg4 harg4 arg5 harg5 arg6 harg6 arg7 harg7 arg8 harg8 hc1 x0 x1 x2 3 (ix2 r b) = (arg6.view.read (Elt Ideal) (arg6.view.writes (Elt Ideal) arg6.view.junk (kernelRun0_C.sl.HS0_1 (F := Ideal) ))) (ix2 (row 3 r) b) := by
  rw [diagA_3]
  unfold kernelRun0_C.sl.v321 View.readCov
  refine (load_row2 arg6 _ _ 3 r b rfl).trans ?_
  unfold kernelRun0_C.sl.HS0_4
  refine (skip2 _ _ _ _ _ 3 2 rfl (by decide) r b).trans ?_
  unfold kernelRun0_C.sl.HS0_3
  refine (skip2 _ _ _ _ _ 3 1 rfl (by decide) r b).trans ?_
  unfold kernelRun0_C.sl.HS0_2
  refine (skip2 _ _ _ _ _ 3 0 rfl (by decide) r b).trans ?_
  rfl

/-- Head 4's weighted sum loaded is the one before the strip. -/
theorem diagA_at_4  (r : Fin 64) (b : Fin 256) : diagA c i arg2 harg2 arg3 harg3 arg4 harg4 arg5 harg5 arg6 harg6 arg7 harg7 arg8 harg8 hc1 x0 x1 x2 4 (ix2 r b) = (arg6.view.read (Elt Ideal) (arg6.view.writes (Elt Ideal) arg6.view.junk (kernelRun0_C.sl.HS0_1 (F := Ideal) ))) (ix2 (row 4 r) b) := by
  rw [diagA_4]
  unfold kernelRun0_C.sl.v330 View.readCov
  refine (load_row2 arg6 _ _ 4 r b rfl).trans ?_
  unfold kernelRun0_C.sl.HS0_5
  refine (skip2 _ _ _ _ _ 4 3 rfl (by decide) r b).trans ?_
  unfold kernelRun0_C.sl.HS0_4
  refine (skip2 _ _ _ _ _ 4 2 rfl (by decide) r b).trans ?_
  unfold kernelRun0_C.sl.HS0_3
  refine (skip2 _ _ _ _ _ 4 1 rfl (by decide) r b).trans ?_
  unfold kernelRun0_C.sl.HS0_2
  refine (skip2 _ _ _ _ _ 4 0 rfl (by decide) r b).trans ?_
  rfl

/-- Head 5's weighted sum loaded is the one before the strip. -/
theorem diagA_at_5  (r : Fin 64) (b : Fin 256) : diagA c i arg2 harg2 arg3 harg3 arg4 harg4 arg5 harg5 arg6 harg6 arg7 harg7 arg8 harg8 hc1 x0 x1 x2 5 (ix2 r b) = (arg6.view.read (Elt Ideal) (arg6.view.writes (Elt Ideal) arg6.view.junk (kernelRun0_C.sl.HS0_1 (F := Ideal) ))) (ix2 (row 5 r) b) := by
  rw [diagA_5]
  unfold kernelRun0_C.sl.v339 View.readCov
  refine (load_row2 arg6 _ _ 5 r b rfl).trans ?_
  unfold kernelRun0_C.sl.HS0_6
  refine (skip2 _ _ _ _ _ 5 4 rfl (by decide) r b).trans ?_
  unfold kernelRun0_C.sl.HS0_5
  refine (skip2 _ _ _ _ _ 5 3 rfl (by decide) r b).trans ?_
  unfold kernelRun0_C.sl.HS0_4
  refine (skip2 _ _ _ _ _ 5 2 rfl (by decide) r b).trans ?_
  unfold kernelRun0_C.sl.HS0_3
  refine (skip2 _ _ _ _ _ 5 1 rfl (by decide) r b).trans ?_
  unfold kernelRun0_C.sl.HS0_2
  refine (skip2 _ _ _ _ _ 5 0 rfl (by decide) r b).trans ?_
  rfl

/-- The weighted sums loaded are those before the strip. -/
theorem diagA_at  (hd : Fin 6) (r : Fin 64) (b : Fin 256) : diagA c i arg2 harg2 arg3 harg3 arg4 harg4 arg5 harg5 arg6 harg6 arg7 harg7 arg8 harg8 hc1 x0 x1 x2 hd (ix2 r b) = (arg6.view.read (Elt Ideal) (arg6.view.writes (Elt Ideal) arg6.view.junk (kernelRun0_C.sl.HS0_1 (F := Ideal) ))) (ix2 (row hd r) b) := by
  fin_cases hd
  exacts [diagA_at_0 c i arg2 harg2 arg3 harg3 arg4 harg4 arg5 harg5 arg6 harg6 arg7 harg7 arg8 harg8 hc1 x0 x1 x2 r b, diagA_at_1 c i arg2 harg2 arg3 harg3 arg4 harg4 arg5 harg5 arg6 harg6 arg7 harg7 arg8 harg8 hc1 x0 x1 x2 r b, diagA_at_2 c i arg2 harg2 arg3 harg3 arg4 harg4 arg5 harg5 arg6 harg6 arg7 harg7 arg8 harg8 hc1 x0 x1 x2 r b, diagA_at_3 c i arg2 harg2 arg3 harg3 arg4 harg4 arg5 harg5 arg6 harg6 arg7 harg7 arg8 harg8 hc1 x0 x1 x2 r b, diagA_at_4 c i arg2 harg2 arg3 harg3 arg4 harg4 arg5 harg5 arg6 harg6 arg7 harg7 arg8 harg8 hc1 x0 x1 x2 r b, diagA_at_5 c i arg2 harg2 arg3 harg3 arg4 harg4 arg5 harg5 arg6 harg6 arg7 harg7 arg8 harg8 hc1 x0 x1 x2 r b]

/-- Head 0's weighted sum after the strip. -/
theorem diagA_new_0  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 0 r) b) = newA2 (diagV c i arg2 harg2 arg3 harg3 arg4 harg4 arg5 harg5 arg6 harg6 arg7 harg7 arg8 harg8 hc1 x0 x1 x2 0) (diagS c i arg2 harg2 arg3 harg3 arg4 harg4 arg5 harg5 arg6 harg6 arg7 harg7 arg8 harg8 hc1 x0 x1 x2 0) (diagM c i arg2 harg2 arg3 harg3 arg4 harg4 arg5 harg5 arg6 harg6 arg7 harg7 arg8 harg8 hc1 x0 x1 x2 0) (diagA c i arg2 harg2 arg3 harg3 arg4 harg4 arg5 harg5 arg6 harg6 arg7 harg7 arg8 harg8 hc1 x0 x1 x2 0) (ix2 r b) := by
  rw [diagV_0, diagS_0, diagM_0, diagA_0]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 0 r b).trans ?_
  simp only [Matrix.cons_val]
  rfl

/-- Head 1's weighted sum after the strip. -/
theorem diagA_new_1  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 1 r) b) = newA2 (diagV c i arg2 harg2 arg3 harg3 arg4 harg4 arg5 harg5 arg6 harg6 arg7 harg7 arg8 harg8 hc1 x0 x1 x2 1) (diagS c i arg2 harg2 arg3 harg3 arg4 harg4 arg5 harg5 arg6 harg6 arg7 harg7 arg8 harg8 hc1 x0 x1 x2 1) (diagM c i arg2 harg2 arg3 harg3 arg4 harg4 arg5 harg5 arg6 harg6 arg7 harg7 arg8 harg8 hc1 x0 x1 x2 1) (diagA c i arg2 harg2 arg3 harg3 arg4 harg4 arg5 harg5 arg6 harg6 arg7 harg7 arg8 harg8 hc1 x0 x1 x2 1) (ix2 r b) := by
  rw [diagV_1, diagS_1, diagM_1, diagA_1]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 1 r b).trans ?_
  simp only [Matrix.cons_val]
  rfl

/-- Head 2's weighted sum after the strip. -/
theorem diagA_new_2  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 2 r) b) = newA2 (diagV c i arg2 harg2 arg3 harg3 arg4 harg4 arg5 harg5 arg6 harg6 arg7 harg7 arg8 harg8 hc1 x0 x1 x2 2) (diagS c i arg2 harg2 arg3 harg3 arg4 harg4 arg5 harg5 arg6 harg6 arg7 harg7 arg8 harg8 hc1 x0 x1 x2 2) (diagM c i arg2 harg2 arg3 harg3 arg4 harg4 arg5 harg5 arg6 harg6 arg7 harg7 arg8 harg8 hc1 x0 x1 x2 2) (diagA c i arg2 harg2 arg3 harg3 arg4 harg4 arg5 harg5 arg6 harg6 arg7 harg7 arg8 harg8 hc1 x0 x1 x2 2) (ix2 r b) := by
  rw [diagV_2, diagS_2, diagM_2, diagA_2]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 2 r b).trans ?_
  simp only [Matrix.cons_val]
  rfl

/-- Head 3's weighted sum after the strip. -/
theorem diagA_new_3  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 3 r) b) = newA2 (diagV c i arg2 harg2 arg3 harg3 arg4 harg4 arg5 harg5 arg6 harg6 arg7 harg7 arg8 harg8 hc1 x0 x1 x2 3) (diagS c i arg2 harg2 arg3 harg3 arg4 harg4 arg5 harg5 arg6 harg6 arg7 harg7 arg8 harg8 hc1 x0 x1 x2 3) (diagM c i arg2 harg2 arg3 harg3 arg4 harg4 arg5 harg5 arg6 harg6 arg7 harg7 arg8 harg8 hc1 x0 x1 x2 3) (diagA c i arg2 harg2 arg3 harg3 arg4 harg4 arg5 harg5 arg6 harg6 arg7 harg7 arg8 harg8 hc1 x0 x1 x2 3) (ix2 r b) := by
  rw [diagV_3, diagS_3, diagM_3, diagA_3]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 3 r b).trans ?_
  simp only [Matrix.cons_val]
  rfl

/-- Head 4's weighted sum after the strip. -/
theorem diagA_new_4  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 4 r) b) = newA2 (diagV c i arg2 harg2 arg3 harg3 arg4 harg4 arg5 harg5 arg6 harg6 arg7 harg7 arg8 harg8 hc1 x0 x1 x2 4) (diagS c i arg2 harg2 arg3 harg3 arg4 harg4 arg5 harg5 arg6 harg6 arg7 harg7 arg8 harg8 hc1 x0 x1 x2 4) (diagM c i arg2 harg2 arg3 harg3 arg4 harg4 arg5 harg5 arg6 harg6 arg7 harg7 arg8 harg8 hc1 x0 x1 x2 4) (diagA c i arg2 harg2 arg3 harg3 arg4 harg4 arg5 harg5 arg6 harg6 arg7 harg7 arg8 harg8 hc1 x0 x1 x2 4) (ix2 r b) := by
  rw [diagV_4, diagS_4, diagM_4, diagA_4]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 4 r b).trans ?_
  simp only [Matrix.cons_val]
  rfl

/-- Head 5's weighted sum after the strip. -/
theorem diagA_new_5  (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row 5 r) b) = newA2 (diagV c i arg2 harg2 arg3 harg3 arg4 harg4 arg5 harg5 arg6 harg6 arg7 harg7 arg8 harg8 hc1 x0 x1 x2 5) (diagS c i arg2 harg2 arg3 harg3 arg4 harg4 arg5 harg5 arg6 harg6 arg7 harg7 arg8 harg8 hc1 x0 x1 x2 5) (diagM c i arg2 harg2 arg3 harg3 arg4 harg4 arg5 harg5 arg6 harg6 arg7 harg7 arg8 harg8 hc1 x0 x1 x2 5) (diagA c i arg2 harg2 arg3 harg3 arg4 harg4 arg5 harg5 arg6 harg6 arg7 harg7 arg8 harg8 hc1 x0 x1 x2 5) (ix2 r b) := by
  rw [diagV_5, diagS_5, diagM_5, diagA_5]
  unfold kernelRun0_C.sl.HS0_7
  unfold kernelRun0_C.sl.HS0_6
  unfold kernelRun0_C.sl.HS0_5
  unfold kernelRun0_C.sl.HS0_4
  unfold kernelRun0_C.sl.HS0_3
  unfold kernelRun0_C.sl.HS0_2
  refine (read_rows2 arg6.view _ _ _ _ _ _ _ _ _ _ _ _ _ _ 5 r b).trans ?_
  simp only [Matrix.cons_val]
  rfl

/-- The weighted sums after the strip. -/
theorem diagA_new  (hd : Fin 6) (r : Fin 64) (b : Fin 256) : (arg6.view.read (Elt Ideal) (arg6.view.writes (Elt Ideal) arg6.view.junk (kernelRun0_C.sl.HS0_7 (F := Ideal) c i arg2 harg2 arg3 harg3 arg4 harg4 arg6 arg7 hc1 x0 x1 x2))) (ix2 (row hd r) b) = newA2 (diagV c i arg2 harg2 arg3 harg3 arg4 harg4 arg5 harg5 arg6 harg6 arg7 harg7 arg8 harg8 hc1 x0 x1 x2 hd) (diagS c i arg2 harg2 arg3 harg3 arg4 harg4 arg5 harg5 arg6 harg6 arg7 harg7 arg8 harg8 hc1 x0 x1 x2 hd) (diagM c i arg2 harg2 arg3 harg3 arg4 harg4 arg5 harg5 arg6 harg6 arg7 harg7 arg8 harg8 hc1 x0 x1 x2 hd) (diagA c i arg2 harg2 arg3 harg3 arg4 harg4 arg5 harg5 arg6 harg6 arg7 harg7 arg8 harg8 hc1 x0 x1 x2 hd) (ix2 r b) := by
  fin_cases hd
  exacts [diagA_new_0 c i arg2 harg2 arg3 harg3 arg4 harg4 arg5 harg5 arg6 harg6 arg7 harg7 arg8 harg8 hc1 x0 x1 x2 r b, diagA_new_1 c i arg2 harg2 arg3 harg3 arg4 harg4 arg5 harg5 arg6 harg6 arg7 harg7 arg8 harg8 hc1 x0 x1 x2 r b, diagA_new_2 c i arg2 harg2 arg3 harg3 arg4 harg4 arg5 harg5 arg6 harg6 arg7 harg7 arg8 harg8 hc1 x0 x1 x2 r b, diagA_new_3 c i arg2 harg2 arg3 harg3 arg4 harg4 arg5 harg5 arg6 harg6 arg7 harg7 arg8 harg8 hc1 x0 x1 x2 r b, diagA_new_4 c i arg2 harg2 arg3 harg3 arg4 harg4 arg5 harg5 arg6 harg6 arg7 harg7 arg8 harg8 hc1 x0 x1 x2 r b, diagA_new_5 c i arg2 harg2 arg3 harg3 arg4 harg4 arg5 harg5 arg6 harg6 arg7 harg7 arg8 harg8 hc1 x0 x1 x2 r b]

/-- The strip with the causal mask: the state over the last 512 keys the tile sees. -/
theorem diag_held (hraw : ∀ hd c k, raw x0 x1 hd c k ≠ ⊤) (hq : 2 ≤ (i 1).val) :
    Held (sc x0 x1 (i 1).val) (val x2) (keys (256 * ((i 1).val - 1)) 512) (arg6.view.read (Elt Ideal) (arg6.view.writes (Elt Ideal) arg6.view.junk (kernelRun0_C.sl.HS0_7 (F := Ideal) c i arg2 harg2 arg3 harg3 arg4 harg4 arg6 arg7 hc1 x0 x1 x2))) (arg7.view.read (Elt Ideal) (arg7.view.writes (Elt Ideal) arg7.view.junk (kernelRun0_C.sl.HS1_7 (F := Ideal) c i arg2 harg2 arg3 harg3 arg7 hc1 x0 x1))) (arg8.view.read (Elt Ideal) (arg8.view.writes (Elt Ideal) arg8.view.junk (kernelRun0_C.sl.HS2_7 (F := Ideal) c i arg2 harg2 arg3 harg3 arg7 arg8 hc1 x0 x1))) := by
  have hi : (i 1).val < 8 := (i 1).isLt
  have hst : (256 * ((i 1).val - 1)) + 512 ≤ 2048 := by omega
  have ho := diag_offs i (by omega)
  have h0 : Held (sc x0 x1 (i 1).val) (val x2) ∅ (arg6.view.read (Elt Ideal) (arg6.view.writes (Elt Ideal) arg6.view.junk (kernelRun0_C.sl.HS0_1 (F := Ideal) ))) (arg7.view.read (Elt Ideal) (arg7.view.writes (Elt Ideal) arg7.view.junk (kernelRun0_C.sl.HS1_1 (F := Ideal) ))) (arg8.view.read (Elt Ideal) (arg8.view.writes (Elt Ideal) arg8.view.junk (kernelRun0_C.sl.HS2_1 (F := Ideal) ))) :=
    Held.empty _ _ _ _ _ (fun hd b => (fill3 _ _ _ _ hd b).trans (neg_at hd b)) (fun hd b => (fill3 _ _ _ _ hd b).trans (zero3_at hd b)) (fun r b => (fill2 _ _ _ _ r b).trans (zero2_at r b))
  have h := Held.step2 (sc_ne_top hraw _) h0 (256 * ((i 1).val - 1)) hst (Finset.disjoint_empty_left _)
    (diagS c i arg2 harg2 arg3 harg3 arg4 harg4 arg5 harg5 arg6 harg6 arg7 harg7 arg8 harg8 hc1 x0 x1 x2) (diagV c i arg2 harg2 arg3 harg3 arg4 harg4 arg5 harg5 arg6 harg6 arg7 harg7 arg8 harg8 hc1 x0 x1 x2) (diagM c i arg2 harg2 arg3 harg3 arg4 harg4 arg5 harg5 arg6 harg6 arg7 harg7 arg8 harg8 hc1 x0 x1 x2) (diagL c i arg2 harg2 arg3 harg3 arg4 harg4 arg5 harg5 arg6 harg6 arg7 harg7 arg8 harg8 hc1 x0 x1 x2) (diagA c i arg2 harg2 arg3 harg3 arg4 harg4 arg5 harg5 arg6 harg6 arg7 harg7 arg8 harg8 hc1 x0 x1 x2) ?_ ?_ (diagM_at c i arg2 harg2 arg3 harg3 arg4 harg4 arg5 harg5 arg6 harg6 arg7 harg7 arg8 harg8 hc1 x0 x1 x2) (diagL_at c i arg2 harg2 arg3 harg3 arg4 harg4 arg5 harg5 arg6 harg6 arg7 harg7 arg8 harg8 hc1 x0 x1 x2) (diagA_at c i arg2 harg2 arg3 harg3 arg4 harg4 arg5 harg5 arg6 harg6 arg7 harg7 arg8 harg8 hc1 x0 x1 x2) (diagM_new c i arg2 harg2 arg3 harg3 arg4 harg4 arg5 harg5 arg6 harg6 arg7 harg7 arg8 harg8 hc1 x0 x1 x2) (diagL_new c i arg2 harg2 arg3 harg3 arg4 harg4 arg5 harg5 arg6 harg6 arg7 harg7 arg8 harg8 hc1 x0 x1 x2) (diagA_new c i arg2 harg2 arg3 harg3 arg4 harg4 arg5 harg5 arg6 harg6 arg7 harg7 arg8 harg8 hc1 x0 x1 x2)
  · rw [Finset.empty_union] at h
    exact h
  · intro hd b a
    have e : (sc x0 x1 (i 1).val hd b ⟨(256 * ((i 1).val - 1)) + a.val, by omega⟩ : EReal) = if a.val ≤ b.val + 256 then raw x0 x1 hd b ⟨(256 * ((i 1).val - 1)) + a.val, by omega⟩ else ⊥ :=
      if_congr (show (256 * ((i 1).val - 1)) + a.val ≤ 256 * (i 1).val + b.val ↔ a.val ≤ b.val + 256 by omega) rfl rfl
    rw [e]
    fin_cases hd
    · obtain ⟨inb, inbq, e'⟩ := diagS_load_0 c i arg2 harg2 arg3 harg3 arg4 harg4 arg5 harg5 arg6 harg6 arg7 harg7 arg8 harg8 hc1 x0 x1 x2
      refine (congrFun ((diagS_0 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 0 hst inb ho.2.2.1 inbq rfl a b) rfl)
    · obtain ⟨inb, inbq, e'⟩ := diagS_load_1 c i arg2 harg2 arg3 harg3 arg4 harg4 arg5 harg5 arg6 harg6 arg7 harg7 arg8 harg8 hc1 x0 x1 x2
      refine (congrFun ((diagS_1 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 1 hst inb ho.2.2.2.1 inbq rfl a b) rfl)
    · obtain ⟨inb, inbq, e'⟩ := diagS_load_2 c i arg2 harg2 arg3 harg3 arg4 harg4 arg5 harg5 arg6 harg6 arg7 harg7 arg8 harg8 hc1 x0 x1 x2
      refine (congrFun ((diagS_2 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 2 hst inb ho.2.2.2.2.1 inbq rfl a b) rfl)
    · obtain ⟨inb, inbq, e'⟩ := diagS_load_3 c i arg2 harg2 arg3 harg3 arg4 harg4 arg5 harg5 arg6 harg6 arg7 harg7 arg8 harg8 hc1 x0 x1 x2
      refine (congrFun ((diagS_3 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 3 hst inb ho.2.2.2.2.2.1 inbq rfl a b) rfl)
    · obtain ⟨inb, inbq, e'⟩ := diagS_load_4 c i arg2 harg2 arg3 harg3 arg4 harg4 arg5 harg5 arg6 harg6 arg7 harg7 arg8 harg8 hc1 x0 x1 x2
      refine (congrFun ((diagS_4 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 4 hst inb ho.2.2.2.2.2.2.1 inbq rfl a b) rfl)
    · obtain ⟨inb, inbq, e'⟩ := diagS_load_5 c i arg2 harg2 arg3 harg3 arg4 harg4 arg5 harg5 arg6 harg6 arg7 harg7 arg8 harg8 hc1 x0 x1 x2
      refine (congrFun ((diagS_5 c i arg2 harg2 arg3 harg3 arg4 harg4 arg5 harg5 arg6 harg6 arg7 harg7 arg8 harg8 hc1 x0 x1 x2).trans e') _).trans ?_
      exact (mask2_at _ a b).trans (if_congr Iff.rfl (strip_score2 arg2 harg2 x0 arg3 harg3 x1 5 hst inb ho.2.2.2.2.2.2.2 inbq rfl a b) rfl)
  · intro hd r a
    obtain ⟨inb, inb', e'⟩ := diagV_load c i arg2 harg2 arg3 harg3 arg4 harg4 arg5 harg5 arg6 harg6 arg7 harg7 arg8 harg8 hc1 x0 x1 x2
    fin_cases hd
    · refine (congrFun (diagV_0 c i arg2 harg2 arg3 harg3 arg4 harg4 arg5 harg5 arg6 harg6 arg7 harg7 arg8 harg8 hc1 x0 x1 x2) _).trans ?_
      rw [e']
      exact (slice2 _ _ slices_S384x512_o0_0_S64x512 0 rfl r a).trans (strip_val2 arg4 harg4 x2 ((i 1).val - 1) (by omega) inb ho.1 inb' (ho.2.1.trans (by rw [show (i 1).val - 1 + 1 = (i 1).val by omega])) _ a)
    · refine (congrFun (diagV_1 c i arg2 harg2 arg3 harg3 arg4 harg4 arg5 harg5 arg6 harg6 arg7 harg7 arg8 harg8 hc1 x0 x1 x2) _).trans ?_
      rw [e']
      exact (slice2 _ _ slices_S384x512_o64_0_S64x512 1 rfl r a).trans (strip_val2 arg4 harg4 x2 ((i 1).val - 1) (by omega) inb ho.1 inb' (ho.2.1.trans (by rw [show (i 1).val - 1 + 1 = (i 1).val by omega])) _ a)
    · refine (congrFun (diagV_2 c i arg2 harg2 arg3 harg3 arg4 harg4 arg5 harg5 arg6 harg6 arg7 harg7 arg8 harg8 hc1 x0 x1 x2) _).trans ?_
      rw [e']
      exact (slice2 _ _ slices_S384x512_o128_0_S64x512 2 rfl r a).trans (strip_val2 arg4 harg4 x2 ((i 1).val - 1) (by omega) inb ho.1 inb' (ho.2.1.trans (by rw [show (i 1).val - 1 + 1 = (i 1).val by omega])) _ a)
    · refine (congrFun (diagV_3 c i arg2 harg2 arg3 harg3 arg4 harg4 arg5 harg5 arg6 harg6 arg7 harg7 arg8 harg8 hc1 x0 x1 x2) _).trans ?_
      rw [e']
      exact (slice2 _ _ slices_S384x512_o192_0_S64x512 3 rfl r a).trans (strip_val2 arg4 harg4 x2 ((i 1).val - 1) (by omega) inb ho.1 inb' (ho.2.1.trans (by rw [show (i 1).val - 1 + 1 = (i 1).val by omega])) _ a)
    · refine (congrFun (diagV_4 c i arg2 harg2 arg3 harg3 arg4 harg4 arg5 harg5 arg6 harg6 arg7 harg7 arg8 harg8 hc1 x0 x1 x2) _).trans ?_
      rw [e']
      exact (slice2 _ _ slices_S384x512_o256_0_S64x512 4 rfl r a).trans (strip_val2 arg4 harg4 x2 ((i 1).val - 1) (by omega) inb ho.1 inb' (ho.2.1.trans (by rw [show (i 1).val - 1 + 1 = (i 1).val by omega])) _ a)
    · refine (congrFun (diagV_5 c i arg2 harg2 arg3 harg3 arg4 harg4 arg5 harg5 arg6 harg6 arg7 harg7 arg8 harg8 hc1 x0 x1 x2) _).trans ?_
      rw [e']
      exact (slice2 _ _ slices_S384x512_o320_0_S64x512 5 rfl r a).trans (strip_val2 arg4 harg4 x2 ((i 1).val - 1) (by omega) inb ho.1 inb' (ho.2.1.trans (by rw [show (i 1).val - 1 + 1 = (i 1).val by omega])) _ a)

/-- The strip with the mask and the pairs of tiles before it. -/
theorem pairs_held (hraw : ∀ hd c k, raw x0 x1 hd c k ≠ ⊤) (hq : 2 ≤ (i 1).val) :
    Held (sc x0 x1 (i 1).val) (val x2) (keys (256 * ((i 1).val - 1)) 512 ∪ keys 0 (512 * (((i 1).val - 1) / 2))) (arg6.view.read (Elt Ideal) (arg6.view.writes (Elt Ideal) arg6.view.junk (after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))
      (arg7.view.read (Elt Ideal) (arg7.view.writes (Elt Ideal) arg7.view.junk (after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))
      (arg8.view.read (Elt Ideal) (arg8.view.writes (Elt Ideal) arg8.view.junk (after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2)) :=
  after_held c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 hraw _ _ _ (keys_disjoint (Or.inr (by omega))) (diag_held c i arg2 harg2 arg3 harg3 arg4 harg4 arg5 harg5 arg6 harg6 arg7 harg7 arg8 harg8 hc1 x0 x1 x2 hraw hq)

end

/-- The six heads' scores of the single tile left over, -/
def lastS (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16) : Fin 6 → FVec Ideal S256x256 .f32 :=
  ![kernelRun0_C.sl.v102_1 (F := Ideal) i arg2 harg2 arg3 harg3 hc2 x0 x1, kernelRun0_C.sl.v108_1 (F := Ideal) i arg2 harg2 arg3 harg3 hc2 x0 x1, kernelRun0_C.sl.v114 (F := Ideal) i arg2 harg2 arg3 harg3 hc2 x0 x1, kernelRun0_C.sl.v120 (F := Ideal) i arg2 harg2 arg3 harg3 hc2 x0 x1, kernelRun0_C.sl.v126 (F := Ideal) i arg2 harg2 arg3 harg3 hc2 x0 x1, kernelRun0_C.sl.v132 (F := Ideal) i arg2 harg2 arg3 harg3 hc2 x0 x1]

/-- their values, -/
def lastV (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16) : Fin 6 → FVec Ideal S64x256 .bf16 :=
  ![extractStridedSlice S64x256 ![0, 0] (kernelRun0_C.sl.v96 (F := Ideal) i arg4 harg4 hc2 x2 : FVec Ideal S384x256 .bf16) slices_S384x256_o0_0_S64x256, extractStridedSlice S64x256 ![64, 0] (kernelRun0_C.sl.v96 (F := Ideal) i arg4 harg4 hc2 x2 : FVec Ideal S384x256 .bf16) slices_S384x256_o64_0_S64x256, extractStridedSlice S64x256 ![128, 0] (kernelRun0_C.sl.v96 (F := Ideal) i arg4 harg4 hc2 x2 : FVec Ideal S384x256 .bf16) slices_S384x256_o128_0_S64x256, extractStridedSlice S64x256 ![192, 0] (kernelRun0_C.sl.v96 (F := Ideal) i arg4 harg4 hc2 x2 : FVec Ideal S384x256 .bf16) slices_S384x256_o192_0_S64x256, extractStridedSlice S64x256 ![256, 0] (kernelRun0_C.sl.v96 (F := Ideal) i arg4 harg4 hc2 x2 : FVec Ideal S384x256 .bf16) slices_S384x256_o256_0_S64x256, extractStridedSlice S64x256 ![320, 0] (kernelRun0_C.sl.v96 (F := Ideal) i arg4 harg4 hc2 x2 : FVec Ideal S384x256 .bf16) slices_S384x256_o320_0_S64x256]

/-- their maxima before it, -/
def lastM (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16) : Fin 6 → FVec Ideal S1x1x256 .f32 :=
  ![kernelRun0_C.sl.v133 (F := Ideal) c i arg2 harg2 arg3 harg3 arg4 harg4 arg5 harg5 arg6 harg6 arg7 harg7 arg8 harg8 hc1 x0 x1 x2, kernelRun0_C.sl.v156_1 (F := Ideal) c i arg2 harg2 arg3 harg3 arg4 harg4 arg5 harg5 arg6 harg6 arg7 harg7 arg8 harg8 hc1 hc2 x0 x1 x2, kernelRun0_C.sl.v179_1 (F := Ideal) c i arg2 harg2 arg3 harg3 arg4 harg4 arg5 harg5 arg6 harg6 arg7 harg7 arg8 harg8 hc1 hc2 x0 x1 x2, kernelRun0_C.sl.v202_1 (F := Ideal) c i arg2 harg2 arg3 harg3 arg4 harg4 arg5 harg5 arg6 harg6 arg7 harg7 arg8 harg8 hc1 hc2 x0 x1 x2, kernelRun0_C.sl.v225_1 (F := Ideal) c i arg2 harg2 arg3 harg3 arg4 harg4 arg5 harg5 arg6 harg6 arg7 harg7 arg8 harg8 hc1 hc2 x0 x1 x2, kernelRun0_C.sl.v248_1 (F := Ideal) c i arg2 harg2 arg3 harg3 arg4 harg4 arg5 harg5 arg6 harg6 arg7 harg7 arg8 harg8 hc1 hc2 x0 x1 x2]

/-- their totals before it, -/
def lastL (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16) : Fin 6 → FVec Ideal S1x1x256 .f32 :=
  ![kernelRun0_C.sl.v143 (F := Ideal) c i arg2 harg2 arg3 harg3 arg4 harg4 arg5 harg5 arg6 harg6 arg7 harg7 arg8 harg8 hc1 x0 x1 x2, kernelRun0_C.sl.v166_1 (F := Ideal) c i arg2 harg2 arg3 harg3 arg4 harg4 arg5 harg5 arg6 harg6 arg7 harg7 arg8 harg8 hc1 hc2 x0 x1 x2, kernelRun0_C.sl.v189_1 (F := Ideal) c i arg2 harg2 arg3 harg3 arg4 harg4 arg5 harg5 arg6 harg6 arg7 harg7 arg8 harg8 hc1 hc2 x0 x1 x2, kernelRun0_C.sl.v212_1 (F := Ideal) c i arg2 harg2 arg3 harg3 arg4 harg4 arg5 harg5 arg6 harg6 arg7 harg7 arg8 harg8 hc1 hc2 x0 x1 x2, kernelRun0_C.sl.v235_1 (F := Ideal) c i arg2 harg2 arg3 harg3 arg4 harg4 arg5 harg5 arg6 harg6 arg7 harg7 arg8 harg8 hc1 hc2 x0 x1 x2, kernelRun0_C.sl.v258_1 (F := Ideal) c i arg2 harg2 arg3 harg3 arg4 harg4 arg5 harg5 arg6 harg6 arg7 harg7 arg8 harg8 hc1 hc2 x0 x1 x2]

/-- and their weighted sums before it. -/
def lastA (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16) : Fin 6 → FVec Ideal S64x256 .f32 :=
  ![kernelRun0_C.sl.v271_1 (F := Ideal) c i arg2 harg2 arg3 harg3 arg4 harg4 arg5 harg5 arg6 harg6 arg7 harg7 arg8 harg8 hc1 x0 x1 x2, kernelRun0_C.sl.v280_1 (F := Ideal) c i arg2 harg2 arg3 harg3 arg4 harg4 arg5 harg5 arg6 harg6 arg7 harg7 arg8 harg8 hc1 hc2 x0 x1 x2, kernelRun0_C.sl.v289_1 (F := Ideal) c i arg2 harg2 arg3 harg3 arg4 harg4 arg5 harg5 arg6 harg6 arg7 harg7 arg8 harg8 hc1 hc2 x0 x1 x2, kernelRun0_C.sl.v298_1 (F := Ideal) c i arg2 harg2 arg3 harg3 arg4 harg4 arg5 harg5 arg6 harg6 arg7 harg7 arg8 harg8 hc1 hc2 x0 x1 x2, kernelRun0_C.sl.v307_1 (F := Ideal) c i arg2 harg2 arg3 harg3 arg4 harg4 arg5 harg5 arg6 harg6 arg7 harg7 arg8 harg8 hc1 hc2 x0 x1 x2, kernelRun0_C.sl.v316_1 (F := Ideal) c i arg2 harg2 arg3 harg3 arg4 harg4 arg5 harg5 arg6 harg6 arg7 harg7 arg8 harg8 hc1 hc2 x0 x1 x2]

section

variable (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc1 : cond0_1 i) (hc2 : cond0_2 i) (x0 : FVec Ideal S1x768x256 .bf16) (x1 : FVec Ideal S1x6x2048x128 .bf16) (x2 : FVec Ideal S1x8x384x256 .bf16)

include c i arg2 harg2 arg3 harg3 arg4 harg4 arg5 harg5 arg6 harg6 arg7 harg7 arg8 harg8 hc1 hc2 x0 x1 x2

theorem lastS_0  : lastS c i arg2 harg2 arg3 harg3 arg4 harg4 arg5 harg5 arg6 harg6 arg7 harg7 arg8 harg8 hc1 hc2 x0 x1 x2 0 = kernelRun0_C.sl.v102_1 (F := Ideal) i arg2 harg2 arg3 harg3 hc2 x0 x1 := by
  simp only [lastS, Matrix.cons_val]

theorem lastS_1  : lastS c i arg2 harg2 arg3 harg3 arg4 harg4 arg5 harg5 arg6 harg6 arg7 harg7 arg8 harg8 hc1 hc2 x0 x1 x2 1 = kernelRun0_C.sl.v108_1 (F := Ideal) i arg2 harg2 arg3 harg3 hc2 x0 x1 := by
  simp only [lastS, Matrix.cons_val]

theorem lastS_2  : lastS c i arg2 harg2 arg3 harg3 arg4 harg4 arg5 harg5 arg6 harg6 arg7 harg7 arg8 harg8 hc1 hc2 x0 x1 x2 2 = kernelRun0_C.sl.v114 (F := Ideal) i arg2 harg2 arg3 harg3 hc2 x0 x1 := by
  simp only [lastS, Matrix.cons_val]

theorem lastS_3  : lastS c i arg2 harg2 arg3 harg3 arg4 harg4 arg5 harg5 arg6 harg6 arg7 harg7 arg8 harg8 hc1 hc2 x0 x1 x2 3 = kernelRun0_C.sl.v120 (F := Ideal) i arg2 harg2 arg3 harg3 hc2 x0 x1 := by
  simp only [lastS, Matrix.cons_val]

theorem lastS_4  : lastS c i arg2 harg2 arg3 harg3 arg4 harg4 arg5 harg5 arg6 harg6 arg7 harg7 arg8 harg8 hc1 hc2 x0 x1 x2 4 = kernelRun0_C.sl.v126 (F := Ideal) i arg2 harg2 arg3 harg3 hc2 x0 x1 := by
  simp only [lastS, Matrix.cons_val]

theorem lastS_5  : lastS c i arg2 harg2 arg3 harg3 arg4 harg4 arg5 harg5 arg6 harg6 arg7 harg7 arg8 harg8 hc1 hc2 x0 x1 x2 5 = kernelRun0_C.sl.v132 (F := Ideal) i arg2 harg2 arg3 harg3 hc2 x0 x1 := by
  simp only [lastS, Matrix.cons_val]

theorem lastV_0  : lastV c i arg2 harg2 arg3 harg3 arg4 harg4 arg5 harg5 arg6 harg6 arg7 harg7 arg8 harg8 hc1 hc2 x0 x1 x2 0 = extractStridedSlice S64x256 ![0, 0] (kernelRun0_C.sl.v96 (F := Ideal) i arg4 harg4 hc2 x2 : FVec Ideal S384x256 .bf16) slices_S384x256_o0_0_S64x256 := by
  simp only [lastV, Matrix.cons_val]

theorem lastV_1  : lastV c i arg2 harg2 arg3 harg3 arg4 harg4 arg5 harg5 arg6 harg6 arg7 harg7 arg8 harg8 hc1 hc2 x0 x1 x2 1 = extractStridedSlice S64x256 ![64, 0] (kernelRun0_C.sl.v96 (F := Ideal) i arg4 harg4 hc2 x2 : FVec Ideal S384x256 .bf16) slices_S384x256_o64_0_S64x256 := by
  simp only [lastV, Matrix.cons_val]

theorem lastV_2  : lastV c i arg2 harg2 arg3 harg3 arg4 harg4 arg5 harg5 arg6 harg6 arg7 harg7 arg8 harg8 hc1 hc2 x0 x1 x2 2 = extractStridedSlice S64x256 ![128, 0] (kernelRun0_C.sl.v96 (F := Ideal) i arg4 harg4 hc2 x2 : FVec Ideal S384x256 .bf16) slices_S384x256_o128_0_S64x256 := by
  simp only [lastV, Matrix.cons_val]

theorem lastV_3  : lastV c i arg2 harg2 arg3 harg3 arg4 harg4 arg5 harg5 arg6 harg6 arg7 harg7 arg8 harg8 hc1 hc2 x0 x1 x2 3 = extractStridedSlice S64x256 ![192, 0] (kernelRun0_C.sl.v96 (F := Ideal) i arg4 harg4 hc2 x2 : FVec Ideal S384x256 .bf16) slices_S384x256_o192_0_S64x256 := by
  simp only [lastV, Matrix.cons_val]

theorem lastV_4  : lastV c i arg2 harg2 arg3 harg3 arg4 harg4 arg5 harg5 arg6 harg6 arg7 harg7 arg8 harg8 hc1 hc2 x0 x1 x2 4 = extractStridedSlice S64x256 ![256, 0] (kernelRun0_C.sl.v96 (F := Ideal) i arg4 harg4 hc2 x2 : FVec Ideal S384x256 .bf16) slices_S384x256_o256_0_S64x256 := by
  simp only [lastV, Matrix.cons_val]

theorem lastV_5  : lastV c i arg2 harg2 arg3 harg3 arg4 harg4 arg5 harg5 arg6 harg6 arg7 harg7 arg8 harg8 hc1 hc2 x0 x1 x2 5 = extractStridedSlice S64x256 ![320, 0] (kernelRun0_C.sl.v96 (F := Ideal) i arg4 harg4 hc2 x2 : FVec Ideal S384x256 .bf16) slices_S384x256_o320_0_S64x256 := by
  simp only [lastV, Matrix.cons_val]

theorem lastM_0  : lastM c i arg2 harg2 arg3 harg3 arg4 harg4 arg5 harg5 arg6 harg6 arg7 harg7 arg8 harg8 hc1 hc2 x0 x1 x2 0 = kernelRun0_C.sl.v133 (F := Ideal) c i arg2 harg2 arg3 harg3 arg4 harg4 arg5 harg5 arg6 harg6 arg7 harg7 arg8 harg8 hc1 x0 x1 x2 := by
  simp only [lastM, Matrix.cons_val]

theorem lastM_1  : lastM c i arg2 harg2 arg3 harg3 arg4 harg4 arg5 harg5 arg6 harg6 arg7 harg7 arg8 harg8 hc1 hc2 x0 x1 x2 1 = kernelRun0_C.sl.v156_1 (F := Ideal) c i arg2 harg2 arg3 harg3 arg4 harg4 arg5 harg5 arg6 harg6 arg7 harg7 arg8 harg8 hc1 hc2 x0 x1 x2 := by
  simp only [lastM, Matrix.cons_val]

theorem lastM_2  : lastM c i arg2 harg2 arg3 harg3 arg4 harg4 arg5 harg5 arg6 harg6 arg7 harg7 arg8 harg8 hc1 hc2 x0 x1 x2 2 = kernelRun0_C.sl.v179_1 (F := Ideal) c i arg2 harg2 arg3 harg3 arg4 harg4 arg5 harg5 arg6 harg6 arg7 harg7 arg8 harg8 hc1 hc2 x0 x1 x2 := by
  simp only [lastM, Matrix.cons_val]

theorem lastM_3  : lastM c i arg2 harg2 arg3 harg3 arg4 harg4 arg5 harg5 arg6 harg6 arg7 harg7 arg8 harg8 hc1 hc2 x0 x1 x2 3 = kernelRun0_C.sl.v202_1 (F := Ideal) c i arg2 harg2 arg3 harg3 arg4 harg4 arg5 harg5 arg6 harg6 arg7 harg7 arg8 harg8 hc1 hc2 x0 x1 x2 := by
  simp only [lastM, Matrix.cons_val]

theorem lastM_4  : lastM c i arg2 harg2 arg3 harg3 arg4 harg4 arg5 harg5 arg6 harg6 arg7 harg7 arg8 harg8 hc1 hc2 x0 x1 x2 4 = kernelRun0_C.sl.v225_1 (F := Ideal) c i arg2 harg2 arg3 harg3 arg4 harg4 arg5 harg5 arg6 harg6 arg7 harg7 arg8 harg8 hc1 hc2 x0 x1 x2 := by
  simp only [lastM, Matrix.cons_val]

theorem lastM_5  : lastM c i arg2 harg2 arg3 harg3 arg4 harg4 arg5 harg5 arg6 harg6 arg7 harg7 arg8 harg8 hc1 hc2 x0 x1 x2 5 = kernelRun0_C.sl.v248_1 (F := Ideal) c i arg2 harg2 arg3 harg3 arg4 harg4 arg5 harg5 arg6 harg6 arg7 harg7 arg8 harg8 hc1 hc2 x0 x1 x2 := by
  simp only [lastM, Matrix.cons_val]

theorem lastL_0  : lastL c i arg2 harg2 arg3 harg3 arg4 harg4 arg5 harg5 arg6 harg6 arg7 harg7 arg8 harg8 hc1 hc2 x0 x1 x2 0 = kernelRun0_C.sl.v143 (F := Ideal) c i arg2 harg2 arg3 harg3 arg4 harg4 arg5 harg5 arg6 harg6 arg7 harg7 arg8 harg8 hc1 x0 x1 x2 := by
  simp only [lastL, Matrix.cons_val]

theorem lastL_1  : lastL c i arg2 harg2 arg3 harg3 arg4 harg4 arg5 harg5 arg6 harg6 arg7 harg7 arg8 harg8 hc1 hc2 x0 x1 x2 1 = kernelRun0_C.sl.v166_1 (F := Ideal) c i arg2 harg2 arg3 harg3 arg4 harg4 arg5 harg5 arg6 harg6 arg7 harg7 arg8 harg8 hc1 hc2 x0 x1 x2 := by
  simp only [lastL, Matrix.cons_val]

theorem lastL_2  : lastL c i arg2 harg2 arg3 harg3 arg4 harg4 arg5 harg5 arg6 harg6 arg7 harg7 arg8 harg8 hc1 hc2 x0 x1 x2 2 = kernelRun0_C.sl.v189_1 (F := Ideal) c i arg2 harg2 arg3 harg3 arg4 harg4 arg5 harg5 arg6 harg6 arg7 harg7 arg8 harg8 hc1 hc2 x0 x1 x2 := by
  simp only [lastL, Matrix.cons_val]

theorem lastL_3  : lastL c i arg2 harg2 arg3 harg3 arg4 harg4 arg5 harg5 arg6 harg6 arg7 harg7 arg8 harg8 hc1 hc2 x0 x1 x2 3 = kernelRun0_C.sl.v212_1 (F := Ideal) c i arg2 harg2 arg3 harg3 arg4 harg4 arg5 harg5 arg6 harg6 arg7 harg7 arg8 harg8 hc1 hc2 x0 x1 x2 := by
  simp only [lastL, Matrix.cons_val]

theorem lastL_4  : lastL c i arg2 harg2 arg3 harg3 arg4 harg4 arg5 harg5 arg6 harg6 arg7 harg7 arg8 harg8 hc1 hc2 x0 x1 x2 4 = kernelRun0_C.sl.v235_1 (F := Ideal) c i arg2 harg2 arg3 harg3 arg4 harg4 arg5 harg5 arg6 harg6 arg7 harg7 arg8 harg8 hc1 hc2 x0 x1 x2 := by
  simp only [lastL, Matrix.cons_val]

theorem lastL_5  : lastL c i arg2 harg2 arg3 harg3 arg4 harg4 arg5 harg5 arg6 harg6 arg7 harg7 arg8 harg8 hc1 hc2 x0 x1 x2 5 = kernelRun0_C.sl.v258_1 (F := Ideal) c i arg2 harg2 arg3 harg3 arg4 harg4 arg5 harg5 arg6 harg6 arg7 harg7 arg8 harg8 hc1 hc2 x0 x1 x2 := by
  simp only [lastL, Matrix.cons_val]

theorem lastA_0  : lastA c i arg2 harg2 arg3 harg3 arg4 harg4 arg5 harg5 arg6 harg6 arg7 harg7 arg8 harg8 hc1 hc2 x0 x1 x2 0 = kernelRun0_C.sl.v271_1 (F := Ideal) c i arg2 harg2 arg3 harg3 arg4 harg4 arg5 harg5 arg6 harg6 arg7 harg7 arg8 harg8 hc1 x0 x1 x2 := by
  simp only [lastA, Matrix.cons_val]

theorem lastA_1  : lastA c i arg2 harg2 arg3 harg3 arg4 harg4 arg5 harg5 arg6 harg6 arg7 harg7 arg8 harg8 hc1 hc2 x0 x1 x2 1 = kernelRun0_C.sl.v280_1 (F := Ideal) c i arg2 harg2 arg3 harg3 arg4 harg4 arg5 harg5 arg6 harg6 arg7 harg7 arg8 harg8 hc1 hc2 x0 x1 x2 := by
  simp only [lastA, Matrix.cons_val]

theorem lastA_2  : lastA c i arg2 harg2 arg3 harg3 arg4 harg4 arg5 harg5 arg6 harg6 arg7 harg7 arg8 harg8 hc1 hc2 x0 x1 x2 2 = kernelRun0_C.sl.v289_1 (F := Ideal) c i arg2 harg2 arg3 harg3 arg4 harg4 arg5 harg5 arg6 harg6 arg7 harg7 arg8 harg8 hc1 hc2 x0 x1 x2 := by
  simp only [lastA, Matrix.cons_val]

theorem lastA_3  : lastA c i arg2 harg2 arg3 harg3 arg4 harg4 arg5 harg5 arg6 harg6 arg7 harg7 arg8 harg8 hc1 hc2 x0 x1 x2 3 = kernelRun0_C.sl.v298_1 (F := Ideal) c i arg2 harg2 arg3 harg3 arg4 harg4 arg5 harg5 arg6 harg6 arg7 harg7 arg8 harg8 hc1 hc2 x0 x1 x2 := by
  simp only [lastA, Matrix.cons_val]

theorem lastA_4  : lastA c i arg2 harg2 arg3 harg3 arg4 harg4 arg5 harg5 arg6 harg6 arg7 harg7 arg8 harg8 hc1 hc2 x0 x1 x2 4 = kernelRun0_C.sl.v307_1 (F := Ideal) c i arg2 harg2 arg3 harg3 arg4 harg4 arg5 harg5 arg6 harg6 arg7 harg7 arg8 harg8 hc1 hc2 x0 x1 x2 := by
  simp only [lastA, Matrix.cons_val]

theorem lastA_5  : lastA c i arg2 harg2 arg3 harg3 arg4 harg4 arg5 harg5 arg6 harg6 arg7 harg7 arg8 harg8 hc1 hc2 x0 x1 x2 5 = kernelRun0_C.sl.v316_1 (F := Ideal) c i arg2 harg2 arg3 harg3 arg4 harg4 arg5 harg5 arg6 harg6 arg7 harg7 arg8 harg8 hc1 hc2 x0 x1 x2 := by
  simp only [lastA, Matrix.cons_val]

/-- Head 0's scores, from the loads. -/
theorem lastS_load_0  : ∃ inb inbq, kernelRun0_C.sl.v102_1 (F := Ideal) i arg2 harg2 arg3 harg3 hc2 x0 x1 = score1 (View.readAt (Elt Ideal) arg3.view (Rect.unit (s := S1x6x2048x128) (k0_off23 i) S1x1x256x128.size inb).toLoadRect (harg3.unread x1)) (View.readAt (Elt Ideal) arg2.view (Rect.unit (s := S1x768x256) ![0, 0, 0] S1x128x256.size inbq).toLoadRect (harg2.unread x0)) :=
  ⟨_, _, rfl⟩

/-- Head 1's scores, from the loads. -/
theorem lastS_load_1  : ∃ inb inbq, kernelRun0_C.sl.v108_1 (F := Ideal) i arg2 harg2 arg3 harg3 hc2 x0 x1 = score1 (View.readAt (Elt Ideal) arg3.view (Rect.unit (s := S1x6x2048x128) (k0_off24 i) S1x1x256x128.size inb).toLoadRect (harg3.unread x1)) (View.readAt (Elt Ideal) arg2.view (Rect.unit (s := S1x768x256) ![0, 128, 0] S1x128x256.size inbq).toLoadRect (harg2.unread x0)) :=
  ⟨_, _, rfl⟩

/-- Head 2's scores, from the loads. -/
theorem lastS_load_2  : ∃ inb inbq, kernelRun0_C.sl.v114 (F := Ideal) i arg2 harg2 arg3 harg3 hc2 x0 x1 = score1 (View.readAt (Elt Ideal) arg3.view (Rect.unit (s := S1x6x2048x128) (k0_off25 i) S1x1x256x128.size inb).toLoadRect (harg3.unread x1)) (View.readAt (Elt Ideal) arg2.view (Rect.unit (s := S1x768x256) ![0, 256, 0] S1x128x256.size inbq).toLoadRect (harg2.unread x0)) :=
  ⟨_, _, rfl⟩

/-- Head 3's scores, from the loads. -/
theorem lastS_load_3  : ∃ inb inbq, kernelRun0_C.sl.v120 (F := Ideal) i arg2 harg2 arg3 harg3 hc2 x0 x1 = score1 (View.readAt (Elt Ideal) arg3.view (Rect.unit (s := S1x6x2048x128) (k0_off26 i) S1x1x256x128.size inb).toLoadRect (harg3.unread x1)) (View.readAt (Elt Ideal) arg2.view (Rect.unit (s := S1x768x256) ![0, 384, 0] S1x128x256.size inbq).toLoadRect (harg2.unread x0)) :=
  ⟨_, _, rfl⟩

/-- Head 4's scores, from the loads. -/
theorem lastS_load_4  : ∃ inb inbq, kernelRun0_C.sl.v126 (F := Ideal) i arg2 harg2 arg3 harg3 hc2 x0 x1 = score1 (View.readAt (Elt Ideal) arg3.view (Rect.unit (s := S1x6x2048x128) (k0_off27 i) S1x1x256x128.size inb).toLoadRect (harg3.unread x1)) (View.readAt (Elt Ideal) arg2.view (Rect.unit (s := S1x768x256) ![0, 512, 0] S1x128x256.size inbq).toLoadRect (harg2.unread x0)) :=
  ⟨_, _, rfl⟩

/-- Head 5's scores, from the loads. -/
theorem lastS_load_5  : ∃ inb inbq, kernelRun0_C.sl.v132 (F := Ideal) i arg2 harg2 arg3 harg3 hc2 x0 x1 = score1 (View.readAt (Elt Ideal) arg3.view (Rect.unit (s := S1x6x2048x128) (k0_off28 i) S1x1x256x128.size inb).toLoadRect (harg3.unread x1)) (View.readAt (Elt Ideal) arg2.view (Rect.unit (s := S1x768x256) ![0, 640, 0] S1x128x256.size inbq).toLoadRect (harg2.unread x0)) :=
  ⟨_, _, rfl⟩

/-- The values, from the load. -/
theorem lastV_load  : ∃ inb, kernelRun0_C.sl.v96 (F := Ideal) i arg4 harg4 hc2 x2 = shapeCast S384x256 (View.readAt (Elt Ideal) arg4.view (Rect.unit (s := S1x8x384x256) (k0_off22 i) S1x1x384x256.size inb).toLoadRect (harg4.unread x2)) shapeCasts_S1x1x384x256_S384x256 :=
  ⟨_, rfl⟩

/-- Head 0's maximum loaded is the one before the strip. -/
theorem lastM_at_0  (b : Fin 256) : lastM c i arg2 harg2 arg3 harg3 arg4 harg4 arg5 harg5 arg6 harg6 arg7 harg7 arg8 harg8 hc1 hc2 x0 x1 x2 0 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 0 0 b) := by
  rw [lastM_0]
  unfold kernelRun0_C.sl.v133 View.readCov
  refine (load_row3 arg7 _ _ 0 b rfl).trans ?_
  unfold after
  rfl

/-- Head 1's maximum loaded is the one before the strip. -/
theorem lastM_at_1  (b : Fin 256) : lastM c i arg2 harg2 arg3 harg3 arg4 harg4 arg5 harg5 arg6 harg6 arg7 harg7 arg8 harg8 hc1 hc2 x0 x1 x2 1 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 1 0 b) := by
  rw [lastM_1]
  unfold kernelRun0_C.sl.v156_1 View.readCov
  refine (load_row3 arg7 _ _ 1 b rfl).trans ?_
  unfold kernelRun0_C.sl.HS1_1_1
  refine (skip3 _ _ _ _ _ 1 0 rfl (by decide) b).trans ?_
  unfold after
  rfl

/-- Head 2's maximum loaded is the one before the strip. -/
theorem lastM_at_2  (b : Fin 256) : lastM c i arg2 harg2 arg3 harg3 arg4 harg4 arg5 harg5 arg6 harg6 arg7 harg7 arg8 harg8 hc1 hc2 x0 x1 x2 2 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 2 0 b) := by
  rw [lastM_2]
  unfold kernelRun0_C.sl.v179_1 View.readCov
  refine (load_row3 arg7 _ _ 2 b rfl).trans ?_
  unfold kernelRun0_C.sl.HS1_2_1
  refine (skip3 _ _ _ _ _ 2 1 rfl (by decide) b).trans ?_
  unfold kernelRun0_C.sl.HS1_1_1
  refine (skip3 _ _ _ _ _ 2 0 rfl (by decide) b).trans ?_
  unfold after
  rfl

/-- Head 3's maximum loaded is the one before the strip. -/
theorem lastM_at_3  (b : Fin 256) : lastM c i arg2 harg2 arg3 harg3 arg4 harg4 arg5 harg5 arg6 harg6 arg7 harg7 arg8 harg8 hc1 hc2 x0 x1 x2 3 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 3 0 b) := by
  rw [lastM_3]
  unfold kernelRun0_C.sl.v202_1 View.readCov
  refine (load_row3 arg7 _ _ 3 b rfl).trans ?_
  unfold kernelRun0_C.sl.HS1_3_1
  refine (skip3 _ _ _ _ _ 3 2 rfl (by decide) b).trans ?_
  unfold kernelRun0_C.sl.HS1_2_1
  refine (skip3 _ _ _ _ _ 3 1 rfl (by decide) b).trans ?_
  unfold kernelRun0_C.sl.HS1_1_1
  refine (skip3 _ _ _ _ _ 3 0 rfl (by decide) b).trans ?_
  unfold after
  rfl

/-- Head 4's maximum loaded is the one before the strip. -/
theorem lastM_at_4  (b : Fin 256) : lastM c i arg2 harg2 arg3 harg3 arg4 harg4 arg5 harg5 arg6 harg6 arg7 harg7 arg8 harg8 hc1 hc2 x0 x1 x2 4 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 4 0 b) := by
  rw [lastM_4]
  unfold kernelRun0_C.sl.v225_1 View.readCov
  refine (load_row3 arg7 _ _ 4 b rfl).trans ?_
  unfold kernelRun0_C.sl.HS1_4_1
  refine (skip3 _ _ _ _ _ 4 3 rfl (by decide) b).trans ?_
  unfold kernelRun0_C.sl.HS1_3_1
  refine (skip3 _ _ _ _ _ 4 2 rfl (by decide) b).trans ?_
  unfold kernelRun0_C.sl.HS1_2_1
  refine (skip3 _ _ _ _ _ 4 1 rfl (by decide) b).trans ?_
  unfold kernelRun0_C.sl.HS1_1_1
  refine (skip3 _ _ _ _ _ 4 0 rfl (by decide) b).trans ?_
  unfold after
  rfl

/-- Head 5's maximum loaded is the one before the strip. -/
theorem lastM_at_5  (b : Fin 256) : lastM c i arg2 harg2 arg3 harg3 arg4 harg4 arg5 harg5 arg6 harg6 arg7 harg7 arg8 harg8 hc1 hc2 x0 x1 x2 5 (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 5 0 b) := by
  rw [lastM_5]
  unfold kernelRun0_C.sl.v248_1 View.readCov
  refine (load_row3 arg7 _ _ 5 b rfl).trans ?_
  unfold kernelRun0_C.sl.HS1_5_1
  refine (skip3 _ _ _ _ _ 5 4 rfl (by decide) b).trans ?_
  unfold kernelRun0_C.sl.HS1_4_1
  refine (skip3 _ _ _ _ _ 5 3 rfl (by decide) b).trans ?_
  unfold kernelRun0_C.sl.HS1_3_1
  refine (skip3 _ _ _ _ _ 5 2 rfl (by decide) b).trans ?_
  unfold kernelRun0_C.sl.HS1_2_1
  refine (skip3 _ _ _ _ _ 5 1 rfl (by decide) b).trans ?_
  unfold kernelRun0_C.sl.HS1_1_1
  refine (skip3 _ _ _ _ _ 5 0 rfl (by decide) b).trans ?_
  unfold after
  rfl

/-- The maximums loaded are those before the strip. -/
theorem lastM_at  (hd : Fin 6) (b : Fin 256) : lastM c i arg2 harg2 arg3 harg3 arg4 harg4 arg5 harg5 arg6 harg6 arg7 harg7 arg8 harg8 hc1 hc2 x0 x1 x2 hd (ix3 0 0 b) = (arg7.view.read (Elt Ideal) (arg7.view.writes (Elt Ideal) arg7.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.1))) (ix3 hd 0 b) := by
  fin_cases hd
  exacts [lastM_at_0 c i arg2 harg2 arg3 harg3 arg4 harg4 arg5 harg5 arg6 harg6 arg7 harg7 arg8 harg8 hc1 hc2 x0 x1 x2 b, lastM_at_1 c i arg2 harg2 arg3 harg3 arg4 harg4 arg5 harg5 arg6 harg6 arg7 harg7 arg8 harg8 hc1 hc2 x0 x1 x2 b, lastM_at_2 c i arg2 harg2 arg3 harg3 arg4 harg4 arg5 harg5 arg6 harg6 arg7 harg7 arg8 harg8 hc1 hc2 x0 x1 x2 b, lastM_at_3 c i arg2 harg2 arg3 harg3 arg4 harg4 arg5 harg5 arg6 harg6 arg7 harg7 arg8 harg8 hc1 hc2 x0 x1 x2 b, lastM_at_4 c i arg2 harg2 arg3 harg3 arg4 harg4 arg5 harg5 arg6 harg6 arg7 harg7 arg8 harg8 hc1 hc2 x0 x1 x2 b, lastM_at_5 c i arg2 harg2 arg3 harg3 arg4 harg4 arg5 harg5 arg6 harg6 arg7 harg7 arg8 harg8 hc1 hc2 x0 x1 x2 b]

/-- Head 0's total loaded is the one before the strip. -/
theorem lastL_at_0  (b : Fin 256) : lastL c i arg2 harg2 arg3 harg3 arg4 harg4 arg5 harg5 arg6 harg6 arg7 harg7 arg8 harg8 hc1 hc2 x0 x1 x2 0 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 0 0 b) := by
  rw [lastL_0]
  unfold kernelRun0_C.sl.v143 View.readCov
  refine (load_row3 arg8 _ _ 0 b rfl).trans ?_
  unfold after
  rfl

/-- Head 1's total loaded is the one before the strip. -/
theorem lastL_at_1  (b : Fin 256) : lastL c i arg2 harg2 arg3 harg3 arg4 harg4 arg5 harg5 arg6 harg6 arg7 harg7 arg8 harg8 hc1 hc2 x0 x1 x2 1 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 1 0 b) := by
  rw [lastL_1]
  unfold kernelRun0_C.sl.v166_1 View.readCov
  refine (load_row3 arg8 _ _ 1 b rfl).trans ?_
  unfold kernelRun0_C.sl.HS2_1_1
  refine (skip3 _ _ _ _ _ 1 0 rfl (by decide) b).trans ?_
  unfold after
  rfl

/-- Head 2's total loaded is the one before the strip. -/
theorem lastL_at_2  (b : Fin 256) : lastL c i arg2 harg2 arg3 harg3 arg4 harg4 arg5 harg5 arg6 harg6 arg7 harg7 arg8 harg8 hc1 hc2 x0 x1 x2 2 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 2 0 b) := by
  rw [lastL_2]
  unfold kernelRun0_C.sl.v189_1 View.readCov
  refine (load_row3 arg8 _ _ 2 b rfl).trans ?_
  unfold kernelRun0_C.sl.HS2_2_1
  refine (skip3 _ _ _ _ _ 2 1 rfl (by decide) b).trans ?_
  unfold kernelRun0_C.sl.HS2_1_1
  refine (skip3 _ _ _ _ _ 2 0 rfl (by decide) b).trans ?_
  unfold after
  rfl

/-- Head 3's total loaded is the one before the strip. -/
theorem lastL_at_3  (b : Fin 256) : lastL c i arg2 harg2 arg3 harg3 arg4 harg4 arg5 harg5 arg6 harg6 arg7 harg7 arg8 harg8 hc1 hc2 x0 x1 x2 3 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 3 0 b) := by
  rw [lastL_3]
  unfold kernelRun0_C.sl.v212_1 View.readCov
  refine (load_row3 arg8 _ _ 3 b rfl).trans ?_
  unfold kernelRun0_C.sl.HS2_3_1
  refine (skip3 _ _ _ _ _ 3 2 rfl (by decide) b).trans ?_
  unfold kernelRun0_C.sl.HS2_2_1
  refine (skip3 _ _ _ _ _ 3 1 rfl (by decide) b).trans ?_
  unfold kernelRun0_C.sl.HS2_1_1
  refine (skip3 _ _ _ _ _ 3 0 rfl (by decide) b).trans ?_
  unfold after
  rfl

/-- Head 4's total loaded is the one before the strip. -/
theorem lastL_at_4  (b : Fin 256) : lastL c i arg2 harg2 arg3 harg3 arg4 harg4 arg5 harg5 arg6 harg6 arg7 harg7 arg8 harg8 hc1 hc2 x0 x1 x2 4 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 4 0 b) := by
  rw [lastL_4]
  unfold kernelRun0_C.sl.v235_1 View.readCov
  refine (load_row3 arg8 _ _ 4 b rfl).trans ?_
  unfold kernelRun0_C.sl.HS2_4_1
  refine (skip3 _ _ _ _ _ 4 3 rfl (by decide) b).trans ?_
  unfold kernelRun0_C.sl.HS2_3_1
  refine (skip3 _ _ _ _ _ 4 2 rfl (by decide) b).trans ?_
  unfold kernelRun0_C.sl.HS2_2_1
  refine (skip3 _ _ _ _ _ 4 1 rfl (by decide) b).trans ?_
  unfold kernelRun0_C.sl.HS2_1_1
  refine (skip3 _ _ _ _ _ 4 0 rfl (by decide) b).trans ?_
  unfold after
  rfl

/-- Head 5's total loaded is the one before the strip. -/
theorem lastL_at_5  (b : Fin 256) : lastL c i arg2 harg2 arg3 harg3 arg4 harg4 arg5 harg5 arg6 harg6 arg7 harg7 arg8 harg8 hc1 hc2 x0 x1 x2 5 (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 5 0 b) := by
  rw [lastL_5]
  unfold kernelRun0_C.sl.v258_1 View.readCov
  refine (load_row3 arg8 _ _ 5 b rfl).trans ?_
  unfold kernelRun0_C.sl.HS2_5_1
  refine (skip3 _ _ _ _ _ 5 4 rfl (by decide) b).trans ?_
  unfold kernelRun0_C.sl.HS2_4_1
  refine (skip3 _ _ _ _ _ 5 3 rfl (by decide) b).trans ?_
  unfold kernelRun0_C.sl.HS2_3_1
  refine (skip3 _ _ _ _ _ 5 2 rfl (by decide) b).trans ?_
  unfold kernelRun0_C.sl.HS2_2_1
  refine (skip3 _ _ _ _ _ 5 1 rfl (by decide) b).trans ?_
  unfold kernelRun0_C.sl.HS2_1_1
  refine (skip3 _ _ _ _ _ 5 0 rfl (by decide) b).trans ?_
  unfold after
  rfl

/-- The totals loaded are those before the strip. -/
theorem lastL_at  (hd : Fin 6) (b : Fin 256) : lastL c i arg2 harg2 arg3 harg3 arg4 harg4 arg5 harg5 arg6 harg6 arg7 harg7 arg8 harg8 hc1 hc2 x0 x1 x2 hd (ix3 0 0 b) = (arg8.view.read (Elt Ideal) (arg8.view.writes (Elt Ideal) arg8.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).2.2))) (ix3 hd 0 b) := by
  fin_cases hd
  exacts [lastL_at_0 c i arg2 harg2 arg3 harg3 arg4 harg4 arg5 harg5 arg6 harg6 arg7 harg7 arg8 harg8 hc1 hc2 x0 x1 x2 b, lastL_at_1 c i arg2 harg2 arg3 harg3 arg4 harg4 arg5 harg5 arg6 harg6 arg7 harg7 arg8 harg8 hc1 hc2 x0 x1 x2 b, lastL_at_2 c i arg2 harg2 arg3 harg3 arg4 harg4 arg5 harg5 arg6 harg6 arg7 harg7 arg8 harg8 hc1 hc2 x0 x1 x2 b, lastL_at_3 c i arg2 harg2 arg3 harg3 arg4 harg4 arg5 harg5 arg6 harg6 arg7 harg7 arg8 harg8 hc1 hc2 x0 x1 x2 b, lastL_at_4 c i arg2 harg2 arg3 harg3 arg4 harg4 arg5 harg5 arg6 harg6 arg7 harg7 arg8 harg8 hc1 hc2 x0 x1 x2 b, lastL_at_5 c i arg2 harg2 arg3 harg3 arg4 harg4 arg5 harg5 arg6 harg6 arg7 harg7 arg8 harg8 hc1 hc2 x0 x1 x2 b]

/-- Head 0's total after the strip. -/
theorem lastL_new_0  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 0 0 b) = newL1 (lastS c i arg2 harg2 arg3 harg3 arg4 harg4 arg5 harg5 arg6 harg6 arg7 harg7 arg8 harg8 hc1 hc2 x0 x1 x2 0) (lastM c i arg2 harg2 arg3 harg3 arg4 harg4 arg5 harg5 arg6 harg6 arg7 harg7 arg8 harg8 hc1 hc2 x0 x1 x2 0) (lastL c i arg2 harg2 arg3 harg3 arg4 harg4 arg5 harg5 arg6 harg6 arg7 harg7 arg8 harg8 hc1 hc2 x0 x1 x2 0) (ix3 0 0 b) := by
  rw [lastS_0, lastM_0, lastL_0]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 0 b).trans ?_
  simp only [Matrix.cons_val]
  rfl

/-- Head 1's total after the strip. -/
theorem lastL_new_1  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 1 0 b) = newL1 (lastS c i arg2 harg2 arg3 harg3 arg4 harg4 arg5 harg5 arg6 harg6 arg7 harg7 arg8 harg8 hc1 hc2 x0 x1 x2 1) (lastM c i arg2 harg2 arg3 harg3 arg4 harg4 arg5 harg5 arg6 harg6 arg7 harg7 arg8 harg8 hc1 hc2 x0 x1 x2 1) (lastL c i arg2 harg2 arg3 harg3 arg4 harg4 arg5 harg5 arg6 harg6 arg7 harg7 arg8 harg8 hc1 hc2 x0 x1 x2 1) (ix3 0 0 b) := by
  rw [lastS_1, lastM_1, lastL_1]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 1 b).trans ?_
  simp only [Matrix.cons_val]
  rfl

/-- Head 2's total after the strip. -/
theorem lastL_new_2  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 2 0 b) = newL1 (lastS c i arg2 harg2 arg3 harg3 arg4 harg4 arg5 harg5 arg6 harg6 arg7 harg7 arg8 harg8 hc1 hc2 x0 x1 x2 2) (lastM c i arg2 harg2 arg3 harg3 arg4 harg4 arg5 harg5 arg6 harg6 arg7 harg7 arg8 harg8 hc1 hc2 x0 x1 x2 2) (lastL c i arg2 harg2 arg3 harg3 arg4 harg4 arg5 harg5 arg6 harg6 arg7 harg7 arg8 harg8 hc1 hc2 x0 x1 x2 2) (ix3 0 0 b) := by
  rw [lastS_2, lastM_2, lastL_2]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 2 b).trans ?_
  simp only [Matrix.cons_val]
  rfl

/-- Head 3's total after the strip. -/
theorem lastL_new_3  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 3 0 b) = newL1 (lastS c i arg2 harg2 arg3 harg3 arg4 harg4 arg5 harg5 arg6 harg6 arg7 harg7 arg8 harg8 hc1 hc2 x0 x1 x2 3) (lastM c i arg2 harg2 arg3 harg3 arg4 harg4 arg5 harg5 arg6 harg6 arg7 harg7 arg8 harg8 hc1 hc2 x0 x1 x2 3) (lastL c i arg2 harg2 arg3 harg3 arg4 harg4 arg5 harg5 arg6 harg6 arg7 harg7 arg8 harg8 hc1 hc2 x0 x1 x2 3) (ix3 0 0 b) := by
  rw [lastS_3, lastM_3, lastL_3]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 3 b).trans ?_
  simp only [Matrix.cons_val]
  rfl

/-- Head 4's total after the strip. -/
theorem lastL_new_4  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 4 0 b) = newL1 (lastS c i arg2 harg2 arg3 harg3 arg4 harg4 arg5 harg5 arg6 harg6 arg7 harg7 arg8 harg8 hc1 hc2 x0 x1 x2 4) (lastM c i arg2 harg2 arg3 harg3 arg4 harg4 arg5 harg5 arg6 harg6 arg7 harg7 arg8 harg8 hc1 hc2 x0 x1 x2 4) (lastL c i arg2 harg2 arg3 harg3 arg4 harg4 arg5 harg5 arg6 harg6 arg7 harg7 arg8 harg8 hc1 hc2 x0 x1 x2 4) (ix3 0 0 b) := by
  rw [lastS_4, lastM_4, lastL_4]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 4 b).trans ?_
  simp only [Matrix.cons_val]
  rfl

/-- Head 5's total after the strip. -/
theorem lastL_new_5  (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 5 0 b) = newL1 (lastS c i arg2 harg2 arg3 harg3 arg4 harg4 arg5 harg5 arg6 harg6 arg7 harg7 arg8 harg8 hc1 hc2 x0 x1 x2 5) (lastM c i arg2 harg2 arg3 harg3 arg4 harg4 arg5 harg5 arg6 harg6 arg7 harg7 arg8 harg8 hc1 hc2 x0 x1 x2 5) (lastL c i arg2 harg2 arg3 harg3 arg4 harg4 arg5 harg5 arg6 harg6 arg7 harg7 arg8 harg8 hc1 hc2 x0 x1 x2 5) (ix3 0 0 b) := by
  rw [lastS_5, lastM_5, lastL_5]
  unfold kernelRun0_C.sl.HS2_6_1
  unfold kernelRun0_C.sl.HS2_5_1
  unfold kernelRun0_C.sl.HS2_4_1
  unfold kernelRun0_C.sl.HS2_3_1
  unfold kernelRun0_C.sl.HS2_2_1
  unfold kernelRun0_C.sl.HS2_1_1
  refine (read_rows3 arg8.view _ _ _ _ _ _ _ _ _ _ _ _ _ _ 5 b).trans ?_
  simp only [Matrix.cons_val]
  rfl

/-- The totals after the strip. -/
theorem lastL_new  (hd : Fin 6) (b : Fin 256) : (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) (ix3 hd 0 b) = newL1 (lastS c i arg2 harg2 arg3 harg3 arg4 harg4 arg5 harg5 arg6 harg6 arg7 harg7 arg8 harg8 hc1 hc2 x0 x1 x2 hd) (lastM c i arg2 harg2 arg3 harg3 arg4 harg4 arg5 harg5 arg6 harg6 arg7 harg7 arg8 harg8 hc1 hc2 x0 x1 x2 hd) (lastL c i arg2 harg2 arg3 harg3 arg4 harg4 arg5 harg5 arg6 harg6 arg7 harg7 arg8 harg8 hc1 hc2 x0 x1 x2 hd) (ix3 0 0 b) := by
  fin_cases hd
  exacts [lastL_new_0 c i arg2 harg2 arg3 harg3 arg4 harg4 arg5 harg5 arg6 harg6 arg7 harg7 arg8 harg8 hc1 hc2 x0 x1 x2 b, lastL_new_1 c i arg2 harg2 arg3 harg3 arg4 harg4 arg5 harg5 arg6 harg6 arg7 harg7 arg8 harg8 hc1 hc2 x0 x1 x2 b, lastL_new_2 c i arg2 harg2 arg3 harg3 arg4 harg4 arg5 harg5 arg6 harg6 arg7 harg7 arg8 harg8 hc1 hc2 x0 x1 x2 b, lastL_new_3 c i arg2 harg2 arg3 harg3 arg4 harg4 arg5 harg5 arg6 harg6 arg7 harg7 arg8 harg8 hc1 hc2 x0 x1 x2 b, lastL_new_4 c i arg2 harg2 arg3 harg3 arg4 harg4 arg5 harg5 arg6 harg6 arg7 harg7 arg8 harg8 hc1 hc2 x0 x1 x2 b, lastL_new_5 c i arg2 harg2 arg3 harg3 arg4 harg4 arg5 harg5 arg6 harg6 arg7 harg7 arg8 harg8 hc1 hc2 x0 x1 x2 b]

/-- Head 0's weighted sum loaded is the one before the strip. -/
theorem lastA_at_0  (r : Fin 64) (b : Fin 256) : lastA c i arg2 harg2 arg3 harg3 arg4 harg4 arg5 harg5 arg6 harg6 arg7 harg7 arg8 harg8 hc1 hc2 x0 x1 x2 0 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 0 r) b) := by
  rw [lastA_0]
  unfold kernelRun0_C.sl.v271_1 View.readCov
  refine (load_row2 arg6 _ _ 0 r b rfl).trans ?_
  unfold after
  rfl

/-- Head 1's weighted sum loaded is the one before the strip. -/
theorem lastA_at_1  (r : Fin 64) (b : Fin 256) : lastA c i arg2 harg2 arg3 harg3 arg4 harg4 arg5 harg5 arg6 harg6 arg7 harg7 arg8 harg8 hc1 hc2 x0 x1 x2 1 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 1 r) b) := by
  rw [lastA_1]
  unfold kernelRun0_C.sl.v280_1 View.readCov
  refine (load_row2 arg6 _ _ 1 r b rfl).trans ?_
  unfold kernelRun0_C.sl.HS0_1_1
  refine (skip2 _ _ _ _ _ 1 0 rfl (by decide) r b).trans ?_
  unfold after
  rfl

/-- Head 2's weighted sum loaded is the one before the strip. -/
theorem lastA_at_2  (r : Fin 64) (b : Fin 256) : lastA c i arg2 harg2 arg3 harg3 arg4 harg4 arg5 harg5 arg6 harg6 arg7 harg7 arg8 harg8 hc1 hc2 x0 x1 x2 2 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 2 r) b) := by
  rw [lastA_2]
  unfold kernelRun0_C.sl.v289_1 View.readCov
  refine (load_row2 arg6 _ _ 2 r b rfl).trans ?_
  unfold kernelRun0_C.sl.HS0_2_1
  refine (skip2 _ _ _ _ _ 2 1 rfl (by decide) r b).trans ?_
  unfold kernelRun0_C.sl.HS0_1_1
  refine (skip2 _ _ _ _ _ 2 0 rfl (by decide) r b).trans ?_
  unfold after
  rfl

/-- Head 3's weighted sum loaded is the one before the strip. -/
theorem lastA_at_3  (r : Fin 64) (b : Fin 256) : lastA c i arg2 harg2 arg3 harg3 arg4 harg4 arg5 harg5 arg6 harg6 arg7 harg7 arg8 harg8 hc1 hc2 x0 x1 x2 3 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 3 r) b) := by
  rw [lastA_3]
  unfold kernelRun0_C.sl.v298_1 View.readCov
  refine (load_row2 arg6 _ _ 3 r b rfl).trans ?_
  unfold kernelRun0_C.sl.HS0_3_1
  refine (skip2 _ _ _ _ _ 3 2 rfl (by decide) r b).trans ?_
  unfold kernelRun0_C.sl.HS0_2_1
  refine (skip2 _ _ _ _ _ 3 1 rfl (by decide) r b).trans ?_
  unfold kernelRun0_C.sl.HS0_1_1
  refine (skip2 _ _ _ _ _ 3 0 rfl (by decide) r b).trans ?_
  unfold after
  rfl

/-- Head 4's weighted sum loaded is the one before the strip. -/
theorem lastA_at_4  (r : Fin 64) (b : Fin 256) : lastA c i arg2 harg2 arg3 harg3 arg4 harg4 arg5 harg5 arg6 harg6 arg7 harg7 arg8 harg8 hc1 hc2 x0 x1 x2 4 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 4 r) b) := by
  rw [lastA_4]
  unfold kernelRun0_C.sl.v307_1 View.readCov
  refine (load_row2 arg6 _ _ 4 r b rfl).trans ?_
  unfold kernelRun0_C.sl.HS0_4_1
  refine (skip2 _ _ _ _ _ 4 3 rfl (by decide) r b).trans ?_
  unfold kernelRun0_C.sl.HS0_3_1
  refine (skip2 _ _ _ _ _ 4 2 rfl (by decide) r b).trans ?_
  unfold kernelRun0_C.sl.HS0_2_1
  refine (skip2 _ _ _ _ _ 4 1 rfl (by decide) r b).trans ?_
  unfold kernelRun0_C.sl.HS0_1_1
  refine (skip2 _ _ _ _ _ 4 0 rfl (by decide) r b).trans ?_
  unfold after
  rfl

/-- Head 5's weighted sum loaded is the one before the strip. -/
theorem lastA_at_5  (r : Fin 64) (b : Fin 256) : lastA c i arg2 harg2 arg3 harg3 arg4 harg4 arg5 harg5 arg6 harg6 arg7 harg7 arg8 harg8 hc1 hc2 x0 x1 x2 5 (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row 5 r) b) := by
  rw [lastA_5]
  unfold kernelRun0_C.sl.v316_1 View.readCov
  refine (load_row2 arg6 _ _ 5 r b rfl).trans ?_
  unfold kernelRun0_C.sl.HS0_5_1
  refine (skip2 _ _ _ _ _ 5 4 rfl (by decide) r b).trans ?_
  unfold kernelRun0_C.sl.HS0_4_1
  refine (skip2 _ _ _ _ _ 5 3 rfl (by decide) r b).trans ?_
  unfold kernelRun0_C.sl.HS0_3_1
  refine (skip2 _ _ _ _ _ 5 2 rfl (by decide) r b).trans ?_
  unfold kernelRun0_C.sl.HS0_2_1
  refine (skip2 _ _ _ _ _ 5 1 rfl (by decide) r b).trans ?_
  unfold kernelRun0_C.sl.HS0_1_1
  refine (skip2 _ _ _ _ _ 5 0 rfl (by decide) r b).trans ?_
  unfold after
  rfl

/-- The weighted sums loaded are those before the strip. -/
theorem lastA_at  (hd : Fin 6) (r : Fin 64) (b : Fin 256) : lastA c i arg2 harg2 arg3 harg3 arg4 harg4 arg5 harg5 arg6 harg6 arg7 harg7 arg8 harg8 hc1 hc2 x0 x1 x2 hd (ix2 r b) = (arg6.view.read (Elt Ideal) (arg6.view.writes (Elt Ideal) arg6.view.junk ((after c i arg2 harg2 arg3 harg3 arg4 harg4 arg5 harg5 arg6 harg6 arg7 harg7 arg8 harg8 (kernelRun0_C.sl.v19 i) (kernelRun0_C.sl.v20 i) (kernelRun0_C.sl.v25 i) (kernelRun0_C.sl.v41 i) x0 x1 x2 (kernelRun0_C.sl.HS0_7 (F := Ideal) c i arg2 harg2 arg3 harg3 arg4 harg4 arg6 arg7 hc1 x0 x1 x2) (kernelRun0_C.sl.HS1_7 (F := Ideal) c i arg2 harg2 arg3 harg3 arg7 hc1 x0 x1) (kernelRun0_C.sl.HS2_7 (F := Ideal) c i arg2 harg2 arg3 harg3 arg7 arg8 hc1 x0 x1)).1))) (ix2 (row hd r) b) := by
  fin_cases hd
  exacts [lastA_at_0 c i arg2 harg2 arg3 harg3 arg4 harg4 arg5 harg5 arg6 harg6 arg7 harg7 arg8 harg8 hc1 hc2 x0 x1 x2 r b, lastA_at_1 c i arg2 harg2 arg3 harg3 arg4 harg4 arg5 harg5 arg6 harg6 arg7 harg7 arg8 harg8 hc1 hc2 x0 x1 x2 r b, lastA_at_2 c i arg2 harg2 arg3 harg3 arg4 harg4 arg5 harg5 arg6 harg6 arg7 harg7 arg8 harg8 hc1 hc2 x0 x1 x2 r b, lastA_at_3 c i arg2 harg2 arg3 harg3 arg4 harg4 arg5 harg5 arg6 harg6 arg7 harg7 arg8 harg8 hc1 hc2 x0 x1 x2 r b, lastA_at_4 c i arg2 harg2 arg3 harg3 arg4 harg4 arg5 harg5 arg6 harg6 arg7 harg7 arg8 harg8 hc1 hc2 x0 x1 x2 r b, lastA_at_5 c i arg2 harg2 arg3 harg3 arg4 harg4 arg5 harg5 arg6 harg6 arg7 harg7 arg8 harg8 hc1 hc2 x0 x1 x2 r b]

/-- Head 0's weighted sum after the strip. -/
theorem lastA_new_0  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 0 r) b) = newA1 (lastV c i arg2 harg2 arg3 harg3 arg4 harg4 arg5 harg5 arg6 harg6 arg7 harg7 arg8 harg8 hc1 hc2 x0 x1 x2 0) (lastS c i arg2 harg2 arg3 harg3 arg4 harg4 arg5 harg5 arg6 harg6 arg7 harg7 arg8 harg8 hc1 hc2 x0 x1 x2 0) (lastM c i arg2 harg2 arg3 harg3 arg4 harg4 arg5 harg5 arg6 harg6 arg7 harg7 arg8 harg8 hc1 hc2 x0 x1 x2 0) (lastA c i arg2 harg2 arg3 harg3 arg4 harg4 arg5 harg5 arg6 harg6 arg7 harg7 arg8 harg8 hc1 hc2 x0 x1 x2 0) (ix2 r b) := by
  rw [lastV_0, lastS_0, lastM_0, lastA_0]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 0 r b).trans ?_
  simp only [Matrix.cons_val]
  rfl

/-- Head 1's weighted sum after the strip. -/
theorem lastA_new_1  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 1 r) b) = newA1 (lastV c i arg2 harg2 arg3 harg3 arg4 harg4 arg5 harg5 arg6 harg6 arg7 harg7 arg8 harg8 hc1 hc2 x0 x1 x2 1) (lastS c i arg2 harg2 arg3 harg3 arg4 harg4 arg5 harg5 arg6 harg6 arg7 harg7 arg8 harg8 hc1 hc2 x0 x1 x2 1) (lastM c i arg2 harg2 arg3 harg3 arg4 harg4 arg5 harg5 arg6 harg6 arg7 harg7 arg8 harg8 hc1 hc2 x0 x1 x2 1) (lastA c i arg2 harg2 arg3 harg3 arg4 harg4 arg5 harg5 arg6 harg6 arg7 harg7 arg8 harg8 hc1 hc2 x0 x1 x2 1) (ix2 r b) := by
  rw [lastV_1, lastS_1, lastM_1, lastA_1]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 1 r b).trans ?_
  simp only [Matrix.cons_val]
  rfl

/-- Head 2's weighted sum after the strip. -/
theorem lastA_new_2  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 2 r) b) = newA1 (lastV c i arg2 harg2 arg3 harg3 arg4 harg4 arg5 harg5 arg6 harg6 arg7 harg7 arg8 harg8 hc1 hc2 x0 x1 x2 2) (lastS c i arg2 harg2 arg3 harg3 arg4 harg4 arg5 harg5 arg6 harg6 arg7 harg7 arg8 harg8 hc1 hc2 x0 x1 x2 2) (lastM c i arg2 harg2 arg3 harg3 arg4 harg4 arg5 harg5 arg6 harg6 arg7 harg7 arg8 harg8 hc1 hc2 x0 x1 x2 2) (lastA c i arg2 harg2 arg3 harg3 arg4 harg4 arg5 harg5 arg6 harg6 arg7 harg7 arg8 harg8 hc1 hc2 x0 x1 x2 2) (ix2 r b) := by
  rw [lastV_2, lastS_2, lastM_2, lastA_2]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 2 r b).trans ?_
  simp only [Matrix.cons_val]
  rfl

/-- Head 3's weighted sum after the strip. -/
theorem lastA_new_3  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 3 r) b) = newA1 (lastV c i arg2 harg2 arg3 harg3 arg4 harg4 arg5 harg5 arg6 harg6 arg7 harg7 arg8 harg8 hc1 hc2 x0 x1 x2 3) (lastS c i arg2 harg2 arg3 harg3 arg4 harg4 arg5 harg5 arg6 harg6 arg7 harg7 arg8 harg8 hc1 hc2 x0 x1 x2 3) (lastM c i arg2 harg2 arg3 harg3 arg4 harg4 arg5 harg5 arg6 harg6 arg7 harg7 arg8 harg8 hc1 hc2 x0 x1 x2 3) (lastA c i arg2 harg2 arg3 harg3 arg4 harg4 arg5 harg5 arg6 harg6 arg7 harg7 arg8 harg8 hc1 hc2 x0 x1 x2 3) (ix2 r b) := by
  rw [lastV_3, lastS_3, lastM_3, lastA_3]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 3 r b).trans ?_
  simp only [Matrix.cons_val]
  rfl

/-- Head 4's weighted sum after the strip. -/
theorem lastA_new_4  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 4 r) b) = newA1 (lastV c i arg2 harg2 arg3 harg3 arg4 harg4 arg5 harg5 arg6 harg6 arg7 harg7 arg8 harg8 hc1 hc2 x0 x1 x2 4) (lastS c i arg2 harg2 arg3 harg3 arg4 harg4 arg5 harg5 arg6 harg6 arg7 harg7 arg8 harg8 hc1 hc2 x0 x1 x2 4) (lastM c i arg2 harg2 arg3 harg3 arg4 harg4 arg5 harg5 arg6 harg6 arg7 harg7 arg8 harg8 hc1 hc2 x0 x1 x2 4) (lastA c i arg2 harg2 arg3 harg3 arg4 harg4 arg5 harg5 arg6 harg6 arg7 harg7 arg8 harg8 hc1 hc2 x0 x1 x2 4) (ix2 r b) := by
  rw [lastV_4, lastS_4, lastM_4, lastA_4]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 4 r b).trans ?_
  simp only [Matrix.cons_val]
  rfl

/-- Head 5's weighted sum after the strip. -/
theorem lastA_new_5  (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row 5 r) b) = newA1 (lastV c i arg2 harg2 arg3 harg3 arg4 harg4 arg5 harg5 arg6 harg6 arg7 harg7 arg8 harg8 hc1 hc2 x0 x1 x2 5) (lastS c i arg2 harg2 arg3 harg3 arg4 harg4 arg5 harg5 arg6 harg6 arg7 harg7 arg8 harg8 hc1 hc2 x0 x1 x2 5) (lastM c i arg2 harg2 arg3 harg3 arg4 harg4 arg5 harg5 arg6 harg6 arg7 harg7 arg8 harg8 hc1 hc2 x0 x1 x2 5) (lastA c i arg2 harg2 arg3 harg3 arg4 harg4 arg5 harg5 arg6 harg6 arg7 harg7 arg8 harg8 hc1 hc2 x0 x1 x2 5) (ix2 r b) := by
  rw [lastV_5, lastS_5, lastM_5, lastA_5]
  unfold kernelRun0_C.sl.HS0_6_1
  unfold kernelRun0_C.sl.HS0_5_1
  unfold kernelRun0_C.sl.HS0_4_1
  unfold kernelRun0_C.sl.HS0_3_1
  unfold kernelRun0_C.sl.HS0_2_1
  unfold kernelRun0_C.sl.HS0_1_1
  refine (read_rows2 arg6.view _ _ _ _ _ _ _ _ _ _ _ _ _ _ 5 r b).trans ?_
  simp only [Matrix.cons_val]
  rfl

/-- The weighted sums after the strip. -/
theorem lastA_new  (hd : Fin 6) (r : Fin 64) (b : Fin 256) : (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (ix2 (row hd r) b) = newA1 (lastV c i arg2 harg2 arg3 harg3 arg4 harg4 arg5 harg5 arg6 harg6 arg7 harg7 arg8 harg8 hc1 hc2 x0 x1 x2 hd) (lastS c i arg2 harg2 arg3 harg3 arg4 harg4 arg5 harg5 arg6 harg6 arg7 harg7 arg8 harg8 hc1 hc2 x0 x1 x2 hd) (lastM c i arg2 harg2 arg3 harg3 arg4 harg4 arg5 harg5 arg6 harg6 arg7 harg7 arg8 harg8 hc1 hc2 x0 x1 x2 hd) (lastA c i arg2 harg2 arg3 harg3 arg4 harg4 arg5 harg5 arg6 harg6 arg7 harg7 arg8 harg8 hc1 hc2 x0 x1 x2 hd) (ix2 r b) := by
  fin_cases hd
  exacts [lastA_new_0 c i arg2 harg2 arg3 harg3 arg4 harg4 arg5 harg5 arg6 harg6 arg7 harg7 arg8 harg8 hc1 hc2 x0 x1 x2 r b, lastA_new_1 c i arg2 harg2 arg3 harg3 arg4 harg4 arg5 harg5 arg6 harg6 arg7 harg7 arg8 harg8 hc1 hc2 x0 x1 x2 r b, lastA_new_2 c i arg2 harg2 arg3 harg3 arg4 harg4 arg5 harg5 arg6 harg6 arg7 harg7 arg8 harg8 hc1 hc2 x0 x1 x2 r b, lastA_new_3 c i arg2 harg2 arg3 harg3 arg4 harg4 arg5 harg5 arg6 harg6 arg7 harg7 arg8 harg8 hc1 hc2 x0 x1 x2 r b, lastA_new_4 c i arg2 harg2 arg3 harg3 arg4 harg4 arg5 harg5 arg6 harg6 arg7 harg7 arg8 harg8 hc1 hc2 x0 x1 x2 r b, lastA_new_5 c i arg2 harg2 arg3 harg3 arg4 harg4 arg5 harg5 arg6 harg6 arg7 harg7 arg8 harg8 hc1 hc2 x0 x1 x2 r b]

/-- The single tile left over. -/
theorem last_held (hraw : ∀ hd c k, raw x0 x1 hd c k ≠ ⊤) (hq : 2 ≤ (i 1).val) (hev : (i 1).val % 2 = 0) :
    ∃ M, Held (sc x0 x1 (i 1).val) (val x2) (keys (256 * ((i 1).val - 1)) 512 ∪ keys 0 (512 * (((i 1).val - 1) / 2)) ∪ keys (256 * ((i 1).val - 2)) 256) (arg6.view.read (Elt Ideal) (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) M (arg8.view.read (Elt Ideal) (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) := by
  have hi : (i 1).val < 8 := (i 1).isLt
  have hst : (256 * ((i 1).val - 2)) + 256 ≤ 2048 := by omega
  have ho := last_offs i (by omega)
  have h0 := pairs_held c i arg2 harg2 arg3 harg3 arg4 harg4 arg5 harg5 arg6 harg6 arg7 harg7 arg8 harg8 hc1 x0 x1 x2 hraw (by omega)
  refine ⟨fun j => newM1 (lastS c i arg2 harg2 arg3 harg3 arg4 harg4 arg5 harg5 arg6 harg6 arg7 harg7 arg8 harg8 hc1 hc2 x0 x1 x2 (j 0)) (lastM c i arg2 harg2 arg3 harg3 arg4 harg4 arg5 harg5 arg6 harg6 arg7 harg7 arg8 harg8 hc1 hc2 x0 x1 x2 (j 0)) (ix3 0 0 (j 2)), ?_⟩
  refine Held.step1 (sc_ne_top hraw _) h0 (256 * ((i 1).val - 2)) hst (Finset.disjoint_union_left.2 ⟨keys_disjoint (Or.inr (by omega)), keys_disjoint (Or.inl (by omega))⟩)
    (lastS c i arg2 harg2 arg3 harg3 arg4 harg4 arg5 harg5 arg6 harg6 arg7 harg7 arg8 harg8 hc1 hc2 x0 x1 x2) (lastV c i arg2 harg2 arg3 harg3 arg4 harg4 arg5 harg5 arg6 harg6 arg7 harg7 arg8 harg8 hc1 hc2 x0 x1 x2) (lastM c i arg2 harg2 arg3 harg3 arg4 harg4 arg5 harg5 arg6 harg6 arg7 harg7 arg8 harg8 hc1 hc2 x0 x1 x2) (lastL c i arg2 harg2 arg3 harg3 arg4 harg4 arg5 harg5 arg6 harg6 arg7 harg7 arg8 harg8 hc1 hc2 x0 x1 x2) (lastA c i arg2 harg2 arg3 harg3 arg4 harg4 arg5 harg5 arg6 harg6 arg7 harg7 arg8 harg8 hc1 hc2 x0 x1 x2) ?_ ?_ (lastM_at c i arg2 harg2 arg3 harg3 arg4 harg4 arg5 harg5 arg6 harg6 arg7 harg7 arg8 harg8 hc1 hc2 x0 x1 x2) (lastL_at c i arg2 harg2 arg3 harg3 arg4 harg4 arg5 harg5 arg6 harg6 arg7 harg7 arg8 harg8 hc1 hc2 x0 x1 x2) (lastA_at c i arg2 harg2 arg3 harg3 arg4 harg4 arg5 harg5 arg6 harg6 arg7 harg7 arg8 harg8 hc1 hc2 x0 x1 x2) (fun hd b => rfl) (lastL_new c i arg2 harg2 arg3 harg3 arg4 harg4 arg5 harg5 arg6 harg6 arg7 harg7 arg8 harg8 hc1 hc2 x0 x1 x2) (lastA_new c i arg2 harg2 arg3 harg3 arg4 harg4 arg5 harg5 arg6 harg6 arg7 harg7 arg8 harg8 hc1 hc2 x0 x1 x2)
  · intro hd b a
    have e : sc x0 x1 (i 1).val hd b ⟨(256 * ((i 1).val - 2)) + a.val, by omega⟩ = raw x0 x1 hd b ⟨(256 * ((i 1).val - 2)) + a.val, by omega⟩ := if_pos (show (256 * ((i 1).val - 2)) + a.val ≤ 256 * (i 1).val + b.val by omega)
    rw [e]
    fin_cases hd
    · obtain ⟨inb, inbq, e'⟩ := lastS_load_0 c i arg2 harg2 arg3 harg3 arg4 harg4 arg5 harg5 arg6 harg6 arg7 harg7 arg8 harg8 hc1 hc2 x0 x1 x2
      refine (congrFun ((lastS_0 c i arg2 harg2 arg3 harg3 arg4 harg4 arg5 harg5 arg6 harg6 arg7 harg7 arg8 harg8 hc1 hc2 x0 x1 x2).trans e') _).trans ?_
      exact strip_score1 arg2 harg2 x0 arg3 harg3 x1 0 hst inb ho.2.1 inbq rfl a b
    · obtain ⟨inb, inbq, e'⟩ := lastS_load_1 c i arg2 harg2 arg3 harg3 arg4 harg4 arg5 harg5 arg6 harg6 arg7 harg7 arg8 harg8 hc1 hc2 x0 x1 x2
      refine (congrFun ((lastS_1 c i arg2 harg2 arg3 harg3 arg4 harg4 arg5 harg5 arg6 harg6 arg7 harg7 arg8 harg8 hc1 hc2 x0 x1 x2).trans e') _).trans ?_
      exact strip_score1 arg2 harg2 x0 arg3 harg3 x1 1 hst inb ho.2.2.1 inbq rfl a b
    · obtain ⟨inb, inbq, e'⟩ := lastS_load_2 c i arg2 harg2 arg3 harg3 arg4 harg4 arg5 harg5 arg6 harg6 arg7 harg7 arg8 harg8 hc1 hc2 x0 x1 x2
      refine (congrFun ((lastS_2 c i arg2 harg2 arg3 harg3 arg4 harg4 arg5 harg5 arg6 harg6 arg7 harg7 arg8 harg8 hc1 hc2 x0 x1 x2).trans e') _).trans ?_
      exact strip_score1 arg2 harg2 x0 arg3 harg3 x1 2 hst inb ho.2.2.2.1 inbq rfl a b
    · obtain ⟨inb, inbq, e'⟩ := lastS_load_3 c i arg2 harg2 arg3 harg3 arg4 harg4 arg5 harg5 arg6 harg6 arg7 harg7 arg8 harg8 hc1 hc2 x0 x1 x2
      refine (congrFun ((lastS_3 c i arg2 harg2 arg3 harg3 arg4 harg4 arg5 harg5 arg6 harg6 arg7 harg7 arg8 harg8 hc1 hc2 x0 x1 x2).trans e') _).trans ?_
      exact strip_score1 arg2 harg2 x0 arg3 harg3 x1 3 hst inb ho.2.2.2.2.1 inbq rfl a b
    · obtain ⟨inb, inbq, e'⟩ := lastS_load_4 c i arg2 harg2 arg3 harg3 arg4 harg4 arg5 harg5 arg6 harg6 arg7 harg7 arg8 harg8 hc1 hc2 x0 x1 x2
      refine (congrFun ((lastS_4 c i arg2 harg2 arg3 harg3 arg4 harg4 arg5 harg5 arg6 harg6 arg7 harg7 arg8 harg8 hc1 hc2 x0 x1 x2).trans e') _).trans ?_
      exact strip_score1 arg2 harg2 x0 arg3 harg3 x1 4 hst inb ho.2.2.2.2.2.1 inbq rfl a b
    · obtain ⟨inb, inbq, e'⟩ := lastS_load_5 c i arg2 harg2 arg3 harg3 arg4 harg4 arg5 harg5 arg6 harg6 arg7 harg7 arg8 harg8 hc1 hc2 x0 x1 x2
      refine (congrFun ((lastS_5 c i arg2 harg2 arg3 harg3 arg4 harg4 arg5 harg5 arg6 harg6 arg7 harg7 arg8 harg8 hc1 hc2 x0 x1 x2).trans e') _).trans ?_
      exact strip_score1 arg2 harg2 x0 arg3 harg3 x1 5 hst inb ho.2.2.2.2.2.2 inbq rfl a b
  · intro hd r a
    obtain ⟨inb, e'⟩ := lastV_load c i arg2 harg2 arg3 harg3 arg4 harg4 arg5 harg5 arg6 harg6 arg7 harg7 arg8 harg8 hc1 hc2 x0 x1 x2
    fin_cases hd
    · refine (congrFun (lastV_0 c i arg2 harg2 arg3 harg3 arg4 harg4 arg5 harg5 arg6 harg6 arg7 harg7 arg8 harg8 hc1 hc2 x0 x1 x2) _).trans ?_
      rw [e']
      exact (slice1 _ _ slices_S384x256_o0_0_S64x256 0 rfl r a).trans (strip_val1 arg4 harg4 x2 ((i 1).val - 2) (by omega) inb ho.1 _ a)
    · refine (congrFun (lastV_1 c i arg2 harg2 arg3 harg3 arg4 harg4 arg5 harg5 arg6 harg6 arg7 harg7 arg8 harg8 hc1 hc2 x0 x1 x2) _).trans ?_
      rw [e']
      exact (slice1 _ _ slices_S384x256_o64_0_S64x256 1 rfl r a).trans (strip_val1 arg4 harg4 x2 ((i 1).val - 2) (by omega) inb ho.1 _ a)
    · refine (congrFun (lastV_2 c i arg2 harg2 arg3 harg3 arg4 harg4 arg5 harg5 arg6 harg6 arg7 harg7 arg8 harg8 hc1 hc2 x0 x1 x2) _).trans ?_
      rw [e']
      exact (slice1 _ _ slices_S384x256_o128_0_S64x256 2 rfl r a).trans (strip_val1 arg4 harg4 x2 ((i 1).val - 2) (by omega) inb ho.1 _ a)
    · refine (congrFun (lastV_3 c i arg2 harg2 arg3 harg3 arg4 harg4 arg5 harg5 arg6 harg6 arg7 harg7 arg8 harg8 hc1 hc2 x0 x1 x2) _).trans ?_
      rw [e']
      exact (slice1 _ _ slices_S384x256_o192_0_S64x256 3 rfl r a).trans (strip_val1 arg4 harg4 x2 ((i 1).val - 2) (by omega) inb ho.1 _ a)
    · refine (congrFun (lastV_4 c i arg2 harg2 arg3 harg3 arg4 harg4 arg5 harg5 arg6 harg6 arg7 harg7 arg8 harg8 hc1 hc2 x0 x1 x2) _).trans ?_
      rw [e']
      exact (slice1 _ _ slices_S384x256_o256_0_S64x256 4 rfl r a).trans (strip_val1 arg4 harg4 x2 ((i 1).val - 2) (by omega) inb ho.1 _ a)
    · refine (congrFun (lastV_5 c i arg2 harg2 arg3 harg3 arg4 harg4 arg5 harg5 arg6 harg6 arg7 harg7 arg8 harg8 hc1 hc2 x0 x1 x2) _).trans ?_
      rw [e']
      exact (slice1 _ _ slices_S384x256_o320_0_S64x256 5 rfl r a).trans (strip_val1 arg4 harg4 x2 ((i 1).val - 2) (by omega) inb ho.1 _ a)

end

/-- The block the point writes: the weighted sums over the totals, over all the keys up to the tile's end. -/
theorem block (c : Dev nD) (i : grid0.Coords) (arg2 : Memref sig .tc .vmem S1x768x256 .bf16) (harg2 : arg2.IsWhole) (arg3 : Memref sig .tc .vmem S1x6x2048x128 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S384x256 .f32) (harg6 : arg6.IsWhole) (arg7 : Memref sig .tc .vmem S6x1x256 .f32) (harg7 : arg7.IsWhole) (arg8 : Memref sig .tc .vmem S6x1x256 .f32) (harg8 : arg8.IsWhole) (hc0 : ¬cond0_0 i) (hc1 : cond0_1 i) (hc2 : cond0_2 i)
    (x0 : FVec Ideal S1x768x256 .bf16) (x1 : FVec Ideal S1x6x2048x128 .bf16) (x2 : FVec Ideal S1x8x384x256 .bf16) (hraw : ∀ hd c k, raw x0 x1 hd c k ≠ ⊤) (hq : 2 ≤ (i 1).val) (hev : (i 1).val % 2 = 0) :
    ∃ (acc : FVec Ideal S384x256 .f32) (M L : FVec Ideal S6x1x256 .f32), Held (sc x0 x1 (i 1).val) (val x2) (keys 0 (256 * ((i 1).val + 1))) acc M L ∧
      ∀ hd r b, out0_C_3 (F := Ideal) c i arg2 harg2 arg3 harg3 arg4 harg4 arg5 harg5 arg6 harg6 arg7 harg7 arg8 harg8 hc0 hc1 hc2 x0 x1 x2 (ix3 0 b (row hd r)) = Ideal.div (acc (ix2 (row hd r) b)) (L (ix3 hd 0 b)) := by
  have hi : (i 1).val < 8 := (i 1).isLt
  have ek : keys 0 (256 * ((i 1).val + 1)) = (keys (256 * ((i 1).val - 1)) 512 ∪ keys 0 (512 * (((i 1).val - 1) / 2)) ∪ keys (256 * ((i 1).val - 2)) 256) := by
    ext k
    simp only [Finset.mem_union, mem_keys]
    omega
  obtain ⟨M, h⟩ := last_held c i arg2 harg2 arg3 harg3 arg4 harg4 arg5 harg5 arg6 harg6 arg7 harg7 arg8 harg8 hc1 hc2 x0 x1 x2 hraw hq hev
  rw [← ek] at h
  refine ⟨_, _, _, h, ?_⟩
  intro hd r b
  unfold out0_C_3 kernelRun0_C
  dsimp only
  refine (View.read_writes_cons_unit_of_mem _ _ _ _ _ _ (ix3 0 b (row hd r)) rfl fun a => by fin_cases a <;> exact (Nat.zero_add _).symm).trans ?_
  refine (outp_at (rows2 arg6 (arg6.view.writes (Elt Ideal) arg6.view.junk (kernelRun0_C.sl.HS0_6_1 (F := Ideal) c i arg2 harg2 arg3 harg3 arg4 harg4 arg5 harg5 arg6 harg6 arg7 harg7 arg8 harg8 hc1 hc2 x0 x1 x2))) (rows3 arg8 (arg8.view.writes (Elt Ideal) arg8.view.junk (kernelRun0_C.sl.HS2_6_1 (F := Ideal) c i arg2 harg2 arg3 harg3 arg4 harg4 arg5 harg5 arg6 harg6 arg7 harg7 arg8 harg8 hc1 hc2 x0 x1 x2))) hd r b).trans ?_
  rw [rows2_at, rows3_at]

end Cert.KernelIdeal.CaseC

end
-- ==== Proof.InputsRead.lean ====
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Inputs

open Cert.KernelIdeal Cert.KernelIdeal.Gen Idealize.ShloMosaic Idealize.ShloMosaic.TcCoe Idealize.SL.Sem

variable (m : (ℓ : Loc nD τ sig) → Buf (Elt Ideal) ℓ) (c : Dev nD)

/-- The scores' scale, the square root of the head width 96 times the logarithm of two, a single number. -/
def den : FVec Ideal S_ .f32 :=
  mulf (Host.sqrt (constant (F := Ideal) S_ .f32 0x42C00000#32)) (Host.log (constant (F := Ideal) S_ .f32 0x40000000#32))

/-- The 32 padding lanes, all zero. -/
def pad : FVec Ideal S16x2048x6x32 .f32 :=
  broadcastInDim S16x2048x6x32 ![] bcast_S_S16x2048x6x32 (constant (F := Ideal) S_ .f32 0x00000000#32)

/-- Two parts of a head side by side, filled up with zeros to 128 lanes. -/
def joined (a : FVec Ideal S16x2048x6x64 .f32) (b : FVec Ideal S16x2048x6x32 .f32) : FVec Ideal S16x2048x6x128 .f32 :=
  concatenate S16x2048x6x128 3 [⟨S16x2048x6x64, a⟩, ⟨S16x2048x6x32, b⟩, ⟨S16x2048x6x32, pad⟩]
    concatenates_S16x2048x6x64_S16x2048x6x32_S16x2048x6x32_S16x2048x6x128_d3

/-- The array of scaled queries the call is given. -/
def qArr (a : FVec Ideal S16x2048x6x64 .f32) (b : FVec Ideal S16x2048x6x32 .f32) : FVec Ideal S16x768x2048 .bf16 :=
  truncf .bf16 (shapeCast S16x768x2048 (transpose S16x6x128x2048 [0, 2, 3, 1]
    (Host.divf (joined a b) (broadcastInDim S16x2048x6x128 ![] bcast_S_S16x2048x6x128 den))
    transposes_S16x2048x6x128_S16x6x128x2048_0_2_3_1) shapeCasts_S16x6x128x2048_S16x768x2048) bitsLt_bf16_f32

/-- The array of keys the call is given. -/
def kArr (a : FVec Ideal S16x2048x6x64 .f32) (b : FVec Ideal S16x2048x32 .f32) : FVec Ideal S16x6x2048x128 .bf16 :=
  truncf .bf16 (transpose S16x6x2048x128 [0, 2, 1, 3]
    (joined a (broadcastInDim S16x2048x6x32 ![0, 1, 2, 3] bcast_S16x2048x1x32_S16x2048x6x32_0_1_2_3
      (broadcastInDim S16x2048x1x32 ![0, 1, 3] bcast_S16x2048x32_S16x2048x1x32_0_1_3 b)))
    transposes_S16x2048x6x128_S16x6x2048x128_0_2_1_3) bitsLt_bf16_f32

/-- The query window's array, computed by the host operations, in terms of the two query arguments. -/
theorem q_read : V m c main_v9 = qArr (m ((c : Thread nD τ).loc main_arg0)) (m ((c : Thread nD τ).loc main_arg1)) := by
  rfl

/-- The key window's array in terms of the two key arguments. -/
theorem k_read : V m c main_v15 = kArr (m ((c : Thread nD τ).loc main_arg2)) (m ((c : Thread nD τ).loc main_arg3)) := by
  rfl

end Cert.KernelIdeal.Inputs

end
-- ==== Proof.Inputs.lean ====
/- The three blocks a grid point reads, element by element, in terms of the program's arguments. -/
module

public import proofs.«01_k».proof.Proof.InputsRead
public import proofs.«01_k».proof.Proof.Loads

@[expose] public section

set_option maxRecDepth 16384

noncomputable section

namespace Cert.KernelIdeal.Inputs

open Cert.KernelIdeal Cert.KernelIdeal.Gen Cert.KernelIdeal.Loads Cert.KernelIdeal.State Idealize.ShloMosaic Idealize.ShloMosaic.TcCoe Idealize.SL.Sem

variable (m : (ℓ : Loc nD τ sig) → Buf (Elt Ideal) ℓ) (c : Dev nD)

/-- Which block of each array grid point `t` works on: batch `t / 8`, query tile `t % 8`. -/
theorem coords : ∀ t : Fin cfg0.N, (win0_0.index t = ![t.val / 8, 0, t.val % 8]) ∧ (win0_1.index t = ![t.val / 8, 0, 0, 0])
    ∧ (win0_2.index t = ![t.val / 8, 0, 0, 0]) ∧ (win0_3.index t = ![t.val / 8, t.val % 8, 0])
    ∧ (grid0.coords t 1).val = t.val % 8 ∧ t.val < 128 := (by decide +kernel : ∀ t : Fin grid0.N, _)

/-- The batch of a grid point. -/
def bat (t : Fin cfg0.N) : Fin 16 := ⟨t.val / 8, by have := (coords t).2.2.2.2.2; omega⟩

/-- The query that column `k` of a grid point's tile is. -/
def qry (t : Fin cfg0.N) (k : Fin 256) : Fin 2048 := ⟨256 * (t.val % 8) + k.val, by omega⟩

theorem blk0 (t : Fin cfg0.N) (a : Fin 768) (k : Fin 256) : iblk m c 0 t (ix3 0 a k) = V m c main_v9 (ix3 (bat t) a (qry t k)) := by
  have := coords t
  unfold bat qry
  blk_ext [iblk, coords t]

theorem blk1 (t : Fin cfg0.N) (hd : Fin 6) (k : Fin 2048) (d : Fin 128) : iblk m c 1 t (ix4 0 hd k d) = V m c main_v15 (ix4 (bat t) hd k d) := by
  have := coords t
  unfold bat
  blk_ext [iblk, coords t]

theorem blk2 (t : Fin cfg0.N) (j : Fin 8) (r : Fin 384) (a : Fin 256) : iblk m c 2 t (ix4 0 j r a) = V m c main_v18 (ix4 (bat t) j r a) := by
  have := coords t
  unfold bat
  blk_ext [iblk, coords t]

theorem joined_at (a : FVec Ideal S16x2048x6x64 .f32) (b : FVec Ideal S16x2048x6x32 .f32) (i : Fin 16) (j : Fin 2048) (h : Fin 6) (d : Fin 128) :
    joined a b (ix4 i j h d) = if h1 : d.val < 64 then a (ix4 i j h ⟨d.val, h1⟩)
      else if h2 : d.val - 64 < 32 then b (ix4 i j h ⟨d.val - 64, h2⟩) else (0 : EReal) := by
  unfold joined
  pointwise [pad]

theorem q_at (a : FVec Ideal S16x2048x6x64 .f32) (b : FVec Ideal S16x2048x6x32 .f32) (i : Fin 16) (hd : Fin 6) (d : Fin 128) (q : Fin 2048) :
    qArr a b (ix3 i ⟨128 * hd.val + d.val, by omega⟩ q) = Ideal.div (joined a b (ix4 i q hd d))
      (Ideal.sqrt (Ideal.ofBits .f32 0x42C00000#32) * Ideal.log (Ideal.ofBits .f32 0x40000000#32)) := by
  unfold qArr
  pointwise [den]

theorem k_at (a : FVec Ideal S16x2048x6x64 .f32) (b : FVec Ideal S16x2048x32 .f32) (i : Fin 16) (hd : Fin 6) (d : Fin 128) (k : Fin 2048) :
    kArr a b (ix4 i hd k d) = if h1 : d.val < 64 then a (ix4 i k hd ⟨d.val, h1⟩)
      else if h2 : d.val - 64 < 32 then b (ix3 i k ⟨d.val - 64, h2⟩) else (0 : EReal) := by
  unfold kArr
  pointwise
  rw [joined_at]
  pointwise

theorem v_at (b : Fin 16) (hd : Fin 6) (j : Fin 8) (r : Fin 64) (k : Fin 256) :
    V m c main_v18 (ix4 b j (row hd r) k) = m ((c : Thread nD τ).loc main_arg4) (ix4 b ⟨256 * j.val + k.val, by omega⟩ hd r) := by
  unfold row
  entry_read
  pointwise
  have e1 : (64 * hd.val + r.val) / 64 = hd.val := by omega
  have e2 : (64 * hd.val + r.val) % 64 = r.val := by omega
  blk_ext []

/-- The values a grid point uses are the value argument's rows of its batch. -/
theorem val_eq (t : Fin cfg0.N) (hd : Fin 6) (r : Fin 64) (k : Fin 2048) :
    val (iblk m c 2 t) (row hd r) k = m ((c : Thread nD τ).loc main_arg4) (ix4 (bat t) k hd r) := by
  unfold val
  refine (blk2 m c t _ _ _).trans ((v_at m c _ _ _ _ _).trans ?_)
  have e : 256 * (k.val / 256) + k.val % 256 = k.val := by omega
  blk_ext []

end Cert.KernelIdeal.Inputs

end
-- ==== Proof.Scores.lean ====
/- One score, over real queries and keys: the kernel's single contraction over 128 lanes, in base two, against the reference's two contractions. -/
module

public import Idealize.ShloMosaic.PureOps.Ideal

@[expose] public section

noncomputable section

namespace Cert.Scores

open Idealize.ShloMosaic

theorem bits96 : Ideal.ofBits .f32 0x42C00000#32 = ((96 : ℝ) : EReal) := by
  simp [Ideal.ofBits, Ideal.ieee]
  rw [← EReal.coe_mul]; norm_num

theorem bits2 : Ideal.ofBits .f32 0x40000000#32 = ((2 : ℝ) : EReal) := by
  simp [Ideal.ofBits, Ideal.ieee]
  rw [← EReal.coe_mul]; norm_num

theorem root_eq : Ideal.sqrt (Ideal.ofBits .f32 0x42C00000#32) = ((Real.sqrt 96 : ℝ) : EReal) := by
  rw [bits96, Ideal.sqrt_coe, if_neg (by norm_num)]

theorem den_eq : Ideal.sqrt (Ideal.ofBits .f32 0x42C00000#32) * Ideal.log (Ideal.ofBits .f32 0x40000000#32)
    = ((Real.sqrt 96 * Real.log 2 : ℝ) : EReal) := by
  rw [root_eq, bits2, Ideal.log_coe, if_neg (by norm_num), EReal.coe_mul]

theorem coe_sum {ι : Type*} (A : Finset ι) (f : ι → ℝ) : ((∑ k ∈ A, f k : ℝ) : EReal) = ∑ k ∈ A, (f k : EReal) := by
  classical
  induction A using Finset.induction_on with
  | empty => simp
  | insert a s ha ih => rw [Finset.sum_insert ha, Finset.sum_insert ha, EReal.coe_add, ih]

/-- A real function of 64 and one of 32 lanes, filled up with zeros to 128 lanes. -/
def fill (a : Fin 64 → ℝ) (b : Fin 32 → ℝ) (d : Fin 128) : ℝ :=
  if h1 : d.val < 64 then a ⟨d.val, h1⟩ else if h2 : d.val - 64 < 32 then b ⟨d.val - 64, h2⟩ else 0

theorem fill_coe (a : Fin 64 → ℝ) (b : Fin 32 → ℝ) (d : Fin 128) :
    (if h1 : d.val < 64 then (a ⟨d.val, h1⟩ : EReal) else if h2 : d.val - 64 < 32 then (b ⟨d.val - 64, h2⟩ : EReal) else (0 : EReal))
      = (fill a b d : EReal) := by
  unfold fill
  split_ifs <;> simp

theorem sum_fill (a p : Fin 64 → ℝ) (b r : Fin 32 → ℝ) :
    ∑ d : Fin 128, fill p r d * fill a b d = ∑ d, a d * p d + ∑ d, r d * b d := by
  rw [show (∑ d : Fin 128, fill p r d * fill a b d) = ∑ d : Fin (64 + (32 + 32)), fill p r d * fill a b d from rfl,
    Fin.sum_univ_add, Fin.sum_univ_add]
  have e1 : ∀ i : Fin 64, fill p r (Fin.castAdd (32 + 32) i) * fill a b (Fin.castAdd (32 + 32) i) = a i * p i := fun i => by
    have h : (Fin.castAdd (32 + 32) i).val < 64 := by simp
    unfold fill
    rw [dif_pos h, dif_pos h, mul_comm]; rfl
  have e2 : ∀ i : Fin 32, fill p r (Fin.natAdd 64 (Fin.castAdd 32 i)) * fill a b (Fin.natAdd 64 (Fin.castAdd 32 i)) = r i * b i := fun i => by
    have h : ¬ (Fin.natAdd 64 (Fin.castAdd 32 i)).val < 64 := by simp
    have h' : (Fin.natAdd 64 (Fin.castAdd 32 i)).val - 64 < 32 := by simp
    have e : (⟨(Fin.natAdd 64 (Fin.castAdd 32 i)).val - 64, h'⟩ : Fin 32) = i := by apply Fin.ext; simp
    unfold fill
    rw [dif_neg h, dif_pos h', dif_neg h, dif_pos h', e]
  have e3 : ∀ i : Fin 32, fill p r (Fin.natAdd 64 (Fin.natAdd 32 i)) * fill a b (Fin.natAdd 64 (Fin.natAdd 32 i)) = 0 := fun i => by
    have h : ¬ (Fin.natAdd 64 (Fin.natAdd 32 i)).val < 64 := by simp
    have h' : ¬ (Fin.natAdd 64 (Fin.natAdd 32 i)).val - 64 < 32 := by simp
    unfold fill
    rw [dif_neg h, dif_neg h', zero_mul]
  rw [Finset.sum_congr rfl fun i _ => e1 i, Finset.sum_congr rfl fun i _ => e2 i, Finset.sum_congr rfl fun i _ => e3 i]
  simp

/-- Of real queries `a`, `b` and keys `p`, `r` the kernel's score is a real number `ρ` and the reference's is `ρ · log 2`. -/
theorem score_pair {a p : Fin 64 → EReal} {b r : Fin 32 → EReal} (ha : ∀ d, ∃ x : ℝ, a d = x) (hp : ∀ d, ∃ x : ℝ, p d = x)
    (hb : ∀ d, ∃ x : ℝ, b d = x) (hr : ∀ d, ∃ x : ℝ, r d = x) :
    ∃ ρ : ℝ, (∑ d : Fin 128, (if h1 : d.val < 64 then p ⟨d.val, h1⟩ else if h2 : d.val - 64 < 32 then r ⟨d.val - 64, h2⟩ else (0 : EReal))
          * Ideal.div (if h1 : d.val < 64 then a ⟨d.val, h1⟩ else if h2 : d.val - 64 < 32 then b ⟨d.val - 64, h2⟩ else (0 : EReal))
              (Ideal.sqrt (Ideal.ofBits .f32 0x42C00000#32) * Ideal.log (Ideal.ofBits .f32 0x40000000#32))) = (ρ : EReal)
      ∧ Ideal.div (∑ d, a d * p d + ∑ d, r d * b d) (Ideal.sqrt (Ideal.ofBits .f32 0x42C00000#32)) = ((ρ * Real.log 2 : ℝ) : EReal) := by
  choose a' ha using ha
  choose p' hp using hp
  choose b' hb using hb
  choose r' hr using hr
  obtain rfl : a = fun d => (a' d : EReal) := funext ha
  obtain rfl : p = fun d => (p' d : EReal) := funext hp
  obtain rfl : b = fun d => (b' d : EReal) := funext hb
  obtain rfl : r = fun d => (r' d : EReal) := funext hr
  have hs : Real.sqrt 96 ≠ 0 := by positivity
  have hl : Real.log 2 ≠ 0 := (Real.log_pos (by norm_num)).ne'
  refine ⟨(∑ d, a' d * p' d + ∑ d, r' d * b' d) / (Real.sqrt 96 * Real.log 2), ?_, ?_⟩
  · rw [den_eq, ← sum_fill, Finset.sum_div, coe_sum]
    refine Finset.sum_congr rfl fun d _ => ?_
    rw [fill_coe, fill_coe, Ideal.div_coe (mul_ne_zero hs hl), ← EReal.coe_mul, ← EReal.coe_mul]
    congr 1
    ring
  · rw [root_eq, Ideal.div_coe hs]
    simp only [← EReal.coe_mul, ← coe_sum, ← EReal.coe_add]
    congr 1
    field_simp

end Cert.Scores

end
-- ==== Proof.RefRead.lean ====
/- The reference's result, element by element: the softmax over the allowed keys of the summed content and position scores, applied to the values. -/
module

public import proofs.«01_k».proof.Proof.Gen.ReferenceIdeal.Read
public import Idealize.ShloMosaic.Lib.Pointwise
public import Idealize.ShloMosaic.Lib.Claim
public import Idealize.ShloMosaic.Lib.WordCmp.Attr
public import Idealize.ShloMosaic.Lib.WordCmp
public import Idealize.ShloMosaic.Lib.Pipeline.ValueKit

@[expose] public section

set_option maxRecDepth 16384

noncomputable section

namespace Cert.ReferenceIdeal.RefRead

open Cert.ReferenceIdeal Cert.ReferenceIdeal.Gen Cert.ReferenceIdeal.Read Idealize.ShloMosaic Idealize.SL.Sem

variable (x0 : FVec Ideal S16x2048x6x64 .f32) (x1 : FVec Ideal S16x2048x6x32 .f32) (x2 : FVec Ideal S16x2048x6x64 .f32)
  (x3 : FVec Ideal S16x2048x32 .f32) (x4 : FVec Ideal S16x2048x6x64 .f32)

/-- The unscaled score of key `k` for query `q`: the content part plus the position part. -/
def dots (b : Fin 16) (hd : Fin 6) (q k : Fin 2048) : EReal :=
  ∑ d : Fin 64, x0 (ix4 b q hd d) * x2 (ix4 b k hd d) + ∑ d : Fin 32, x3 (ix3 b k d) * x1 (ix4 b q hd d)

/-- The square root of 96, the width of a head. -/
def root : EReal := Ideal.sqrt (Ideal.ofBits .f32 0x42C00000#32)

/-- The scaled score of a key that is not in the future, and −∞ for one that is. -/
def score (b : Fin 16) (hd : Fin 6) (q k : Fin 2048) : EReal :=
  if k.val ≤ q.val then Ideal.div (dots x0 x1 x2 x3 b hd q k) root else ⊥

theorem neg_inf : Ideal.ofBits .f32 0xFF800000#32 = ⊥ := by simp [Ideal.ofBits, Ideal.ieee]

theorem v0_at (b : Fin 16) (hd : Fin 6) (q k : Fin 2048) :
    val_main_v0 (F := Ideal) x0 x2 (ix4 b hd q k) = ∑ d : Fin 64, x0 (ix4 b q hd d) * x2 (ix4 b k hd d) := by
  rw [val_main_v0_apply]
  refine Finset.sum_congr rfl fun d _ => congrArg₂ (· * ·) (congrArg x0 ?_) (congrArg x2 ?_) <;>
    (funext a; apply Fin.ext; fin_cases a <;> rfl)

theorem v2_at (b : Fin 16) (hd : Fin 6) (q k : Fin 2048) :
    val_main_v2 (F := Ideal) x1 x3 (ix4 b hd q k) = ∑ d : Fin 32, x3 (ix3 b k d) * x1 (ix4 b q hd d) := by
  rw [val_main_v2_apply, val_main_v1_apply]
  refine Finset.sum_congr rfl fun d _ => congrArg₂ (· * ·) (congrArg x3 ?_) (congrArg x1 ?_) <;>
    (funext a; apply Fin.ext; fin_cases a <;> rfl)

theorem mask_at (b : Fin 16) (hd : Fin 6) (q k : Fin 2048) :
    val_main_call0_v1 (F := Ideal) (ix4 b hd q k) = if k.val ≤ q.val then 1#1 else 0#1 := by
  have hk := k.isLt
  have hq := q.isLt
  rw [val_main_call0_v1_apply, val_main_v13_apply, val_main_v11_apply, val_main_v12_apply, val_main_v8_apply,
    val_main_v10_apply, val_main_v7_apply, val_main_v9_apply]
  show IntOp.cmpi .sle (BitVec.ofNat 32 k.val) (BitVec.ofNat 32 q.val) = _
  simp (disch := omega) only [hlo_ix]
  by_cases h : k.val ≤ q.val <;> simp [h]

theorem score_at (b : Fin 16) (hd : Fin 6) (q k : Fin 2048) :
    val_main_v14 (F := Ideal) x0 x1 x2 x3 (ix4 b hd q k) = score x0 x1 x2 x3 b hd q k := by
  rw [val_main_v14_apply, mask_at, val_main_v6_apply, val_main_v3_apply, v0_at, v2_at, val_main_v5_apply, val_main_v4_apply, val_main_cst_apply,
    val_main_call0_v2_apply, val_main_call0_v0_apply, val_main_cst_0_apply]
  unfold score
  split_ifs with h
  · rfl
  · exact neg_inf

theorem fold_max {n k : ℕ} (e : n = k) {y : Fin n → EReal} {g : Fin k → EReal} {z : EReal} (hz : z = ⊥) (h : ∀ i, y (Fin.cast e.symm i) = g i) :
    Finset.fold (FloatOps.maximumf (F := Ideal) (φ := .f32)) z y Finset.univ = Finset.univ.sup g := by
  subst e
  obtain rfl : y = g := funext h
  subst hz
  rfl

theorem red3 : S16x6x2048x2048.Reduces [3] S16x6x2048 := by decide

theorem lift3 (b : Fin 16) (hd : Fin 6) (q k : Fin 2048) : red3.lift (ix3 b hd q) k = ix4 b hd q k := by
  funext a; apply Fin.ext; fin_cases a <;> rfl

theorem max_gen (y : FVec Ideal S16x6x2048x2048 .f32) (z : FVec Ideal S_ .f32) (h' : S16x6x2048x2048.ReducesTo [3] S16x6x2048) (hu : 0 < S_.numel)
    (hz : z (Shape.Idx.first hu) = (⊥ : EReal)) (b : Fin 16) (hd : Fin 6) (q : Fin 2048) (g : Fin 2048 → EReal) (hg : ∀ k, y (ix4 b hd q k) = g k) :
    Host.reduce FloatOps.maximumf y z h' hu (ix3 b hd q) = Finset.univ.sup g := by
  rw [Host.reduce_eq_fold_single FloatOps.maximumf y _ _ red3]
  have hf : ∀ i : Fin 2048, (y ∘ red3.lift (ix3 b hd q)) (Fin.cast (rfl : 2048 = S16x6x2048x2048.size 3) i) = g i :=
    fun k => (congrArg y (lift3 b hd q k)).trans (hg k)
  generalize (y ∘ red3.lift (ix3 b hd q)) = f at hf ⊢
  exact fold_max (n := S16x6x2048x2048.size 3) (k := 2048) (e := rfl) (hz := hz) (h := hf)

theorem max_at (b : Fin 16) (hd : Fin 6) (q : Fin 2048) :
    val_main_v15 (F := Ideal) x0 x1 x2 x3 (ix3 b hd q) = Finset.univ.sup (score x0 x1 x2 x3 b hd q) := by
  unfold val_main_v15
  exact max_gen _ _ _ _ neg_inf b hd q _ (score_at x0 x1 x2 x3 b hd q)

theorem shift_at (b : Fin 16) (hd : Fin 6) (q k : Fin 2048) :
    val_main_v21 (F := Ideal) x0 x1 x2 x3 (ix4 b hd q k)
      = Ideal.exp (score x0 x1 x2 x3 b hd q k - Finset.univ.sup (score x0 x1 x2 x3 b hd q)) := by
  rw [val_main_v21_apply, val_main_v20_apply, score_at, val_main_v19_apply, val_main_v18_apply, val_main_v17_apply, val_main_v16_apply, val_main_cst_2_apply]
  have e : idx_main_v18 (idx_main_v19 (ix4 b hd q k)) = ix3 b hd q := by funext a; apply Fin.ext; fin_cases a <;> rfl
  rw [e, max_at]
  show Ideal.exp (_ - max (Ideal.ofBits .f32 0xFF800000#32) _) = _
  rw [neg_inf, max_eq_right bot_le]

theorem total_at (b : Fin 16) (hd : Fin 6) (q k : Fin 2048) :
    val_main_v24 (F := Ideal) x0 x1 x2 x3 (ix4 b hd q k)
      = ∑ j, Ideal.exp (score x0 x1 x2 x3 b hd q j - Finset.univ.sup (score x0 x1 x2 x3 b hd q)) := by
  rw [val_main_v24_apply, val_main_v23_apply, val_main_v22_apply]
  have e : val_main_cst_3 (F := Ideal) (Shape.Idx.first h_S_) = (0 : EReal) := by
    rw [val_main_cst_3_apply]; show Ideal.ofBits .f32 _ = _; simp [Ideal.ofBits, Ideal.ieee]
  rw [e, zero_add]
  refine Finset.sum_congr rfl fun j _ => Eq.trans (congrArg _ ?_) (shift_at x0 x1 x2 x3 b hd q j)
  funext a; apply Fin.ext; fin_cases a <;> rfl

/-- The reference's result at batch `b`, query `q`, head `hd` and value lane `r`: the values weighted by the softmax of the scores. -/
theorem result_at (b : Fin 16) (q : Fin 2048) (hd : Fin 6) (r : Fin 64) :
    val_main_v29 (F := Ideal) x0 x1 x2 x3 x4 (ix3 b q ⟨64 * hd.val + r.val, by omega⟩)
      = ∑ k, x4 (ix4 b k hd r) * Ideal.div (Ideal.exp (score x0 x1 x2 x3 b hd q k - Finset.univ.sup (score x0 x1 x2 x3 b hd q)))
          (∑ j, Ideal.exp (score x0 x1 x2 x3 b hd q j - Finset.univ.sup (score x0 x1 x2 x3 b hd q))) := by
  rw [val_main_v29_apply, val_main_v28_apply, val_main_v27_apply]
  have e : idx_main_v27 (idx_main_v28 (ix3 b q ⟨64 * hd.val + r.val, by omega⟩)) = ix4 b hd r q := by
    have := b.isLt; have := q.isLt; have := hd.isLt; have := r.isLt
    have g0 : ((b.val * 2048 + q.val) * 384 + (64 * hd.val + r.val)) / 786432 = b.val := by omega
    have g1 : ((b.val * 2048 + q.val) * 384 + (64 * hd.val + r.val)) / 64 % 6 = hd.val := by omega
    have g2 : ((b.val * 2048 + q.val) * 384 + (64 * hd.val + r.val)) % 64 = r.val := by omega
    have g3 : ((b.val * 2048 + q.val) * 384 + (64 * hd.val + r.val)) / 384 % 2048 = q.val := by omega
    funext a; apply Fin.ext; fin_cases a
    · exact g0
    · exact g1
    · exact g2
    · exact g3
  rw [e]
  show val_main_v26 (F := Ideal) x0 x1 x2 x3 x4 (ix4 b hd r q) = _
  rw [val_main_v26_apply]
  refine Finset.sum_congr rfl fun k _ => ?_
  have e1 : lidx_main_v26 (ix4 b hd r q) k = ix4 b k hd r := by funext a; apply Fin.ext; fin_cases a <;> rfl
  have e2 : ridx_main_v26 (ix4 b hd r q) k = ix4 b hd q k := by funext a; apply Fin.ext; fin_cases a <;> rfl
  rw [e1, e2, val_main_v25_apply, shift_at, total_at]
  rfl

end Cert.ReferenceIdeal.RefRead

end
-- ==== Proof.Result.lean ====
/- The array the kernel leaves, over real queries and keys: element by element the reference's result. -/
module

public import proofs.«01_k».proof.Proof.CaseA
public import proofs.«01_k».proof.Proof.CaseB
public import proofs.«01_k».proof.Proof.CaseC
public import proofs.«01_k».proof.Proof.Inputs
public import proofs.«01_k».proof.Proof.Scores
public import proofs.«01_k».proof.Proof.RefRead

@[expose] public section

set_option maxRecDepth 16384

noncomputable section

namespace Cert.KernelIdeal.Result

open Cert.KernelIdeal Cert.KernelIdeal.Gen Cert.KernelIdeal.Inputs Cert.KernelIdeal.Loads Cert.KernelIdeal.State Cert.Softmax
  Cert.ReferenceIdeal.RefRead Idealize.ShloMosaic Idealize.ShloMosaic.TcCoe Idealize.ShloMosaic.Pipeline Idealize.SL.Sem

variable (m : (ℓ : Loc nD τ sig) → Buf (Elt Ideal) ℓ) (c : Dev nD)

/-- The content part of the queries. -/
abbrev a0 : FVec Ideal S16x2048x6x64 .f32 := m ((c : Thread nD τ).loc main_arg0)
/-- The position part of the queries. -/
abbrev a1 : FVec Ideal S16x2048x6x32 .f32 := m ((c : Thread nD τ).loc main_arg1)
/-- The content part of the keys. -/
abbrev a2 : FVec Ideal S16x2048x6x64 .f32 := m ((c : Thread nD τ).loc main_arg2)
/-- The position part of the keys, shared by the heads. -/
abbrev a3 : FVec Ideal S16x2048x32 .f32 := m ((c : Thread nD τ).loc main_arg3)
/-- The values. -/
abbrev a4 : FVec Ideal S16x2048x6x64 .f32 := m ((c : Thread nD τ).loc main_arg4)

/-- The queries and keys are real numbers. -/
def Reals : Prop := (∀ i, ∃ r : ℝ, a0 m c i = r) ∧ (∀ i, ∃ r : ℝ, a1 m c i = r) ∧ (∀ i, ∃ r : ℝ, a2 m c i = r) ∧ (∀ i, ∃ r : ℝ, a3 m c i = r)

/-- The two programs' unmasked scores of one key for one query: the kernel's in base two, the reference's in base e. -/
theorem raw_pair (hR : Reals m c) (t : Fin cfg0.N) (hd : Fin 6) (b : Fin 256) (k : Fin 2048) :
    ∃ ρ : ℝ, raw (iblk m c 0 t) (iblk m c 1 t) hd b k = (ρ : EReal)
      ∧ Ideal.div (dots (a0 m c) (a1 m c) (a2 m c) (a3 m c) (bat t) hd (qry t b) k) root = ((ρ * Real.log 2 : ℝ) : EReal) := by
  obtain ⟨ρ, h1, h2⟩ := Cert.Scores.score_pair (a := fun d => a0 m c (ix4 (bat t) (qry t b) hd d)) (p := fun d => a2 m c (ix4 (bat t) k hd d))
    (b := fun d => a1 m c (ix4 (bat t) (qry t b) hd d)) (r := fun d => a3 m c (ix3 (bat t) k d))
    (fun d => hR.1 _) (fun d => hR.2.2.1 _) (fun d => hR.2.1 _) (fun d => hR.2.2.2 _)
  refine ⟨ρ, Eq.trans ?_ h1, h2⟩
  unfold raw
  refine Finset.sum_congr rfl fun d _ => congrArg₂ (· * ·) ?_ ?_
  · exact (blk1 m c t hd k d).trans ((congrFun (k_read m c) _).trans (k_at _ _ _ _ _ _))
  · refine (blk0 m c t _ b).trans ((congrFun (q_read m c) _).trans ((q_at _ _ _ _ _ _).trans ?_))
    rw [joined_at]

theorem raw_ne_top (hR : Reals m c) (t : Fin cfg0.N) (hd : Fin 6) (b : Fin 256) (k : Fin 2048) :
    raw (iblk m c 0 t) (iblk m c 1 t) hd b k ≠ ⊤ := by
  obtain ⟨ρ, h, _⟩ := raw_pair m c hR t hd b k
  rw [h]
  exact EReal.coe_ne_top ρ

/-- The reference's result over the kernel's arguments. -/
abbrev ref : FVec Ideal Cert.ReferenceIdeal.S16x2048x384 .bf16 :=
  Cert.ReferenceIdeal.Read.val_main_v29 (F := Ideal) (a0 m c) (a1 m c) (a2 m c) (a3 m c) (a4 m c)

/-- A block holding the running softmax of all keys up to its last query yields the reference's result. -/
theorem quotient_eq (hR : Reals m c) (t : Fin cfg0.N) (hd : Fin 6) (r : Fin 64) (b : Fin 256)
    {acc : FVec Ideal S384x256 .f32} {M L : FVec Ideal S6x1x256 .f32}
    (hH : Held (sc (iblk m c 0 t) (iblk m c 1 t) (t.val % 8)) (val (iblk m c 2 t)) (keys 0 (256 * (t.val % 8 + 1))) acc M L) :
    Ideal.div (acc (ix2 (row hd r) b)) (L (ix3 hd 0 b)) = ref m c (ix3 (bat t) (qry t b) (row hd r)) := by
  have hv : val (iblk m c 2 t) (row hd r) = fun k => a4 m c (ix4 (bat t) k hd r) := funext fun k => val_eq m c t hd r k
  refine (quotient (x := score (a0 m c) (a1 m c) (a2 m c) (a3 m c) (bat t) hd (qry t b)) (hH hd b).1 ((hH hd b).2 r) ?_ ?_ ?_).trans ?_
  · intro k _
    obtain ⟨ρ, h1, h2⟩ := raw_pair m c hR t hd b k
    unfold sc score
    by_cases hk : k.val ≤ 256 * (t.val % 8) + b.val
    · refine Or.inr ⟨ρ, ?_, ?_⟩
      · rw [if_pos hk]; exact h1
      · rw [if_pos (show k.val ≤ (qry t b).val from hk)]; exact h2
    · exact Or.inl ⟨if_neg hk, if_neg hk⟩
  · intro k hk
    rw [mem_keys] at hk
    have hb := b.isLt
    unfold score
    exact if_neg (show ¬ k.val ≤ 256 * (t.val % 8) + b.val by omega)
  · refine ⟨⟨0, by omega⟩, by rw [mem_keys]; simp, ?_⟩
    obtain ⟨ρ, h1, h2⟩ := raw_pair m c hR t hd b ⟨0, by omega⟩
    unfold sc
    rw [if_pos (Nat.zero_le _), h1]
    exact EReal.coe_ne_bot ρ
  · rw [hv]
    exact (result_at (a0 m c) (a1 m c) (a2 m c) (a3 m c) (a4 m c) (bat t) (qry t b) hd r).symm

/-- What every grid point leaves in its output block, at query `b`, head `hd` and lane `r`. -/
theorem block_eq (hR : Reals m c) (t : Fin cfg0.N) (b : Fin 256) (hd : Fin 6) (r : Fin 64) :
    outsAt0 m c t.val t.isLt (ix3 0 b (row hd r)) = ref m c (ix3 (bat t) (qry t b) (row hd r)) := by
  have ht := (coords t).2.2.2.2.1
  by_cases h0 : t.val % 8 = 0
  · have h1 : ¬1 ≤ t.val % 8 := by omega
    have h2 : ¬(t.val % 8 = 2 ∨ t.val % 8 = 4 ∨ t.val % 8 = 6) := by omega
    rw [outsAt0_A m c t h0 h1 h2]
    obtain ⟨acc, M, L, hH, ho⟩ := CaseA.block c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) ((hcond0_0 t).mpr h0) (fun h => h1 ((hcond0_1 t).mp h))
      (fun h => h2 ((hcond0_2 t).mp h)) (iblk m c 0 t) (iblk m c 1 t) (iblk m c 2 t) (raw_ne_top m c hR t) (by omega)
    rw [ht] at hH
    exact (ho hd r b).trans (quotient_eq m c hR t hd r b hH)
  · have h1 : 1 ≤ t.val % 8 := by omega
    by_cases h2 : t.val % 8 = 2 ∨ t.val % 8 = 4 ∨ t.val % 8 = 6
    · rw [outsAt0_C m c t h0 h1 h2]
      obtain ⟨acc, M, L, hH, ho⟩ := CaseC.block c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) (fun h => h0 ((hcond0_0 t).mp h)) ((hcond0_1 t).mpr h1)
        ((hcond0_2 t).mpr h2) (iblk m c 0 t) (iblk m c 1 t) (iblk m c 2 t) (raw_ne_top m c hR t) (by omega) (by omega)
      rw [ht] at hH
      exact (ho hd r b).trans (quotient_eq m c hR t hd r b hH)
    · rw [outsAt0_B m c t h0 h1 h2]
      obtain ⟨acc, M, L, hH, ho⟩ := CaseB.block c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) (fun h => h0 ((hcond0_0 t).mp h)) ((hcond0_1 t).mpr h1)
        (fun h => h2 ((hcond0_2 t).mp h)) (iblk m c 0 t) (iblk m c 1 t) (iblk m c 2 t) (raw_ne_top m c hR t) (by omega) (by omega)
      rw [ht] at hH
      exact (ho hd r b).trans (quotient_eq m c hR t hd r b hH)

/-- The kernel's result array, whole. -/
theorem final (hR : Reals m c) : (dats m 0 c).arrAt 3 cfg0.N = ref m c := by
  refine Dat.arrAt_eq_of_covers (dats m 0 c) 3 (ref m c) (by decide +kernel) fun t _ y => ?_
  have hc := coords t
  blk_simp
  rw [after0_3]
  obtain ⟨b, hb⟩ : ∃ b : Fin 256, b.val = (y 1).val := ⟨⟨(y 1).val, (y 1).isLt⟩, rfl⟩
  have hy2 : (y 2).val < 384 := (y 2).isLt
  obtain ⟨hd, hhd⟩ : ∃ hd : Fin 6, hd.val = (y 2).val / 64 := ⟨⟨(y 2).val / 64, by omega⟩, rfl⟩
  obtain ⟨r, hr⟩ : ∃ r : Fin 64, r.val = (y 2).val % 64 := ⟨⟨(y 2).val % 64, by omega⟩, rfl⟩
  have e := block_eq m c hR t b hd r
  unfold row bat qry at e
  have er : 64 * hd.val + r.val = (y 2).val := by omega
  have e0 : (y 0).val < 1 := (y 0).isLt
  refine Eq.trans ?_ (e.trans ?_)
  · refine congrArg (outsAt0 m c t.val t.isLt) (funext fun a => Fin.ext ?_)
    fin_cases a
    · exact Nat.lt_one_iff.mp e0
    · exact hb.symm
    · exact er.symm
  · blk_ext [hc]

end Cert.KernelIdeal.Result

end
-- ==== Proof.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnClaims
public import proofs.«01_k».proof.Proof.MergeClaims
public import proofs.«01_k».proof.Proof.FinalClaims
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_scores
public import Idealize.ShloMosaic.Adequacy
public import Idealize.ShloMosaic.Init
public import Idealize.ShloMosaic.Lib.Quiescent
public import proofs.«01_k».proof.Proof.Finite
public import proofs.«01_k».proof.Proof.Result

@[expose] public section

noncomputable section

namespace Cert.Proof

open Idealize.ShloMosaic Idealize.SL.Sem Cert.Kernel

/-- The kernel terminates without a fault, keeps its arguments and ends with every semaphore counter at zero. -/
theorem frame_kernel : Cert.quiescent_Kernel := fun m ρ _ => Cert.Kernel.Gen.frame m ρ

/-- So does the kernel with its mask constant read as −∞. -/
theorem frame_ideal : Cert.quiescent_KernelIdeal := fun m ρ _ => Cert.KernelIdeal.Gen.frame m ρ

/-- The reference terminates without a fault and keeps its arguments; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- From equal real queries and keys, and any equal values, the kernel and the reference end with the same result. -/
theorem equal_results : Cert.algebraic_KernelIdeal_ReferenceIdeal_pre_finite_scores := by
  intro m g m' g' hpre hagree
  have hR : ∀ c, Cert.KernelIdeal.Result.Reals m c := fun c => Cert.Finite.reals _ _ _ _ _ (hpre c)
  refine ⟨fun c => Cert.KernelIdeal.Result.ref m c, ?_, ?_⟩
  · exact (θ_run Cert.KernelIdeal.defs _ _).mono
      (fun r h c => ⟨(h c).1.trans (Cert.KernelIdeal.Result.final m c (hR c)), (h c).2⟩)
      (Cert.KernelIdeal.Value.run_blocks m g)
  · refine (θ_run Cert.ReferenceIdeal.defs _ _).mono (fun r h c => ⟨?_, (h c).2⟩) (Cert.ReferenceIdeal.Value.run m' g')
    obtain ⟨h0, h1, h2, h3, h4⟩ := hagree c
    refine ((h c).1.trans (Cert.ReferenceIdeal.Read.val_main_v29_eq m' c)).trans ?_
    rw [h0, h1, h2, h3, h4]

/-- The claims: of the attention call, of the feed-forward call, of the merge call and of the last layer's merge call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.Gen.facts,
  frame_kernel, frame_ideal, fun m ρ _ => frame_ideal m ρ trivial, frame_reference, fun m ρ _ => frame_reference m ρ trivial,
  FfnClaims.frame_kernel, FfnClaims.frame_ideal, FfnClaims.frame_reference,
  MergeClaims.frame_kernel, MergeClaims.frame_ideal, MergeClaims.frame_reference,
  FinalClaims.frame_kernel, FinalClaims.frame_ideal, FinalClaims.frame_reference,
  IdealRules.named_const.statement _ _ _ _ _ rfl, equal_results, trivial, FfnClaims.equal_results, trivial, MergeClaims.equal_results,
  trivial, FinalClaims.equal_results⟩

end Cert.Proof

end
